-- ==== Defs.lean ====
def Pre_Expert [hPre_tables : Cert.Pre_tables.Facts] (m : (ℓ : Loc Cert.Expert.nD Cert.Expert.τ Cert.Expert.sig) → Buf (Elt Bits) ℓ) : Prop :=
  ∀ c : Dev Cert.Expert.nD,
    (Cert.Pre_tables.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4))) = (fun _ => 1#1)

def Pre_ExpertIdeal [hPre_tables : Cert.Pre_tables.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_tables.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4))) = (fun _ => 1#1)

def Pre_ExpertRefIdeal (m : (ℓ : Loc Cert.ExpertRefIdeal.nD Cert.ExpertRefIdeal.τ Cert.ExpertRefIdeal.sig) → Buf (Elt Ideal) ℓ) : Prop :=
  True

def Pre_ExpertRefIdeal_tables [hPre_tables : Cert.Pre_tables.Facts] (m : (ℓ : Loc Cert.ExpertRefIdeal.nD Cert.ExpertRefIdeal.τ Cert.ExpertRefIdeal.sig) → Buf (Elt Ideal) ℓ) : Prop :=
  ∀ c : Dev Cert.ExpertRefIdeal.nD,
    (Cert.Pre_tables.fn (F := Ideal) (m ((c.tc : Thread Cert.ExpertRefIdeal.nD Cert.ExpertRefIdeal.τ).loc Cert.ExpertRefIdeal.main_arg0)) (m ((c.tc : Thread Cert.ExpertRefIdeal.nD Cert.ExpertRefIdeal.τ).loc Cert.ExpertRefIdeal.main_arg1)) (m ((c.tc : Thread Cert.ExpertRefIdeal.nD Cert.ExpertRefIdeal.τ).loc Cert.ExpertRefIdeal.main_arg2)) (m ((c.tc : Thread Cert.ExpertRefIdeal.nD Cert.ExpertRefIdeal.τ).loc Cert.ExpertRefIdeal.main_arg3)) (m ((c.tc : Thread Cert.ExpertRefIdeal.nD Cert.ExpertRefIdeal.τ).loc Cert.ExpertRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_QkvSRefIdeal (m : (ℓ : Loc Cert.QkvSRefIdeal.nD Cert.QkvSRefIdeal.τ Cert.QkvSRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_GmlpP (m : (ℓ : Loc Cert.GmlpP.nD Cert.GmlpP.τ Cert.GmlpP.sig) → Buf (Elt Bits) ℓ) : Prop :=
  True

def Pre_GmlpPIdeal (m : (ℓ : Loc Cert.GmlpPIdeal.nD Cert.GmlpPIdeal.τ Cert.GmlpPIdeal.sig) → Buf (Elt Ideal) ℓ) : Prop :=
  True

def Pre_GmlpPRefIdeal (m : (ℓ : Loc Cert.GmlpPRefIdeal.nD Cert.GmlpPRefIdeal.τ Cert.GmlpPRefIdeal.sig) → Buf (Elt Ideal) ℓ) : Prop :=
  True

def quiescent_Expert [hExpert : Cert.Expert.Facts] [hPre_tables : Cert.Pre_tables.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4))
      ∧ r.2.sem = fun _ => 0)

def quiescent_ExpertIdeal [hExpertIdeal : Cert.ExpertIdeal.Facts] [hPre_tables : Cert.Pre_tables.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4))
      ∧ r.2.sem = fun _ => 0)

def quiescent_ExpertRefIdeal_pre_tables [hExpertRefIdeal : Cert.ExpertRefIdeal.Facts] [hPre_tables : Cert.Pre_tables.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal_tables m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1)
      ∧ r.2.mem ((c.tc : Thread Cert.QkvS.nD Cert.QkvS.τ).loc Cert.QkvS.main_arg2) = m ((c.tc : Thread Cert.QkvS.nD Cert.QkvS.τ).loc Cert.QkvS.main_arg2))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
      ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ r.2.sem = fun _ => 0)

def quiescent_QkvSRefIdeal [hQkvSRefIdeal : Cert.QkvSRefIdeal.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1)
      ∧ r.2.mem ((c.tc : Thread Cert.QkvSRefIdeal.nD Cert.QkvSRefIdeal.τ).loc Cert.QkvSRefIdeal.main_arg2) = m ((c.tc : Thread Cert.QkvSRefIdeal.nD Cert.QkvSRefIdeal.τ).loc Cert.QkvSRefIdeal.main_arg2))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6)
      ∧ r.2.mem ((c.tc : Thread Cert.Gmlp.nD Cert.Gmlp.τ).loc Cert.Gmlp.main_arg7) = m ((c.tc : Thread Cert.Gmlp.nD Cert.Gmlp.τ).loc Cert.Gmlp.main_arg7)
      ∧ r.2.mem ((c.tc : Thread Cert.Gmlp.nD Cert.Gmlp.τ).loc Cert.Gmlp.main_arg8) = m ((c.tc : Thread Cert.Gmlp.nD Cert.Gmlp.τ).loc Cert.Gmlp.main_arg8))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
      ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7)
      ∧ r.2.mem ((c.tc : Thread Cert.GmlpIdeal.nD Cert.GmlpIdeal.τ).loc Cert.GmlpIdeal.main_arg8) = m ((c.tc : Thread Cert.GmlpIdeal.nD Cert.GmlpIdeal.τ).loc Cert.GmlpIdeal.main_arg8))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6)
      ∧ r.2.mem ((c.tc : Thread Cert.GmlpRefIdeal.nD Cert.GmlpRefIdeal.τ).loc Cert.GmlpRefIdeal.main_arg7) = m ((c.tc : Thread Cert.GmlpRefIdeal.nD Cert.GmlpRefIdeal.τ).loc Cert.GmlpRefIdeal.main_arg7)
      ∧ r.2.mem ((c.tc : Thread Cert.GmlpRefIdeal.nD Cert.GmlpRefIdeal.τ).loc Cert.GmlpRefIdeal.main_arg8) = m ((c.tc : Thread Cert.GmlpRefIdeal.nD Cert.GmlpRefIdeal.τ).loc Cert.GmlpRefIdeal.main_arg8))
      ∧ r.2.sem = fun _ => 0)

def quiescent_GmlpP [hGmlpP : Cert.GmlpP.Facts] : Prop :=
  ∀ (m : (ℓ : Loc Cert.GmlpP.nD Cert.GmlpP.τ Cert.GmlpP.sig) → Buf (Elt Bits) ℓ) (g : Dev Cert.GmlpP.nD → PrngReg), Pre_GmlpP m →
    θ_run (Cert.GmlpP.defs (F := Bits)) (onTc (τ := Cert.GmlpP.τ) (Cert.GmlpP.main (F := Bits))) ⟨m, fun _ => 0, g⟩ (fun r => (∀ c : Dev Cert.GmlpP.nD,
      r.2.mem ((c.tc : Thread Cert.GmlpP.nD Cert.GmlpP.τ).loc Cert.GmlpP.main_arg0) = m ((c.tc : Thread Cert.GmlpP.nD Cert.GmlpP.τ).loc Cert.GmlpP.main_arg0)
      ∧ r.2.mem ((c.tc : Thread Cert.GmlpP.nD Cert.GmlpP.τ).loc Cert.GmlpP.main_arg1) = m ((c.tc : Thread Cert.GmlpP.nD Cert.GmlpP.τ).loc Cert.GmlpP.main_arg1)
      ∧ r.2.mem ((c.tc : Thread Cert.GmlpP.nD Cert.GmlpP.τ).loc Cert.GmlpP.main_arg2) = m ((c.tc : Thread Cert.GmlpP.nD Cert.GmlpP.τ).loc Cert.GmlpP.main_arg2)
      ∧ r.2.mem ((c.tc : Thread Cert.GmlpP.nD Cert.GmlpP.τ).loc Cert.GmlpP.main_arg3) = m ((c.tc : Thread Cert.GmlpP.nD Cert.GmlpP.τ).loc Cert.GmlpP.main_arg3)
      ∧ r.2.mem ((c.tc : Thread Cert.GmlpP.nD Cert.GmlpP.τ).loc Cert.GmlpP.main_arg4) = m ((c.tc : Thread Cert.GmlpP.nD Cert.GmlpP.τ).loc Cert.GmlpP.main_arg4)
      ∧ r.2.mem ((c.tc : Thread Cert.GmlpP.nD Cert.GmlpP.τ).loc Cert.GmlpP.main_arg5) = m ((c.tc : Thread Cert.GmlpP.nD Cert.GmlpP.τ).loc Cert.GmlpP.main_arg5)
      ∧ r.2.mem ((c.tc : Thread Cert.GmlpP.nD Cert.GmlpP.τ).loc Cert.GmlpP.main_arg6) = m ((c.tc : Thread Cert.GmlpP.nD Cert.GmlpP.τ).loc Cert.GmlpP.main_arg6)
      ∧ r.2.mem ((c.tc : Thread Cert.GmlpP.nD Cert.GmlpP.τ).loc Cert.GmlpP.main_arg7) = m ((c.tc : Thread Cert.GmlpP.nD Cert.GmlpP.τ).loc Cert.GmlpP.main_arg7)
      ∧ r.2.mem ((c.tc : Thread Cert.GmlpP.nD Cert.GmlpP.τ).loc Cert.GmlpP.main_arg8) = m ((c.tc : Thread Cert.GmlpP.nD Cert.GmlpP.τ).loc Cert.GmlpP.main_arg8))
      ∧ r.2.sem = fun _ => 0)

def quiescent_GmlpPIdeal [hGmlpPIdeal : Cert.GmlpPIdeal.Facts] : Prop :=
  ∀ (m : (ℓ : Loc Cert.GmlpPIdeal.nD Cert.GmlpPIdeal.τ Cert.GmlpPIdeal.sig) → Buf (Elt Ideal) ℓ) (g : Dev Cert.GmlpPIdeal.nD → PrngReg), Pre_GmlpPIdeal m →
    θ_run (Cert.GmlpPIdeal.defs (F := Ideal)) (onTc (τ := Cert.GmlpPIdeal.τ) (Cert.GmlpPIdeal.main (F := Ideal))) ⟨m, fun _ => 0, g⟩ (fun r => (∀ c : Dev Cert.GmlpPIdeal.nD,
      r.2.mem ((c.tc : Thread Cert.GmlpPIdeal.nD Cert.GmlpPIdeal.τ).loc Cert.GmlpPIdeal.main_arg0) = m ((c.tc : Thread Cert.GmlpPIdeal.nD Cert.GmlpPIdeal.τ).loc Cert.GmlpPIdeal.main_arg0)
      ∧ r.2.mem ((c.tc : Thread Cert.GmlpPIdeal.nD Cert.GmlpPIdeal.τ).loc Cert.GmlpPIdeal.main_arg1) = m ((c.tc : Thread Cert.GmlpPIdeal.nD Cert.GmlpPIdeal.τ).loc Cert.GmlpPIdeal.main_arg1)
      ∧ r.2.mem ((c.tc : Thread Cert.GmlpPIdeal.nD Cert.GmlpPIdeal.τ).loc Cert.GmlpPIdeal.main_arg2) = m ((c.tc : Thread Cert.GmlpPIdeal.nD Cert.GmlpPIdeal.τ).loc Cert.GmlpPIdeal.main_arg2)
      ∧ r.2.mem ((c.tc : Thread Cert.GmlpPIdeal.nD Cert.GmlpPIdeal.τ).loc Cert.GmlpPIdeal.main_arg3) = m ((c.tc : Thread Cert.GmlpPIdeal.nD Cert.GmlpPIdeal.τ).loc Cert.GmlpPIdeal.main_arg3)
      ∧ r.2.mem ((c.tc : Thread Cert.GmlpPIdeal.nD Cert.GmlpPIdeal.τ).loc Cert.GmlpPIdeal.main_arg4) = m ((c.tc : Thread Cert.GmlpPIdeal.nD Cert.GmlpPIdeal.τ).loc Cert.GmlpPIdeal.main_arg4)
      ∧ r.2.mem ((c.tc : Thread Cert.GmlpPIdeal.nD Cert.GmlpPIdeal.τ).loc Cert.GmlpPIdeal.main_arg5) = m ((c.tc : Thread Cert.GmlpPIdeal.nD Cert.GmlpPIdeal.τ).loc Cert.GmlpPIdeal.main_arg5)
      ∧ r.2.mem ((c.tc : Thread Cert.GmlpPIdeal.nD Cert.GmlpPIdeal.τ).loc Cert.GmlpPIdeal.main_arg6) = m ((c.tc : Thread Cert.GmlpPIdeal.nD Cert.GmlpPIdeal.τ).loc Cert.GmlpPIdeal.main_arg6)
      ∧ r.2.mem ((c.tc : Thread Cert.GmlpPIdeal.nD Cert.GmlpPIdeal.τ).loc Cert.GmlpPIdeal.main_arg7) = m ((c.tc : Thread Cert.GmlpPIdeal.nD Cert.GmlpPIdeal.τ).loc Cert.GmlpPIdeal.main_arg7)
      ∧ r.2.mem ((c.tc : Thread Cert.GmlpPIdeal.nD Cert.GmlpPIdeal.τ).loc Cert.GmlpPIdeal.main_arg8) = m ((c.tc : Thread Cert.GmlpPIdeal.nD Cert.GmlpPIdeal.τ).loc Cert.GmlpPIdeal.main_arg8))
      ∧ r.2.sem = fun _ => 0)

def quiescent_GmlpPRefIdeal [hGmlpPRefIdeal : Cert.GmlpPRefIdeal.Facts] : Prop :=
  ∀ (m : (ℓ : Loc Cert.GmlpPRefIdeal.nD Cert.GmlpPRefIdeal.τ Cert.GmlpPRefIdeal.sig) → Buf (Elt Ideal) ℓ) (g : Dev Cert.GmlpPRefIdeal.nD → PrngReg), Pre_GmlpPRefIdeal m →
    θ_run (Cert.GmlpPRefIdeal.defs (F := Ideal)) (onTc (τ := Cert.GmlpPRefIdeal.τ) (Cert.GmlpPRefIdeal.main (F := Ideal))) ⟨m, fun _ => 0, g⟩ (fun r => (∀ c : Dev Cert.GmlpPRefIdeal.nD,
      r.2.mem ((c.tc : Thread Cert.GmlpPRefIdeal.nD Cert.GmlpPRefIdeal.τ).loc Cert.GmlpPRefIdeal.main_arg0) = m ((c.tc : Thread Cert.GmlpPRefIdeal.nD Cert.GmlpPRefIdeal.τ).loc Cert.GmlpPRefIdeal.main_arg0)
      ∧ r.2.mem ((c.tc : Thread Cert.GmlpPRefIdeal.nD Cert.GmlpPRefIdeal.τ).loc Cert.GmlpPRefIdeal.main_arg1) = m ((c.tc : Thread Cert.GmlpPRefIdeal.nD Cert.GmlpPRefIdeal.τ).loc Cert.GmlpPRefIdeal.main_arg1)
      ∧ r.2.mem ((c.tc : Thread Cert.GmlpPRefIdeal.nD Cert.GmlpPRefIdeal.τ).loc Cert.GmlpPRefIdeal.main_arg2) = m ((c.tc : Thread Cert.GmlpPRefIdeal.nD Cert.GmlpPRefIdeal.τ).loc Cert.GmlpPRefIdeal.main_arg2)
      ∧ r.2.mem ((c.tc : Thread Cert.GmlpPRefIdeal.nD Cert.GmlpPRefIdeal.τ).loc Cert.GmlpPRefIdeal.main_arg3) = m ((c.tc : Thread Cert.GmlpPRefIdeal.nD Cert.GmlpPRefIdeal.τ).loc Cert.GmlpPRefIdeal.main_arg3)
      ∧ r.2.mem ((c.tc : Thread Cert.GmlpPRefIdeal.nD Cert.GmlpPRefIdeal.τ).loc Cert.GmlpPRefIdeal.main_arg4) = m ((c.tc : Thread Cert.GmlpPRefIdeal.nD Cert.GmlpPRefIdeal.τ).loc Cert.GmlpPRefIdeal.main_arg4)
      ∧ r.2.mem ((c.tc : Thread Cert.GmlpPRefIdeal.nD Cert.GmlpPRefIdeal.τ).loc Cert.GmlpPRefIdeal.main_arg5) = m ((c.tc : Thread Cert.GmlpPRefIdeal.nD Cert.GmlpPRefIdeal.τ).loc Cert.GmlpPRefIdeal.main_arg5)
      ∧ r.2.mem ((c.tc : Thread Cert.GmlpPRefIdeal.nD Cert.GmlpPRefIdeal.τ).loc Cert.GmlpPRefIdeal.main_arg6) = m ((c.tc : Thread Cert.GmlpPRefIdeal.nD Cert.GmlpPRefIdeal.τ).loc Cert.GmlpPRefIdeal.main_arg6)
      ∧ r.2.mem ((c.tc : Thread Cert.GmlpPRefIdeal.nD Cert.GmlpPRefIdeal.τ).loc Cert.GmlpPRefIdeal.main_arg7) = m ((c.tc : Thread Cert.GmlpPRefIdeal.nD Cert.GmlpPRefIdeal.τ).loc Cert.GmlpPRefIdeal.main_arg7)
      ∧ r.2.mem ((c.tc : Thread Cert.GmlpPRefIdeal.nD Cert.GmlpPRefIdeal.τ).loc Cert.GmlpPRefIdeal.main_arg8) = m ((c.tc : Thread Cert.GmlpPRefIdeal.nD Cert.GmlpPRefIdeal.τ).loc Cert.GmlpPRefIdeal.main_arg8))
      ∧ r.2.sem = fun _ => 0)

def preserves_Expert_ExpertIdeal : Prop :=
  True

def algebraic_ExpertIdeal_ExpertRefIdeal [hExpertIdeal : Cert.ExpertIdeal.Facts] [hExpertRefIdeal : Cert.ExpertRefIdeal.Facts] [hPre_tables : Cert.Pre_tables.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)
      ∧ m' ((c.tc : Thread Cert.ExpertRefIdeal.nD Cert.ExpertRefIdeal.τ).loc Cert.ExpertRefIdeal.main_arg3) = m ((c.tc : Thread Cert.ExpertIdeal.nD Cert.ExpertIdeal.τ).loc Cert.ExpertIdeal.main_arg3)
      ∧ m' ((c.tc : Thread Cert.ExpertRefIdeal.nD Cert.ExpertRefIdeal.τ).loc Cert.ExpertRefIdeal.main_arg4) = m ((c.tc : Thread Cert.ExpertIdeal.nD Cert.ExpertIdeal.τ).loc Cert.ExpertIdeal.main_arg4)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v0) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v160) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2)
          ∧ r.2.mem ((c.tc : Thread Cert.ExpertRefIdeal.nD Cert.ExpertRefIdeal.τ).loc Cert.ExpertRefIdeal.main_arg3) = m' ((c.tc : Thread Cert.ExpertRefIdeal.nD Cert.ExpertRefIdeal.τ).loc Cert.ExpertRefIdeal.main_arg3)
          ∧ r.2.mem ((c.tc : Thread Cert.ExpertRefIdeal.nD Cert.ExpertRefIdeal.τ).loc Cert.ExpertRefIdeal.main_arg4) = m' ((c.tc : Thread Cert.ExpertRefIdeal.nD Cert.ExpertRefIdeal.τ).loc Cert.ExpertRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Qkv_QkvIdeal : Prop :=
  IdealRules.named_const.Statement Cert.QkvIdeal.κ "q_unit" .f32 0x3E38AA3B#32 (((8 * (Real.log 2))⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v5_0)) (v1 : (c : Dev Cert.QkvIdeal.nD) → Buf (Elt Ideal) ((c.tc : Thread Cert.QkvIdeal.nD Cert.QkvIdeal.τ).loc Cert.QkvIdeal.main_v5_1)) (v2 : (c : Dev Cert.QkvIdeal.nD) → Buf (Elt Ideal) ((c.tc : Thread Cert.QkvIdeal.nD Cert.QkvIdeal.τ).loc Cert.QkvIdeal.main_v5_2)) (v3 : (c : Dev Cert.QkvIdeal.nD) → Buf (Elt Ideal) ((c.tc : Thread Cert.QkvIdeal.nD Cert.QkvIdeal.τ).loc Cert.QkvIdeal.main_v5_3)) (v4 : (c : Dev Cert.QkvIdeal.nD) → Buf (Elt Ideal) ((c.tc : Thread Cert.QkvIdeal.nD Cert.QkvIdeal.τ).loc Cert.QkvIdeal.main_v5_4)) (v5 : (c : Dev Cert.QkvIdeal.nD) → Buf (Elt Ideal) ((c.tc : Thread Cert.QkvIdeal.nD Cert.QkvIdeal.τ).loc Cert.QkvIdeal.main_v5_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5_0) = v0 c
          ∧ r.2.mem ((c.tc : Thread Cert.QkvIdeal.nD Cert.QkvIdeal.τ).loc Cert.QkvIdeal.main_v5_1) = v1 c
          ∧ r.2.mem ((c.tc : Thread Cert.QkvIdeal.nD Cert.QkvIdeal.τ).loc Cert.QkvIdeal.main_v5_2) = v2 c
          ∧ r.2.mem ((c.tc : Thread Cert.QkvIdeal.nD Cert.QkvIdeal.τ).loc Cert.QkvIdeal.main_v5_3) = v3 c
          ∧ r.2.mem ((c.tc : Thread Cert.QkvIdeal.nD Cert.QkvIdeal.τ).loc Cert.QkvIdeal.main_v5_4) = v4 c
          ∧ r.2.mem ((c.tc : Thread Cert.QkvIdeal.nD Cert.QkvIdeal.τ).loc Cert.QkvIdeal.main_v5_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v30) = v0 c
          ∧ r.2.mem ((c.tc : Thread Cert.QkvRefIdeal.nD Cert.QkvRefIdeal.τ).loc Cert.QkvRefIdeal.main_v31) = v1 c
          ∧ r.2.mem ((c.tc : Thread Cert.QkvRefIdeal.nD Cert.QkvRefIdeal.τ).loc Cert.QkvRefIdeal.main_v32) = v2 c
          ∧ r.2.mem ((c.tc : Thread Cert.QkvRefIdeal.nD Cert.QkvRefIdeal.τ).loc Cert.QkvRefIdeal.main_v33) = v3 c
          ∧ r.2.mem ((c.tc : Thread Cert.QkvRefIdeal.nD Cert.QkvRefIdeal.τ).loc Cert.QkvRefIdeal.main_v34) = v4 c
          ∧ r.2.mem ((c.tc : Thread Cert.QkvRefIdeal.nD Cert.QkvRefIdeal.τ).loc Cert.QkvRefIdeal.main_v37) = v5 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_QkvS_QkvSIdeal : Prop :=
  IdealRules.named_const.Statement Cert.QkvSIdeal.κ "q_unit" .f32 0x3E38AA3B#32 (((8 * (Real.log 2))⁻¹ : ℝ) : EReal)

def algebraic_QkvSIdeal_QkvSRefIdeal [hQkvSIdeal : Cert.QkvSIdeal.Facts] [hQkvSRefIdeal : Cert.QkvSRefIdeal.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.QkvSRefIdeal.nD Cert.QkvSRefIdeal.τ Cert.QkvSRefIdeal.sig) → Buf (Elt Ideal) ℓ) (g' : Dev Cert.QkvSRefIdeal.nD → PrngReg), Pre_QkvSIdeal m →
    (∀ c : Dev Cert.QkvSIdeal.nD,
      m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)
      ∧ m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)
      ∧ m' ((c.tc : Thread Cert.QkvSRefIdeal.nD Cert.QkvSRefIdeal.τ).loc Cert.QkvSRefIdeal.main_arg2) = m ((c.tc : Thread Cert.QkvSIdeal.nD Cert.QkvSIdeal.τ).loc Cert.QkvSIdeal.main_arg2)) →
    ∃ (v0 : (c : Dev Cert.QkvSIdeal.nD) → Buf (Elt Ideal) ((c.tc : Thread Cert.QkvSIdeal.nD Cert.QkvSIdeal.τ).loc Cert.QkvSIdeal.main_v5_0)) (v1 : (c : Dev Cert.QkvSIdeal.nD) → Buf (Elt Ideal) ((c.tc : Thread Cert.QkvSIdeal.nD Cert.QkvSIdeal.τ).loc Cert.QkvSIdeal.main_v5_1)) (v2 : (c : Dev Cert.QkvSIdeal.nD) → Buf (Elt Ideal) ((c.tc : Thread Cert.QkvSIdeal.nD Cert.QkvSIdeal.τ).loc Cert.QkvSIdeal.main_v5_2)) (v3 : (c : Dev Cert.QkvSIdeal.nD) → Buf (Elt Ideal) ((c.tc : Thread Cert.QkvSIdeal.nD Cert.QkvSIdeal.τ).loc Cert.QkvSIdeal.main_v5_3)) (v4 : (c : Dev Cert.QkvSIdeal.nD) → Buf (Elt Ideal) ((c.tc : Thread Cert.QkvSIdeal.nD Cert.QkvSIdeal.τ).loc Cert.QkvSIdeal.main_v5_4)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v5_0) = v0 c
          ∧ r.2.mem ((c.tc : Thread Cert.QkvSIdeal.nD Cert.QkvSIdeal.τ).loc Cert.QkvSIdeal.main_v5_1) = v1 c
          ∧ r.2.mem ((c.tc : Thread Cert.QkvSIdeal.nD Cert.QkvSIdeal.τ).loc Cert.QkvSIdeal.main_v5_2) = v2 c
          ∧ r.2.mem ((c.tc : Thread Cert.QkvSIdeal.nD Cert.QkvSIdeal.τ).loc Cert.QkvSIdeal.main_v5_3) = v3 c
          ∧ r.2.mem ((c.tc : Thread Cert.QkvSIdeal.nD Cert.QkvSIdeal.τ).loc Cert.QkvSIdeal.main_v5_4) = v4 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
          ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ θ_run (Cert.QkvSRefIdeal.defs (F := Ideal)) (onTc (τ := Cert.QkvSRefIdeal.τ) (Cert.QkvSRefIdeal.main (F := Ideal))) ⟨m', fun _ => 0, g'⟩ (fun r => ∀ c : Dev Cert.QkvSRefIdeal.nD,
          r.2.mem ((c.tc : Thread Cert.QkvSRefIdeal.nD Cert.QkvSRefIdeal.τ).loc Cert.QkvSRefIdeal.main_v30) = v0 c
          ∧ r.2.mem ((c.tc : Thread Cert.QkvSRefIdeal.nD Cert.QkvSRefIdeal.τ).loc Cert.QkvSRefIdeal.main_v31) = v1 c
          ∧ r.2.mem ((c.tc : Thread Cert.QkvSRefIdeal.nD Cert.QkvSRefIdeal.τ).loc Cert.QkvSRefIdeal.main_v32) = v2 c
          ∧ r.2.mem ((c.tc : Thread Cert.QkvSRefIdeal.nD Cert.QkvSRefIdeal.τ).loc Cert.QkvSRefIdeal.main_v33) = v3 c
          ∧ r.2.mem ((c.tc : Thread Cert.QkvSRefIdeal.nD Cert.QkvSRefIdeal.τ).loc Cert.QkvSRefIdeal.main_v34) = v4 c
          ∧ r.2.mem ((c.tc : Thread Cert.QkvSRefIdeal.nD Cert.QkvSRefIdeal.τ).loc Cert.QkvSRefIdeal.main_arg0) = m' ((c.tc : Thread Cert.QkvSRefIdeal.nD Cert.QkvSRefIdeal.τ).loc Cert.QkvSRefIdeal.main_arg0)
          ∧ r.2.mem ((c.tc : Thread Cert.QkvSRefIdeal.nD Cert.QkvSRefIdeal.τ).loc Cert.QkvSRefIdeal.main_arg1) = m' ((c.tc : Thread Cert.QkvSRefIdeal.nD Cert.QkvSRefIdeal.τ).loc Cert.QkvSRefIdeal.main_arg1)
          ∧ r.2.mem ((c.tc : Thread Cert.QkvSRefIdeal.nD Cert.QkvSRefIdeal.τ).loc Cert.QkvSRefIdeal.main_arg2) = m' ((c.tc : Thread Cert.QkvSRefIdeal.nD Cert.QkvSRefIdeal.τ).loc Cert.QkvSRefIdeal.main_arg2))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)
      ∧ m' ((c.tc : Thread Cert.GmlpRefIdeal.nD Cert.GmlpRefIdeal.τ).loc Cert.GmlpRefIdeal.main_arg6) = m ((c.tc : Thread Cert.GmlpIdeal.nD Cert.GmlpIdeal.τ).loc Cert.GmlpIdeal.main_arg6)
      ∧ m' ((c.tc : Thread Cert.GmlpRefIdeal.nD Cert.GmlpRefIdeal.τ).loc Cert.GmlpRefIdeal.main_arg7) = m ((c.tc : Thread Cert.GmlpIdeal.nD Cert.GmlpIdeal.τ).loc Cert.GmlpIdeal.main_arg7)
      ∧ m' ((c.tc : Thread Cert.GmlpRefIdeal.nD Cert.GmlpRefIdeal.τ).loc Cert.GmlpRefIdeal.main_arg8) = m ((c.tc : Thread Cert.GmlpIdeal.nD Cert.GmlpIdeal.τ).loc Cert.GmlpIdeal.main_arg8)) →
    ∃ (v0 : (c : Dev Cert.GmlpIdeal.nD) → Buf (Elt Ideal) ((c.tc : Thread Cert.GmlpIdeal.nD Cert.GmlpIdeal.τ).loc Cert.GmlpIdeal.main_v18_0)) (v1 : (c : Dev Cert.GmlpIdeal.nD) → Buf (Elt Ideal) ((c.tc : Thread Cert.GmlpIdeal.nD Cert.GmlpIdeal.τ).loc Cert.GmlpIdeal.main_v18_1)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v18_0) = v0 c
          ∧ r.2.mem ((c.tc : Thread Cert.GmlpIdeal.nD Cert.GmlpIdeal.τ).loc Cert.GmlpIdeal.main_v18_1) = v1 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
          ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7)
          ∧ r.2.mem ((c.tc : Thread Cert.GmlpIdeal.nD Cert.GmlpIdeal.τ).loc Cert.GmlpIdeal.main_arg8) = m ((c.tc : Thread Cert.GmlpIdeal.nD Cert.GmlpIdeal.τ).loc Cert.GmlpIdeal.main_arg8))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v73) = v0 c
          ∧ r.2.mem ((c.tc : Thread Cert.GmlpRefIdeal.nD Cert.GmlpRefIdeal.τ).loc Cert.GmlpRefIdeal.main_v74) = v1 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6)
          ∧ r.2.mem ((c.tc : Thread Cert.GmlpRefIdeal.nD Cert.GmlpRefIdeal.τ).loc Cert.GmlpRefIdeal.main_arg7) = m' ((c.tc : Thread Cert.GmlpRefIdeal.nD Cert.GmlpRefIdeal.τ).loc Cert.GmlpRefIdeal.main_arg7)
          ∧ r.2.mem ((c.tc : Thread Cert.GmlpRefIdeal.nD Cert.GmlpRefIdeal.τ).loc Cert.GmlpRefIdeal.main_arg8) = m' ((c.tc : Thread Cert.GmlpRefIdeal.nD Cert.GmlpRefIdeal.τ).loc Cert.GmlpRefIdeal.main_arg8))

def preserves_GmlpP_GmlpPIdeal : Prop :=
  True

def algebraic_GmlpPIdeal_GmlpPRefIdeal [hGmlpPIdeal : Cert.GmlpPIdeal.Facts] [hGmlpPRefIdeal : Cert.GmlpPRefIdeal.Facts] : Prop :=
  ∀ (m : (ℓ : Loc Cert.GmlpPIdeal.nD Cert.GmlpPIdeal.τ Cert.GmlpPIdeal.sig) → Buf (Elt Ideal) ℓ) (g : Dev Cert.GmlpPIdeal.nD → PrngReg)
    (m' : (ℓ : Loc Cert.GmlpPRefIdeal.nD Cert.GmlpPRefIdeal.τ Cert.GmlpPRefIdeal.sig) → Buf (Elt Ideal) ℓ) (g' : Dev Cert.GmlpPRefIdeal.nD → PrngReg), Pre_GmlpPIdeal m →
    (∀ c : Dev Cert.GmlpPIdeal.nD,
      m' ((c.tc : Thread Cert.GmlpPRefIdeal.nD Cert.GmlpPRefIdeal.τ).loc Cert.GmlpPRefIdeal.main_arg0) = m ((c.tc : Thread Cert.GmlpPIdeal.nD Cert.GmlpPIdeal.τ).loc Cert.GmlpPIdeal.main_arg0)
      ∧ m' ((c.tc : Thread Cert.GmlpPRefIdeal.nD Cert.GmlpPRefIdeal.τ).loc Cert.GmlpPRefIdeal.main_arg1) = m ((c.tc : Thread Cert.GmlpPIdeal.nD Cert.GmlpPIdeal.τ).loc Cert.GmlpPIdeal.main_arg1)
      ∧ m' ((c.tc : Thread Cert.GmlpPRefIdeal.nD Cert.GmlpPRefIdeal.τ).loc Cert.GmlpPRefIdeal.main_arg2) = m ((c.tc : Thread Cert.GmlpPIdeal.nD Cert.GmlpPIdeal.τ).loc Cert.GmlpPIdeal.main_arg2)
      ∧ m' ((c.tc : Thread Cert.GmlpPRefIdeal.nD Cert.GmlpPRefIdeal.τ).loc Cert.GmlpPRefIdeal.main_arg3) = m ((c.tc : Thread Cert.GmlpPIdeal.nD Cert.GmlpPIdeal.τ).loc Cert.GmlpPIdeal.main_arg3)
      ∧ m' ((c.tc : Thread Cert.GmlpPRefIdeal.nD Cert.GmlpPRefIdeal.τ).loc Cert.GmlpPRefIdeal.main_arg4) = m ((c.tc : Thread Cert.GmlpPIdeal.nD Cert.GmlpPIdeal.τ).loc Cert.GmlpPIdeal.main_arg4)
      ∧ m' ((c.tc : Thread Cert.GmlpPRefIdeal.nD Cert.GmlpPRefIdeal.τ).loc Cert.GmlpPRefIdeal.main_arg5) = m ((c.tc : Thread Cert.GmlpPIdeal.nD Cert.GmlpPIdeal.τ).loc Cert.GmlpPIdeal.main_arg5)
      ∧ m' ((c.tc : Thread Cert.GmlpPRefIdeal.nD Cert.GmlpPRefIdeal.τ).loc Cert.GmlpPRefIdeal.main_arg6) = m ((c.tc : Thread Cert.GmlpPIdeal.nD Cert.GmlpPIdeal.τ).loc Cert.GmlpPIdeal.main_arg6)
      ∧ m' ((c.tc : Thread Cert.GmlpPRefIdeal.nD Cert.GmlpPRefIdeal.τ).loc Cert.GmlpPRefIdeal.main_arg7) = m ((c.tc : Thread Cert.GmlpPIdeal.nD Cert.GmlpPIdeal.τ).loc Cert.GmlpPIdeal.main_arg7)
      ∧ m' ((c.tc : Thread Cert.GmlpPRefIdeal.nD Cert.GmlpPRefIdeal.τ).loc Cert.GmlpPRefIdeal.main_arg8) = m ((c.tc : Thread Cert.GmlpPIdeal.nD Cert.GmlpPIdeal.τ).loc Cert.GmlpPIdeal.main_arg8)) →
    ∃ (v0 : (c : Dev Cert.GmlpPIdeal.nD) → Buf (Elt Ideal) ((c.tc : Thread Cert.GmlpPIdeal.nD Cert.GmlpPIdeal.τ).loc Cert.GmlpPIdeal.main_v16)),
      θ_run (Cert.GmlpPIdeal.defs (F := Ideal)) (onTc (τ := Cert.GmlpPIdeal.τ) (Cert.GmlpPIdeal.main (F := Ideal))) ⟨m, fun _ => 0, g⟩ (fun r => ∀ c : Dev Cert.GmlpPIdeal.nD,
          r.2.mem ((c.tc : Thread Cert.GmlpPIdeal.nD Cert.GmlpPIdeal.τ).loc Cert.GmlpPIdeal.main_v16) = v0 c
          ∧ r.2.mem ((c.tc : Thread Cert.GmlpPIdeal.nD Cert.GmlpPIdeal.τ).loc Cert.GmlpPIdeal.main_arg0) = m ((c.tc : Thread Cert.GmlpPIdeal.nD Cert.GmlpPIdeal.τ).loc Cert.GmlpPIdeal.main_arg0)
          ∧ r.2.mem ((c.tc : Thread Cert.GmlpPIdeal.nD Cert.GmlpPIdeal.τ).loc Cert.GmlpPIdeal.main_arg1) = m ((c.tc : Thread Cert.GmlpPIdeal.nD Cert.GmlpPIdeal.τ).loc Cert.GmlpPIdeal.main_arg1)
          ∧ r.2.mem ((c.tc : Thread Cert.GmlpPIdeal.nD Cert.GmlpPIdeal.τ).loc Cert.GmlpPIdeal.main_arg2) = m ((c.tc : Thread Cert.GmlpPIdeal.nD Cert.GmlpPIdeal.τ).loc Cert.GmlpPIdeal.main_arg2)
          ∧ r.2.mem ((c.tc : Thread Cert.GmlpPIdeal.nD Cert.GmlpPIdeal.τ).loc Cert.GmlpPIdeal.main_arg3) = m ((c.tc : Thread Cert.GmlpPIdeal.nD Cert.GmlpPIdeal.τ).loc Cert.GmlpPIdeal.main_arg3)
          ∧ r.2.mem ((c.tc : Thread Cert.GmlpPIdeal.nD Cert.GmlpPIdeal.τ).loc Cert.GmlpPIdeal.main_arg4) = m ((c.tc : Thread Cert.GmlpPIdeal.nD Cert.GmlpPIdeal.τ).loc Cert.GmlpPIdeal.main_arg4)
          ∧ r.2.mem ((c.tc : Thread Cert.GmlpPIdeal.nD Cert.GmlpPIdeal.τ).loc Cert.GmlpPIdeal.main_arg5) = m ((c.tc : Thread Cert.GmlpPIdeal.nD Cert.GmlpPIdeal.τ).loc Cert.GmlpPIdeal.main_arg5)
          ∧ r.2.mem ((c.tc : Thread Cert.GmlpPIdeal.nD Cert.GmlpPIdeal.τ).loc Cert.GmlpPIdeal.main_arg6) = m ((c.tc : Thread Cert.GmlpPIdeal.nD Cert.GmlpPIdeal.τ).loc Cert.GmlpPIdeal.main_arg6)
          ∧ r.2.mem ((c.tc : Thread Cert.GmlpPIdeal.nD Cert.GmlpPIdeal.τ).loc Cert.GmlpPIdeal.main_arg7) = m ((c.tc : Thread Cert.GmlpPIdeal.nD Cert.GmlpPIdeal.τ).loc Cert.GmlpPIdeal.main_arg7)
          ∧ r.2.mem ((c.tc : Thread Cert.GmlpPIdeal.nD Cert.GmlpPIdeal.τ).loc Cert.GmlpPIdeal.main_arg8) = m ((c.tc : Thread Cert.GmlpPIdeal.nD Cert.GmlpPIdeal.τ).loc Cert.GmlpPIdeal.main_arg8))
      ∧ θ_run (Cert.GmlpPRefIdeal.defs (F := Ideal)) (onTc (τ := Cert.GmlpPRefIdeal.τ) (Cert.GmlpPRefIdeal.main (F := Ideal))) ⟨m', fun _ => 0, g'⟩ (fun r => ∀ c : Dev Cert.GmlpPRefIdeal.nD,
          r.2.mem ((c.tc : Thread Cert.GmlpPRefIdeal.nD Cert.GmlpPRefIdeal.τ).loc Cert.GmlpPRefIdeal.main_v71) = v0 c
          ∧ r.2.mem ((c.tc : Thread Cert.GmlpPRefIdeal.nD Cert.GmlpPRefIdeal.τ).loc Cert.GmlpPRefIdeal.main_arg0) = m' ((c.tc : Thread Cert.GmlpPRefIdeal.nD Cert.GmlpPRefIdeal.τ).loc Cert.GmlpPRefIdeal.main_arg0)
          ∧ r.2.mem ((c.tc : Thread Cert.GmlpPRefIdeal.nD Cert.GmlpPRefIdeal.τ).loc Cert.GmlpPRefIdeal.main_arg1) = m' ((c.tc : Thread Cert.GmlpPRefIdeal.nD Cert.GmlpPRefIdeal.τ).loc Cert.GmlpPRefIdeal.main_arg1)
          ∧ r.2.mem ((c.tc : Thread Cert.GmlpPRefIdeal.nD Cert.GmlpPRefIdeal.τ).loc Cert.GmlpPRefIdeal.main_arg2) = m' ((c.tc : Thread Cert.GmlpPRefIdeal.nD Cert.GmlpPRefIdeal.τ).loc Cert.GmlpPRefIdeal.main_arg2)
          ∧ r.2.mem ((c.tc : Thread Cert.GmlpPRefIdeal.nD Cert.GmlpPRefIdeal.τ).loc Cert.GmlpPRefIdeal.main_arg3) = m' ((c.tc : Thread Cert.GmlpPRefIdeal.nD Cert.GmlpPRefIdeal.τ).loc Cert.GmlpPRefIdeal.main_arg3)
          ∧ r.2.mem ((c.tc : Thread Cert.GmlpPRefIdeal.nD Cert.GmlpPRefIdeal.τ).loc Cert.GmlpPRefIdeal.main_arg4) = m' ((c.tc : Thread Cert.GmlpPRefIdeal.nD Cert.GmlpPRefIdeal.τ).loc Cert.GmlpPRefIdeal.main_arg4)
          ∧ r.2.mem ((c.tc : Thread Cert.GmlpPRefIdeal.nD Cert.GmlpPRefIdeal.τ).loc Cert.GmlpPRefIdeal.main_arg5) = m' ((c.tc : Thread Cert.GmlpPRefIdeal.nD Cert.GmlpPRefIdeal.τ).loc Cert.GmlpPRefIdeal.main_arg5)
          ∧ r.2.mem ((c.tc : Thread Cert.GmlpPRefIdeal.nD Cert.GmlpPRefIdeal.τ).loc Cert.GmlpPRefIdeal.main_arg6) = m' ((c.tc : Thread Cert.GmlpPRefIdeal.nD Cert.GmlpPRefIdeal.τ).loc Cert.GmlpPRefIdeal.main_arg6)
          ∧ r.2.mem ((c.tc : Thread Cert.GmlpPRefIdeal.nD Cert.GmlpPRefIdeal.τ).loc Cert.GmlpPRefIdeal.main_arg7) = m' ((c.tc : Thread Cert.GmlpPRefIdeal.nD Cert.GmlpPRefIdeal.τ).loc Cert.GmlpPRefIdeal.main_arg7)
          ∧ r.2.mem ((c.tc : Thread Cert.GmlpPRefIdeal.nD Cert.GmlpPRefIdeal.τ).loc Cert.GmlpPRefIdeal.main_arg8) = m' ((c.tc : Thread Cert.GmlpPRefIdeal.nD Cert.GmlpPRefIdeal.τ).loc Cert.GmlpPRefIdeal.main_arg8))

def Claim : Prop :=
  ∃ (hExpert : Cert.Expert.Facts) (hExpertIdeal : Cert.ExpertIdeal.Facts) (hExpertRefIdeal : Cert.ExpertRefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hQkvS : Cert.QkvS.Facts) (hQkvSIdeal : Cert.QkvSIdeal.Facts) (hQkvSRefIdeal : Cert.QkvSRefIdeal.Facts) (hGmlp : Cert.Gmlp.Facts) (hGmlpIdeal : Cert.GmlpIdeal.Facts) (hGmlpRefIdeal : Cert.GmlpRefIdeal.Facts) (hGmlpP : Cert.GmlpP.Facts) (hGmlpPIdeal : Cert.GmlpPIdeal.Facts) (hGmlpPRefIdeal : Cert.GmlpPRefIdeal.Facts) (hPre_tables : Cert.Pre_tables.Facts),
    quiescent_Expert (hExpert := hExpert) (hPre_tables := hPre_tables)
    ∧ quiescent_ExpertIdeal (hExpertIdeal := hExpertIdeal) (hPre_tables := hPre_tables)
    ∧ quiescent_ExpertRefIdeal (hExpertRefIdeal := hExpertRefIdeal)
    ∧ quiescent_ExpertRefIdeal_pre_tables (hExpertRefIdeal := hExpertRefIdeal) (hPre_tables := hPre_tables)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QkvS (hQkvS := hQkvS)
    ∧ quiescent_QkvSIdeal (hQkvSIdeal := hQkvSIdeal)
    ∧ quiescent_QkvSRefIdeal (hQkvSRefIdeal := hQkvSRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_GmlpP (hGmlpP := hGmlpP)
    ∧ quiescent_GmlpPIdeal (hGmlpPIdeal := hGmlpPIdeal)
    ∧ quiescent_GmlpPRefIdeal (hGmlpPRefIdeal := hGmlpPRefIdeal)
    ∧ preserves_Expert_ExpertIdeal
    ∧ algebraic_ExpertIdeal_ExpertRefIdeal (hExpertIdeal := hExpertIdeal) (hExpertRefIdeal := hExpertRefIdeal) (hPre_tables := hPre_tables)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_QkvS_QkvSIdeal
    ∧ algebraic_QkvSIdeal_QkvSRefIdeal (hQkvSIdeal := hQkvSIdeal) (hQkvSRefIdeal := hQkvSRefIdeal)
    ∧ preserves_Gmlp_GmlpIdeal
    ∧ algebraic_GmlpIdeal_GmlpRefIdeal (hGmlpIdeal := hGmlpIdeal) (hGmlpRefIdeal := hGmlpRefIdeal)
    ∧ preserves_GmlpP_GmlpPIdeal
    ∧ algebraic_GmlpPIdeal_GmlpPRefIdeal (hGmlpPIdeal := hGmlpPIdeal) (hGmlpPRefIdeal := hGmlpPRefIdeal)
-- ==== Pre_tables.lean ====
abbrev S69632x1024 : Shape := ⟨2, ![69632, 1024]⟩
abbrev S136 : Shape := ⟨1, ![136]⟩
abbrev S1 : Shape := ⟨1, ![1]⟩
abbrev S8x1024x5632 : Shape := ⟨3, ![8, 1024, 5632]⟩
abbrev S8x2816x1024 : Shape := ⟨3, ![8, 2816, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S69632x1024 .f32) (main_arg1 : IVec S136 32) (main_arg2 : IVec S1 32) (main_arg3 : FVec F S8x1024x5632 .bf16) (main_arg4 : FVec F S8x2816x1024 .bf16) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Expert.lean ====
abbrev S69632x1024 : Shape := ⟨2, ![69632, 1024]⟩
abbrev S136 : Shape := ⟨1, ![136]⟩
abbrev S1 : Shape := ⟨1, ![1]⟩
abbrev S8x1024x5632 : Shape := ⟨3, ![8, 1024, 5632]⟩
abbrev S8x2816x1024 : Shape := ⟨3, ![8, 2816, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 4
  | .vmem => 8
  | .smem => 2
  | _ => 0

abbrev bufTy : (tb : Table) → Fin (tcTables nBuf tb) → BufTy
  | .hbm, ⟨0, _⟩ => ⟨S69632x1024, .f32⟩
  | .hbm, ⟨1, _⟩ => ⟨S8x1024x5632, .bf16⟩
  | .hbm, ⟨2, _⟩ => ⟨S8x2816x1024, .bf16⟩
  | .hbm, ⟨3, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x5632, .bf16⟩
  | .local _ .vmem, ⟨3, _⟩ => ⟨S1x1024x5632, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertRefIdeal.lean ====
abbrev S69632x1024 : Shape := ⟨2, ![69632, 1024]⟩
abbrev S136 : Shape := ⟨1, ![136]⟩
abbrev S1 : Shape := ⟨1, ![1]⟩
abbrev S8x1024x5632 : Shape := ⟨3, ![8, 1024, 5632]⟩
abbrev S8x2816x1024 : Shape := ⟨3, ![8, 2816, 1024]⟩
abbrev S_ : Shape := ⟨0, ![]⟩
abbrev S136x1 : Shape := ⟨2, ![136, 1]⟩
abbrev S136x512 : Shape := ⟨2, ![136, 512]⟩
abbrev S69632x1 : Shape := ⟨2, ![69632, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S69632x5632 : Shape := ⟨2, ![69632, 5632]⟩
abbrev S69632x2816 : Shape := ⟨2, ![69632, 2816]⟩

abbrev nBuf : Space → Nat
  | .hbm => 274
  | .vmem => 0
  | .smem => 0
  | _ => 0

abbrev hbmTy0_0 (i : Nat) : BufTy := match i % 128 with
  | 0 => ⟨S69632x1024, .f32⟩
  | 1 => ⟨S136, .i32⟩
  | 2 => ⟨S1, .i32⟩
  | 3 => ⟨S8x1024x5632, .bf16⟩
  | 4 => ⟨S8x2816x1024, .bf16⟩
  | 5 => ⟨S136, .i32⟩
  | 6 => ⟨S_, .i32⟩
  | 7 => ⟨S136, .i32⟩
  | 8 => ⟨S136, .i1⟩
  | 9 => ⟨S_, .i32⟩
  | 10 => ⟨S_, .i32⟩
  | 11 => ⟨S136, .i32⟩
  | 12 => ⟨S136, .i32⟩
  | 13 => ⟨S136x1, .i32⟩
  | 14 => ⟨S136x512, .i32⟩
  | 15 => ⟨S69632x1, .i32⟩
  | 16 => ⟨S_, .f32⟩
  | 17 => ⟨S69632x1024, .f32⟩
  | 18 => ⟨S_, .i32⟩
  | 19 => ⟨S69632x1, .i32⟩
  | 20 => ⟨S69632x1, .i1⟩
  | 21 => ⟨S_, .f32⟩
  | 22 => ⟨S_, .f32⟩
  | 23 => ⟨S69632x1, .f32⟩
  | 24 => ⟨S69632x1, .f32⟩
  | 25 => ⟨S69632x1, .f32⟩
  | 26 => ⟨S1x1024x5632, .bf16⟩
  | 27 => ⟨S1024x5632, .bf16⟩
  | 28 => ⟨S1024x5632, .f32⟩
  | 29 => ⟨S1x2816x1024, .bf16⟩
  | 30 => ⟨S2816x1024, .bf16⟩
  | 31 => ⟨S2816x1024, .f32⟩
  | 32 => ⟨S69632x5632, .f32⟩
  | 33 => ⟨S69632x2816, .f32⟩
  | 34 => ⟨S69632x2816, .f32⟩
  | 35 => ⟨S69632x2816, .f32⟩
  | 36 => ⟨S69632x2816, .f32⟩
  | 37 => ⟨S_, .f32⟩
  | 38 => ⟨S69632x2816, .f32⟩
  | 39 => ⟨S69632x2816, .f32⟩
  | 40 => ⟨S_, .f32⟩
  | 41 => ⟨S69632x2816, .f32⟩
  | 42 => ⟨S69632x2816, .f32⟩
  | 43 => ⟨S69632x2816, .f32⟩
  | 44 => ⟨S69632x2816, .f32⟩
  | 45 => ⟨S69632x1024, .f32⟩
  | 46 => ⟨S69632x1, .f32⟩
  | 47 => ⟨S69632x1024, .f32⟩
  | 48 => ⟨S69632x1024, .f32⟩
  | 49 => ⟨S69632x1024, .f32⟩
  | 50 => ⟨S_, .i32⟩
  | 51 => ⟨S69632x1, .i32⟩
  | 52 => ⟨S69632x1, .i1⟩
  | 53 => ⟨S_, .f32⟩
  | 54 => ⟨S_, .f32⟩
  | 55 => ⟨S69632x1, .f32⟩
  | 56 => ⟨S69632x1, .f32⟩
  | 57 => ⟨S69632x1, .f32⟩
  | 58 => ⟨S1x1024x5632, .bf16⟩
  | 59 => ⟨S1024x5632, .bf16⟩
  | 60 => ⟨S1024x5632, .f32⟩
  | 61 => ⟨S1x2816x1024, .bf16⟩
  | 62 => ⟨S2816x1024, .bf16⟩
  | 63 => ⟨S2816x1024, .f32⟩
  | 64 => ⟨S69632x5632, .f32⟩
  | 65 => ⟨S69632x2816, .f32⟩
  | 66 => ⟨S69632x2816, .f32⟩
  | 67 => ⟨S69632x2816, .f32⟩
  | 68 => ⟨S69632x2816, .f32⟩
  | 69 => ⟨S_, .f32⟩
  | 70 => ⟨S69632x2816, .f32⟩
  | 71 => ⟨S69632x2816, .f32⟩
  | 72 => ⟨S_, .f32⟩
  | 73 => ⟨S69632x2816, .f32⟩
  | 74 => ⟨S69632x2816, .f32⟩
  | 75 => ⟨S69632x2816, .f32⟩
  | 76 => ⟨S69632x2816, .f32⟩
  | 77 => ⟨S69632x1024, .f32⟩
  | 78 => ⟨S69632x1, .f32⟩
  | 79 => ⟨S69632x1024, .f32⟩
  | 80 => ⟨S69632x1024, .f32⟩
  | 81 => ⟨S69632x1024, .f32⟩
  | 82 => ⟨S_, .i32⟩
  | 83 => ⟨S69632x1, .i32⟩
  | 84 => ⟨S69632x1, .i1⟩
  | 85 => ⟨S_, .f32⟩
  | 86 => ⟨S_, .f32⟩
  | 87 => ⟨S69632x1, .f32⟩
  | 88 => ⟨S69632x1, .f32⟩
  | 89 => ⟨S69632x1, .f32⟩
  | 90 => ⟨S1x1024x5632, .bf16⟩
  | 91 => ⟨S1024x5632, .bf16⟩
  | 92 => ⟨S1024x5632, .f32⟩
  | 93 => ⟨S1x2816x1024, .bf16⟩
  | 94 => ⟨S2816x1024, .bf16⟩
  | 95 => ⟨S2816x1024, .f32⟩
  | 96 => ⟨S69632x5632, .f32⟩
  | 97 => ⟨S69632x2816, .f32⟩
  | 98 => ⟨S69632x2816, .f32⟩
  | 99 => ⟨S69632x2816, .f32⟩
  | 100 => ⟨S69632x2816, .f32⟩
  | 101 => ⟨S_, .f32⟩
  | 102 => ⟨S69632x2816, .f32⟩
  | 103 => ⟨S69632x2816, .f32⟩
  | 104 => ⟨S_, .f32⟩
  | 105 => ⟨S69632x2816, .f32⟩
  | 106 => ⟨S69632x2816, .f32⟩
  | 107 => ⟨S69632x2816, .f32⟩
  | 108 => ⟨S69632x2816, .f32⟩
  | 109 => ⟨S69632x1024, .f32⟩
  | 110 => ⟨S69632x1, .f32⟩
  | 111 => ⟨S69632x1024, .f32⟩
  | 112 => ⟨S69632x1024, .f32⟩
  | 113 => ⟨S69632x1024, .f32⟩
  | 114 => ⟨S_, .i32⟩
  | 115 => ⟨S69632x1, .i32⟩
  | 116 => ⟨S69632x1, .i1⟩
  | 117 => ⟨S_, .f32⟩
  | 118 => ⟨S_, .f32⟩
  | 119 => ⟨S69632x1, .f32⟩
  | 120 => ⟨S69632x1, .f32⟩
  | 121 => ⟨S69632x1, .f32⟩
  | 122 => ⟨S1x1024x5632, .bf16⟩
  | 123 => ⟨S1024x5632, .bf16⟩
  | 124 => ⟨S1024x5632, .f32⟩
  | 125 => ⟨S1x2816x1024, .bf16⟩
  | 126 => ⟨S2816x1024, .bf16⟩
  | 127 => ⟨S2816x1024, .f32⟩
  | _ => ⟨S69632x1024, .f32⟩

abbrev hbmTy0_1 (i : Nat) : BufTy := match i % 128 with
  | 0 => ⟨S69632x5632, .f32⟩
  | 1 => ⟨S69632x2816, .f32⟩
  | 2 => ⟨S69632x2816, .f32⟩
  | 3 => ⟨S69632x2816, .f32⟩
  | 4 => ⟨S69632x2816, .f32⟩
  | 5 => ⟨S_, .f32⟩
  | 6 => ⟨S69632x2816, .f32⟩
  | 7 => ⟨S69632x2816, .f32⟩
  | 8 => ⟨S_, .f32⟩
  | 9 => ⟨S69632x2816, .f32⟩
  | 10 => ⟨S69632x2816, .f32⟩
  | 11 => ⟨S69632x2816, .f32⟩
  | 12 => ⟨S69632x2816, .f32⟩
  | 13 => ⟨S69632x1024, .f32⟩
  | 14 => ⟨S69632x1, .f32⟩
  | 15 => ⟨S69632x1024, .f32⟩
  | 16 => ⟨S69632x1024, .f32⟩
  | 17 => ⟨S69632x1024, .f32⟩
  | 18 => ⟨S_, .i32⟩
  | 19 => ⟨S69632x1, .i32⟩
  | 20 => ⟨S69632x1, .i1⟩
  | 21 => ⟨S_, .f32⟩
  | 22 => ⟨S_, .f32⟩
  | 23 => ⟨S69632x1, .f32⟩
  | 24 => ⟨S69632x1, .f32⟩
  | 25 => ⟨S69632x1, .f32⟩
  | 26 => ⟨S1x1024x5632, .bf16⟩
  | 27 => ⟨S1024x5632, .bf16⟩
  | 28 => ⟨S1024x5632, .f32⟩
  | 29 => ⟨S1x2816x1024, .bf16⟩
  | 30 => ⟨S2816x1024, .bf16⟩
  | 31 => ⟨S2816x1024, .f32⟩
  | 32 => ⟨S69632x5632, .f32⟩
  | 33 => ⟨S69632x2816, .f32⟩
  | 34 => ⟨S69632x2816, .f32⟩
  | 35 => ⟨S69632x2816, .f32⟩
  | 36 => ⟨S69632x2816, .f32⟩
  | 37 => ⟨S_, .f32⟩
  | 38 => ⟨S69632x2816, .f32⟩
  | 39 => ⟨S69632x2816, .f32⟩
  | 40 => ⟨S_, .f32⟩
  | 41 => ⟨S69632x2816, .f32⟩
  | 42 => ⟨S69632x2816, .f32⟩
  | 43 => ⟨S69632x2816, .f32⟩
  | 44 => ⟨S69632x2816, .f32⟩
  | 45 => ⟨S69632x1024, .f32⟩
  | 46 => ⟨S69632x1, .f32⟩
  | 47 => ⟨S69632x1024, .f32⟩
  | 48 => ⟨S69632x1024, .f32⟩
  | 49 => ⟨S69632x1024, .f32⟩
  | 50 => ⟨S_, .i32⟩
  | 51 => ⟨S69632x1, .i32⟩
  | 52 => ⟨S69632x1, .i1⟩
  | 53 => ⟨S_, .f32⟩
  | 54 => ⟨S_, .f32⟩
  | 55 => ⟨S69632x1, .f32⟩
  | 56 => ⟨S69632x1, .f32⟩
  | 57 => ⟨S69632x1, .f32⟩
  | 58 => ⟨S1x1024x5632, .bf16⟩
  | 59 => ⟨S1024x5632, .bf16⟩
  | 60 => ⟨S1024x5632, .f32⟩
  | 61 => ⟨S1x2816x1024, .bf16⟩
  | 62 => ⟨S2816x1024, .bf16⟩
  | 63 => ⟨S2816x1024, .f32⟩
  | 64 => ⟨S69632x5632, .f32⟩
  | 65 => ⟨S69632x2816, .f32⟩
  | 66 => ⟨S69632x2816, .f32⟩
  | 67 => ⟨S69632x2816, .f32⟩
  | 68 => ⟨S69632x2816, .f32⟩
  | 69 => ⟨S_, .f32⟩
  | 70 => ⟨S69632x2816, .f32⟩
  | 71 => ⟨S69632x2816, .f32⟩
  | 72 => ⟨S_, .f32⟩
  | 73 => ⟨S69632x2816, .f32⟩
  | 74 => ⟨S69632x2816, .f32⟩
  | 75 => ⟨S69632x2816, .f32⟩
  | 76 => ⟨S69632x2816, .f32⟩
  | 77 => ⟨S69632x1024, .f32⟩
  | 78 => ⟨S69632x1, .f32⟩
  | 79 => ⟨S69632x1024, .f32⟩
  | 80 => ⟨S69632x1024, .f32⟩
  | 81 => ⟨S69632x1024, .f32⟩
  | 82 => ⟨S_, .i32⟩
  | 83 => ⟨S69632x1, .i32⟩
  | 84 => ⟨S69632x1, .i1⟩
  | 85 => ⟨S_, .f32⟩
  | 86 => ⟨S_, .f32⟩
  | 87 => ⟨S69632x1, .f32⟩
  | 88 => ⟨S69632x1, .f32⟩
  | 89 => ⟨S69632x1, .f32⟩
  | 90 => ⟨S1x1024x5632, .bf16⟩
  | 91 => ⟨S1024x5632, .bf16⟩
  | 92 => ⟨S1024x5632, .f32⟩
  | 93 => ⟨S1x2816x1024, .bf16⟩
  | 94 => ⟨S2816x1024, .bf16⟩
  | 95 => ⟨S2816x1024, .f32⟩
  | 96 => ⟨S69632x5632, .f32⟩
  | 97 => ⟨S69632x2816, .f32⟩
  | 98 => ⟨S69632x2816, .f32⟩
  | 99 => ⟨S69632x2816, .f32⟩
  | 100 => ⟨S69632x2816, .f32⟩
  | 101 => ⟨S_, .f32⟩
  | 102 => ⟨S69632x2816, .f32⟩
  | 103 => ⟨S69632x2816, .f32⟩
  | 104 => ⟨S_, .f32⟩
  | 105 => ⟨S69632x2816, .f32⟩
  | 106 => ⟨S69632x2816, .f32⟩
  | 107 => ⟨S69632x2816, .f32⟩
  | 108 => ⟨S69632x2816, .f32⟩
  | 109 => ⟨S69632x1024, .f32⟩
  | 110 => ⟨S69632x1, .f32⟩
  | 111 => ⟨S69632x1024, .f32⟩
  | 112 => ⟨S69632x1024, .f32⟩
  | 113 => ⟨S69632x1024, .f32⟩
  | 114 => ⟨S_, .i32⟩
  | 115 => ⟨S69632x1, .i32⟩
  | 116 => ⟨S69632x1, .i1⟩
  | 117 => ⟨S_, .f32⟩
  | 118 => ⟨S_, .f32⟩
  | 119 => ⟨S69632x1, .f32⟩
  | 120 => ⟨S69632x1, .f32⟩
  | 121 => ⟨S69632x1, .f32⟩
  | 122 => ⟨S1x1024x5632, .bf16⟩
  | 123 => ⟨S1024x5632, .bf16⟩
  | 124 => ⟨S1024x5632, .f32⟩
  | 125 => ⟨S1x2816x1024, .bf16⟩
  | 126 => ⟨S2816x1024, .bf16⟩
  | 127 => ⟨S2816x1024, .f32⟩
  | _ => ⟨S69632x1024, .f32⟩

abbrev hbmTy0_2 (i : Nat) : BufTy := match i % 128 with
  | 0 => ⟨S69632x5632, .f32⟩
  | 1 => ⟨S69632x2816, .f32⟩
  | 2 => ⟨S69632x2816, .f32⟩
  | 3 => ⟨S69632x2816, .f32⟩
  | 4 => ⟨S69632x2816, .f32⟩
  | 5 => ⟨S_, .f32⟩
  | 6 => ⟨S69632x2816, .f32⟩
  | 7 => ⟨S69632x2816, .f32⟩
  | 8 => ⟨S_, .f32⟩
  | 9 => ⟨S69632x2816, .f32⟩
  | 10 => ⟨S69632x2816, .f32⟩
  | 11 => ⟨S69632x2816, .f32⟩
  | 12 => ⟨S69632x2816, .f32⟩
  | 13 => ⟨S69632x1024, .f32⟩
  | 14 => ⟨S69632x1, .f32⟩
  | 15 => ⟨S69632x1024, .f32⟩
  | 16 => ⟨S69632x1024, .f32⟩
  | 17 => ⟨S69632x1024, .f32⟩
  | _ => ⟨S69632x1024, .f32⟩

abbrev hbmTy (i : Nat) : BufTy := match i / 128 with
  | 0 => hbmTy0_0 i
  | 1 => hbmTy0_1 i
  | 2 => hbmTy0_2 i
  | _ => ⟨S69632x1024, .f32⟩

abbrev bufTy : (tb : Table) → Fin (tcTables nBuf tb) → BufTy
  | .hbm, ⟨i, _⟩ => hbmTy i
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_cst_5 : Ref sig .tc := ⟨.hbm, 54, rfl⟩
abbrev main_call3_v0 : Ref sig .tc := ⟨.hbm, 55, rfl⟩
abbrev main_call3_v1 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call4_v0 : Ref sig .tc := ⟨.hbm, 67, rfl⟩
abbrev main_call4_v1 : Ref sig .tc := ⟨.hbm, 68, rfl⟩
abbrev main_call4_cst : Ref sig .tc := ⟨.hbm, 69, rfl⟩
abbrev main_call4_v2 : Ref sig .tc := ⟨.hbm, 70, rfl⟩
abbrev main_call4_v3 : Ref sig .tc := ⟨.hbm, 71, rfl⟩
abbrev main_call4_cst_0 : Ref sig .tc := ⟨.hbm, 72, rfl⟩
abbrev main_call4_v4 : Ref sig .tc := ⟨.hbm, 73, rfl⟩
abbrev main_call4_v5 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_6 : Ref sig .tc := ⟨.hbm, 82, rfl⟩
abbrev main_v47 : Ref sig .tc := ⟨.hbm, 83, rfl⟩
abbrev main_v48 : Ref sig .tc := ⟨.hbm, 84, rfl⟩
abbrev main_cst_7 : Ref sig .tc := ⟨.hbm, 85, rfl⟩
abbrev main_cst_8 : Ref sig .tc := ⟨.hbm, 86, rfl⟩
abbrev main_call5_v0 : Ref sig .tc := ⟨.hbm, 87, rfl⟩
abbrev main_call5_v1 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call6_v0 : Ref sig .tc := ⟨.hbm, 99, rfl⟩
abbrev main_call6_v1 : Ref sig .tc := ⟨.hbm, 100, rfl⟩
abbrev main_call6_cst : Ref sig .tc := ⟨.hbm, 101, rfl⟩
abbrev main_call6_v2 : Ref sig .tc := ⟨.hbm, 102, rfl⟩
abbrev main_call6_v3 : Ref sig .tc := ⟨.hbm, 103, rfl⟩
abbrev main_call6_cst_0 : Ref sig .tc := ⟨.hbm, 104, rfl⟩
abbrev main_call6_v4 : Ref sig .tc := ⟨.hbm, 105, rfl⟩
abbrev main_call6_v5 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_c_9 : Ref sig .tc := ⟨.hbm, 114, rfl⟩
abbrev main_v66 : Ref sig .tc := ⟨.hbm, 115, rfl⟩
abbrev main_v67 : Ref sig .tc := ⟨.hbm, 116, rfl⟩
abbrev main_cst_10 : Ref sig .tc := ⟨.hbm, 117, rfl⟩
abbrev main_cst_11 : Ref sig .tc := ⟨.hbm, 118, rfl⟩
abbrev main_call7_v0 : Ref sig .tc := ⟨.hbm, 119, rfl⟩
abbrev main_call7_v1 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_call8_v0 : Ref sig .tc := ⟨.hbm, 131, rfl⟩
abbrev main_call8_v1 : Ref sig .tc := ⟨.hbm, 132, rfl⟩
abbrev main_call8_cst : Ref sig .tc := ⟨.hbm, 133, rfl⟩
abbrev main_call8_v2 : Ref sig .tc := ⟨.hbm, 134, rfl⟩
abbrev main_call8_v3 : Ref sig .tc := ⟨.hbm, 135, rfl⟩
abbrev main_call8_cst_0 : Ref sig .tc := ⟨.hbm, 136, rfl⟩
abbrev main_call8_v4 : Ref sig .tc := ⟨.hbm, 137, rfl⟩
abbrev main_call8_v5 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_c_12 : Ref sig .tc := ⟨.hbm, 146, rfl⟩
abbrev main_v85 : Ref sig .tc := ⟨.hbm, 147, rfl⟩
abbrev main_v86 : Ref sig .tc := ⟨.hbm, 148, rfl⟩
abbrev main_cst_13 : Ref sig .tc := ⟨.hbm, 149, rfl⟩
abbrev main_cst_14 : Ref sig .tc := ⟨.hbm, 150, rfl⟩
abbrev main_call9_v0 : Ref sig .tc := ⟨.hbm, 151, rfl⟩
abbrev main_call9_v1 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_call10_v0 : Ref sig .tc := ⟨.hbm, 163, rfl⟩
abbrev main_call10_v1 : Ref sig .tc := ⟨.hbm, 164, rfl⟩
abbrev main_call10_cst : Ref sig .tc := ⟨.hbm, 165, rfl⟩
abbrev main_call10_v2 : Ref sig .tc := ⟨.hbm, 166, rfl⟩
abbrev main_call10_v3 : Ref sig .tc := ⟨.hbm, 167, rfl⟩
abbrev main_call10_cst_0 : Ref sig .tc := ⟨.hbm, 168, rfl⟩
abbrev main_call10_v4 : Ref sig .tc := ⟨.hbm, 169, rfl⟩
abbrev main_call10_v5 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_c_15 : Ref sig .tc := ⟨.hbm, 178, rfl⟩
abbrev main_v104 : Ref sig .tc := ⟨.hbm, 179, rfl⟩
abbrev main_v105 : Ref sig .tc := ⟨.hbm, 180, rfl⟩
abbrev main_cst_16 : Ref sig .tc := ⟨.hbm, 181, rfl⟩
abbrev main_cst_17 : Ref sig .tc := ⟨.hbm, 182, rfl⟩
abbrev main_call11_v0 : Ref sig .tc := ⟨.hbm, 183, rfl⟩
abbrev main_call11_v1 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_call12_v0 : Ref sig .tc := ⟨.hbm, 195, rfl⟩
abbrev main_call12_v1 : Ref sig .tc := ⟨.hbm, 196, rfl⟩
abbrev main_call12_cst : Ref sig .tc := ⟨.hbm, 197, rfl⟩
abbrev main_call12_v2 : Ref sig .tc := ⟨.hbm, 198, rfl⟩
abbrev main_call12_v3 : Ref sig .tc := ⟨.hbm, 199, rfl⟩
abbrev main_call12_cst_0 : Ref sig .tc := ⟨.hbm, 200, rfl⟩
abbrev main_call12_v4 : Ref sig .tc := ⟨.hbm, 201, rfl⟩
abbrev main_call12_v5 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_c_18 : Ref sig .tc := ⟨.hbm, 210, rfl⟩
abbrev main_v123 : Ref sig .tc := ⟨.hbm, 211, rfl⟩
abbrev main_v124 : Ref sig .tc := ⟨.hbm, 212, rfl⟩
abbrev main_cst_19 : Ref sig .tc := ⟨.hbm, 213, rfl⟩
abbrev main_cst_20 : Ref sig .tc := ⟨.hbm, 214, rfl⟩
abbrev main_call13_v0 : Ref sig .tc := ⟨.hbm, 215, rfl⟩
abbrev main_call13_v1 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_call14_v0 : Ref sig .tc := ⟨.hbm, 227, rfl⟩
abbrev main_call14_v1 : Ref sig .tc := ⟨.hbm, 228, rfl⟩
abbrev main_call14_cst : Ref sig .tc := ⟨.hbm, 229, rfl⟩
abbrev main_call14_v2 : Ref sig .tc := ⟨.hbm, 230, rfl⟩
abbrev main_call14_v3 : Ref sig .tc := ⟨.hbm, 231, rfl⟩
abbrev main_call14_cst_0 : Ref sig .tc := ⟨.hbm, 232, rfl⟩
abbrev main_call14_v4 : Ref sig .tc := ⟨.hbm, 233, rfl⟩
abbrev main_call14_v5 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_c_21 : Ref sig .tc := ⟨.hbm, 242, rfl⟩
abbrev main_v142 : Ref sig .tc := ⟨.hbm, 243, rfl⟩
abbrev main_v143 : Ref sig .tc := ⟨.hbm, 244, rfl⟩
abbrev main_cst_22 : Ref sig .tc := ⟨.hbm, 245, rfl⟩
abbrev main_cst_23 : Ref sig .tc := ⟨.hbm, 246, rfl⟩
abbrev main_call15_v0 : Ref sig .tc := ⟨.hbm, 247, rfl⟩
abbrev main_call15_v1 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_call16_v0 : Ref sig .tc := ⟨.hbm, 259, rfl⟩
abbrev main_call16_v1 : Ref sig .tc := ⟨.hbm, 260, rfl⟩
abbrev main_call16_cst : Ref sig .tc := ⟨.hbm, 261, rfl⟩
abbrev main_call16_v2 : Ref sig .tc := ⟨.hbm, 262, rfl⟩
abbrev main_call16_v3 : Ref sig .tc := ⟨.hbm, 263, rfl⟩
abbrev main_call16_cst_0 : Ref sig .tc := ⟨.hbm, 264, rfl⟩
abbrev main_call16_v4 : Ref sig .tc := ⟨.hbm, 265, rfl⟩
abbrev main_call16_v5 : Ref sig .tc := ⟨.hbm, 266, rfl⟩
abbrev main_v154 : Ref sig .tc := ⟨.hbm, 267, rfl⟩
abbrev main_v155 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩

abbrev nD : Nat := 1
abbrev τ : Topo := Topo.v7x

variable {F : FTy → Type} [FloatOps F]
-- ==== Ffn.lean ====
abbrev S32768x512 : Shape := ⟨2, ![32768, 512]⟩
abbrev S32768x1024 : Shape := ⟨2, ![32768, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 12
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024x1024, .f32⟩
  | .hbm, ⟨8, _⟩ => ⟨S1024x1024, .bf16⟩
  | .hbm, ⟨9, _⟩ => ⟨S1024, .f32⟩
  | .hbm, ⟨10, _⟩ => ⟨S1024x5632, .f32⟩
  | .hbm, ⟨11, _⟩ => ⟨S1024x5632, .bf16⟩
  | .hbm, ⟨12, _⟩ => ⟨S2816x1024, .f32⟩
  | .hbm, ⟨13, _⟩ => ⟨S2816x1024, .bf16⟩
  | .hbm, ⟨14, _⟩ => ⟨S1x1024, .f32⟩
  | .hbm, ⟨15, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S32768x512 : Shape := ⟨2, ![32768, 512]⟩
abbrev S32768x1024 : Shape := ⟨2, ![32768, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x5632 : Shape := ⟨2, ![1024, 5632]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 46
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S32768x1024, .bf16⟩
  | .hbm, ⟨8, _⟩ => ⟨S32768x1024, .f32⟩
  | .hbm, ⟨9, _⟩ => ⟨S1024x1024, .f32⟩
  | .hbm, ⟨10, _⟩ => ⟨S32768x1024, .f32⟩
  | .hbm, ⟨11, _⟩ => ⟨S32768x1024, .f32⟩
  | .hbm, ⟨12, _⟩ => ⟨S1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1024x5632, .f32⟩
  | .hbm, ⟨30, _⟩ => ⟨S2816x1024, .f32⟩
  | .hbm, ⟨31, _⟩ => ⟨S32768x5632, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S_, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S32768x2816, .f32⟩
  | .hbm, ⟨44, _⟩ => ⟨S32768x1024, .f32⟩
  | .hbm, ⟨45, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Qkv.lean ====
abbrev S2x16384x1024 : Shape := ⟨3, ![2, 16384, 1024]⟩
abbrev S1x1024 : Shape := ⟨2, ![1, 1024]⟩
abbrev S1x1024x3072 : Shape := ⟨3, ![1, 1024, 3072]⟩
abbrev S32768x1024 : Shape := ⟨2, ![32768, 1024]⟩
abbrev S1024 : Shape := ⟨1, ![1024]⟩
abbrev S1024x3072 : Shape := ⟨2, ![1024, 3072]⟩
abbrev S32768x3072 : Shape := ⟨2, ![32768, 3072]⟩
abbrev S32768x512 : Shape := ⟨2, ![32768, 512]⟩
abbrev S2x1024x16384 : Shape := ⟨3, ![2, 1024, 16384]⟩
abbrev S512x1024 : Shape := ⟨2, ![512, 1024]⟩
abbrev S512x3072 : Shape := ⟨2, ![512, 3072]⟩
abbrev S512x512 : Shape := ⟨2, ![512, 512]⟩
abbrev S1x1024x512 : Shape := ⟨3, ![1, 1024, 512]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S1x512x512 : Shape := ⟨3, ![1, 512, 512]⟩

abbrev nBuf : Space → Nat
  | .hbm => 15
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x3072, .f32⟩
  | .hbm, ⟨3, _⟩ => ⟨S32768x1024, .f32⟩
  | .hbm, ⟨4, _⟩ => ⟨S1024, .f32⟩
  | .hbm, ⟨5, _⟩ => ⟨S1024x3072, .f32⟩
  | .hbm, ⟨6, _⟩ => ⟨S1024x3072, .bf16⟩
  | .hbm, ⟨7, _⟩ => ⟨S1x1024, .f32⟩
  | .hbm, ⟨8, _⟩ => ⟨S32768x3072, .bf16⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S2x1024x16384, .bf16⟩
  | .hbm, ⟨14, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x1024x512, .bf16⟩
  | .local _ .vmem, ⟨15, _⟩ => ⟨S1x1024x512, .bf16⟩
  | .local _ .vmem, ⟨16, _⟩ => ⟨S512x1024, .bf16⟩
  | .local _ .vmem, ⟨17, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev main_v5_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvIdeal.lean ====
variable {F : FTy → Type} [FloatOps F] [Named F]
def κ : String → Option EReal := fun
  | "q_unit" => some (((8 * (Real.log 2))⁻¹ : ℝ) : EReal)
  | _ => none
-- ==== QkvRefIdeal.lean ====
abbrev S2x16384x1024 : Shape := ⟨3, ![2, 16384, 1024]⟩
abbrev S1x1024 : Shape := ⟨2, ![1, 1024]⟩
abbrev S1x1024x3072 : Shape := ⟨3, ![1, 1024, 3072]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x3072 : Shape := ⟨2, ![1024, 3072]⟩
abbrev S2x16384x3072 : Shape := ⟨3, ![2, 16384, 3072]⟩
abbrev S2x16384x512 : Shape := ⟨3, ![2, 16384, 512]⟩
abbrev S32768x3072 : Shape := ⟨2, ![32768, 3072]⟩
abbrev S32768x512 : Shape := ⟨2, ![32768, 512]⟩
abbrev S2x1024x16384 : Shape := ⟨3, ![2, 1024, 16384]⟩

abbrev nBuf : Space → Nat
  | .hbm => 46
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x3072, .f32⟩
  | .hbm, ⟨3, _⟩ => ⟨S1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S1024x3072, .f32⟩
  | .hbm, ⟨21, _⟩ => ⟨S2x16384x3072, .f32⟩
  | .hbm, ⟨22, _⟩ => ⟨S2x16384x512, .f32⟩
  | .hbm, ⟨23, _⟩ => ⟨S2x16384x512, .f32⟩
  | .hbm, ⟨24, _⟩ => ⟨S2x16384x512, .f32⟩
  | .hbm, ⟨25, _⟩ => ⟨S2x16384x512, .f32⟩
  | .hbm, ⟨26, _⟩ => ⟨S2x16384x512, .f32⟩
  | .hbm, ⟨27, _⟩ => ⟨S2x16384x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x16384x512, .f32⟩
  | .hbm, ⟨33, _⟩ => ⟨S2x16384x512, .f32⟩
  | .hbm, ⟨34, _⟩ => ⟨S2x16384x512, .f32⟩
  | .hbm, ⟨35, _⟩ => ⟨S2x16384x512, .f32⟩
  | .hbm, ⟨36, _⟩ => ⟨S2x16384x3072, .f32⟩
  | .hbm, ⟨37, _⟩ => ⟨S32768x3072, .f32⟩
  | .hbm, ⟨38, _⟩ => ⟨S32768x3072, .bf16⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S2x16384x1024, .f32⟩
  | .hbm, ⟨44, _⟩ => ⟨S2x1024x16384, .f32⟩
  | .hbm, ⟨45, _⟩ => ⟨S2x1024x16384, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== QkvS.lean ====
abbrev S8x64x1024 : Shape := ⟨3, ![8, 64, 1024]⟩
abbrev S1x1024 : Shape := ⟨2, ![1, 1024]⟩
abbrev S1x1024x3072 : Shape := ⟨3, ![1, 1024, 3072]⟩
abbrev S512x1024 : Shape := ⟨2, ![512, 1024]⟩
abbrev S1024 : Shape := ⟨1, ![1024]⟩
abbrev S1024x3072 : Shape := ⟨2, ![1024, 3072]⟩
abbrev S512x3072 : Shape := ⟨2, ![512, 3072]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 13
  | .vmem => 8
  | .smem => 0
  | _ => 0

abbrev bufTy : (tb : Table) → Fin (tcTables nBuf tb) → BufTy
  | .hbm, ⟨0, _⟩ => ⟨S8x64x1024, .f32⟩
  | .hbm, ⟨1, _⟩ => ⟨S1x1024, .f32⟩
  | .hbm, ⟨2, _⟩ => ⟨S1x1024x3072, .f32⟩
  | .hbm, ⟨3, _⟩ => ⟨S512x1024, .f32⟩
  | .hbm, ⟨4, _⟩ => ⟨S1024, .f32⟩
  | .hbm, ⟨5, _⟩ => ⟨S1024x3072, .f32⟩
  | .hbm, ⟨6, _⟩ => ⟨S1024x3072, .bf16⟩
  | .hbm, ⟨7, _⟩ => ⟨S1x1024, .f32⟩
  | .hbm, ⟨8, _⟩ => ⟨S512x3072, .bf16⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x3072, .bf16⟩
  | .local _ .vmem, ⟨3, _⟩ => ⟨S512x3072, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== QkvSIdeal.lean ====
variable {F : FTy → Type} [FloatOps F] [Named F]
def κ : String → Option EReal := fun
  | "q_unit" => some (((8 * (Real.log 2))⁻¹ : ℝ) : EReal)
  | _ => none
-- ==== QkvSRefIdeal.lean ====
abbrev S8x64x1024 : Shape := ⟨3, ![8, 64, 1024]⟩
abbrev S1x1024 : Shape := ⟨2, ![1, 1024]⟩
abbrev S1x1024x3072 : Shape := ⟨3, ![1, 1024, 3072]⟩
abbrev S1024 : Shape := ⟨1, ![1024]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S1024x3072 : Shape := ⟨2, ![1024, 3072]⟩
abbrev S8x64x3072 : Shape := ⟨3, ![8, 64, 3072]⟩
abbrev S8x64x512 : Shape := ⟨3, ![8, 64, 512]⟩
abbrev S512x3072 : Shape := ⟨2, ![512, 3072]⟩
abbrev S512x512 : Shape := ⟨2, ![512, 512]⟩

abbrev nBuf : Space → Nat
  | .hbm => 43
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S1x1024, .f32⟩
  | .hbm, ⟨2, _⟩ => ⟨S1x1024x3072, .f32⟩
  | .hbm, ⟨3, _⟩ => ⟨S1024, .f32⟩
  | .hbm, ⟨4, _⟩ => ⟨S8x64x1024, .f32⟩
  | .hbm, ⟨5, _⟩ => ⟨S_, .f32⟩
  | .hbm, ⟨6, _⟩ => ⟨S8x64, .f32⟩
  | .hbm, ⟨7, _⟩ => ⟨S8x64x1, .f32⟩
  | .hbm, ⟨8, _⟩ => ⟨S_, .f32⟩
  | .hbm, ⟨9, _⟩ => ⟨S8x64x1, .f32⟩
  | .hbm, ⟨10, _⟩ => ⟨S8x64x1, .f32⟩
  | .hbm, ⟨11, _⟩ => ⟨S_, .f32⟩
  | .hbm, ⟨12, _⟩ => ⟨S8x64x1, .f32⟩
  | .hbm, ⟨13, _⟩ => ⟨S8x64x1, .f32⟩
  | .hbm, ⟨14, _⟩ => ⟨S8x64x1, .f32⟩
  | .hbm, ⟨15, _⟩ => ⟨S8x64x1024, .f32⟩
  | .hbm, ⟨16, _⟩ => ⟨S8x64x1024, .f32⟩
  | .hbm, ⟨17, _⟩ => ⟨S1x1x1024, .f32⟩
  | .hbm, ⟨18, _⟩ => ⟨S8x64x1024, .f32⟩
  | .hbm, ⟨19, _⟩ => ⟨S8x64x1024, .f32⟩
  | .hbm, ⟨20, _⟩ => ⟨S1024x3072, .f32⟩
  | .hbm, ⟨21, _⟩ => ⟨S8x64x3072, .f32⟩
  | .hbm, ⟨22, _⟩ => ⟨S8x64x512, .f32⟩
  | .hbm, ⟨23, _⟩ => ⟨S8x64x512, .f32⟩
  | .hbm, ⟨24, _⟩ => ⟨S8x64x512, .f32⟩
  | .hbm, ⟨25, _⟩ => ⟨S8x64x512, .f32⟩
  | .hbm, ⟨26, _⟩ => ⟨S8x64x512, .f32⟩
  | .hbm, ⟨27, _⟩ => ⟨S8x64x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x64x512, .f32⟩
  | .hbm, ⟨33, _⟩ => ⟨S8x64x512, .f32⟩
  | .hbm, ⟨34, _⟩ => ⟨S8x64x512, .f32⟩
  | .hbm, ⟨35, _⟩ => ⟨S8x64x512, .f32⟩
  | .hbm, ⟨36, _⟩ => ⟨S8x64x3072, .f32⟩
  | .hbm, ⟨37, _⟩ => ⟨S512x3072, .f32⟩
  | .hbm, ⟨38, _⟩ => ⟨S512x3072, .bf16⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Gmlp.lean ====
abbrev S8x64x1024 : Shape := ⟨3, ![8, 64, 1024]⟩
abbrev S1x1024 : Shape := ⟨2, ![1, 1024]⟩
abbrev S1x1024x4096 : Shape := ⟨3, ![1, 1024, 4096]⟩
abbrev S1x4096 : Shape := ⟨2, ![1, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S8x64x64 : Shape := ⟨3, ![8, 64, 64]⟩
abbrev S8x64 : Shape := ⟨2, ![8, 64]⟩
abbrev S8x64x1 : Shape := ⟨3, ![8, 64, 1]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512 : Shape := ⟨2, ![1, 512]⟩
abbrev S64x64 : Shape := ⟨2, ![64, 64]⟩
abbrev S1x64x64 : Shape := ⟨3, ![1, 64, 64]⟩
abbrev S64x256 : Shape := ⟨2, ![64, 256]⟩
abbrev S1x64x1 : Shape := ⟨3, ![1, 64, 1]⟩
abbrev S64x1 : Shape := ⟨2, ![64, 1]⟩

abbrev nBuf : Space → Nat
  | .hbm => 29
  | .vmem => 13
  | .smem => 0
  | _ => 0

abbrev bufTy : (tb : Table) → Fin (tcTables nBuf tb) → BufTy
  | .hbm, ⟨0, _⟩ => ⟨S8x64x1024, .f32⟩
  | .hbm, ⟨1, _⟩ => ⟨S1x1024, .f32⟩
  | .hbm, ⟨2, _⟩ => ⟨S1x1024x4096, .f32⟩
  | .hbm, ⟨3, _⟩ => ⟨S1x4096, .f32⟩
  | .hbm, ⟨4, _⟩ => ⟨S1x2048, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S512x1024, .f32⟩
  | .hbm, ⟨10, _⟩ => ⟨S1024, .f32⟩
  | .hbm, ⟨11, _⟩ => ⟨S1024x4096, .f32⟩
  | .hbm, ⟨12, _⟩ => ⟨S1024x4096, .bf16⟩
  | .hbm, ⟨13, _⟩ => ⟨S4096, .f32⟩
  | .hbm, ⟨14, _⟩ => ⟨S2048, .f32⟩
  | .hbm, ⟨15, _⟩ => ⟨S2048, .f32⟩
  | .hbm, ⟨16, _⟩ => ⟨S8x128x128, .f32⟩
  | .hbm, ⟨17, _⟩ => ⟨S8x128, .f32⟩
  | .hbm, ⟨18, _⟩ => ⟨S2048x1024, .f32⟩
  | .hbm, ⟨19, _⟩ => ⟨S2048x1024, .bf16⟩
  | .hbm, ⟨20, _⟩ => ⟨S8x64x64, .f32⟩
  | .hbm, ⟨21, _⟩ => ⟨S8x64, .f32⟩
  | .hbm, ⟨22, _⟩ => ⟨S8x64x1, .f32⟩
  | .hbm, ⟨23, _⟩ => ⟨S1x1024, .f32⟩
  | .hbm, ⟨24, _⟩ => ⟨S1x4096, .f32⟩
  | .hbm, ⟨25, _⟩ => ⟨S1x2048, .f32⟩
  | .hbm, ⟨26, _⟩ => ⟨S1x2048, .f32⟩
  | .hbm, ⟨27, _⟩ => ⟨S512x1024, .f32⟩
  | .hbm, ⟨28, _⟩ => ⟨S512x2048, .f32⟩
  | .local _ .vmem, ⟨0, _⟩ => ⟨S512x1024, .f32⟩
  | .local _ .vmem, ⟨1, _⟩ => ⟨S1x1024, .f32⟩
  | .local _ .vmem, ⟨2, _⟩ => ⟨S1024x4096, .bf16⟩
  | .local _ .vmem, ⟨3, _⟩ => ⟨S1x4096, .f32⟩
  | .local _ .vmem, ⟨4, _⟩ => ⟨S1x2048, .f32⟩
  | .local _ .vmem, ⟨5, _⟩ => ⟨S1x2048, .f32⟩
  | .local _ .vmem, ⟨6, _⟩ => ⟨S8x64x64, .f32⟩
  | .local _ .vmem, ⟨7, _⟩ => ⟨S8x64x1, .f32⟩
  | .local _ .vmem, ⟨8, _⟩ => ⟨S2048x1024, .bf16⟩
  | .local _ .vmem, ⟨9, _⟩ => ⟨S512x1024, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== GmlpRefIdeal.lean ====
abbrev S8x64x1024 : Shape := ⟨3, ![8, 64, 1024]⟩
abbrev S1x1024 : Shape := ⟨2, ![1, 1024]⟩
abbrev S1x1024x4096 : Shape := ⟨3, ![1, 1024, 4096]⟩
abbrev S1x4096 : Shape := ⟨2, ![1, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1024 : Shape := ⟨1, ![1024]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S1024x4096 : Shape := ⟨2, ![1024, 4096]⟩
abbrev S8x64x4096 : Shape := ⟨3, ![8, 64, 4096]⟩
abbrev S4096 : Shape := ⟨1, ![4096]⟩
abbrev S1x1x4096 : Shape := ⟨3, ![1, 1, 4096]⟩
abbrev S8x64x2048 : Shape := ⟨3, ![8, 64, 2048]⟩
abbrev S2048 : Shape := ⟨1, ![2048]⟩
abbrev S1x1x2048 : Shape := ⟨3, ![1, 1, 2048]⟩
abbrev S8x1x64x8x256 : Shape := ⟨5, ![8, 1, 64, 8, 256]⟩
abbrev S8x128x128 : Shape := ⟨3, ![8, 128, 128]⟩
abbrev S8x64x64 : Shape := ⟨3, ![8, 64, 64]⟩
abbrev S64x64 : Shape := ⟨2, ![64, 64]⟩
abbrev S8x8x1x256x64 : Shape := ⟨5, ![8, 8, 1, 256, 64]⟩
abbrev S8x128 : Shape := ⟨2, ![8, 128]⟩
abbrev S64x8 : Shape := ⟨2, ![64, 8]⟩
abbrev S64x8x1 : Shape := ⟨3, ![64, 8, 1]⟩
abbrev S1x1x64x8x1 : Shape := ⟨5, ![1, 1, 64, 8, 1]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 103
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S1x1024, .f32⟩
  | .hbm, ⟨2, _⟩ => ⟨S1x1024x4096, .f32⟩
  | .hbm, ⟨3, _⟩ => ⟨S1x4096, .f32⟩
  | .hbm, ⟨4, _⟩ => ⟨S1x2048, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S1024, .f32⟩
  | .hbm, ⟨10, _⟩ => ⟨S8x64x1024, .f32⟩
  | .hbm, ⟨11, _⟩ => ⟨S_, .f32⟩
  | .hbm, ⟨12, _⟩ => ⟨S8x64, .f32⟩
  | .hbm, ⟨13, _⟩ => ⟨S8x64x1, .f32⟩
  | .hbm, ⟨14, _⟩ => ⟨S_, .f32⟩
  | .hbm, ⟨15, _⟩ => ⟨S8x64x1, .f32⟩
  | .hbm, ⟨16, _⟩ => ⟨S8x64x1, .f32⟩
  | .hbm, ⟨17, _⟩ => ⟨S_, .f32⟩
  | .hbm, ⟨18, _⟩ => ⟨S8x64x1, .f32⟩
  | .hbm, ⟨19, _⟩ => ⟨S8x64x1, .f32⟩
  | .hbm, ⟨20, _⟩ => ⟨S8x64x1, .f32⟩
  | .hbm, ⟨21, _⟩ => ⟨S8x64x1024, .f32⟩
  | .hbm, ⟨22, _⟩ => ⟨S8x64x1024, .f32⟩
  | .hbm, ⟨23, _⟩ => ⟨S1x1x1024, .f32⟩
  | .hbm, ⟨24, _⟩ => ⟨S8x64x1024, .f32⟩
  | .hbm, ⟨25, _⟩ => ⟨S8x64x1024, .f32⟩
  | .hbm, ⟨26, _⟩ => ⟨S1024x4096, .f32⟩
  | .hbm, ⟨27, _⟩ => ⟨S8x64x4096, .f32⟩
  | .hbm, ⟨28, _⟩ => ⟨S4096, .f32⟩
  | .hbm, ⟨29, _⟩ => ⟨S1x1x4096, .f32⟩
  | .hbm, ⟨30, _⟩ => ⟨S8x64x4096, .f32⟩
  | .hbm, ⟨31, _⟩ => ⟨S8x64x4096, .f32⟩
  | .hbm, ⟨32, _⟩ => ⟨S_, .f32⟩
  | .hbm, ⟨33, _⟩ => ⟨S8x64x4096, .f32⟩
  | .hbm, ⟨34, _⟩ => ⟨S8x64x4096, .f32⟩
  | .hbm, ⟨35, _⟩ => ⟨S8x64x4096, .f32⟩
  | .hbm, ⟨36, _⟩ => ⟨S_, .f32⟩
  | .hbm, ⟨37, _⟩ => ⟨S8x64x4096, .f32⟩
  | .hbm, ⟨38, _⟩ => ⟨S8x64x4096, .f32⟩
  | .hbm, ⟨39, _⟩ => ⟨S8x64x4096, .f32⟩
  | .hbm, ⟨40, _⟩ => ⟨S8x64x4096, .f32⟩
  | .hbm, ⟨41, _⟩ => ⟨S8x64x2048, .f32⟩
  | .hbm, ⟨42, _⟩ => ⟨S8x64x2048, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S8x64, .f32⟩
  | .hbm, ⟨47, _⟩ => ⟨S8x64x1, .f32⟩
  | .hbm, ⟨48, _⟩ => ⟨S_, .f32⟩
  | .hbm, ⟨49, _⟩ => ⟨S8x64x1, .f32⟩
  | .hbm, ⟨50, _⟩ => ⟨S8x64x1, .f32⟩
  | .hbm, ⟨51, _⟩ => ⟨S8x64x2048, .f32⟩
  | .hbm, ⟨52, _⟩ => ⟨S8x64x2048, .f32⟩
  | .hbm, ⟨53, _⟩ => ⟨S8x64x2048, .f32⟩
  | .hbm, ⟨54, _⟩ => ⟨S_, .f32⟩
  | .hbm, ⟨55, _⟩ => ⟨S8x64, .f32⟩
  | .hbm, ⟨56, _⟩ => ⟨S8x64x1, .f32⟩
  | .hbm, ⟨57, _⟩ => ⟨S_, .f32⟩
  | .hbm, ⟨58, _⟩ => ⟨S8x64x1, .f32⟩
  | .hbm, ⟨59, _⟩ => ⟨S8x64x1, .f32⟩
  | .hbm, ⟨60, _⟩ => ⟨S8x64x2048, .f32⟩
  | .hbm, ⟨61, _⟩ => ⟨S8x64x2048, .f32⟩
  | .hbm, ⟨62, _⟩ => ⟨S_, .f32⟩
  | .hbm, ⟨63, _⟩ => ⟨S8x64x1, .f32⟩
  | .hbm, ⟨64, _⟩ => ⟨S8x64x1, .f32⟩
  | .hbm, ⟨65, _⟩ => ⟨S8x64x1, .f32⟩
  | .hbm, ⟨66, _⟩ => ⟨S8x64x2048, .f32⟩
  | .hbm, ⟨67, _⟩ => ⟨S8x64x2048, .f32⟩
  | .hbm, ⟨68, _⟩ => ⟨S1x1x2048, .f32⟩
  | .hbm, ⟨69, _⟩ => ⟨S8x64x2048, .f32⟩
  | .hbm, ⟨70, _⟩ => ⟨S8x64x2048, .f32⟩
  | .hbm, ⟨71, _⟩ => ⟨S1x1x2048, .f32⟩
  | .hbm, ⟨72, _⟩ => ⟨S8x64x2048, .f32⟩
  | .hbm, ⟨73, _⟩ => ⟨S8x64x2048, .f32⟩
  | .hbm, ⟨74, _⟩ => ⟨S8x1x64x8x256, .f32⟩
  | .hbm, ⟨75, _⟩ => ⟨S8x128x128, .f32⟩
  | .hbm, ⟨76, _⟩ => ⟨S8x64x64, .f32⟩
  | .hbm, ⟨77, _⟩ => ⟨S64x64, .i32⟩
  | .hbm, ⟨78, _⟩ => ⟨S_, .i32⟩
  | .hbm, ⟨79, _⟩ => ⟨S64x64, .i32⟩
  | .hbm, ⟨80, _⟩ => ⟨S64x64, .i32⟩
  | .hbm, ⟨81, _⟩ => ⟨S64x64, .i32⟩
  | .hbm, ⟨82, _⟩ => ⟨S64x64, .i1⟩
  | .hbm, ⟨83, _⟩ => ⟨S8x64x64, .i1⟩
  | .hbm, ⟨84, _⟩ => ⟨S_, .f32⟩
  | .hbm, ⟨85, _⟩ => ⟨S8x64x64, .f32⟩
  | .hbm, ⟨86, _⟩ => ⟨S8x64x64, .f32⟩
  | .hbm, ⟨87, _⟩ => ⟨S8x8x1x256x64, .f32⟩
  | .hbm, ⟨88, _⟩ => ⟨S8x1x64x8x256, .f32⟩
  | .hbm, ⟨89, _⟩ => ⟨S8x128, .f32⟩
  | .hbm, ⟨90, _⟩ => ⟨S8x64, .f32⟩
  | .hbm, ⟨91, _⟩ => ⟨S64x8, .f32⟩
  | .hbm, ⟨92, _⟩ => ⟨S64x8x1, .f32⟩
  | .hbm, ⟨93, _⟩ => ⟨S1x1x64x8x1, .f32⟩
  | .hbm, ⟨94, _⟩ => ⟨S8x1x64x8x256, .f32⟩
  | .hbm, ⟨95, _⟩ => ⟨S8x1x64x8x256, .f32⟩
  | .hbm, ⟨96, _⟩ => ⟨S8x64x2048, .f32⟩
  | .hbm, ⟨97, _⟩ => ⟨S8x64x2048, .f32⟩
  | .hbm, ⟨98, _⟩ => ⟨S2048x1024, .f32⟩
  | .hbm, ⟨99, _⟩ => ⟨S8x64x1024, .f32⟩
  | .hbm, ⟨100, _⟩ => ⟨S8x64x1024, .f32⟩
  | .hbm, ⟨101, _⟩ => ⟨S512x1024, .f32⟩
  | .hbm, ⟨102, _⟩ => ⟨S512x2048, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_cst : Ref sig .tc := ⟨.hbm, 84, rfl⟩
abbrev main_call0_v6 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== GmlpP.lean ====
abbrev S2x16384x1024 : Shape := ⟨3, ![2, 16384, 1024]⟩
abbrev S1x1024 : Shape := ⟨2, ![1, 1024]⟩
abbrev S1x1024x4096 : Shape := ⟨3, ![1, 1024, 4096]⟩
abbrev S1x4096 : Shape := ⟨2, ![1, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S32768x1024 : Shape := ⟨2, ![32768, 1024]⟩
abbrev S1024 : Shape := ⟨1, ![1024]⟩
abbrev S1024x4096 : Shape := ⟨2, ![1024, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S8x128x1 : Shape := ⟨3, ![8, 128, 1]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512 : Shape := ⟨2, ![1, 512]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S128x1 : Shape := ⟨2, ![128, 1]⟩

abbrev nBuf : Space → Nat
  | .hbm => 26
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x4096, .f32⟩
  | .hbm, ⟨3, _⟩ => ⟨S1x4096, .f32⟩
  | .hbm, ⟨4, _⟩ => ⟨S1x2048, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S32768x1024, .f32⟩
  | .hbm, ⟨10, _⟩ => ⟨S1024, .f32⟩
  | .hbm, ⟨11, _⟩ => ⟨S1024x4096, .f32⟩
  | .hbm, ⟨12, _⟩ => ⟨S1024x4096, .bf16⟩
  | .hbm, ⟨13, _⟩ => ⟨S4096, .f32⟩
  | .hbm, ⟨14, _⟩ => ⟨S2048, .f32⟩
  | .hbm, ⟨15, _⟩ => ⟨S2048, .f32⟩
  | .hbm, ⟨16, _⟩ => ⟨S8x128x128, .f32⟩
  | .hbm, ⟨17, _⟩ => ⟨S8x128, .f32⟩
  | .hbm, ⟨18, _⟩ => ⟨S2048x1024, .f32⟩
  | .hbm, ⟨19, _⟩ => ⟨S2048x1024, .bf16⟩
  | .hbm, ⟨20, _⟩ => ⟨S8x128x1, .f32⟩
  | .hbm, ⟨21, _⟩ => ⟨S1x1024, .f32⟩
  | .hbm, ⟨22, _⟩ => ⟨S1x4096, .f32⟩
  | .hbm, ⟨23, _⟩ => ⟨S1x2048, .f32⟩
  | .hbm, ⟨24, _⟩ => ⟨S1x2048, .f32⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1x4096, .f32⟩
  | .local _ .vmem, ⟨5, _⟩ => ⟨S1x2048, .f32⟩
  | .local _ .vmem, ⟨6, _⟩ => ⟨S1x2048, .f32⟩
  | .local _ .vmem, ⟨7, _⟩ => ⟨S8x128x128, .f32⟩
  | .local _ .vmem, ⟨8, _⟩ => ⟨S8x128x1, .f32⟩
  | .local _ .vmem, ⟨9, _⟩ => ⟨S2048x1024, .bf16⟩
  | .local _ .vmem, ⟨10, _⟩ => ⟨S512x1024, .f32⟩
  | .local _ .vmem, ⟨11, _⟩ => ⟨S512x1024, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GmlpPRefIdeal.lean ====
abbrev S2x16384x1024 : Shape := ⟨3, ![2, 16384, 1024]⟩
abbrev S1x1024 : Shape := ⟨2, ![1, 1024]⟩
abbrev S1x1024x4096 : Shape := ⟨3, ![1, 1024, 4096]⟩
abbrev S1x4096 : Shape := ⟨2, ![1, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x4096 : Shape := ⟨2, ![1024, 4096]⟩
abbrev S2x16384x4096 : Shape := ⟨3, ![2, 16384, 4096]⟩
abbrev S4096 : Shape := ⟨1, ![4096]⟩
abbrev S1x1x4096 : Shape := ⟨3, ![1, 1, 4096]⟩
abbrev S2x16384x2048 : Shape := ⟨3, ![2, 16384, 2048]⟩
abbrev S2048 : Shape := ⟨1, ![2048]⟩
abbrev S1x1x2048 : Shape := ⟨3, ![1, 1, 2048]⟩
abbrev S2x128x128x8x256 : Shape := ⟨5, ![2, 128, 128, 8, 256]⟩
abbrev S8x128x128 : Shape := ⟨3, ![8, 128, 128]⟩
abbrev S128x128 : Shape := ⟨2, ![128, 128]⟩
abbrev S8x2x128x256x128 : Shape := ⟨5, ![8, 2, 128, 256, 128]⟩
abbrev S8x128 : Shape := ⟨2, ![8, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2048x1024 : Shape := ⟨2, ![2048, 1024]⟩
abbrev S32768x1024 : Shape := ⟨2, ![32768, 1024]⟩

abbrev nBuf : Space → Nat
  | .hbm => 100
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x4096, .f32⟩
  | .hbm, ⟨3, _⟩ => ⟨S1x4096, .f32⟩
  | .hbm, ⟨4, _⟩ => ⟨S1x2048, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S1024, .f32⟩
  | .hbm, ⟨10, _⟩ => ⟨S2x16384x1024, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x1024, .f32⟩
  | .hbm, ⟨22, _⟩ => ⟨S2x16384x1024, .f32⟩
  | .hbm, ⟨23, _⟩ => ⟨S1x1x1024, .f32⟩
  | .hbm, ⟨24, _⟩ => ⟨S2x16384x1024, .f32⟩
  | .hbm, ⟨25, _⟩ => ⟨S2x16384x1024, .f32⟩
  | .hbm, ⟨26, _⟩ => ⟨S1024x4096, .f32⟩
  | .hbm, ⟨27, _⟩ => ⟨S2x16384x4096, .f32⟩
  | .hbm, ⟨28, _⟩ => ⟨S4096, .f32⟩
  | .hbm, ⟨29, _⟩ => ⟨S1x1x4096, .f32⟩
  | .hbm, ⟨30, _⟩ => ⟨S2x16384x4096, .f32⟩
  | .hbm, ⟨31, _⟩ => ⟨S2x16384x4096, .f32⟩
  | .hbm, ⟨32, _⟩ => ⟨S_, .f32⟩
  | .hbm, ⟨33, _⟩ => ⟨S2x16384x4096, .f32⟩
  | .hbm, ⟨34, _⟩ => ⟨S2x16384x4096, .f32⟩
  | .hbm, ⟨35, _⟩ => ⟨S2x16384x4096, .f32⟩
  | .hbm, ⟨36, _⟩ => ⟨S_, .f32⟩
  | .hbm, ⟨37, _⟩ => ⟨S2x16384x4096, .f32⟩
  | .hbm, ⟨38, _⟩ => ⟨S2x16384x4096, .f32⟩
  | .hbm, ⟨39, _⟩ => ⟨S2x16384x4096, .f32⟩
  | .hbm, ⟨40, _⟩ => ⟨S2x16384x4096, .f32⟩
  | .hbm, ⟨41, _⟩ => ⟨S2x16384x2048, .f32⟩
  | .hbm, ⟨42, _⟩ => ⟨S2x16384x2048, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S2x16384, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S2x16384x2048, .f32⟩
  | .hbm, ⟨52, _⟩ => ⟨S2x16384x2048, .f32⟩
  | .hbm, ⟨53, _⟩ => ⟨S2x16384x2048, .f32⟩
  | .hbm, ⟨54, _⟩ => ⟨S_, .f32⟩
  | .hbm, ⟨55, _⟩ => ⟨S2x16384, .f32⟩
  | .hbm, ⟨56, _⟩ => ⟨S2x16384x1, .f32⟩
  | .hbm, ⟨57, _⟩ => ⟨S_, .f32⟩
  | .hbm, ⟨58, _⟩ => ⟨S2x16384x1, .f32⟩
  | .hbm, ⟨59, _⟩ => ⟨S2x16384x1, .f32⟩
  | .hbm, ⟨60, _⟩ => ⟨S2x16384x2048, .f32⟩
  | .hbm, ⟨61, _⟩ => ⟨S2x16384x2048, .f32⟩
  | .hbm, ⟨62, _⟩ => ⟨S_, .f32⟩
  | .hbm, ⟨63, _⟩ => ⟨S2x16384x1, .f32⟩
  | .hbm, ⟨64, _⟩ => ⟨S2x16384x1, .f32⟩
  | .hbm, ⟨65, _⟩ => ⟨S2x16384x1, .f32⟩
  | .hbm, ⟨66, _⟩ => ⟨S2x16384x2048, .f32⟩
  | .hbm, ⟨67, _⟩ => ⟨S2x16384x2048, .f32⟩
  | .hbm, ⟨68, _⟩ => ⟨S1x1x2048, .f32⟩
  | .hbm, ⟨69, _⟩ => ⟨S2x16384x2048, .f32⟩
  | .hbm, ⟨70, _⟩ => ⟨S2x16384x2048, .f32⟩
  | .hbm, ⟨71, _⟩ => ⟨S1x1x2048, .f32⟩
  | .hbm, ⟨72, _⟩ => ⟨S2x16384x2048, .f32⟩
  | .hbm, ⟨73, _⟩ => ⟨S2x16384x2048, .f32⟩
  | .hbm, ⟨74, _⟩ => ⟨S2x128x128x8x256, .f32⟩
  | .hbm, ⟨75, _⟩ => ⟨S8x128x128, .f32⟩
  | .hbm, ⟨76, _⟩ => ⟨S128x128, .i32⟩
  | .hbm, ⟨77, _⟩ => ⟨S_, .i32⟩
  | .hbm, ⟨78, _⟩ => ⟨S128x128, .i32⟩
  | .hbm, ⟨79, _⟩ => ⟨S128x128, .i32⟩
  | .hbm, ⟨80, _⟩ => ⟨S128x128, .i32⟩
  | .hbm, ⟨81, _⟩ => ⟨S128x128, .i1⟩
  | .hbm, ⟨82, _⟩ => ⟨S8x128x128, .i1⟩
  | .hbm, ⟨83, _⟩ => ⟨S_, .f32⟩
  | .hbm, ⟨84, _⟩ => ⟨S8x128x128, .f32⟩
  | .hbm, ⟨85, _⟩ => ⟨S8x128x128, .f32⟩
  | .hbm, ⟨86, _⟩ => ⟨S8x2x128x256x128, .f32⟩
  | .hbm, ⟨87, _⟩ => ⟨S2x128x128x8x256, .f32⟩
  | .hbm, ⟨88, _⟩ => ⟨S8x128, .f32⟩
  | .hbm, ⟨89, _⟩ => ⟨S128x8, .f32⟩
  | .hbm, ⟨90, _⟩ => ⟨S128x8x1, .f32⟩
  | .hbm, ⟨91, _⟩ => ⟨S1x1x128x8x1, .f32⟩
  | .hbm, ⟨92, _⟩ => ⟨S2x128x128x8x256, .f32⟩
  | .hbm, ⟨93, _⟩ => ⟨S2x128x128x8x256, .f32⟩
  | .hbm, ⟨94, _⟩ => ⟨S2x16384x2048, .f32⟩
  | .hbm, ⟨95, _⟩ => ⟨S2x16384x2048, .f32⟩
  | .hbm, ⟨96, _⟩ => ⟨S2048x1024, .f32⟩
  | .hbm, ⟨97, _⟩ => ⟨S2x16384x1024, .f32⟩
  | .hbm, ⟨98, _⟩ => ⟨S2x16384x1024, .f32⟩
  | .hbm, ⟨99, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_cst : Ref sig .tc := ⟨.hbm, 83, rfl⟩
abbrev main_call0_v6 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== Proof.TableFacts.lean ====
/- What the precondition says of the two tables. -/
module

public import proofs.«01_k».proof.Proof.Gen.Pre_tables
public import Idealize.ShloMosaic.Lib.ReduceAll

@[expose] public section

noncomputable section

namespace TableFacts

open Idealize.ShloMosaic

theorem both {a b : BitVec 1} : IntOp.andi a b = 1#1 → a = 1#1 ∧ b = 1#1 := by revert a b; decide

theorem of_bool {p : Prop} [Decidable p] (h : BitVec.ofBool (decide p) = 1#1) : p := by
  by_cases q : p
  · exact q
  · rw [decide_eq_false q] at h; exact absurd h (by decide)

/-- Every tile's expert is one of the eight, and the number of live tiles is at least one. -/
theorem of_pre {F : FTy → Type} [FloatOps F] {x0 : FVec F Cert.Pre_tables.S69632x1024 .f32} {te : IVec Cert.Pre_tables.S136 32} {nt : IVec Cert.Pre_tables.S1 32}
    {w1 : FVec F Cert.Pre_tables.S8x1024x5632 .bf16} {w2 : FVec F Cert.Pre_tables.S8x2816x1024 .bf16}
    (h : Cert.Pre_tables.fn (F := F) x0 te nt w1 w2 = fun _ => 1#1) : (∀ j, (te j).toNat < 8) ∧ ∀ j, 1 ≤ (nt j).toInt := by
  have e := both (congrFun h (Shape.Idx.first Cert.Pre_tables.Gen.h_S_))
  haveI : Subsingleton Cert.Pre_tables.S_.Idx := ⟨fun a b => funext fun k => k.elim0⟩
  refine ⟨fun j => ?_, fun j => ?_⟩
  · have k := both (Host.reduce_andi_all _ _ _ _ _ e.1 j)
    have k1 : (0#32).toInt ≤ (te j).toInt := of_bool k.1
    have k2 : (te j).toInt < (8#32).toInt := of_bool k.2
    rw [show (0#32).toInt = 0 from rfl] at k1
    rw [show (8#32).toInt = 8 from rfl] at k2
    rw [BitVec.toInt_eq_toNat_cond] at k1 k2
    have := (te j).isLt
    split at k1 <;> omega
  · have k := Host.reduce_andi_all _ _ _ _ _ e.2 j
    have k1 : (1#32).toInt ≤ (nt j).toInt := of_bool k
    rwa [show (1#32).toInt = 1 from rfl] at k1

theorem min_le (i : Nat) (hi : i < 136) (n : BitVec 32) (hn : 1 ≤ n.toInt) : (Scalar.minsi (BitVec.ofNat 32 i) (Scalar.subi n 1#32)).toNat ≤ i := by
  show (if (BitVec.ofNat 32 i).slt (n - 1#32) then BitVec.ofNat 32 i else n - 1#32).toNat ≤ i
  have hlt := n.isLt
  have hs : (BitVec.ofNat 32 i).toNat = i := by rw [BitVec.toNat_ofNat, Nat.mod_eq_of_lt (by omega)]
  split
  · omega
  · rename_i h
    rw [BitVec.slt, decide_eq_true_eq] at h
    rw [BitVec.toInt_eq_toNat_cond] at hn
    have hd : (n - 1#32).toNat = n.toNat - 1 := by
      rw [BitVec.toNat_sub]; show (2 ^ 32 - 1 + n.toNat) % 2 ^ 32 = _
      split at hn <;> omega
    rw [BitVec.toInt_eq_toNat_cond, BitVec.toInt_eq_toNat_cond, hd, hs] at h
    split at hn <;> split at h <;> split at h <;> omega

theorem toInt_small (i : Nat) (hi : i < 136) : (BitVec.ofNat 32 i).toInt = i := by
  have hs : (BitVec.ofNat 32 i).toNat = i := by rw [BitVec.toNat_ofNat, Nat.mod_eq_of_lt (by omega)]
  rw [BitVec.toInt_eq_toNat_cond, hs, if_pos (by omega)]

/-- A live tile is its own tile of rows. -/
theorem min_eq (i : Nat) (hi : i < 136) (n : BitVec 32) (hn : (i : ℤ) < n.toInt) :
    (Scalar.minsi (BitVec.ofNat 32 i) (Scalar.subi n 1#32)).toNat = i := by
  show (if (BitVec.ofNat 32 i).slt (n - 1#32) then BitVec.ofNat 32 i else n - 1#32).toNat = i
  have hlt := n.isLt
  have hs : (BitVec.ofNat 32 i).toNat = i := by rw [BitVec.toNat_ofNat, Nat.mod_eq_of_lt (by omega)]
  split
  · omega
  · rename_i h
    rw [BitVec.slt, decide_eq_true_eq, toInt_small i hi] at h
    rw [BitVec.toInt_eq_toNat_cond] at hn
    have hd : (n - 1#32).toNat = n.toNat - 1 := by
      rw [BitVec.toNat_sub]; show (2 ^ 32 - 1 + n.toNat) % 2 ^ 32 = _
      split at hn <;> omega
    rw [BitVec.toInt_eq_toNat_cond, hd] at h
    rw [hd]
    split at hn <;> split at h <;> omega

end TableFacts

end
-- ==== Proof.Layer.lean ====
/- The mathematics of the layer, element by element: what both a call and its reference come to at an index. -/
module

public import Idealize.ShloMosaic.Lib.Pipeline.ValueKit
public import Idealize.ShloMosaic.Lib.Pointwise
public import Idealize.ShloMosaic.Lib.Claim

@[expose] public section

noncomputable section

open Idealize.ShloMosaic
open scoped BigOperators

namespace Layer

/-- The scale of RMSNorm for one row: one over the root of the mean square plus 1e-6. -/
def rms (x : Fin 1024 → EReal) : EReal :=
  Ideal.rsqrt (Ideal.div (∑ l, x l * x l) (Ideal.ofBits FTy.f32 1149239296#32) + Ideal.ofBits FTy.f32 897988541#32)

/-- One element of a projection of a normalized row: the row `x`, the norm's weight `g`, one column `w`. -/
def proj (x g w : Fin 1024 → EReal) : EReal := ∑ k, x k * rms x * g k * w k

/-- The queries' unit: one eighth over log 2. -/
def unit : EReal := (((8 * Real.log 2)⁻¹ : ℝ) : EReal)

/-- The scale of a packed column: the queries (columns 0 to 511 and 1536 to 2047) carry the unit. -/
def packed (c : ℕ) (v : EReal) : EReal := if c < 512 ∨ (1536 ≤ c ∧ c < 2048) then v * unit else v

theorem ofBits_eighth : Ideal.ofBits FTy.f32 1040187392#32 = ((8⁻¹ : ℝ) : EReal) := by
  simp [Ideal.ofBits, Ideal.ieee]
  rw [← EReal.coe_mul]; norm_num

theorem ofBits_two : Ideal.ofBits FTy.f32 1073741824#32 = ((2 : ℝ) : EReal) := by
  simp [Ideal.ofBits, Ideal.ieee]
  rw [← EReal.coe_mul]; norm_num

/-- The unit as the reference computes it: 0.125 divided by the logarithm of 2. -/
theorem unit_eq : Ideal.div (Ideal.ofBits FTy.f32 1040187392#32) (Ideal.log (Ideal.ofBits FTy.f32 1073741824#32)) = unit := by
  have h : Real.log 2 ≠ 0 := (Real.log_pos (by norm_num)).ne'
  have e : Ideal.log ((2 : ℝ) : EReal) = ((Real.log 2 : ℝ) : EReal) := by
    show (if (2 : ℝ) ≤ 0 then (⊥ : EReal) else ((Real.log 2 : ℝ) : EReal)) = _
    rw [if_neg (by norm_num)]
  rw [ofBits_eighth, ofBits_two, e, Ideal.div_coe h, ← EReal.coe_mul]
  unfold unit; congr 1; field_simp

/-- Six groups of 512 columns, the first and the fourth scaled, are the columns with the queries scaled. -/
theorem ladder (c : ℕ) (hc : c < 3072) (f : (n : ℕ) → n < 3072 → EReal) :
    (if h : c < 512 then f c hc * unit
      else if h : c - 512 < 512 then f (512 + (c - 512)) (by omega)
      else if h : c - 512 - 512 < 512 then f (1024 + (c - 512 - 512)) (by omega)
      else if h : c - 512 - 512 - 512 < 512 then f (1536 + (c - 512 - 512 - 512)) (by omega) * unit
      else if h : c - 512 - 512 - 512 - 512 < 512 then f (2048 + (c - 512 - 512 - 512 - 512)) (by omega)
      else f (2560 + (c - 512 - 512 - 512 - 512 - 512)) (by omega))
    = packed c (f c hc) := by
  have key : ∀ (n : ℕ) (h : n < 3072), n = c → f n h = f c hc := by rintro n h rfl; rfl
  unfold packed
  by_cases h1 : c < 512
  · rw [dif_pos h1, if_pos (Or.inl h1)]
  rw [dif_neg h1]
  by_cases h2 : c < 1024
  · rw [dif_pos (by omega), if_neg (by omega)]; exact key _ _ (by omega)
  rw [dif_neg (by omega)]
  by_cases h3 : c < 1536
  · rw [dif_pos (by omega), if_neg (by omega)]; exact key _ _ (by omega)
  rw [dif_neg (by omega)]
  by_cases h4 : c < 2048
  · rw [dif_pos (by omega), if_pos (by omega)]; exact congrArg (· * unit) (key _ _ (by omega))
  rw [dif_neg (by omega), if_neg (by omega)]
  by_cases h5 : c < 2560
  · rw [dif_pos (by omega)]; exact key _ _ (by omega)
  rw [dif_neg (by omega)]; exact key _ _ (by omega)

/-- Two groups of 512 columns, from columns 1024 and 2560. -/
theorem ladder2 (c : ℕ) (hc : c < 1024) (f : (n : ℕ) → n < 3072 → EReal) :
    (if h : c < 512 then f (1024 + c) (by omega) else f (2560 + (c - 512)) (by omega))
    = f (if c < 512 then 1024 + c else 2048 + c) (by split_ifs <;> omega) := by
  have key : ∀ (n n' : ℕ) (h : n < 3072) (h' : n' < 3072), n = n' → f n h = f n' h' := by rintro n n' h h' rfl; rfl
  by_cases h1 : c < 512
  · rw [dif_pos h1]; exact key _ _ _ _ (by rw [if_pos h1])
  · rw [dif_neg h1]; exact key _ _ _ _ (by rw [if_neg h1]; omega)

end Layer

end
-- ==== Proof.Swiglu.lean ====
/- The gated feed-forward of a row, element by element, and the same by blocks of 256 hidden columns. -/
module

public import proofs.«01_k».proof.Proof.Layer

@[expose] public section

set_option maxRecDepth 16384

noncomputable section

open Idealize.ShloMosaic Idealize.ShloMosaic.TcCoe Idealize.SL.Sem
open Idealize.ShloMosaic.Pipeline (Dat)
open scoped BigOperators

namespace Layer

/-- `x · logistic x`. -/
def silu (x : EReal) : EReal := x * Ideal.logistic x

/-- Hidden column `f` of the row `x`: the gate's column `f` under `silu`, times the up-projection's, column `2816 + f`. -/
def hidden (x : Fin 1024 → EReal) (w : Fin 1024 → Fin 5632 → EReal) (f : ℕ) (hf : f < 2816) : EReal :=
  silu (∑ k, x k * w k ⟨f, by omega⟩) * ∑ k, x k * w k ⟨2816 + f, by omega⟩

/-- One element of the feed-forward of the row `x`; `d` is the down-projection's column. -/
def swiglu (x : Fin 1024 → EReal) (w : Fin 1024 → Fin 5632 → EReal) (d : Fin 2816 → EReal) : EReal :=
  ∑ f : Fin 2816, hidden x w f f.isLt * d f

/-- What a block of 256 hidden columns adds, by the block's gate columns `g`, up columns `u` and rows `d`. -/
def block (x : Fin 1024 → EReal) (g u : Fin 256 → Fin 1024 → EReal) (d : Fin 256 → EReal) : EReal :=
  ∑ f : Fin 256, silu (∑ k, x k * g f k) * (∑ k, x k * u f k) * d f

/-- The block of hidden columns that begins at `o`. -/
def blockAt (x : Fin 1024 → EReal) (w : Fin 1024 → Fin 5632 → EReal) (d : Fin 2816 → EReal) (o : ℕ) (ho : o + 256 ≤ 2816) : EReal :=
  block x (fun f k => w k ⟨o + f, by omega⟩) (fun f k => w k ⟨2816 + o + f, by omega⟩) (fun f => d ⟨o + f, by omega⟩)

/-- The feed-forward is the sum of its eleven blocks. -/
theorem swiglu_blocks (x : Fin 1024 → EReal) (w : Fin 1024 → Fin 5632 → EReal) (d : Fin 2816 → EReal) :
    swiglu x w d = blockAt x w d 0 (by omega) + blockAt x w d 256 (by omega) + blockAt x w d 512 (by omega)
      + blockAt x w d 768 (by omega) + blockAt x w d 1024 (by omega) + blockAt x w d 1280 (by omega)
      + blockAt x w d 1536 (by omega) + blockAt x w d 1792 (by omega) + blockAt x w d 2048 (by omega)
      + blockAt x w d 2304 (by omega) + blockAt x w d 2560 (by omega) := by
  have e : ∀ j : Fin 11, (∑ t : Fin 256, hidden x w (j.val * 256 + t.val) (by omega) * d ⟨j.val * 256 + t.val, by omega⟩)
      = blockAt x w d (j.val * 256) (by omega) := fun j => by
    unfold blockAt block hidden
    refine Finset.sum_congr rfl fun t _ => ?_
    have a : ∀ k, w k ⟨2816 + (j.val * 256 + t.val), by omega⟩ = w k ⟨2816 + j.val * 256 + t.val, by omega⟩ := fun k => by
      congr 1; apply Fin.ext; show 2816 + (j.val * 256 + t.val) = 2816 + j.val * 256 + t.val; omega
    simp only [a]
  unfold swiglu
  rw [Fin.sum_univ_tiles 11 256 rfl]
  refine (Finset.sum_congr rfl fun j _ => e j).trans ?_
  simp only [Fin.sum_univ_castSucc, Fin.sum_univ_zero, zero_add]
  rfl

end Layer

end
-- ==== Proof.ExpertSpec.lean ====
/- The experts' call: what its result array holds, element by element. -/
module

public import proofs.«01_k».proof.Proof.Swiglu

@[expose] public section

set_option maxRecDepth 16384

noncomputable section

open Idealize.ShloMosaic Idealize.ShloMosaic.TcCoe Idealize.SL.Sem
open Idealize.ShloMosaic.Pipeline (Dat)
open scoped BigOperators

namespace Expert

abbrev X := FVec Ideal ⟨2, ![69632, 1024]⟩ .f32
abbrev T := IVec ⟨1, ![136]⟩ 32
abbrev N := IVec ⟨1, ![1]⟩ 32
abbrev GU := FVec Ideal ⟨3, ![8, 1024, 5632]⟩ .bf16
abbrev D := FVec Ideal ⟨3, ![8, 2816, 1024]⟩ .bf16

/-- The expert of tile `j`. -/
def expert (te : T) (j : Fin 136) : Fin 8 := ⟨(te (ix1 j)).toNat % 8, Nat.mod_lt _ (by decide)⟩

/-- Element `(r, c)`: the feed-forward of the row by its tile's expert where the tile is live, zero elsewhere. -/
def outAt (x : X) (te : T) (nt : N) (wg : GU) (wd : D) (r : Fin 69632) (c : Fin 1024) : EReal :=
  if ((r / 512 : ℕ) : ℤ) < (nt (ix1 0)).toInt then
    Layer.swiglu (fun k => x (ix2 r k)) (fun k f => wg (ix3 (expert te ⟨r / 512, by omega⟩) k f))
      (fun f => wd (ix3 (expert te ⟨r / 512, by omega⟩) f c))
  else 0

/-- The call's result. -/
def out (x : X) (te : T) (nt : N) (wg : GU) (wd : D) : FVec Ideal ⟨2, ![69632, 1024]⟩ .f32 := fun j => outAt x te nt wg wd (j 0) (j 1)

end Expert

end
-- ==== Proof.ExpertRefValue.lean ====
/- The experts' call: the reference's result. -/
module

public import proofs.«01_k».proof.Proof.ExpertSpec
public import proofs.«01_k».proof.Proof.TableFacts
public import proofs.«01_k».proof.Proof.Gen.ExpertRefIdeal.Read

@[expose] public section

set_option maxRecDepth 16384

noncomputable section

open Idealize.ShloMosaic Idealize.ShloMosaic.TcCoe Idealize.SL.Sem
open Idealize.ShloMosaic.Pipeline (Dat)
open scoped BigOperators

namespace Expert

/-! ## A sum over the experts with one gate open -/

/-- The gate of expert `e` for a row whose expert's word is `w`. -/
def gate (w e : BitVec 32) : EReal := if w = e then 1 else 0

/-- The sum over the experts of gate times value. -/
def gated (w : BitVec 32) (s : Fin 8 → EReal) : EReal :=
  0 + gate w 0#32 * s 0 + gate w 1#32 * s 1 + gate w 2#32 * s 2 + gate w 3#32 * s 3 + gate w 4#32 * s 4 + gate w 5#32 * s 5
    + gate w 6#32 * s 6 + gate w 7#32 * s 7

theorem gated_own (s : Fin 8 → EReal) (e : Fin 8) : gated (BitVec.ofNat 32 e.val) s = s e := by
  fin_cases e <;> simp [gated, gate]

theorem gated_none (s : Fin 8 → EReal) : gated (-1#32) s = 0 := by
  simp [gated, gate]

section
open Cert.ExpertRefIdeal Cert.ExpertRefIdeal.Read

/-- The expert's word of a row: its tile's, or minus one past the live tiles. -/
def word (te : T) (nt : N) (r : Fin 69632) : BitVec 32 :=
  if ((r / 512 : ℕ) : ℤ) < (nt (ix1 0)).toInt then te (ix1 ⟨r / 512, by omega⟩) else -1#32

theorem ref_word (te : T) (nt : N) (r : Fin 69632) : val_main_v7 (F := Ideal) te nt (ix2 r 0) = word te nt r := by
  have hr : r.val / 512 < 136 := by omega
  pointwise [val_main_v7, val_main_v6, val_main_v5, val_main_v4, val_main_v3, val_main_v2, val_main_v1, val_main_v0, val_main_c, val_main_call0_v0, val_main_call0_v1]
  show Scalar.select (BitVec.ofBool (decide ((BitVec.ofNat 32 (r.val / 512)).toInt < (nt (ix1 0)).toInt))) _ (-1#32) = _
  rw [TableFacts.toInt_small _ hr]
  unfold word
  by_cases h : ((r.val / 512 : ℕ) : ℤ) < (nt (ix1 0)).toInt
  · rw [if_pos h, decide_eq_true h]; rfl
  · rw [if_neg h, decide_eq_false h]; rfl

theorem select_gate (w e : BitVec 32) : Scalar.select (IntOp.cmpi .eq w e) (1 : EReal) 0 = gate w e := by
  unfold gate
  show Scalar.select (BitVec.ofBool (decide (w = e))) (1 : EReal) 0 = _
  by_cases h : w = e
  · rw [if_pos h, decide_eq_true h]; rfl
  · rw [if_neg h, decide_eq_false h]; rfl

theorem gate_0 (te : T) (nt : N) (r : Fin 69632) : val_main_v11 (F := Ideal) te nt (ix2 r 0) = gate (word te nt r) 0#32 := by
  pointwise [val_main_v9, val_main_v10, val_main_v11, val_main_c_0, val_main_cst_1, val_main_cst_2, val_main_call1_v0, val_main_call1_v1, ref_word]
  exact select_gate _ _

theorem feed_0 (x : X) (wg : GU) (wd : D) (r : Fin 69632) (c : Fin 1024) :
    val_main_v23 (F := Ideal) x wg wd (ix2 r c) = Layer.swiglu (fun k => x (ix2 r k)) (fun k f => wg (ix3 0 k f)) (fun f => wd (ix3 0 f c)) := by
  pointwise [val_main_v12, val_main_v13, val_main_v14, val_main_v15, val_main_v16, val_main_v17, val_main_v18, val_main_v19, val_main_v20, val_main_v21, val_main_v22, val_main_v23, val_main_call2_v0, val_main_call2_v1, val_main_call2_cst, val_main_call2_v2, val_main_call2_v3, val_main_call2_cst_0, val_main_call2_v4, val_main_call2_v5]
  rfl

theorem gate_1 (te : T) (nt : N) (r : Fin 69632) : val_main_v30 (F := Ideal) te nt (ix2 r 0) = gate (word te nt r) 1#32 := by
  pointwise [val_main_v28, val_main_v29, val_main_v30, val_main_c_3, val_main_cst_4, val_main_cst_5, val_main_call3_v0, val_main_call3_v1, ref_word]
  exact select_gate _ _

theorem feed_1 (x : X) (wg : GU) (wd : D) (r : Fin 69632) (c : Fin 1024) :
    val_main_v42 (F := Ideal) x wg wd (ix2 r c) = Layer.swiglu (fun k => x (ix2 r k)) (fun k f => wg (ix3 1 k f)) (fun f => wd (ix3 1 f c)) := by
  pointwise [val_main_v31, val_main_v32, val_main_v33, val_main_v34, val_main_v35, val_main_v36, val_main_v37, val_main_v38, val_main_v39, val_main_v40, val_main_v41, val_main_v42, val_main_call4_v0, val_main_call4_v1, val_main_call4_cst, val_main_call4_v2, val_main_call4_v3, val_main_call4_cst_0, val_main_call4_v4, val_main_call4_v5]
  rfl

theorem gate_2 (te : T) (nt : N) (r : Fin 69632) : val_main_v49 (F := Ideal) te nt (ix2 r 0) = gate (word te nt r) 2#32 := by
  pointwise [val_main_v47, val_main_v48, val_main_v49, val_main_c_6, val_main_cst_7, val_main_cst_8, val_main_call5_v0, val_main_call5_v1, ref_word]
  exact select_gate _ _

theorem feed_2 (x : X) (wg : GU) (wd : D) (r : Fin 69632) (c : Fin 1024) :
    val_main_v61 (F := Ideal) x wg wd (ix2 r c) = Layer.swiglu (fun k => x (ix2 r k)) (fun k f => wg (ix3 2 k f)) (fun f => wd (ix3 2 f c)) := by
  pointwise [val_main_v50, val_main_v51, val_main_v52, val_main_v53, val_main_v54, val_main_v55, val_main_v56, val_main_v57, val_main_v58, val_main_v59, val_main_v60, val_main_v61, val_main_call6_v0, val_main_call6_v1, val_main_call6_cst, val_main_call6_v2, val_main_call6_v3, val_main_call6_cst_0, val_main_call6_v4, val_main_call6_v5]
  rfl

theorem gate_3 (te : T) (nt : N) (r : Fin 69632) : val_main_v68 (F := Ideal) te nt (ix2 r 0) = gate (word te nt r) 3#32 := by
  pointwise [val_main_v66, val_main_v67, val_main_v68, val_main_c_9, val_main_cst_10, val_main_cst_11, val_main_call7_v0, val_main_call7_v1, ref_word]
  exact select_gate _ _

theorem feed_3 (x : X) (wg : GU) (wd : D) (r : Fin 69632) (c : Fin 1024) :
    val_main_v80 (F := Ideal) x wg wd (ix2 r c) = Layer.swiglu (fun k => x (ix2 r k)) (fun k f => wg (ix3 3 k f)) (fun f => wd (ix3 3 f c)) := by
  pointwise [val_main_v69, val_main_v70, val_main_v71, val_main_v72, val_main_v73, val_main_v74, val_main_v75, val_main_v76, val_main_v77, val_main_v78, val_main_v79, val_main_v80, val_main_call8_v0, val_main_call8_v1, val_main_call8_cst, val_main_call8_v2, val_main_call8_v3, val_main_call8_cst_0, val_main_call8_v4, val_main_call8_v5]
  rfl

theorem gate_4 (te : T) (nt : N) (r : Fin 69632) : val_main_v87 (F := Ideal) te nt (ix2 r 0) = gate (word te nt r) 4#32 := by
  pointwise [val_main_v85, val_main_v86, val_main_v87, val_main_c_12, val_main_cst_13, val_main_cst_14, val_main_call9_v0, val_main_call9_v1, ref_word]
  exact select_gate _ _

theorem feed_4 (x : X) (wg : GU) (wd : D) (r : Fin 69632) (c : Fin 1024) :
    val_main_v99 (F := Ideal) x wg wd (ix2 r c) = Layer.swiglu (fun k => x (ix2 r k)) (fun k f => wg (ix3 4 k f)) (fun f => wd (ix3 4 f c)) := by
  pointwise [val_main_v88, val_main_v89, val_main_v90, val_main_v91, val_main_v92, val_main_v93, val_main_v94, val_main_v95, val_main_v96, val_main_v97, val_main_v98, val_main_v99, val_main_call10_v0, val_main_call10_v1, val_main_call10_cst, val_main_call10_v2, val_main_call10_v3, val_main_call10_cst_0, val_main_call10_v4, val_main_call10_v5]
  rfl

theorem gate_5 (te : T) (nt : N) (r : Fin 69632) : val_main_v106 (F := Ideal) te nt (ix2 r 0) = gate (word te nt r) 5#32 := by
  pointwise [val_main_v104, val_main_v105, val_main_v106, val_main_c_15, val_main_cst_16, val_main_cst_17, val_main_call11_v0, val_main_call11_v1, ref_word]
  exact select_gate _ _

theorem feed_5 (x : X) (wg : GU) (wd : D) (r : Fin 69632) (c : Fin 1024) :
    val_main_v118 (F := Ideal) x wg wd (ix2 r c) = Layer.swiglu (fun k => x (ix2 r k)) (fun k f => wg (ix3 5 k f)) (fun f => wd (ix3 5 f c)) := by
  pointwise [val_main_v107, val_main_v108, val_main_v109, val_main_v110, val_main_v111, val_main_v112, val_main_v113, val_main_v114, val_main_v115, val_main_v116, val_main_v117, val_main_v118, val_main_call12_v0, val_main_call12_v1, val_main_call12_cst, val_main_call12_v2, val_main_call12_v3, val_main_call12_cst_0, val_main_call12_v4, val_main_call12_v5]
  rfl

theorem gate_6 (te : T) (nt : N) (r : Fin 69632) : val_main_v125 (F := Ideal) te nt (ix2 r 0) = gate (word te nt r) 6#32 := by
  pointwise [val_main_v123, val_main_v124, val_main_v125, val_main_c_18, val_main_cst_19, val_main_cst_20, val_main_call13_v0, val_main_call13_v1, ref_word]
  exact select_gate _ _

theorem feed_6 (x : X) (wg : GU) (wd : D) (r : Fin 69632) (c : Fin 1024) :
    val_main_v137 (F := Ideal) x wg wd (ix2 r c) = Layer.swiglu (fun k => x (ix2 r k)) (fun k f => wg (ix3 6 k f)) (fun f => wd (ix3 6 f c)) := by
  pointwise [val_main_v126, val_main_v127, val_main_v128, val_main_v129, val_main_v130, val_main_v131, val_main_v132, val_main_v133, val_main_v134, val_main_v135, val_main_v136, val_main_v137, val_main_call14_v0, val_main_call14_v1, val_main_call14_cst, val_main_call14_v2, val_main_call14_v3, val_main_call14_cst_0, val_main_call14_v4, val_main_call14_v5]
  rfl

theorem gate_7 (te : T) (nt : N) (r : Fin 69632) : val_main_v144 (F := Ideal) te nt (ix2 r 0) = gate (word te nt r) 7#32 := by
  pointwise [val_main_v142, val_main_v143, val_main_v144, val_main_c_21, val_main_cst_22, val_main_cst_23, val_main_call15_v0, val_main_call15_v1, ref_word]
  exact select_gate _ _

theorem feed_7 (x : X) (wg : GU) (wd : D) (r : Fin 69632) (c : Fin 1024) :
    val_main_v156 (F := Ideal) x wg wd (ix2 r c) = Layer.swiglu (fun k => x (ix2 r k)) (fun k f => wg (ix3 7 k f)) (fun f => wd (ix3 7 f c)) := by
  pointwise [val_main_v145, val_main_v146, val_main_v147, val_main_v148, val_main_v149, val_main_v150, val_main_v151, val_main_v152, val_main_v153, val_main_v154, val_main_v155, val_main_v156, val_main_call16_v0, val_main_call16_v1, val_main_call16_cst, val_main_call16_v2, val_main_call16_v3, val_main_call16_cst_0, val_main_call16_v4, val_main_call16_v5]
  rfl

theorem ref_160 (x : X) (te : T) (nt : N) (wg : GU) (wd : D) (r : Fin 69632) (c : Fin 1024) :
    val_main_v160 (F := Ideal) x te nt wg wd (ix2 r c) = gated (word te nt r) (fun e => Layer.swiglu (fun k => x (ix2 r k)) (fun k f => wg (ix3 e k f)) (fun f => wd (ix3 e f c))) := by
  pointwise [val_main_v8, val_main_cst, val_main_v24, val_main_v25, val_main_v26, val_main_v27, val_main_v43, val_main_v44, val_main_v45, val_main_v46, val_main_v62, val_main_v63, val_main_v64, val_main_v65, val_main_v81, val_main_v82, val_main_v83, val_main_v84, val_main_v100, val_main_v101, val_main_v102, val_main_v103, val_main_v119, val_main_v120, val_main_v121, val_main_v122, val_main_v138, val_main_v139, val_main_v140, val_main_v141, val_main_v157, val_main_v158, val_main_v159, val_main_v160, gate_0, feed_0, gate_1, feed_1, gate_2, feed_2, gate_3, feed_3, gate_4, feed_4, gate_5, feed_5, gate_6, feed_6, gate_7, feed_7]
  simp only [id_eq, gate_0, gate_1, gate_2, gate_3, gate_4, gate_5, gate_6, gate_7]
  unfold gated
  rw [zero_add]

/-- The reference's result, for tables whose experts exist. -/
theorem ref_out (x : X) (te : T) (nt : N) (wg : GU) (wd : D) (hT : ∀ j, (te j).toNat < 8) :
    val_main_v160 (F := Ideal) x te nt wg wd = out x te nt wg wd := by
  funext j; idx_vars j
  refine (ref_160 x te nt wg wd j0 j1).trans ?_
  show _ = outAt x te nt wg wd j0 j1
  unfold word outAt
  split
  · have h := hT (ix1 ⟨j0 / 512, by omega⟩)
    have e : te (ix1 ⟨j0 / 512, by omega⟩) = BitVec.ofNat 32 (expert te ⟨j0 / 512, by omega⟩).val := by
      show _ = BitVec.ofNat 32 ((te (ix1 ⟨j0 / 512, _⟩)).toNat % 8)
      rw [Nat.mod_eq_of_lt h, BitVec.ofNat_toNat, BitVec.setWidth_eq]
    rw [e]; exact gated_own _ _
  · exact gated_none _

end

end Expert

end
-- ==== Proof.ExpertIdealFrame.lean ====
/- The experts' call over the reals: the body over its staging buffers, with the two tables it reads, the pipeline's proof data and
   the frame. A tile before the live ones' end gets the expert's feed-forward, a tile past it gets zeros. -/
module

public import proofs.«01_k».proof.Proof.Gen.ExpertIdeal.Launch
public import proofs.«01_k».proof.Proof.Gen.ExpertIdeal.Skeleton
public import Idealize.ShloMosaic.Lib.Pipeline.Kit
public import Idealize.ShloMosaic.Lib.Pipeline.FrameBody
public import Idealize.ShloMosaic.Lib.Claim
public import Idealize.ShloMosaic.Lib.Ring
public import Idealize.ShloMosaic.Lib.Exec
public import Idealize.ShloMosaic.Lib.Tactic
public import Idealize.ShloMosaic.Lib.UnfoldOut
public import Idealize.ShloMosaic.Lib.WordCmp

@[expose] public section

set_option maxRecDepth 16384

noncomputable section

namespace ExpertIdealRun

open Cert.ExpertIdeal Cert.ExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body stores -/

abbrev rX : Rect S512x1024 := Rect.unit (s := S512x1024) ![0, 0] S512x1024.size inb_S512x1024_S512x1024_0_0
abbrev rG0 : Rect S1x1024x5632 := Rect.unit (s := S1x1024x5632) ![0, 0, 0] S1x1024x256.size inb_S1x1024x5632_S1x1024x256_0_0_0
abbrev rU0 : Rect S1x1024x5632 := Rect.unit (s := S1x1024x5632) ![0, 0, 2816] S1x1024x256.size inb_S1x1024x5632_S1x1024x256_0_0_2816
abbrev rD0 : Rect S1x2816x1024 := Rect.unit (s := S1x2816x1024) ![0, 0, 0] S1x256x1024.size inb_S1x2816x1024_S1x256x1024_0_0_0
abbrev rG1 : Rect S1x1024x5632 := Rect.unit (s := S1x1024x5632) ![0, 0, 256] S1x1024x256.size inb_S1x1024x5632_S1x1024x256_0_0_256
abbrev rU1 : Rect S1x1024x5632 := Rect.unit (s := S1x1024x5632) ![0, 0, 3072] S1x1024x256.size inb_S1x1024x5632_S1x1024x256_0_0_3072
abbrev rD1 : Rect S1x2816x1024 := Rect.unit (s := S1x2816x1024) ![0, 256, 0] S1x256x1024.size inb_S1x2816x1024_S1x256x1024_0_256_0
abbrev rG2 : Rect S1x1024x5632 := Rect.unit (s := S1x1024x5632) ![0, 0, 512] S1x1024x256.size inb_S1x1024x5632_S1x1024x256_0_0_512
abbrev rU2 : Rect S1x1024x5632 := Rect.unit (s := S1x1024x5632) ![0, 0, 3328] S1x1024x256.size inb_S1x1024x5632_S1x1024x256_0_0_3328
abbrev rD2 : Rect S1x2816x1024 := Rect.unit (s := S1x2816x1024) ![0, 512, 0] S1x256x1024.size inb_S1x2816x1024_S1x256x1024_0_512_0
abbrev rG3 : Rect S1x1024x5632 := Rect.unit (s := S1x1024x5632) ![0, 0, 768] S1x1024x256.size inb_S1x1024x5632_S1x1024x256_0_0_768
abbrev rU3 : Rect S1x1024x5632 := Rect.unit (s := S1x1024x5632) ![0, 0, 3584] S1x1024x256.size inb_S1x1024x5632_S1x1024x256_0_0_3584
abbrev rD3 : Rect S1x2816x1024 := Rect.unit (s := S1x2816x1024) ![0, 768, 0] S1x256x1024.size inb_S1x2816x1024_S1x256x1024_0_768_0
abbrev rG4 : Rect S1x1024x5632 := Rect.unit (s := S1x1024x5632) ![0, 0, 1024] S1x1024x256.size inb_S1x1024x5632_S1x1024x256_0_0_1024
abbrev rU4 : Rect S1x1024x5632 := Rect.unit (s := S1x1024x5632) ![0, 0, 3840] S1x1024x256.size inb_S1x1024x5632_S1x1024x256_0_0_3840
abbrev rD4 : Rect S1x2816x1024 := Rect.unit (s := S1x2816x1024) ![0, 1024, 0] S1x256x1024.size inb_S1x2816x1024_S1x256x1024_0_1024_0
abbrev rG5 : Rect S1x1024x5632 := Rect.unit (s := S1x1024x5632) ![0, 0, 1280] S1x1024x256.size inb_S1x1024x5632_S1x1024x256_0_0_1280
abbrev rU5 : Rect S1x1024x5632 := Rect.unit (s := S1x1024x5632) ![0, 0, 4096] S1x1024x256.size inb_S1x1024x5632_S1x1024x256_0_0_4096
abbrev rD5 : Rect S1x2816x1024 := Rect.unit (s := S1x2816x1024) ![0, 1280, 0] S1x256x1024.size inb_S1x2816x1024_S1x256x1024_0_1280_0
abbrev rG6 : Rect S1x1024x5632 := Rect.unit (s := S1x1024x5632) ![0, 0, 1536] S1x1024x256.size inb_S1x1024x5632_S1x1024x256_0_0_1536
abbrev rU6 : Rect S1x1024x5632 := Rect.unit (s := S1x1024x5632) ![0, 0, 4352] S1x1024x256.size inb_S1x1024x5632_S1x1024x256_0_0_4352
abbrev rD6 : Rect S1x2816x1024 := Rect.unit (s := S1x2816x1024) ![0, 1536, 0] S1x256x1024.size inb_S1x2816x1024_S1x256x1024_0_1536_0
abbrev rG7 : Rect S1x1024x5632 := Rect.unit (s := S1x1024x5632) ![0, 0, 1792] S1x1024x256.size inb_S1x1024x5632_S1x1024x256_0_0_1792
abbrev rU7 : Rect S1x1024x5632 := Rect.unit (s := S1x1024x5632) ![0, 0, 4608] S1x1024x256.size inb_S1x1024x5632_S1x1024x256_0_0_4608
abbrev rD7 : Rect S1x2816x1024 := Rect.unit (s := S1x2816x1024) ![0, 1792, 0] S1x256x1024.size inb_S1x2816x1024_S1x256x1024_0_1792_0
abbrev rG8 : Rect S1x1024x5632 := Rect.unit (s := S1x1024x5632) ![0, 0, 2048] S1x1024x256.size inb_S1x1024x5632_S1x1024x256_0_0_2048
abbrev rU8 : Rect S1x1024x5632 := Rect.unit (s := S1x1024x5632) ![0, 0, 4864] S1x1024x256.size inb_S1x1024x5632_S1x1024x256_0_0_4864
abbrev rD8 : Rect S1x2816x1024 := Rect.unit (s := S1x2816x1024) ![0, 2048, 0] S1x256x1024.size inb_S1x2816x1024_S1x256x1024_0_2048_0
abbrev rG9 : Rect S1x1024x5632 := Rect.unit (s := S1x1024x5632) ![0, 0, 2304] S1x1024x256.size inb_S1x1024x5632_S1x1024x256_0_0_2304
abbrev rU9 : Rect S1x1024x5632 := Rect.unit (s := S1x1024x5632) ![0, 0, 5120] S1x1024x256.size inb_S1x1024x5632_S1x1024x256_0_0_5120
abbrev rD9 : Rect S1x2816x1024 := Rect.unit (s := S1x2816x1024) ![0, 2304, 0] S1x256x1024.size inb_S1x2816x1024_S1x256x1024_0_2304_0
abbrev rG10 : Rect S1x1024x5632 := Rect.unit (s := S1x1024x5632) ![0, 0, 2560] S1x1024x256.size inb_S1x1024x5632_S1x1024x256_0_0_2560
abbrev rU10 : Rect S1x1024x5632 := Rect.unit (s := S1x1024x5632) ![0, 0, 5376] S1x1024x256.size inb_S1x1024x5632_S1x1024x256_0_0_5376
abbrev rD10 : Rect S1x2816x1024 := Rect.unit (s := S1x2816x1024) ![0, 2560, 0] S1x256x1024.size inb_S1x2816x1024_S1x256x1024_0_2560_0

/-- The tile's rows in the matmuls' type. -/
def rows (x0 : Vec F S512x1024 .f32) : FVec F S512x1024 .bf16 := k0_pay3 (View.ld x0 rX)

/-- The first four blocks of 256 hidden columns, added block by block. -/
def sum4 (x0 : Vec F S512x1024 .f32) (x1 : Vec F S1x1024x5632 .bf16) (x2 : Vec F S1x2816x1024 .bf16) : FVec F S512x1024 .f32 :=
  k0_pay6 (rows x0) (k0_pay4 (View.ld x0 rX) (View.ld x1 rG0) (View.ld x1 rU0) (View.ld x2 rD0) (View.ld x1 rG1) (View.ld x1 rU1) (View.ld x2 rD1))
    (k0_pay5 (View.ld x1 rG2)) (View.ld x1 rU2) (View.ld x2 rD2) (View.ld x1 rG3) (View.ld x1 rU3) (View.ld x2 rD3)
/-- The first six blocks. -/
def sum6 (x0 : Vec F S512x1024 .f32) (x1 : Vec F S1x1024x5632 .bf16) (x2 : Vec F S1x2816x1024 .bf16) : FVec F S512x1024 .f32 :=
  k0_pay9 (rows x0) (sum4 x0 x1 x2) (k0_pay7 (rows x0) (View.ld x1 rG4)) (k0_pay8 (View.ld x1 rU4)) (constant S512x256 .f32 0x00000000#32) (View.ld x2 rD4) (View.ld x1 rG5) (View.ld x1 rU5) (View.ld x2 rD5)
/-- The first nine blocks. -/
def sum9 (x0 : Vec F S512x1024 .f32) (x1 : Vec F S1x1024x5632 .bf16) (x2 : Vec F S1x2816x1024 .bf16) : FVec F S512x1024 .f32 :=
  k0_pay11 (rows x0) (sum6 x0 x1 x2) (k0_pay10 (rows x0) (View.ld x1 rG6) (View.ld x1 rU6)) (View.ld x2 rD6) (View.ld x1 rG7) (View.ld x1 rU7) (View.ld x2 rD7) (View.ld x1 rG8) (View.ld x1 rU8) (View.ld x2 rD8)

/-- The output's staging buffer after a live tile. -/
def liveOut (x0 : Vec F S512x1024 .f32) (x1 : Vec F S1x1024x5632 .bf16) (x2 : Vec F S1x2816x1024 .bf16) : Vec F S512x1024 .f32 :=
  View.canon [⟨rX, k0_pay1 (rows x0) (sum9 x0 x1 x2) (View.ld x1 rG9) (View.ld x1 rU9) (View.ld x2 rD9) (View.ld x1 rG10) (View.ld x1 rU10) (View.ld x2 rD10)⟩]

/-- The output's staging buffer after a tile past the live ones. -/
def deadOut : Vec F S512x1024 .f32 := View.canon [⟨rX, k0_pay2 (F := F)⟩]

theorem covers (p : Vec F S512x1024 .f32) (y : S512x1024.Idx) :
    ∃ pc ∈ ([⟨rX, p⟩] : List (View.Piece (Elt F) S512x1024 .f32)), y ∈ pc.1.set :=
  View.cover_of_tiled [⟨rX, p⟩] S512x1024.size (by rfl) y

/-! ## The tables -/

/-- Each tile's expert, and the number of live tiles. -/
abbrev expertOf : Memref sig .tc .smem S136 .i32 := Memref.whole main_arg1
abbrev liveTiles : Memref sig .tc .smem S1 .i32 := Memref.whole main_arg2
abbrev Held (c : Dev nD) {S : Shape} {e : EltTy} (M : Memref sig .tc .smem S e) : Type := Buf (Elt F) (M.view.loc (c : Thread nD τ))
abbrev table (c : Dev nD) {S : Shape} {e : EltTy} (M : Memref sig .tc .smem S e) (f : Held (F := F) c M) : sProp 𝕄 :=
  M.view.loc (c : Thread nD τ) ↦{fullShare.right} f
/-- The number of live tiles, as the body reads it. -/
abbrev liveWord {c : Dev nD} (T1 : Held (F := F) c liveTiles) : Elt F .i32 :=
  View.readAt (Elt F) liveTiles.view (Rect.unit (s := S1) ![0] S1.size inb_S1_S1_0).toLoadRect T1 (Shape.Idx.first (numel1_S1.symm ▸ Nat.one_pos))

/-- The body's two conditions are each other's negation. -/
theorem dead_iff (i : grid0.Coords) (w : BitVec 32) : k0_cond2 i w = 1#1 ↔ ¬ k0_cond1 i w = 1#1 := by
  unfold k0_cond1 k0_cond2
  simp only [Scalar.cmpi, Scalar.extui]
  rw [show IntOp.cmpi .slt (BitVec.ofNat 32 (i 0).val) w = BitVec.ofBool (decide ((BitVec.ofNat 32 (i 0).val).toInt < w.toInt)) from rfl,
    show IntOp.cmpi .sge (BitVec.ofNat 32 (i 0).val) w = BitVec.ofBool (decide (w.toInt ≤ (BitVec.ofNat 32 (i 0).val).toInt)) from rfl]
  by_cases h : (BitVec.ofNat 32 (i 0).val).toInt < w.toInt
  · rw [decide_eq_true h, decide_eq_false (not_le.mpr h)]; decide
  · rw [decide_eq_false h, decide_eq_true (not_lt.mp h)]; decide

/-! ## The body's two runs -/

set_option maxHeartbeats 4000000 in
/-- A tile before the live ones' end: the body leaves the expert's feed-forward of the tile's rows. -/
theorem run_live (c : Dev nD) (E : Set ℕ) (i : grid0.Coords) (arg3 : Memref sig .tc .vmem S512x1024 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S512x1024 .f32) (harg6 : arg6.IsWhole)
    (x0 : Vec F S512x1024 .f32) (x1 : Vec F S1x1024x5632 .bf16) (x2 : Vec F S1x2816x1024 .bf16) (T0 : Held (F := F) c expertOf) (T1 : Held (F := F) c liveTiles)
    (k0_h1 : k0_cond1 i (liveWord T1) = 1#1) (k0_h2 : ¬(k0_cond2 i (liveWord T1) = 1#1)) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ table c expertOf T0 ∗ table c liveTiles T1
        ∗ (iprop(owns (c : Thread nD τ) arg3 fullShare x0 ∗ owns (c : Thread nD τ) arg4 fullShare x1 ∗ owns (c : Thread nD τ) arg5 fullShare x2
        ∗ owns (c : Thread nD τ) arg6 fullShare (liveOut x0 x1 x2) ∗ table c expertOf T0 ∗ table c liveTiles T1) -∗ K ⟨⟩))
      ⊢ wp frame (wpE (defs₀ (F := F)) Variants.none c none) E (cc0_moe_experts i expertOf (Memref.isWhole_whole _) liveTiles (Memref.isWhole_whole _) arg3 harg3 arg4 harg4 arg5 harg5 arg6 harg6) K := by
  simp only [cc0_moe_experts_eq_skeleton]; unfold cc0_moe_experts_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d3, %f3, -, H3⟩, HT0, HT1, Hk⟩
  subst hf0 hf1 hf2
  have hT0 : expertOf.IsWhole := Memref.isWhole_whole _
  have hT1 : liveTiles.IsWhole := Memref.isWhole_whole _
  sl_exec! (disch := first | (guard_target = k0_cond1 _ _ = _; exact k0_h1) | (guard_target = ¬(k0_cond2 _ _ = _); exact k0_h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (covers _)).trans ?_
    rfl
  isplitl [HT0]; · iexact HT0
  iexact HT1

set_option maxHeartbeats 4000000 in
/-- A tile past the live ones: the body leaves zeros. -/
theorem run_dead (c : Dev nD) (E : Set ℕ) (i : grid0.Coords) (arg3 : Memref sig .tc .vmem S512x1024 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S512x1024 .f32) (harg6 : arg6.IsWhole)
    (x0 : Vec F S512x1024 .f32) (x1 : Vec F S1x1024x5632 .bf16) (x2 : Vec F S1x2816x1024 .bf16) (T0 : Held (F := F) c expertOf) (T1 : Held (F := F) c liveTiles)
    (k0_h1 : ¬(k0_cond1 i (liveWord T1) = 1#1)) (k0_h2 : k0_cond2 i (liveWord T1) = 1#1) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ table c expertOf T0 ∗ table c liveTiles T1
        ∗ (iprop(owns (c : Thread nD τ) arg3 fullShare x0 ∗ owns (c : Thread nD τ) arg4 fullShare x1 ∗ owns (c : Thread nD τ) arg5 fullShare x2
        ∗ owns (c : Thread nD τ) arg6 fullShare deadOut ∗ table c expertOf T0 ∗ table c liveTiles T1) -∗ K ⟨⟩))
      ⊢ wp frame (wpE (defs₀ (F := F)) Variants.none c none) E (cc0_moe_experts i expertOf (Memref.isWhole_whole _) liveTiles (Memref.isWhole_whole _) arg3 harg3 arg4 harg4 arg5 harg5 arg6 harg6) K := by
  simp only [cc0_moe_experts_eq_skeleton]; unfold cc0_moe_experts_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%d3, %f3, -, H3⟩, HT0, HT1, Hk⟩
  subst hf0 hf1 hf2
  have hT0 : expertOf.IsWhole := Memref.isWhole_whole _
  have hT1 : liveTiles.IsWhole := Memref.isWhole_whole _
  sl_exec! (disch := first | (guard_target = ¬(k0_cond1 _ _ = _); exact k0_h1) | (guard_target = k0_cond2 _ _ = _; exact k0_h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (covers _)).trans ?_
    rfl
  isplitl [HT0]; · iexact HT0
  iexact HT1

/-! ## The pipeline at the tables' contents -/

variable (m : (ℓ : Loc nD τ sig) → Buf (Elt F) ℓ) (ρ : Dev nD → PrngReg)

/-- The call is the program's first operation: it finds every buffer as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => by
    delta main; simp only [Prog.bind_lift, Prog.pure_eq_ret]

/-- The tables' contents. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every window's block lies inside its array, at the tables' contents. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(table c expertOf (tbl m 0) ∗ table c liveTiles (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The output is written back at every tile. -/
theorem flush_out (a : (pcfg0 (F := F)).Adm) : ∀ t : Fin (cfg0 a).N, ((cfg0 a).win 3).flush t = true :=
  fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _)

/-- Window `w`'s block at tile `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Whether tile `t` is live. -/
abbrev Live (c : Dev nD) (i : grid0.Coords) : Prop := k0_cond1 i (liveWord (F := F) (c := c) (tbl m 1)) = 1#1

/-- The output's staging buffer after tile `t`. -/
def outAt (hO : Ok m) (c : Dev nD) (t : Fin (cfgM m hO).N) : Vec F S512x1024 .f32 :=
  if Live m c (grid0.coords t) then liveOut (iblk m hO c 0 t) (iblk m hO c 1 t) (iblk m hO c 2 t) else deadOut

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = outAt m hO c t := by dsimp only [dats]; try rfl
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
abbrev buf0 (hO : Ok m) (t : Fin (cfgM m hO).N) : Memref sig .tc .vmem S512x1024 .f32 := spec0_0.stage ((cfgM m hO).slots t 0)
abbrev whole0 (hO : Ok m) (t : Fin (cfgM m hO).N) : (buf0 m hO t).IsWhole := hstage0_0 (((cfgM m hO).slots t 0).cast nbuf0_0)
abbrev buf1 (hO : Ok m) (t : Fin (cfgM m hO).N) : Memref sig .tc .vmem S1x1024x5632 .bf16 := spec0_1.stage ((cfgM m hO).slots t 1)
abbrev whole1 (hO : Ok m) (t : Fin (cfgM m hO).N) : (buf1 m hO t).IsWhole := hstage0_1 (((cfgM m hO).slots t 1).cast nbuf0_1)
abbrev buf2 (hO : Ok m) (t : Fin (cfgM m hO).N) : Memref sig .tc .vmem S1x2816x1024 .bf16 := spec0_2.stage ((cfgM m hO).slots t 2)
abbrev whole2 (hO : Ok m) (t : Fin (cfgM m hO).N) : (buf2 m hO t).IsWhole := hstage0_2 (((cfgM m hO).slots t 2).cast nbuf0_2)
abbrev buf3 (hO : Ok m) (t : Fin (cfgM m hO).N) : Memref sig .tc .vmem S512x1024 .f32 := spec0_3.stage ((cfgM m hO).slots t 3)
abbrev whole3 (hO : Ok m) (t : Fin (cfgM m hO).N) : (buf3 m hO t).IsWhole := hstage0_3 (((cfgM m hO).slots t 3).cast nbuf0_3)

/-- The body at tile `t`. -/
abbrev bodyAt (hO : Ok m) (t : Fin (cfgM m hO).N) : Prog (TpuEff nD τ sig (Elt F) Λ₀ .tc) PUnit :=
  cc0_moe_experts (grid0.coords t) expertOf (Memref.isWhole_whole _) liveTiles (Memref.isWhole_whole _) (buf0 m hO t) (whole0 m hO t) (buf1 m hO t) (whole1 m hO t) (buf2 m hO t) (whole2 m hO t) (buf3 m hO t) (whole3 m hO t)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (buf0 m hO t) fullShare ((dats m hO 0 c).before 0 t d))
    ∗ (∃ d, owns (c : Thread nD τ) (buf1 m hO t) fullShare ((dats m hO 0 c).before 1 t d))
    ∗ (∃ d, owns (c : Thread nD τ) (buf2 m hO t) fullShare ((dats m hO 0 c).before 2 t d))
    ∗ (∃ d, owns (c : Thread nD τ) (buf3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (buf0 m hO t) fullShare ((dats m hO 0 c).after 0 t)
    ∗ owns (c : Thread nD τ) (buf1 m hO t) fullShare ((dats m hO 0 c).after 1 t)
    ∗ owns (c : Thread nD τ) (buf2 m hO t) fullShare ((dats m hO 0 c).after 2 t)
    ∗ owns (c : Thread nD τ) (buf3 m hO t) fullShare ((dats m hO 0 c).after 3 t))

/-- The body at any tile, by whether the tile is live. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2, after_3]
  rw [show (dats m hO 0 c).Φ t.castSucc = iprop(Pipeline.ΦA spec0 c ∗ Pipeline.ΦT pre0 (tbl m) c) from rfl, tables_eq]
  by_cases hl : Live m c (grid0.coords t)
  · have hd : ¬ k0_cond2 (grid0.coords t) (liveWord (F := F) (c := c) (tbl m 1)) = 1#1 := fun h => (dead_iff _ _).mp h hl
    rw [show outAt m hO c t = liveOut (iblk m hO c 0 t) (iblk m hO c 1 t) (iblk m hO c 2 t) from if_pos hl]
    iintro ⟨⟨HΦ, ⟨HT0, HT1⟩⟩, Ho, ⟨%d0, H0⟩, ⟨%d1, H1⟩, ⟨%d2, H2⟩, ⟨%d3, H3⟩⟩
    iapply (run_live c Set.univ (grid0.coords t) _ _ _ _ _ _ _ _ (iblk m hO c 0 t) (iblk m hO c 1 t) (iblk m hO c 2 t) (tbl m 0) (tbl m 1) hl hd _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iexact H3
  · have hd : k0_cond2 (grid0.coords t) (liveWord (F := F) (c := c) (tbl m 1)) = 1#1 := (dead_iff _ _).mpr hl
    rw [show outAt m hO c t = deadOut from if_neg hl]
    iintro ⟨⟨HΦ, ⟨HT0, HT1⟩⟩, Ho, ⟨%d0, H0⟩, ⟨%d1, H1⟩, ⟨%d2, H2⟩, ⟨%d3, H3⟩⟩
    iapply (run_dead c Set.univ (grid0.coords t) _ _ _ _ _ _ _ _ (iblk m hO c 0 t) (iblk m hO c 1 t) (iblk m hO c 2 t) (tbl m 0) (tbl m 1) hl hd _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iexact H3

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- What the pipeline asks of the output's window is what the body leaves, be the tile idle for it or not: the block is
    written back at every tile. -/
theorem post_out (hO : Ok m) (c : Dev nD) (t : Fin (cfgM m hO).N) :
    (owns (c : Thread nD τ) (((cfgM m hO).win 3).stage ((cfgM m hO).slots t 3)) fullShare ((dats m hO 0 c).after 3 t) : sProp 𝕄)
      ⊢ (match (cfgM m hO).idle 3 ((cfgM m hO).grid.coords t) with
        | true =>
          match ((cfgM m hO).win 3).flush t with
          | false => iprop(∃ d, owns (c : Thread nD τ) (((cfgM m hO).win 3).stage ((cfgM m hO).slots t 3)) fullShare ((dats m hO 0 c).before 3 t d))
          | true => owns (c : Thread nD τ) (((cfgM m hO).win 3).stage ((cfgM m hO).slots t 3)) fullShare ((dats m hO 0 c).after 3 t)
        | false => owns (c : Thread nD τ) (((cfgM m hO).win 3).stage ((cfgM m hO).slots t 3)) fullShare ((dats m hO 0 c).after 3 t)) := by
  rw [flush_out]
  cases (cfgM m hO).idle 3 ((cfgM m hO).grid.coords t) <;> exact .rfl

theorem body_obligation (hO : Ok m) (c : Dev nD) : BodyObligation (dats (F := F) m hO 0 c) (defs₀ (F := F)) Variants.none () Set.univ := fun t => by
  rw [bigSep_W0, bigSep_W0, body_row m hO]
  refine triple_restated (sound_body m hO c t) rfl .rfl fun _ => ?_
  exact sep_mono .rfl (sep_mono .rfl (sep_mono .rfl (sep_mono .rfl (sep_mono .rfl (post_out m hO c t)))))

/-! ## The run and the frame -/

set_option backward.isDefEq.respectTransparency.types false in
theorem run_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The arguments end as they began, and the result at what the pipeline computes from the data. -/
theorem run_result (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 3,
      ((h.1 c).1 0).trans (((dats m hO 0 c).arrAt_in 0 rfl _).trans (A_eq m hO c 0)),
      (h.1 c).2 main_arg1 (by decide : main_arg1 ∈ Pipeline.restRefs sig spec0),
      (h.1 c).2 main_arg2 (by decide : main_arg2 ∈ Pipeline.restRefs sig spec0),
      ((h.1 c).1 1).trans (((dats m hO 0 c).arrAt_in 1 rfl _).trans (A_eq m hO c 1)),
      ((h.1 c).1 2).trans (((dats m hO 0 c).arrAt_in 2 rfl _).trans (A_eq m hO c 2))⟩, h.2⟩) (run_quiescent m ρ hO)

/-- The frame. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (run_result m ρ hO)

end ExpertIdealRun

end
-- ==== Proof.ExpertIdealTables.lean ====
/- The experts' call over the reals: at tables that name experts and count at least one live tile every window's block lies
   inside its array. -/
module

public import proofs.«01_k».proof.Proof.ExpertIdealFrame
public import proofs.«01_k».proof.Proof.TableFacts
public import Idealize.ShloMosaic.Lib.Pointwise

@[expose] public section

set_option maxRecDepth 16384

noncomputable section

namespace ExpertIdealRun

open Cert.ExpertIdeal Cert.ExpertIdeal.Gen
open Idealize.ShloMosaic Idealize.ShloMosaic.TcCoe Idealize.SL.Sem

variable {F : FTy → Type} [FloatOps F]
variable (m : (ℓ : Loc nD τ sig) → Buf (Elt F) ℓ)

/-- The tables' words: tile `j`'s expert, and the number of live tiles. -/
def expertWord (c : Dev nD) (j : S136.Idx) : BitVec 32 := m ((c : Thread nD τ).loc main_arg1) j
def countWord (c : Dev nD) (j : S1.Idx) : BitVec 32 := m ((c : Thread nD τ).loc main_arg2) j

/-- The word an index map reads of the first table is the tile's. -/
theorem read_expert (i : grid0.Coords) (h) : Pipeline.Prefetch.Contents.at (tbl m) 0 (Rect.unit (s := S136) ![(Scalar.indexCast (BitVec.ofNat 32 (i 0).val)).toNat] S1.size h) numel1_S1
    = expertWord m 0 (ix1 (i 0)) := by
  refine congrArg (fun j : S136.Idx => m (((0 : Dev nD) : Thread nD τ).loc main_arg1) j) (funext fun (a : Fin 1) => ?_)
  obtain rfl : a = 0 := Subsingleton.elim _ _
  have hi : (i 0).val < 136 := (i 0).isLt
  apply Fin.ext
  show (BitVec.ofNat 32 (i 0).val).toNat + 1 * _ = (i 0).val
  rw [BitVec.toNat_ofNat, Nat.mod_eq_of_lt (by omega)]
  have : ∀ x : Fin 1, (x : Nat) = 0 := fun x => by omega
  exact congrArg (fun k => (i 0).val + 1 * k) (this _)

theorem read_count (h) : Pipeline.Prefetch.Contents.at (tbl m) 1 (Rect.unit (s := S1) ![0] S1.size h) numel1_S1 = countWord m 0 (ix1 0) := by
  exact congrArg (fun j : S1.Idx => m (((0 : Dev nD) : Thread nD τ).loc main_arg2) j) (funext fun (a : Fin 1) => by obtain rfl : a = 0 := Subsingleton.elim _ _; exact Subsingleton.elim (α := Fin 1) _ _)

/-- The tile whose rows a tile reads: itself, or the last live one. -/
theorem fetched (i : grid0.Coords) (n : BitVec 32) (hn : 1 ≤ n.toInt) :
    (Scalar.minsi (BitVec.ofNat 32 (i 0).val) (Scalar.subi n 1#32)).toNat ≤ (i 0).val := by
  have hi : (i 0).val < 136 := (i 0).isLt
  exact TableFacts.min_le (i 0).val (by omega) n hn

theorem ok (hT : ∀ j, (expertWord m 0 j).toNat < 8) (hN : 1 ≤ (countWord m 0 (ix1 0)).toInt) : Ok m := by
  refine ⟨fun i => ⟨fun a => ?_, .inl rfl⟩, fun i => ⟨fun a => ?_, .inr (.inl (.inr ⟨by decide, rfl, .inl ⟨?_, ?_⟩⟩))⟩, fun i => ⟨fun a => ?_, .inr (.inl (.inr ⟨by decide, rfl, .inl ⟨?_, ?_⟩⟩))⟩⟩
  · have h := fetched i _ hN
    have hi : (i 0).val < 136 := (i 0).isLt
    rw [← read_count m inb_S1_S1_0] at h
    match a with
    | 0 => show ((Scalar.minsi _ _).toNat + 1) * 512 ≤ 69632; exact (Nat.mul_le_mul_right 512 (Nat.succ_le_succ (h.trans (Nat.le_of_lt_succ hi)))).trans (by decide)
    | 1 => show (0 + 1) * 1024 ≤ 1024; decide
  · have h := hT (ix1 (i 0))
    rw [← read_expert m i (k0_off1_inb i)] at h
    match a with
    | 0 => show (BitVec.toNat _ + 1) * 1 ≤ 8; omega
    | 1 => show (0 + 1) * 1024 ≤ 1024; decide
    | 2 => show (0 + 1) * 5632 ≤ 5632; decide
  · show 2 ∣ 0 * 1024; decide
  · show 2 ∣ 1024; decide
  · have h := hT (ix1 (i 0))
    rw [← read_expert m i (k0_off1_inb i)] at h
    match a with
    | 0 => show (BitVec.toNat _ + 1) * 1 ≤ 8; omega
    | 1 => show (0 + 1) * 2816 ≤ 2816; decide
    | 2 => show (0 + 1) * 1024 ≤ 1024; decide
  · show 2 ∣ 0 * 2816; decide
  · show 2 ∣ 2816; decide

end ExpertIdealRun

end
-- ==== Proof.ExpertBody.lean ====
/- The experts' call: what the body leaves, element by element. -/
module

public import proofs.«01_k».proof.Proof.Swiglu
public import proofs.«01_k».proof.Proof.ExpertIdealTables

@[expose] public section

set_option maxRecDepth 16384

noncomputable section

open Idealize.ShloMosaic Idealize.ShloMosaic.TcCoe Idealize.SL.Sem
open Idealize.ShloMosaic.Pipeline (Dat)
open scoped BigOperators

namespace ExpertIdealRun

open Cert.ExpertIdeal Cert.ExpertIdeal.Gen

/-- A loaded block of the gate's and up-projection's columns, of the down-projection's rows. -/
abbrev Cols := Vec Ideal S1x1024x256 .bf16
abbrev Rows := Vec Ideal S1x256x1024 .bf16

/-- What a block adds at `(r, c)`. -/
def blk (x : FVec Ideal S512x1024 .bf16) (g u : Cols) (d : Rows) (r : Fin 512) (c : Fin 1024) : EReal :=
  Layer.block (fun k => x (ix2 r k)) (fun f k => g (ix3 0 k f)) (fun f k => u (ix3 0 k f)) (fun f => d (ix3 0 f c))

set_option maxHeartbeats 1600000

theorem pay4_at (v8 : Vec Ideal S512x1024 .f32) (g0 u0 : Cols) (d0 : Rows) (g1 u1 : Cols) (d1 : Rows) (r : Fin 512) (c : Fin 1024) :
    k0_pay4 (F := Ideal) v8 g0 u0 d0 g1 u1 d1 (ix2 r c) = blk (k0_pay3 (F := Ideal) v8) g0 u0 d0 r c + blk (k0_pay3 (F := Ideal) v8) g1 u1 d1 r c := by
  pointwise [k0_pay4, k0_pay3, blk, Layer.block, Layer.silu]

theorem pay6_at (x : FVec Ideal S512x1024 .bf16) (a : FVec Ideal S512x1024 .f32) (g2 u2 : Cols) (d2 : Rows) (g3 u3 : Cols) (d3 : Rows) (r : Fin 512) (c : Fin 1024) :
    k0_pay6 (F := Ideal) x a (k0_pay5 (F := Ideal) g2) u2 d2 g3 u3 d3 (ix2 r c) = a (ix2 r c) + blk x g2 u2 d2 r c + blk x g3 u3 d3 r c := by
  pointwise [k0_pay6, k0_pay5, blk, Layer.block, Layer.silu]

theorem pay9_at (x : FVec Ideal S512x1024 .bf16) (a : FVec Ideal S512x1024 .f32) (g4 u4 : Cols) (d4 : Rows) (g5 u5 : Cols) (d5 : Rows) (r : Fin 512) (c : Fin 1024) :
    k0_pay9 (F := Ideal) x a (k0_pay7 (F := Ideal) x g4) (k0_pay8 (F := Ideal) u4) (constant S512x256 .f32 0x00000000#32) d4 g5 u5 d5 (ix2 r c)
      = a (ix2 r c) + blk x g4 u4 d4 r c + blk x g5 u5 d5 r c := by
  pointwise [k0_pay9, k0_pay7, k0_pay8, blk, Layer.block, Layer.silu]

theorem pay11_at (x : FVec Ideal S512x1024 .bf16) (a : FVec Ideal S512x1024 .f32) (g6 u6 : Cols) (d6 : Rows) (g7 u7 : Cols) (d7 : Rows) (g8 u8 : Cols) (d8 : Rows) (r : Fin 512) (c : Fin 1024) :
    k0_pay11 (F := Ideal) x a (k0_pay10 (F := Ideal) x g6 u6) d6 g7 u7 d7 g8 u8 d8 (ix2 r c)
      = a (ix2 r c) + blk x g6 u6 d6 r c + blk x g7 u7 d7 r c + blk x g8 u8 d8 r c := by
  pointwise [k0_pay11, k0_pay10, blk, Layer.block, Layer.silu]

theorem pay1_at (x : FVec Ideal S512x1024 .bf16) (a : FVec Ideal S512x1024 .f32) (g9 u9 : Cols) (d9 : Rows) (g10 u10 : Cols) (d10 : Rows) (r : Fin 512) (c : Fin 1024) :
    k0_pay1 (F := Ideal) x a g9 u9 d9 g10 u10 d10 (ix2 r c) = a (ix2 r c) + blk x g9 u9 d9 r c + blk x g10 u10 d10 r c := by
  pointwise [k0_pay1, blk, Layer.block, Layer.silu]

theorem rows_at (x0 : Vec Ideal S512x1024 .f32) (r : Fin 512) (k : Fin 1024) : rows (F := Ideal) x0 (ix2 r k) = x0 (ix2 r k) := by
  unfold rows
  rw [View.ld_unit_lit' inb_S512x1024_S512x1024_0_0 x0 (by decide)]
  pointwise [k0_pay3]

/-- A block's columns and rows, loaded from the expert's matrices. -/
theorem block_ld (xr : Fin 1024 → EReal) (x1 : Vec Ideal S1x1024x5632 .bf16) (x2 : Vec Ideal S1x2816x1024 .bf16) (c : Fin 1024)
    (o : ℕ) (ho : o + 256 ≤ 2816) (hg) (hu) (hd) :
    Layer.block xr (fun f k => View.ld x1 (Rect.unit (s := S1x1024x5632) ![0, 0, o] S1x1024x256.size hg) (ix3 0 k f))
      (fun f k => View.ld x1 (Rect.unit (s := S1x1024x5632) ![0, 0, 2816 + o] S1x1024x256.size hu) (ix3 0 k f))
      (fun f => View.ld x2 (Rect.unit (s := S1x2816x1024) ![0, o, 0] S1x256x1024.size hd) (ix3 0 f c))
      = Layer.blockAt xr (fun k f => x1 (ix3 0 k f)) (fun f => x2 (ix3 0 f c)) o ho := by
  unfold Layer.blockAt
  congr 1
  · funext f k; refine congrArg x1 (funext fun a => ?_); fin_cases a <;> apply Fin.ext
    · rfl
    · show 0 + 1 * k.val = k.val; omega
    · show o + 1 * f.val = o + f.val; omega
  · funext f k; refine congrArg x1 (funext fun a => ?_); fin_cases a <;> apply Fin.ext
    · rfl
    · show 0 + 1 * k.val = k.val; omega
    · show 2816 + o + 1 * f.val = 2816 + o + f.val; omega
  · funext f; refine congrArg x2 (funext fun a => ?_); fin_cases a <;> apply Fin.ext
    · rfl
    · show o + 1 * f.val = o + f.val; omega
    · show 0 + 1 * c.val = c.val; omega

/-- A live tile leaves the feed-forward of its rows. -/
theorem liveOut_at (x0 : Vec Ideal S512x1024 .f32) (x1 : Vec Ideal S1x1024x5632 .bf16) (x2 : Vec Ideal S1x2816x1024 .bf16) (r : Fin 512) (c : Fin 1024) :
    liveOut (F := Ideal) x0 x1 x2 (ix2 r c)
      = Layer.swiglu (fun k => x0 (ix2 r k)) (fun k f => x1 (ix3 0 k f)) (fun f => x2 (ix3 0 f c)) := by
  unfold liveOut
  rw [View.canon_cons_unit_lit' inb_S512x1024_S512x1024_0_0 _ _ (by decide)]
  rw [pay1_at]
  unfold sum9; rw [pay11_at]
  unfold sum6; rw [pay9_at]
  unfold sum4; rw [pay6_at, pay4_at, Layer.swiglu_blocks]
  have hr : (fun k => rows (F := Ideal) x0 (ix2 r k)) = fun k => x0 (ix2 r k) := funext fun k => rows_at x0 r k
  have hr' : (fun k => k0_pay3 (F := Ideal) (View.ld x0 rX) (ix2 r k)) = fun k => x0 (ix2 r k) := hr
  unfold blk
  simp only [hr, hr']
  iterate 10
    refine congrArg₂ (fun a b : EReal => a + b) ?_ ?_
    rotate_left
    · exact block_ld _ x1 x2 c _ _ _ _ _
  exact block_ld _ x1 x2 c _ _ _ _ _

/-- A tile past the live ones leaves zeros. -/
theorem deadOut_at (r : Fin 512) (c : Fin 1024) : deadOut (F := Ideal) (ix2 r c) = 0 := by
  unfold deadOut
  rw [View.canon_cons_unit_lit' inb_S512x1024_S512x1024_0_0 _ _ (by decide)]
  pointwise [k0_pay2]

end ExpertIdealRun

end
-- ==== Proof.ExpertOut.lean ====
/- The experts' call: the result array after the run. -/
module

public import proofs.«01_k».proof.Proof.ExpertSpec
public import proofs.«01_k».proof.Proof.ExpertBody

@[expose] public section

set_option maxRecDepth 16384

noncomputable section

open Idealize.ShloMosaic Idealize.ShloMosaic.TcCoe Idealize.SL.Sem
open Idealize.ShloMosaic.Pipeline (Dat)
open scoped BigOperators

namespace ExpertIdealRun

open Cert.ExpertIdeal Cert.ExpertIdeal.Gen

variable (m : (ℓ : Loc nD τ sig) → Buf (Elt Ideal) ℓ) (hO : Ok m)

theorem coords_val : ∀ t : Fin grid0.N, ((grid0.coords t) 0).val = t.val := by decide +kernel

/-! ## The windows' blocks -/

theorem tr_3 : ∀ t : Fin grid0.N, cc0_transform_3 (grid0.coords t) = ![t.val, 0] := by decide +kernel

theorem tr_0 (t : Fin grid0.N) (h : (t.val : ℤ) < (countWord m 0 (ix1 0)).toInt) :
    cc0_transform_0 inb_S1_S1_0 numel1_S1 (tbl m) (grid0.coords t) = ![t.val, 0] := by
  show ![(Scalar.minsi (BitVec.ofNat 32 ((grid0.coords t) 0).val) (Scalar.subi (Pipeline.Prefetch.Contents.at (tbl m) 1 (Rect.unit (s := S1) ![0] S1.size inb_S1_S1_0) numel1_S1) 1#32)).toNat, 0] = _
  rw [read_count m, coords_val, TableFacts.min_eq _ t.isLt _ h]

theorem at_coords (t : Fin grid0.N) : expertWord m 0 (ix1 ((grid0.coords t) 0)) = expertWord m 0 (ix1 ⟨t.val, t.isLt⟩) :=
  congrArg (fun k : Fin 136 => expertWord m 0 (ix1 k)) (Fin.ext (coords_val t))

theorem tr_1 (t : Fin grid0.N) : cc0_transform_1 k0_off1_inb numel1_S1 (tbl m) (grid0.coords t) = ![(expertWord m 0 (ix1 ⟨t.val, t.isLt⟩)).toNat, 0, 0] := by
  rw [← at_coords, ← read_expert m _ (k0_off1_inb _)]; rfl

theorem tr_2 (t : Fin grid0.N) : cc0_transform_2 k0_off1_inb numel1_S1 (tbl m) (grid0.coords t) = ![(expertWord m 0 (ix1 ⟨t.val, t.isLt⟩)).toNat, 0, 0] := by
  rw [← at_coords, ← read_expert m _ (k0_off1_inb _)]; rfl

/-- The output's blocks, one of 512 rows for each tile, cover the array. -/
theorem covers_3 : ((cfgM m hO).win 3).Covers := by
  have nblk_0 : ((cfgM m hO).win 3).nblk (0 : Fin 2) = 136 := by
    show (S69632x1024.size 0 + S512x1024.size 0 - 1) / S512x1024.size 0 = 136; decide
  have nblk_1 : ((cfgM m hO).win 3).nblk (1 : Fin 2) = 1 := by
    show (S69632x1024.size 1 + S512x1024.size 1 - 1) / S512x1024.size 1 = 1; decide
  refine ⟨(by decide : ∀ a : Fin 2, 0 < S512x1024.size a), fun β => ⟨⟨(β (0 : Fin 2)).val, Nat.lt_of_lt_of_eq (β (0 : Fin 2)).isLt nblk_0⟩, flush_out _ _, fun (a : Fin 2) => ⟨?_, .inl rfl⟩⟩⟩
  show cc0_transform_3 (grid0.coords _) a = _
  rw [tr_3]
  fin_cases a
  · rfl
  · have h : (β (1 : Fin 2)).val < 1 := Nat.lt_of_lt_of_eq (β (1 : Fin 2)).isLt nblk_1
    show 0 = (β (1 : Fin 2)).val
    omega

/-- A tile is live when it comes before the number of live tiles. -/
theorem live_iff (c : Dev nD) (t : Fin grid0.N) : Live m c (grid0.coords t) ↔ (t.val : ℤ) < (countWord m 0 (ix1 0)).toInt := by
  have e : liveWord (F := Ideal) (c := c) (tbl m 1) = countWord m 0 (ix1 0) :=
    congrArg (fun j : S1.Idx => m (((0 : Dev nD) : Thread nD τ).loc main_arg2) j) (funext fun (a : Fin 1) => by
      obtain rfl : a = 0 := Subsingleton.elim _ _; exact Subsingleton.elim (α := Fin 1) _ _)
  unfold Live
  rw [e]
  unfold k0_cond1
  simp only [Scalar.cmpi, Scalar.extui]
  rw [show IntOp.cmpi .slt (BitVec.ofNat 32 ((grid0.coords t) 0).val) (countWord m 0 (ix1 0))
      = BitVec.ofBool (decide ((BitVec.ofNat 32 ((grid0.coords t) 0).val).toInt < (countWord m 0 (ix1 0)).toInt)) from rfl,
    coords_val, TableFacts.toInt_small _ t.isLt]
  by_cases h : (t.val : ℤ) < (countWord m 0 (ix1 0)).toInt
  · rw [decide_eq_true h]; exact ⟨fun _ => h, fun _ => by decide⟩
  · rw [decide_eq_false h]; exact ⟨fun k => absurd k (by decide), fun k => absurd k h⟩

theorem row_lt (t : Fin grid0.N) (r : Fin 512) : t.val * 512 + r.val < 69632 := by
  have h : t.val < 136 := t.isLt
  omega

/-- A live tile's rows. -/
theorem iblk_0 (c : Dev nD) (t : Fin grid0.N) (h : (t.val : ℤ) < (countWord m 0 (ix1 0)).toInt) (r : Fin 512) (k : Fin 1024) :
    (iblk m hO c 0 t : Vec Ideal S512x1024 .f32) (ix2 r k) = m ((c : Thread nD τ).loc main_arg0) (ix2 ⟨t.val * 512 + r.val, row_lt t r⟩ k) := by
  refine congrArg (fun j : S69632x1024.Idx => m ((c : Thread nD τ).loc main_arg0) j) (funext fun (a : Fin 2) => ?_)
  fin_cases a <;> apply Fin.ext
  · show cc0_transform_0 inb_S1_S1_0 numel1_S1 (tbl m) (grid0.coords t) 0 * 512 + 1 * r.val = t.val * 512 + r.val
    rw [tr_0 m t h]; show t.val * 512 + 1 * r.val = _; omega
  · show cc0_transform_0 inb_S1_S1_0 numel1_S1 (tbl m) (grid0.coords t) 1 * 1024 + 1 * k.val = k.val
    rw [tr_0 m t h]; show 0 * 1024 + 1 * k.val = _; omega

/-- A tile's expert's matrices. -/
theorem iblk_1 (hT : ∀ j, (expertWord m 0 j).toNat < 8) (c : Dev nD) (t : Fin grid0.N) (k : Fin 1024) (f : Fin 5632) :
    (iblk m hO c 1 t : Vec Ideal S1x1024x5632 .bf16) (ix3 0 k f)
      = m ((c : Thread nD τ).loc main_arg3) (ix3 ⟨(expertWord m 0 (ix1 ⟨t.val, t.isLt⟩)).toNat, hT _⟩ k f) := by
  refine congrArg (fun j : S8x1024x5632.Idx => m ((c : Thread nD τ).loc main_arg3) j) (funext fun (a : Fin 3) => ?_)
  fin_cases a <;> apply Fin.ext
  · show cc0_transform_1 k0_off1_inb numel1_S1 (tbl m) (grid0.coords t) 0 * 1 + 1 * 0 = _
    rw [tr_1 m t]; show (expertWord m 0 (ix1 ⟨t.val, t.isLt⟩)).toNat * 1 + 1 * 0 = (expertWord m 0 (ix1 ⟨t.val, t.isLt⟩)).toNat; omega
  · show cc0_transform_1 k0_off1_inb numel1_S1 (tbl m) (grid0.coords t) 1 * 1024 + 1 * k.val = k.val
    rw [tr_1 m t]; show 0 * 1024 + 1 * k.val = _; omega
  · show cc0_transform_1 k0_off1_inb numel1_S1 (tbl m) (grid0.coords t) 2 * 5632 + 1 * f.val = f.val
    rw [tr_1 m t]; show 0 * 5632 + 1 * f.val = _; omega

theorem iblk_2 (hT : ∀ j, (expertWord m 0 j).toNat < 8) (c : Dev nD) (t : Fin grid0.N) (f : Fin 2816) (k : Fin 1024) :
    (iblk m hO c 2 t : Vec Ideal S1x2816x1024 .bf16) (ix3 0 f k)
      = m ((c : Thread nD τ).loc main_arg4) (ix3 ⟨(expertWord m 0 (ix1 ⟨t.val, t.isLt⟩)).toNat, hT _⟩ f k) := by
  refine congrArg (fun j : S8x2816x1024.Idx => m ((c : Thread nD τ).loc main_arg4) j) (funext fun (a : Fin 3) => ?_)
  fin_cases a <;> apply Fin.ext
  · show cc0_transform_2 k0_off1_inb numel1_S1 (tbl m) (grid0.coords t) 0 * 1 + 1 * 0 = _
    rw [tr_2 m t]; show (expertWord m 0 (ix1 ⟨t.val, t.isLt⟩)).toNat * 1 + 1 * 0 = (expertWord m 0 (ix1 ⟨t.val, t.isLt⟩)).toNat; omega
  · show cc0_transform_2 k0_off1_inb numel1_S1 (tbl m) (grid0.coords t) 1 * 2816 + 1 * f.val = f.val
    rw [tr_2 m t]; show 0 * 2816 + 1 * f.val = _; omega
  · show cc0_transform_2 k0_off1_inb numel1_S1 (tbl m) (grid0.coords t) 2 * 1024 + 1 * k.val = k.val
    rw [tr_2 m t]; show 0 * 1024 + 1 * k.val = _; omega

/-- Where the output's block places an element. -/
theorem emb_3 (t : Fin grid0.N) (r : Fin 512) (k : Fin 1024) :
    ((((cfgM m hO).win 3).blk t).view.emb (ix2 r k : S512x1024.Idx) : S69632x1024.Idx) = ix2 ⟨t.val * 512 + r.val, row_lt t r⟩ k := by
  refine funext fun (a : Fin 2) => ?_
  fin_cases a <;> apply Fin.ext
  · show cc0_transform_3 (grid0.coords t) 0 * 512 + 1 * r.val = t.val * 512 + r.val
    rw [tr_3 t]; show t.val * 512 + 1 * r.val = _; omega
  · show cc0_transform_3 (grid0.coords t) 1 * 1024 + 1 * k.val = k.val
    rw [tr_3 t]; show 0 * 1024 + 1 * k.val = _; omega

/-! ## The result -/

/-- What a tile leaves, at an element of its block. -/
theorem outAt_eq (hT : ∀ j, (expertWord m 0 j).toNat < 8) (c : Dev nD) (t : Fin grid0.N) (r : Fin 512) (k : Fin 1024) :
    outAt m hO c t (ix2 r k)
      = Expert.outAt (m ((c : Thread nD τ).loc main_arg0)) (m ((c : Thread nD τ).loc main_arg1)) (m ((c : Thread nD τ).loc main_arg2))
          (m ((c : Thread nD τ).loc main_arg3)) (m ((c : Thread nD τ).loc main_arg4)) ⟨t.val * 512 + r.val, row_lt t r⟩ k := by
  have hq : (t.val * 512 + r.val) / 512 = t.val := by have := r.isLt; omega
  obtain rfl : c = 0 := Subsingleton.elim _ _
  have hx : Expert.expert (m (((0 : Dev nD) : Thread nD τ).loc main_arg1)) ⟨(t.val * 512 + r.val) / 512, by have h : t.val < 136 := t.isLt; omega⟩
      = ⟨(expertWord m 0 (ix1 ⟨t.val, t.isLt⟩)).toNat, hT _⟩ := by
    apply Fin.ext
    show (expertWord m 0 (ix1 ⟨(t.val * 512 + r.val) / 512, _⟩)).toNat % 8 = _
    have e : (⟨(t.val * 512 + r.val) / 512, by have h : t.val < 136 := t.isLt; omega⟩ : Fin 136) = ⟨t.val, t.isLt⟩ := Fin.ext hq
    rw [e, Nat.mod_eq_of_lt (hT _)]
  unfold outAt Expert.outAt
  by_cases h : (t.val : ℤ) < (countWord m 0 (ix1 0)).toInt
  · rw [if_pos ((live_iff m 0 t).mpr h), if_pos (by show (((t.val * 512 + r.val) / 512 : ℕ) : ℤ) < _; rw [hq]; exact h)]
    refine (liveOut_at _ _ _ r k).trans ?_
    simp only [hx]
    congr 1
    · exact funext fun l => iblk_0 m hO 0 t h r l
    · exact funext fun l => funext fun f => iblk_1 m hO hT 0 t l f
    · exact funext fun f => iblk_2 m hO hT 0 t f k
  · rw [if_neg (fun q => h ((live_iff m 0 t).mp q)), if_neg (by show ¬ (((t.val * 512 + r.val) / 512 : ℕ) : ℤ) < _; rw [hq]; exact h)]
    exact deadOut_at r k

theorem out_3 (hT : ∀ j, (expertWord m 0 j).toNat < 8) (c : Dev nD) : (dats m hO 0 c).arrAt 3 (cfgM m hO).N =
    Expert.out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m hO 0 c).arrAt_eq_of_covers 3 _ (covers_3 m hO) fun t hf y => ?_
  blk_simp
  rw [after_3]
  suffices h : ∀ y : S512x1024.Idx, outAt m hO c t y = Expert.out (m ((c : Thread nD τ).loc main_arg0)) (m ((c : Thread nD τ).loc main_arg1)) (m ((c : Thread nD τ).loc main_arg2))
      (m ((c : Thread nD τ).loc main_arg3)) (m ((c : Thread nD τ).loc main_arg4)) ((((cfgM m hO).win 3).blk t).view.emb y) from h y
  intro y
  idx_vars y
  refine (outAt_eq m hO hT c t y0 y1).trans ?_
  exact (congrArg (fun j : S69632x1024.Idx => Expert.out (m ((c : Thread nD τ).loc main_arg0)) (m ((c : Thread nD τ).loc main_arg1)) (m ((c : Thread nD τ).loc main_arg2))
      (m ((c : Thread nD τ).loc main_arg3)) (m ((c : Thread nD τ).loc main_arg4)) j) (emb_3 m hO t y0 y1)).symm

end ExpertIdealRun

end
-- ==== Proof.ExpertValue.lean ====
/- The experts' call: the call's result is the reference's. -/
module

public import proofs.«01_k».proof.Defs
public import proofs.«01_k».proof.Proof.ExpertRefValue
public import proofs.«01_k».proof.Proof.ExpertOut

@[expose] public section

set_option maxRecDepth 16384

noncomputable section

open Idealize.ShloMosaic Idealize.ShloMosaic.TcCoe Idealize.SL.Sem
open Idealize.ShloMosaic.Pipeline (Dat)
open scoped BigOperators

namespace Expert

section
open Cert.ExpertIdeal

variable {m : (ℓ : Loc nD τ sig) → Buf (Elt Ideal) ℓ}

/-- The precondition: every expert of the table exists. -/
theorem experts (h : Cert.Pre_ExpertIdeal m) : ∀ j, (ExpertIdealRun.expertWord m 0 j).toNat < 8 := (TableFacts.of_pre (h 0)).1

/-- The precondition gives what the run asks of the tables. -/
theorem ok_of (h : Cert.Pre_ExpertIdeal m) : ExpertIdealRun.Ok m :=
  ExpertIdealRun.ok m (experts h) ((TableFacts.of_pre (h 0)).2 (ix1 0))

end

/-- The precondition, read off the reference's own arguments. -/
theorem experts_ref {t : T} {m : (ℓ : Loc Cert.ExpertIdeal.nD Cert.ExpertIdeal.τ Cert.ExpertIdeal.sig) → Buf (Elt Ideal) ℓ} {c : Dev Cert.ExpertIdeal.nD}
    (h : Cert.Pre_ExpertIdeal m) (e : t = m ((c : Thread Cert.ExpertIdeal.nD Cert.ExpertIdeal.τ).loc Cert.ExpertIdeal.main_arg1)) : ∀ j, (t j).toNat < 8 := by
  subst e; obtain rfl : c = 0 := Subsingleton.elim _ _
  exact (TableFacts.of_pre (h 0)).1

theorem algebraic : Cert.algebraic_ExpertIdeal_ExpertRefIdeal := by
  intro m g m' g' hpre hagree
  refine ⟨fun c => (ExpertIdealRun.dats m (ok_of hpre) 0 c).arrAt 3 (ExpertIdealRun.cfgM m (ok_of hpre)).N, ?_, ?_⟩
  · exact (θ_run _ _ _).mono (fun r h c => h.1 c) (ExpertIdealRun.run_result m g (ok_of hpre))
  · refine (θ_run _ _ _).mono (fun r h c => ⟨(h c).1.trans ?_, (h c).2⟩) (Cert.ExpertRefIdeal.Value.run (F := Ideal) m' g')
    refine (Cert.ExpertRefIdeal.Read.val_main_v160_eq _).trans ?_
    refine (ref_out _ _ _ _ _ (experts_ref hpre (hagree c).2.1)).trans ?_
    refine Eq.trans ?_ (ExpertIdealRun.out_3 m (ok_of hpre) (experts hpre) c).symm
    obtain ⟨e0, e1, e2, e3, e4⟩ := hagree c
    exact congr (congr (congr (congr (congrArg out e0) e1) e2) e3) e4

end Expert

end
-- ==== Proof.FfnSpec.lean ====
/- The dense layer: what its result array holds, element by element. -/
module

public import proofs.«01_k».proof.Proof.Swiglu

@[expose] public section

set_option maxRecDepth 16384

noncomputable section

open Idealize.ShloMosaic Idealize.ShloMosaic.TcCoe Idealize.SL.Sem
open Idealize.ShloMosaic.Pipeline (Dat)
open scoped BigOperators

namespace Ffn

abbrev O := FVec Ideal ⟨2, ![32768, 512]⟩ .bf16
abbrev X := FVec Ideal ⟨2, ![32768, 1024]⟩ .f32
abbrev WO := FVec Ideal ⟨3, ![1, 1024, 1024]⟩ .f32
abbrev G := FVec Ideal ⟨2, ![1, 1024]⟩ .f32
abbrev GU := FVec Ideal ⟨3, ![1, 1024, 5632]⟩ .f32
abbrev D := FVec Ideal ⟨3, ![1, 2816, 1024]⟩ .f32

/-- One element after the attention's output projection: the two halves of the attention's row `a` and `b`,
    the row's own element `x`, the two halves of the projection's column. -/
def mid (a b : Fin 512 → EReal) (x : EReal) (top bot : Fin 512 → EReal) : EReal := x + (∑ k, a k * top k) + ∑ k, b k * bot k

/-- A row normalized, times the norm's weight. -/
def normed (h g : Fin 1024 → EReal) (k : Fin 1024) : EReal := h k * Layer.rms h * g k

/-- The row `r` after the attention's output projection. -/
def midAt (oa ob : O) (x : X) (wo : WO) (r : Fin 32768) (c : Fin 1024) : EReal :=
  mid (fun k => oa (ix2 r k)) (fun k => ob (ix2 r k)) (x (ix2 r c)) (fun k => wo (ix3 0 ⟨k.val, by omega⟩ c)) (fun k => wo (ix3 0 ⟨512 + k.val, by omega⟩ c))

/-- Element `(r, c)`: the projected row, plus the gated feed-forward of the same row normalized. -/
def outAt (oa ob : O) (x : X) (wo : WO) (g : G) (w : GU) (d : D) (r : Fin 32768) (c : Fin 1024) : EReal :=
  midAt oa ob x wo r c + Layer.swiglu (normed (midAt oa ob x wo r) (fun k => g (ix2 0 k))) (fun k f => w (ix3 0 k f)) (fun f => d (ix3 0 f c))

/-- The call's result. -/
def out (oa ob : O) (x : X) (wo : WO) (g : G) (w : GU) (d : D) : FVec Ideal ⟨2, ![32768, 1024]⟩ .f32 := fun j => outAt oa ob x wo g w d (j 0) (j 1)

end Ffn

end
-- ==== Proof.FfnBody.lean ====
/- The dense layer: what the body leaves, element by element. -/
module

public import proofs.«01_k».proof.Proof.FfnSpec
public import proofs.«01_k».proof.Proof.Gen.FfnIdeal.Value

@[expose] public section

set_option maxRecDepth 16384

noncomputable section

open Idealize.ShloMosaic Idealize.ShloMosaic.TcCoe Idealize.SL.Sem
open Idealize.ShloMosaic.Pipeline (Dat)
open scoped BigOperators

namespace Ffn

section
open Cert.FfnIdeal Cert.FfnIdeal.Gen

/-- A loaded block of the gate's and up-projection's columns, of the down-projection's rows. -/
abbrev Cols := Vec Ideal S1024x256 .bf16
abbrev Rows := Vec Ideal S256x1024 .bf16

/-- What a block adds at `(r, c)`. -/
def blk (x : FVec Ideal S512x1024 .bf16) (g u : Cols) (d : Rows) (r : Fin 512) (c : Fin 1024) : EReal :=
  Layer.block (fun k => x (ix2 r k)) (fun f k => g (ix2 k f)) (fun f k => u (ix2 k f)) (fun f => d (ix2 f c))

set_option maxHeartbeats 1600000

theorem pay1_at (x : Vec Ideal S512x1024 .f32) (a : Vec Ideal S512x512 .bf16) (top : Vec Ideal S512x1024 .bf16) (b : Vec Ideal S512x512 .bf16) (bot : Vec Ideal S512x1024 .bf16)
    (r : Fin 512) (c : Fin 1024) :
    k0_pay1 (F := Ideal) x a top b bot (ix2 r c)
      = mid (fun k => a (ix2 r k)) (fun k => b (ix2 r k)) (x (ix2 r c)) (fun k => top (ix2 k c)) (fun k => bot (ix2 k c)) := by
  pointwise [k0_pay1, mid]

theorem pay2_at (x : Vec Ideal S512x1024 .f32) (a : Vec Ideal S512x512 .bf16) (top : Vec Ideal S512x1024 .bf16) (b : Vec Ideal S512x512 .bf16) (bot : Vec Ideal S512x1024 .bf16)
    (g : Vec Ideal S1x1024 .f32) (r : Fin 512) (c : Fin 1024) :
    k0_pay2 (F := Ideal) x a top b bot g (ix2 r c)
      = normed (fun k => k0_pay1 (F := Ideal) x a top b bot (ix2 r k)) (fun k => g (ix2 0 k)) c := by
  unfold k0_pay2
  generalize k0_pay1 (F := Ideal) x a top b bot = h
  pointwise [normed, Layer.rms]

theorem pay4_at (x0 : Vec Ideal S512x1024 .f32) (a : Vec Ideal S512x512 .bf16) (top : Vec Ideal S512x1024 .bf16) (b : Vec Ideal S512x512 .bf16) (bot : Vec Ideal S512x1024 .bf16)
    (n : Vec Ideal S1x1024 .f32) (g0 u0 : Cols) (d0 : Rows) (g1 u1 : Cols) (d1 : Rows) (g2 u2 : Cols) (d2 : Rows) (r : Fin 512) (c : Fin 1024) :
    k0_pay4 (F := Ideal) (k0_pay2 (F := Ideal) x0 a top b bot n) (k0_pay3 (F := Ideal) x0 a top b bot n g0 u0) d0 g1 u1 d1 g2 u2 d2 (ix2 r c)
      = blk (k0_pay2 (F := Ideal) x0 a top b bot n) g0 u0 d0 r c + blk (k0_pay2 (F := Ideal) x0 a top b bot n) g1 u1 d1 r c
        + blk (k0_pay2 (F := Ideal) x0 a top b bot n) g2 u2 d2 r c := by
  unfold k0_pay3
  generalize k0_pay2 (F := Ideal) x0 a top b bot n = x
  pointwise [k0_pay4, blk, Layer.block, Layer.silu]

theorem pay6_at (x : FVec Ideal S512x1024 .bf16) (a : FVec Ideal S512x1024 .f32) (g3 u3 : Cols) (d3 : Rows) (g4 u4 : Cols) (d4 : Rows) (r : Fin 512) (c : Fin 1024) :
    k0_pay6 (F := Ideal) x a (k0_pay5 (F := Ideal) x g3) u3 d3 g4 u4 d4 (ix2 r c) = a (ix2 r c) + blk x g3 u3 d3 r c + blk x g4 u4 d4 r c := by
  pointwise [k0_pay6, k0_pay5, blk, Layer.block, Layer.silu]

theorem pay8_at (x : FVec Ideal S512x1024 .bf16) (a : FVec Ideal S512x1024 .f32) (g5 u5 : Cols) (d5 : Rows) (g6 u6 : Cols) (d6 : Rows) (g7 u7 : Cols) (d7 : Rows) (r : Fin 512) (c : Fin 1024) :
    k0_pay8 (F := Ideal) x a (k0_pay7 (F := Ideal) x g5 u5 d5) g6 u6 d6 g7 u7 d7 (ix2 r c)
      = a (ix2 r c) + blk x g5 u5 d5 r c + blk x g6 u6 d6 r c + blk x g7 u7 d7 r c := by
  pointwise [k0_pay8, k0_pay7, blk, Layer.block, Layer.silu]

theorem pay12_at (h : FVec Ideal S512x1024 .f32) (x : FVec Ideal S512x1024 .bf16) (a : FVec Ideal S512x1024 .f32) (g8 u8 : Cols) (d8 : Rows) (g9 u9 : Cols) (d9 : Rows) (g10 u10 : Cols) (d10 : Rows) (r : Fin 512) (c : Fin 1024) :
    k0_pay12 (F := Ideal) h x a (k0_pay9 (F := Ideal) x g8) (k0_pay10 (F := Ideal) x u8) (k0_pay11 (F := Ideal) x g8) d8 g9 u9 d9 g10 u10 d10 (ix2 r c)
      = h (ix2 r c) + (a (ix2 r c) + blk x g8 u8 d8 r c + blk x g9 u9 d9 r c + blk x g10 u10 d10 r c) := by
  pointwise [k0_pay12, k0_pay11, k0_pay10, k0_pay9, blk, Layer.block, Layer.silu]

/-- A block's columns and rows, loaded from the layer's matrices. -/
theorem block_ld (xr : Fin 1024 → EReal) (x5 : Vec Ideal S1024x5632 .bf16) (x6 : Vec Ideal S2816x1024 .bf16) (c : Fin 1024)
    (o : ℕ) (ho : o + 256 ≤ 2816) (hg) (hu) (hd) :
    Layer.block xr (fun f k => View.ld x5 (Rect.unit (s := S1024x5632) ![0, o] S1024x256.size hg) (ix2 k f))
      (fun f k => View.ld x5 (Rect.unit (s := S1024x5632) ![0, 2816 + o] S1024x256.size hu) (ix2 k f))
      (fun f => View.ld x6 (Rect.unit (s := S2816x1024) ![o, 0] S256x1024.size hd) (ix2 f c))
      = Layer.blockAt xr (fun k f => x5 (ix2 k f)) (fun f => x6 (ix2 f c)) o ho := by
  unfold Layer.blockAt
  congr 1
  · funext f k; refine congrArg x5 (funext fun a => ?_); fin_cases a <;> apply Fin.ext
    · show 0 + 1 * k.val = k.val; omega
    · show o + 1 * f.val = o + f.val; omega
  · funext f k; refine congrArg x5 (funext fun a => ?_); fin_cases a <;> apply Fin.ext
    · show 0 + 1 * k.val = k.val; omega
    · show 2816 + o + 1 * f.val = 2816 + o + f.val; omega
  · funext f; refine congrArg x6 (funext fun a => ?_); fin_cases a <;> apply Fin.ext
    · show o + 1 * f.val = o + f.val; omega
    · show 0 + 1 * c.val = c.val; omega

/-- The rows after the attention's output projection, by the blocks. -/
def midB (x0 x1 : Vec Ideal S512x512 .bf16) (x2 : Vec Ideal S512x1024 .f32) (x3 : Vec Ideal S1024x1024 .bf16) (r : Fin 512) (c : Fin 1024) : EReal :=
  mid (fun k => x0 (ix2 r k)) (fun k => x1 (ix2 r k)) (x2 (ix2 r c)) (fun k => x3 (ix2 ⟨k.val, by omega⟩ c)) (fun k => x3 (ix2 ⟨512 + k.val, by omega⟩ c))

theorem mid_ld (x0 x1 : Vec Ideal S512x512 .bf16) (x2 : Vec Ideal S512x1024 .f32) (x3 : Vec Ideal S1024x1024 .bf16) (r : Fin 512) (c : Fin 1024) :
    k0_pay1 (F := Ideal) (View.ld x2 r0_0) (View.ld x0 r0_1) (View.ld x3 r0_2) (View.ld x1 r0_1) (View.ld x3 r0_3) (ix2 r c) = midB x0 x1 x2 x3 r c := by
  rw [pay1_at, View.ld_unit_lit' inb_S512x1024_S512x1024_0_0 x2 (by decide), View.ld_unit_lit' inb_S512x512_S512x512_0_0 x0 (by decide),
    View.ld_unit_lit' inb_S512x512_S512x512_0_0 x1 (by decide)]
  unfold midB
  congr 1
  · funext k; refine congrArg x3 (funext fun a => ?_); fin_cases a <;> apply Fin.ext
    · show 0 + 1 * k.val = k.val; omega
    · show 0 + 1 * c.val = c.val; omega
  · funext k; refine congrArg x3 (funext fun a => ?_); fin_cases a <;> apply Fin.ext
    · show 512 + 1 * k.val = 512 + k.val; omega
    · show 0 + 1 * c.val = c.val; omega

/-- The normalized rows, by the blocks. -/
theorem rows_at (x0 x1 : Vec Ideal S512x512 .bf16) (x2 : Vec Ideal S512x1024 .f32) (x3 : Vec Ideal S1024x1024 .bf16) (x4 : Vec Ideal S1x1024 .f32) (x5 : Vec Ideal S1024x5632 .bf16) (x6 : Vec Ideal S2816x1024 .bf16)
    (r : Fin 512) (k : Fin 1024) : k0_pay13 (F := Ideal) x0 x1 x2 x3 x4 x5 x6 (ix2 r k) = normed (midB x0 x1 x2 x3 r) (fun l => x4 (ix2 0 l)) k := by
  unfold k0_pay13
  rw [pay2_at, View.ld_unit_lit' inb_S1x1024_S1x1024_0_0 x4 (by decide)]
  exact congrArg (fun h => normed h (fun l => x4 (ix2 0 l)) k) (funext fun l => mid_ld x0 x1 x2 x3 r l)

/-- The body leaves the projected rows plus the feed-forward of the same rows normalized. -/
theorem body_at (x0 x1 : Vec Ideal S512x512 .bf16) (x2 : Vec Ideal S512x1024 .f32) (x3 : Vec Ideal S1024x1024 .bf16) (x4 : Vec Ideal S1x1024 .f32) (x5 : Vec Ideal S1024x5632 .bf16) (x6 : Vec Ideal S2816x1024 .bf16)
    (r : Fin 512) (c : Fin 1024) :
    out0_7 (F := Ideal) x0 x1 x2 x3 x4 x5 x6 (ix2 r c)
      = midB x0 x1 x2 x3 r c + Layer.swiglu (normed (midB x0 x1 x2 x3 r) (fun l => x4 (ix2 0 l))) (fun k f => x5 (ix2 k f)) (fun f => x6 (ix2 f c)) := by
  unfold out0_7
  rw [View.canon_cons_unit_lit' inb_S512x1024_S512x1024_0_0 _ _ (by decide)]
  have hr : (fun k => k0_pay13 (F := Ideal) x0 x1 x2 x3 x4 x5 x6 (ix2 r k)) = normed (midB x0 x1 x2 x3 r) (fun l => x4 (ix2 0 l)) :=
    funext fun k => rows_at x0 x1 x2 x3 x4 x5 x6 r k
  rw [pay12_at, mid_ld, pay8_at, pay6_at]
  refine congrArg (fun y : EReal => midB x0 x1 x2 x3 r c + y) ?_
  rw [Layer.swiglu_blocks]
  have h4 := fun g0 u0 d0 g1 u1 d1 g2 u2 d2 => pay4_at (View.ld x2 r0_0) (View.ld x0 r0_1) (View.ld x3 r0_2) (View.ld x1 r0_1) (View.ld x3 r0_3) (View.ld x4 r0_4) g0 u0 d0 g1 u1 d1 g2 u2 d2 r c
  rw [show k0_pay2 (F := Ideal) (View.ld x2 r0_0) (View.ld x0 r0_1) (View.ld x3 r0_2) (View.ld x1 r0_1) (View.ld x3 r0_3) (View.ld x4 r0_4) = k0_pay13 (F := Ideal) x0 x1 x2 x3 x4 x5 x6 from rfl] at h4
  rw [h4]
  unfold blk
  simp only [hr]
  iterate 10
    refine congrArg₂ (fun a b : EReal => a + b) ?_ ?_
    rotate_left
    · exact block_ld _ x5 x6 c _ _ _ _ _
  exact block_ld _ x5 x6 c _ _ _ _ _

end

end Ffn

end
-- ==== Proof.FfnOut.lean ====
/- The dense layer: the result array after the run. -/
module

public import proofs.«01_k».proof.Proof.FfnBody

@[expose] public section

set_option maxRecDepth 16384

noncomputable section

open Idealize.ShloMosaic Idealize.ShloMosaic.TcCoe Idealize.SL.Sem
open Idealize.ShloMosaic.Pipeline (Dat)
open scoped BigOperators

namespace Ffn

section
open Cert.FfnIdeal Cert.FfnIdeal.Gen

variable (m : (ℓ : Loc nD τ sig) → Buf (Elt Ideal) ℓ)

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![t.val, 0] := (by decide +kernel : ∀ t : Fin grid0.N, _)

theorem row_lt (t : Fin cfg0.N) (r : Fin 512) : t.val * 512 + r.val < 32768 := by
  have h : t.val < 64 := t.isLt
  omega

/-! ## The windows' blocks: 512 rows of the attention's halves and of the input, the whole weights -/

theorem iblk_0 (c : Dev nD) (t : Fin cfg0.N) (r : Fin 512) (k : Fin 512) :
    (iblk m c 0 t : Vec Ideal S512x512 .bf16) (ix2 r k) = m ((c : Thread nD τ).loc main_arg0) (ix2 ⟨t.val * 512 + r.val, row_lt t r⟩ k) := by
  refine Eq.trans ?_ (congrFun (V_main_arg0 m c) _)
  refine congrArg (fun j : S32768x512.Idx => V m c main_arg0 j) (funext fun (a : Fin 2) => ?_)
  fin_cases a <;> apply Fin.ext
  · show win0_0.index t 0 * 512 + 1 * r.val = t.val * 512 + r.val
    rw [idx_0 t]; show t.val * 512 + 1 * r.val = _; omega
  · show win0_0.index t 1 * 512 + 1 * k.val = k.val
    rw [idx_0 t]; show 0 * 512 + 1 * k.val = _; omega

theorem iblk_1 (c : Dev nD) (t : Fin cfg0.N) (r : Fin 512) (k : Fin 512) :
    (iblk m c 1 t : Vec Ideal S512x512 .bf16) (ix2 r k) = m ((c : Thread nD τ).loc main_arg1) (ix2 ⟨t.val * 512 + r.val, row_lt t r⟩ k) := by
  refine Eq.trans ?_ (congrFun (V_main_arg1 m c) _)
  refine congrArg (fun j : S32768x512.Idx => V m c main_arg1 j) (funext fun (a : Fin 2) => ?_)
  fin_cases a <;> apply Fin.ext
  · show win0_1.index t 0 * 512 + 1 * r.val = t.val * 512 + r.val
    rw [idx_1 t]; show t.val * 512 + 1 * r.val = _; omega
  · show win0_1.index t 1 * 512 + 1 * k.val = k.val
    rw [idx_1 t]; show 0 * 512 + 1 * k.val = _; omega

theorem iblk_2 (c : Dev nD) (t : Fin cfg0.N) (r : Fin 512) (k : Fin 1024) :
    (iblk m c 2 t : Vec Ideal S512x1024 .f32) (ix2 r k) = m ((c : Thread nD τ).loc main_arg2) (ix2 ⟨t.val * 512 + r.val, row_lt t r⟩ k) := by
  refine Eq.trans ?_ (congrFun (V_main_arg2 m c) _)
  refine congrArg (fun j : S32768x1024.Idx => V m c main_arg2 j) (funext fun (a : Fin 2) => ?_)
  fin_cases a <;> apply Fin.ext
  · show win0_2.index t 0 * 512 + 1 * r.val = t.val * 512 + r.val
    rw [idx_2 t]; show t.val * 512 + 1 * r.val = _; omega
  · show win0_2.index t 1 * 1024 + 1 * k.val = k.val
    rw [idx_2 t]; show 0 * 1024 + 1 * k.val = _; omega

theorem iblk_3 (c : Dev nD) (t : Fin cfg0.N) (k : Fin 1024) (l : Fin 1024) :
    (iblk m c 3 t : Vec Ideal S1024x1024 .bf16) (ix2 k l) = m ((c : Thread nD τ).loc main_arg3) (ix3 0 k l) := by
  have h := idx_3 t
  blk_point [iblk, V, h]

theorem iblk_4 (c : Dev nD) (t : Fin cfg0.N) (k : Fin 1) (l : Fin 1024) :
    (iblk m c 4 t : Vec Ideal S1x1024 .f32) (ix2 k l) = m ((c : Thread nD τ).loc main_arg4) (ix2 k l) := by
  have h := idx_4 t
  blk_point [iblk, V, h]

theorem iblk_5 (c : Dev nD) (t : Fin cfg0.N) (k : Fin 1024) (l : Fin 5632) :
    (iblk m c 5 t : Vec Ideal S1024x5632 .bf16) (ix2 k l) = m ((c : Thread nD τ).loc main_arg5) (ix3 0 k l) := by
  have h := idx_5 t
  blk_point [iblk, V, h]

theorem iblk_6 (c : Dev nD) (t : Fin cfg0.N) (k : Fin 2816) (l : Fin 1024) :
    (iblk m c 6 t : Vec Ideal S2816x1024 .bf16) (ix2 k l) = m ((c : Thread nD τ).loc main_arg6) (ix3 0 k l) := by
  have h := idx_6 t
  blk_point [iblk, V, h]

/-- Where the output's block places an element. -/
theorem emb_7 (t : Fin cfg0.N) (r : Fin 512) (k : Fin 1024) :
    (((cfg0.win 7).blk t).view.emb (ix2 r k : S512x1024.Idx) : S32768x1024.Idx) = ix2 ⟨t.val * 512 + r.val, row_lt t r⟩ k := by
  refine funext fun (a : Fin 2) => ?_
  fin_cases a <;> apply Fin.ext
  · show win0_7.index t 0 * 512 + 1 * r.val = t.val * 512 + r.val
    rw [idx_7 t]; show t.val * 512 + 1 * r.val = _; omega
  · show win0_7.index t 1 * 1024 + 1 * k.val = k.val
    rw [idx_7 t]; show 0 * 1024 + 1 * k.val = _; omega

/-! ## The result -/

theorem midB_eq (c : Dev nD) (t : Fin cfg0.N) (r : Fin 512) :
    midB (iblk m c 0 t) (iblk m c 1 t) (iblk m c 2 t) (iblk m c 3 t) r
      = midAt (m ((c : Thread nD τ).loc main_arg0)) (m ((c : Thread nD τ).loc main_arg1)) (m ((c : Thread nD τ).loc main_arg2)) (m ((c : Thread nD τ).loc main_arg3)) ⟨t.val * 512 + r.val, row_lt t r⟩ := by
  funext k
  unfold midB midAt
  congr 1
  · exact funext fun l => iblk_0 m c t r l
  · exact funext fun l => iblk_1 m c t r l
  · exact iblk_2 m c t r k
  · exact funext fun l => iblk_3 m c t _ k
  · exact funext fun l => iblk_3 m c t _ k

theorem block_eq (c : Dev nD) (t : Fin cfg0.N) (r : Fin 512) (k : Fin 1024) :
    out0_7 (iblk m c 0 t) (iblk m c 1 t) (iblk m c 2 t) (iblk m c 3 t) (iblk m c 4 t) (iblk m c 5 t) (iblk m c 6 t) (ix2 r k)
      = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val * 512 + r.val, row_lt t r⟩ k := by
  refine (body_at _ _ _ _ _ _ _ r k).trans ?_
  unfold outAt
  rw [midB_eq]
  congr 2
  · congr 1
    exact funext fun l => iblk_4 m c t 0 l
  · exact funext fun l => funext fun f => iblk_5 m c t l f
  · exact funext fun f => iblk_6 m c t f k

theorem out_7 (c : Dev nD) : (dats m 0 c).arrAt 7 (cfgs 0).N =
    out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  suffices h : ∀ y : S512x1024.Idx, out0_7 (iblk m c 0 t) (iblk m c 1 t) (iblk m c 2 t) (iblk m c 3 t) (iblk m c 4 t) (iblk m c 5 t) (iblk m c 6 t) y
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) from h y
  intro y
  idx_vars y
  refine (block_eq m c t y0 y1).trans ?_
  exact (congrArg (fun j : S32768x1024.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j) (emb_7 t y0 y1)).symm

end

end Ffn

end
-- ==== Proof.FfnRefValue.lean ====
/- The dense layer: what the reference computes, element by element. -/
module

public import proofs.«01_k».proof.Proof.FfnSpec
public import proofs.«01_k».proof.Proof.Gen.FfnRefIdeal.Read

@[expose] public section

set_option maxRecDepth 16384

noncomputable section

open Idealize.ShloMosaic Idealize.ShloMosaic.TcCoe Idealize.SL.Sem
open Idealize.ShloMosaic.Pipeline (Dat)
open scoped BigOperators

namespace Ffn

section
open Cert.FfnRefIdeal Cert.FfnRefIdeal.Read

theorem ref_mid (oa ob : O) (x : X) (wo : WO) (r : Fin 32768) (c : Fin 1024) :
    val_main_v4 (F := Ideal) oa ob x wo (ix2 r c) = midAt oa ob x wo r c := by
  have e : val_main_v4 (F := Ideal) oa ob x wo (ix2 r c)
      = x (ix2 r c) + ∑ k : Fin 1024, (if h : k.val < 512 then oa (ix2 r ⟨k.val, h⟩) else ob (ix2 r ⟨k.val - 512, by omega⟩)) * wo (ix3 0 k c) := by
    pointwise [val_main_v0, val_main_v1, val_main_v2, val_main_v3, val_main_v4]
  have split : ∀ f : Fin 1024 → EReal, ∑ k, f k = (∑ k : Fin 512, f ⟨k.val, by omega⟩) + ∑ k : Fin 512, f ⟨512 + k.val, by omega⟩ := fun f =>
    Fin.sum_univ_add (a := 512) (b := 512) f
  rw [e, split, ← add_assoc]
  unfold midAt mid
  refine congrArg₂ (fun a b : EReal => a + b) (congrArg (fun a : EReal => x (ix2 r c) + a) (Finset.sum_congr rfl fun k _ => ?_)) (Finset.sum_congr rfl fun k _ => ?_)
  · rw [dif_pos (show (⟨k.val, by omega⟩ : Fin 1024).val < 512 from k.isLt)]
  · have h : ¬ 512 + k.val < 512 := by omega
    have h' : (⟨512 + k.val - 512, by omega⟩ : Fin 512) = k := Fin.ext (by show 512 + k.val - 512 = k.val; omega)
    simp only [h, dif_neg, not_false_eq_true, h']

theorem ref_norm (oa ob : O) (x : X) (wo : WO) (g : G) (r : Fin 32768) (k : Fin 1024) :
    val_main_v18 (F := Ideal) oa ob x wo g (ix2 r k) = normed (midAt oa ob x wo r) (fun l => g (ix2 0 l)) k := by
  pointwise [val_main_v5, val_main_v6, val_main_v7, val_main_v8, val_main_v9, val_main_v10, val_main_v11, val_main_v12, val_main_v13, val_main_v14, val_main_v15, val_main_v16, val_main_v17, val_main_v18, val_main_cst, val_main_cst_0, val_main_cst_1, ref_mid, normed, Layer.rms]

theorem ref_out (oa ob : O) (x : X) (wo : WO) (g : G) (w : GU) (d : D) :
    val_main_v27 (F := Ideal) oa ob x wo g w d = out oa ob x wo g w d := by
  funext j; idx_vars j
  pointwise [val_main_v27, val_main_v26, val_main_v25, val_main_v24, val_main_call0_v0, val_main_call0_v1, val_main_call0_cst, val_main_call0_v2, val_main_call0_v3, val_main_call0_cst_0, val_main_call0_v4, val_main_call0_v5, val_main_v23, val_main_v22, val_main_v21, val_main_v20, val_main_v19, ref_norm, ref_mid]
  rfl

end

end Ffn

end
-- ==== Proof.FfnValue.lean ====
/- The dense layer: the kernel and the reference leave the same result. -/
module

public import proofs.«01_k».proof.Proof.FfnOut
public import proofs.«01_k».proof.Proof.FfnRefValue
public import proofs.«01_k».proof.Proof.Gen.FfnRefIdeal.Run
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Ffn

theorem algebraic : Cert.algebraic_FfnIdeal_FfnRefIdeal := by
  intro m g m' g' hpre hagree
  refine ⟨fun c => (Cert.FfnIdeal.Gen.dats m 0 c).arrAt 7 (Cert.FfnIdeal.cfgs 0).N, ?_, ?_⟩
  · exact (θ_run _ _ _).mono (fun r h c => h c) (Cert.FfnIdeal.Value.run_blocks m g)
  · refine (θ_run _ _ _).mono (fun r h c => ⟨(h c).1.trans ?_, (h c).2⟩) (Cert.FfnRefIdeal.Value.run (F := Ideal) m' g')
    refine (Cert.FfnRefIdeal.Read.val_main_v27_eq _ _).trans ?_
    refine (ref_out _ _ _ _ _ _ _).trans ?_
    refine Eq.trans ?_ (out_7 m c).symm
    obtain ⟨e0, e1, e2, e3, e4, e5, e6⟩ := hagree c
    exact congr (congr (congr (congr (congr (congr (congrArg out e0) e1) e2) e3) e4) e5) e6

end Ffn

end
-- ==== Proof.QkvSpec.lean ====
/- The prompt's projection: what its result arrays hold, element by element. -/
module

public import proofs.«01_k».proof.Proof.Layer

@[expose] public section

set_option maxRecDepth 16384

noncomputable section

open Idealize.ShloMosaic Idealize.ShloMosaic.TcCoe Idealize.SL.Sem
open Idealize.ShloMosaic.Pipeline (Dat)
open scoped BigOperators

namespace Qkv

abbrev X := FVec Ideal ⟨3, ![2, 16384, 1024]⟩ .f32
abbrev G := FVec Ideal ⟨2, ![1, 1024]⟩ .f32
abbrev W := FVec Ideal ⟨3, ![1, 1024, 3072]⟩ .f32

/-- Row `r` (batch `r / 16384`, position `r % 16384`), column `c` of the projection. -/
def at_ (x : X) (g : G) (w : W) (r : Fin 32768) (c : Fin 3072) : EReal :=
  Layer.proj (fun k => x (ix3 ⟨r / 16384, by omega⟩ ⟨r % 16384, by omega⟩ k)) (fun k => g (ix2 0 k)) (fun k => w (ix3 0 k c))

/-- Element `(r, c)` of the 512-wide group of columns that begins at column `o`. -/
def groupAt (o : ℕ) (ho : o + 512 ≤ 3072) (x : X) (g : G) (w : W) (r : Fin 32768) (c : Fin 512) : EReal :=
  at_ x g w r ⟨o + c, by omega⟩

/-- A 512-wide group of columns. -/
def group (o : ℕ) (ho : o + 512 ≤ 3072) (x : X) (g : G) (w : W) : FVec Ideal ⟨2, ![32768, 512]⟩ .f32 :=
  fun j => groupAt o ho x g w (j 0) (j 1)

/-- Element `(r, c)` of all the columns, the queries in their unit. -/
def packAt (x : X) (g : G) (w : W) (r : Fin 32768) (c : Fin 3072) : EReal := Layer.packed c (at_ x g w r c)

/-- All the columns, the queries in their unit. -/
def pack (x : X) (g : G) (w : W) : FVec Ideal ⟨2, ![32768, 3072]⟩ .bf16 := fun j => packAt x g w (j 0) (j 1)

/-- The values of both attentions, transposed: row `c` of batch `b` is column `c` of `v_A | v_B`. -/
def vtAt (x : X) (g : G) (w : W) (b : Fin 2) (c : Fin 1024) (s : Fin 16384) : EReal :=
  Layer.proj (fun k => x (ix3 b s k)) (fun k => g (ix2 0 k))
    (fun k => w (ix3 0 k ⟨if (c : ℕ) < 512 then 1024 + c else 2048 + c, by split_ifs <;> omega⟩))

/-- The values of both attentions, transposed. -/
def vt (x : X) (g : G) (w : W) : FVec Ideal ⟨3, ![2, 1024, 16384]⟩ .bf16 := fun j => vtAt x g w (j 0) (j 1) (j 2)

end Qkv

end
-- ==== Proof.QkvBody.lean ====
/- The prompt's projection: what the body leaves, element by element. -/
module

public import proofs.«01_k».proof.Proof.QkvSpec
public import proofs.«01_k».proof.Proof.Gen.QkvIdeal.Frame

@[expose] public section

set_option maxRecDepth 16384

noncomputable section

open Idealize.ShloMosaic Idealize.ShloMosaic.TcCoe Idealize.SL.Sem
open Idealize.ShloMosaic.Pipeline (Dat)
open scoped BigOperators

namespace Qkv

section
open Cert.QkvIdeal Cert.QkvIdeal.Gen

/-- A loaded group of the weight's columns. -/
abbrev Cols := Vec Ideal S1024x512 .bf16

set_option maxHeartbeats 1600000

theorem pay4_at (x : Vec Ideal S512x1024 .f32) (g : Vec Ideal S1x1024 .f32) (w : Cols) (r c : Fin 512) :
    k0_pay4 (F := Ideal) x g w (ix2 r c) = Layer.proj (fun k => x (ix2 r k)) (fun k => g (ix2 0 k)) (fun k => w (ix2 k c)) := by
  pointwise [k0_pay4, k0_pay2, Layer.proj, Layer.rms]

theorem pay26_at (x : Vec Ideal S512x1024 .f32) (g : Vec Ideal S1x1024 .f32) (w : Cols) (r c : Fin 512) :
    k0_pay26 (F := Ideal) (k0_pay2 (F := Ideal) x g) w (ix2 r c) = Layer.proj (fun k => x (ix2 r k)) (fun k => g (ix2 0 k)) (fun k => w (ix2 k c)) := by
  pointwise [k0_pay26, k0_pay2, Layer.proj, Layer.rms]

theorem pay30_at (x : Vec Ideal S512x1024 .f32) (g : Vec Ideal S1x1024 .f32) (w : Cols) (r c : Fin 512) :
    k0_pay30 (F := Ideal) (k0_pay2 (F := Ideal) x g) w (ix2 r c) = Layer.proj (fun k => x (ix2 r k)) (fun k => g (ix2 0 k)) (fun k => w (ix2 k c)) := by
  pointwise [k0_pay30, k0_pay2, Layer.proj, Layer.rms]

theorem pay32_at (x : Vec Ideal S512x1024 .f32) (g : Vec Ideal S1x1024 .f32) (w : Cols) (r c : Fin 512) :
    k0_pay32 (F := Ideal) (k0_pay2 (F := Ideal) x g) w (ix2 r c) = Layer.proj (fun k => x (ix2 r k)) (fun k => g (ix2 0 k)) (fun k => w (ix2 k c)) := by
  pointwise [k0_pay32, k0_pay2, Layer.proj, Layer.rms]

/-- The named constant of the queries is their unit. -/
theorem named_unit : Named.named (F := Ideal) (φ := .f32) κ "q_unit" 0x3E38AA3B#32 = Layer.unit := rfl

theorem pay3_at (x : Vec Ideal S512x1024 .f32) (g : Vec Ideal S1x1024 .f32) (w : Cols) (r c : Fin 512) :
    k0_pay3 (F := Ideal) x g w (ix2 r c) = Layer.proj (fun k => x (ix2 r k)) (fun k => g (ix2 0 k)) (fun k => w (ix2 k c)) * Layer.unit := by
  pointwise [k0_pay3, k0_pay2, Layer.proj, Layer.rms]
  rw [named_unit]

theorem pay29_at (x : Vec Ideal S512x1024 .f32) (g : Vec Ideal S1x1024 .f32) (w : Cols) (r c : Fin 512) :
    k0_pay29 (F := Ideal) (k0_pay2 (F := Ideal) x g) w (ix2 r c) = Layer.proj (fun k => x (ix2 r k)) (fun k => g (ix2 0 k)) (fun k => w (ix2 k c)) * Layer.unit := by
  pointwise [k0_pay29, k0_pay2, Layer.proj, Layer.rms]
  rw [named_unit]

/-- One element of the block's projection. -/
def projB (x0 : Vec Ideal S512x1024 .f32) (x1 : Vec Ideal S1x1024 .f32) (x2 : Vec Ideal S1024x3072 .bf16) (r : Fin 512) (c : Fin 3072) : EReal :=
  Layer.proj (fun k => x0 (ix2 r k)) (fun k => x1 (ix2 0 k)) (fun k => x2 (ix2 k c))

/-- A group of columns, loaded. -/
theorem col_ld (x2 : Vec Ideal S1024x3072 .bf16) (o : ℕ) (ho : o + 512 ≤ 3072) (h) (k : Fin 1024) (c : Fin 512) :
    View.ld x2 (Rect.unit (s := S1024x3072) ![0, o] S1024x512.size h) (ix2 k c) = x2 (ix2 k ⟨o + c.val, by omega⟩) := by
  refine congrArg x2 (funext fun a => ?_); fin_cases a <;> apply Fin.ext
  · show 0 + 1 * k.val = k.val; omega
  · show o + 1 * c.val = o + c.val; omega

theorem load_4 (i : grid0.Coords) (x0 : Vec Ideal S512x1024 .f32) (x1 : Vec Ideal S1x1024 .f32) (x2 : Vec Ideal S1024x3072 .bf16) (r c : Fin 512) :
    k0_pay4 (F := Ideal) (View.ld x0 r0_0) (View.ld x1 r0_1) (View.ld x2 r0_4) (ix2 r c) = projB x0 x1 x2 r ⟨512 + c.val, by omega⟩ := by
  rw [pay4_at, View.ld_unit_lit' inb_S512x1024_S512x1024_0_0 x0 (by decide), View.ld_unit_lit' inb_S1x1024_S1x1024_0_0 x1 (by decide)]
  exact congrArg (Layer.proj _ _) (funext fun k => col_ld x2 512 (by omega) _ k c)

theorem body_4 (i : grid0.Coords) (x0 : Vec Ideal S512x1024 .f32) (x1 : Vec Ideal S1x1024 .f32) (x2 : Vec Ideal S1024x3072 .bf16) (r c : Fin 512) :
    out0_4 (F := Ideal) i x0 x1 x2 (ix2 r c) = projB x0 x1 x2 r ⟨512 + c.val, by omega⟩ := by
  unfold out0_4
  rw [View.canon_cons_unit_lit' inb_S512x512_S512x512_0_0 _ _ (by decide)]
  exact load_4 i  x0 x1 x2 r c

theorem load_26 (i : grid0.Coords) (x0 : Vec Ideal S512x1024 .f32) (x1 : Vec Ideal S1x1024 .f32) (x2 : Vec Ideal S1024x3072 .bf16) (r c : Fin 512) :
    k0_pay26 (F := Ideal) (k0_pay35 (F := Ideal) i x0 x1 x2) (View.ld x2 r0_15) (ix2 r c) = projB x0 x1 x2 r ⟨1024 + c.val, by omega⟩ := by
  unfold k0_pay35
  rw [pay26_at, View.ld_unit_lit' inb_S512x1024_S512x1024_0_0 x0 (by decide), View.ld_unit_lit' inb_S1x1024_S1x1024_0_0 x1 (by decide)]
  exact congrArg (Layer.proj _ _) (funext fun k => col_ld x2 1024 (by omega) _ k c)

theorem body_5 (i : grid0.Coords) (x0 : Vec Ideal S512x1024 .f32) (x1 : Vec Ideal S1x1024 .f32) (x2 : Vec Ideal S1024x3072 .bf16) (r c : Fin 512) :
    out0_5 (F := Ideal) i x0 x1 x2 (ix2 r c) = projB x0 x1 x2 r ⟨1024 + c.val, by omega⟩ := by
  unfold out0_5
  rw [View.canon_cons_unit_lit' inb_S512x512_S512x512_0_0 _ _ (by decide)]
  exact load_26 i  x0 x1 x2 r c

theorem load_30 (i : grid0.Coords) (x0 : Vec Ideal S512x1024 .f32) (x1 : Vec Ideal S1x1024 .f32) (x2 : Vec Ideal S1024x3072 .bf16) (r c : Fin 512) :
    k0_pay30 (F := Ideal) (k0_pay35 (F := Ideal) i x0 x1 x2) (View.ld x2 r0_20) (ix2 r c) = projB x0 x1 x2 r ⟨2048 + c.val, by omega⟩ := by
  unfold k0_pay35
  rw [pay30_at, View.ld_unit_lit' inb_S512x1024_S512x1024_0_0 x0 (by decide), View.ld_unit_lit' inb_S1x1024_S1x1024_0_0 x1 (by decide)]
  exact congrArg (Layer.proj _ _) (funext fun k => col_ld x2 2048 (by omega) _ k c)

theorem body_6 (i : grid0.Coords) (x0 : Vec Ideal S512x1024 .f32) (x1 : Vec Ideal S1x1024 .f32) (x2 : Vec Ideal S1024x3072 .bf16) (r c : Fin 512) :
    out0_6 (F := Ideal) i x0 x1 x2 (ix2 r c) = projB x0 x1 x2 r ⟨2048 + c.val, by omega⟩ := by
  unfold out0_6
  rw [View.canon_cons_unit_lit' inb_S512x512_S512x512_0_0 _ _ (by decide)]
  exact load_30 i  x0 x1 x2 r c

theorem load_32 (i : grid0.Coords) (x0 : Vec Ideal S512x1024 .f32) (x1 : Vec Ideal S1x1024 .f32) (x2 : Vec Ideal S1024x3072 .bf16) (r c : Fin 512) :
    k0_pay32 (F := Ideal) (k0_pay35 (F := Ideal) i x0 x1 x2) (View.ld x2 r0_22) (ix2 r c) = projB x0 x1 x2 r ⟨2560 + c.val, by omega⟩ := by
  unfold k0_pay35
  rw [pay32_at, View.ld_unit_lit' inb_S512x1024_S512x1024_0_0 x0 (by decide), View.ld_unit_lit' inb_S1x1024_S1x1024_0_0 x1 (by decide)]
  exact congrArg (Layer.proj _ _) (funext fun k => col_ld x2 2560 (by omega) _ k c)

theorem body_7 (i : grid0.Coords) (x0 : Vec Ideal S512x1024 .f32) (x1 : Vec Ideal S1x1024 .f32) (x2 : Vec Ideal S1024x3072 .bf16) (r c : Fin 512) :
    out0_7 (F := Ideal) i x0 x1 x2 (ix2 r c) = projB x0 x1 x2 r ⟨2560 + c.val, by omega⟩ := by
  unfold out0_7
  rw [View.canon_cons_unit_lit' inb_S512x512_S512x512_0_0 _ _ (by decide)]
  exact load_32 i  x0 x1 x2 r c

theorem load_29 (i : grid0.Coords) (x0 : Vec Ideal S512x1024 .f32) (x1 : Vec Ideal S1x1024 .f32) (x2 : Vec Ideal S1024x3072 .bf16) (r c : Fin 512) :
    k0_pay29 (F := Ideal) (k0_pay35 (F := Ideal) i x0 x1 x2) (View.ld x2 r0_18) (ix2 r c) = projB x0 x1 x2 r ⟨1536 + c.val, by omega⟩ * Layer.unit := by
  unfold k0_pay35
  rw [pay29_at, View.ld_unit_lit' inb_S512x1024_S512x1024_0_0 x0 (by decide), View.ld_unit_lit' inb_S1x1024_S1x1024_0_0 x1 (by decide)]
  exact congrArg (fun v => Layer.proj _ _ v * Layer.unit) (funext fun k => col_ld x2 1536 (by omega) _ k c)

theorem load_3 (i : grid0.Coords) (x0 : Vec Ideal S512x1024 .f32) (x1 : Vec Ideal S1x1024 .f32) (x2 : Vec Ideal S1024x3072 .bf16) (r c : Fin 512) :
    k0_pay3 (F := Ideal) (View.ld x0 r0_0) (View.ld x1 r0_1) (View.ld x2 r0_2) (ix2 r c) = projB x0 x1 x2 r ⟨0 + c.val, by omega⟩ * Layer.unit := by
  rw [pay3_at, View.ld_unit_lit' inb_S512x1024_S512x1024_0_0 x0 (by decide), View.ld_unit_lit' inb_S1x1024_S1x1024_0_0 x1 (by decide)]
  exact congrArg (fun v => Layer.proj _ _ v * Layer.unit) (funext fun k => col_ld x2 0 (by omega) _ k c)

/-- A group of columns, stored in its place: `u` what its elements carry. -/
theorem piece (P : S512x512.Idx → EReal) (o : ℕ) (ho : o + 512 ≤ 3072) (u : EReal → EReal) (hu : ∀ c : Fin 512, ∀ v, Layer.packed (o + c.val) v = u v)
    (x0 : Vec Ideal S512x1024 .f32) (x1 : Vec Ideal S1x1024 .f32) (x2 : Vec Ideal S1024x3072 .bf16) (x : S512x512.Idx) (y : S512x3072.Idx)
    (h0 : (y 0).val = (x 0).val) (h1 : (y 1).val = o + (x 1).val) (hP : ∀ r c : Fin 512, P (ix2 r c) = u (projB x0 x1 x2 r ⟨o + c.val, by omega⟩)) :
    P x = Layer.packed (y 1).val (projB x0 x1 x2 (y 0) (y 1)) := by
  have ex : x = ix2 (x 0) (x 1) := funext fun (a : Fin 2) => by fin_cases a <;> rfl
  have e0 : y 0 = x 0 := Fin.ext h0
  have e1 : y 1 = (⟨o + (x 1).val, by have h : (x 1).val < 512 := (x 1).isLt; omega⟩ : Fin 3072) := Fin.ext h1
  rw [e0, e1]
  exact ((congrArg P ex).trans (hP _ _)).trans (hu _ _).symm

theorem plain (o : ℕ) (ho : o = 512 ∨ o = 1024 ∨ o = 2048 ∨ o = 2560) (c : Fin 512) (v : EReal) : Layer.packed (o + c.val) v = v := by
  unfold Layer.packed; rw [if_neg (by omega)]

theorem scaled (o : ℕ) (ho : o = 0 ∨ o = 1536) (c : Fin 512) (v : EReal) : Layer.packed (o + c.val) v = v * Layer.unit := by
  unfold Layer.packed; rw [if_pos (by omega)]

theorem body_3 (i : grid0.Coords) (x0 : Vec Ideal S512x1024 .f32) (x1 : Vec Ideal S1x1024 .f32) (x2 : Vec Ideal S1024x3072 .bf16) (y : S512x3072.Idx) :
    out0_3 (F := Ideal) i x0 x1 x2 y = Layer.packed (y 1).val (projB x0 x1 x2 (y 0) (y 1)) := by
  unfold out0_3
  canon_tiles x h
  · exact piece _ 2560 (by omega) (fun v => v) (plain 2560 (by omega)) x0 x1 x2 x y (by omega) (by omega) (fun r c => load_32 i x0 x1 x2 r c)
  · exact piece _ 2048 (by omega) (fun v => v) (plain 2048 (by omega)) x0 x1 x2 x y (by omega) (by omega) (fun r c => load_30 i x0 x1 x2 r c)
  · exact piece _ 1536 (by omega) (· * Layer.unit) (scaled 1536 (by omega)) x0 x1 x2 x y (by omega) (by omega) (fun r c => load_29 i x0 x1 x2 r c)
  · exact piece _ 1024 (by omega) (fun v => v) (plain 1024 (by omega)) x0 x1 x2 x y (by omega) (by omega) (fun r c => load_26 i x0 x1 x2 r c)
  · exact piece _ 512 (by omega) (fun v => v) (plain 512 (by omega)) x0 x1 x2 x y (by omega) (by omega) (fun r c => load_4 i x0 x1 x2 r c)
  · exact piece _ 0 (by omega) (· * Layer.unit) (scaled 0 (by omega)) x0 x1 x2 x y (by omega) (by omega) (fun r c => load_3 i x0 x1 x2 r c)

end

end Qkv

end
-- ==== Proof.QkvOut.lean ====
/- The prompt's projection: the arrays of keys, values and packed columns after the run. -/
module

public import proofs.«01_k».proof.Proof.QkvBody

@[expose] public section

set_option maxRecDepth 16384

noncomputable section

open Idealize.ShloMosaic Idealize.ShloMosaic.TcCoe Idealize.SL.Sem
open Idealize.ShloMosaic.Pipeline (Dat)
open scoped BigOperators

namespace Qkv

section
open Cert.QkvIdeal Cert.QkvIdeal.Gen

variable (m : (ℓ : Loc nD τ sig) → Buf (Elt Ideal) ℓ)

theorem row_lt (t : Fin cfg0.N) (r : Fin 512) : t.val * 512 + r.val < 32768 := by
  have h : t.val < 64 := t.isLt
  omega

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![t.val, 0] := (by decide +kernel : ∀ t : Fin grid0.N, _)

/-! ## The windows' blocks -/

theorem iblk_0 (c : Dev nD) (t : Fin cfg0.N) (r : Fin 512) (k : Fin 1024) :
    (iblk m c 0 t : Vec Ideal S512x1024 .f32) (ix2 r k) = m ((c : Thread nD τ).loc main_arg0)
      (ix3 ⟨(t.val * 512 + r.val) / 16384, by have := row_lt t r; omega⟩ ⟨(t.val * 512 + r.val) % 16384, by omega⟩ k) := by
  have h := idx_0 t
  blk_point [iblk, V, h]

theorem iblk_1 (c : Dev nD) (t : Fin cfg0.N) (k : Fin 1024) :
    (iblk m c 1 t : Vec Ideal S1x1024 .f32) (ix2 0 k) = m ((c : Thread nD τ).loc main_arg1) (ix2 0 k) := by
  have h := idx_1 t
  blk_point [iblk, V, h]

theorem iblk_2 (c : Dev nD) (t : Fin cfg0.N) (k : Fin 1024) (l : Fin 3072) :
    (iblk m c 2 t : Vec Ideal S1024x3072 .bf16) (ix2 k l) = m ((c : Thread nD τ).loc main_arg2) (ix3 0 k l) := by
  have h := idx_2 t
  blk_point [iblk, V, h]

/-- A block's projection is the array's. -/
theorem projB_eq (c : Dev nD) (t : Fin cfg0.N) (r : Fin 512) (l : Fin 3072) :
    projB (iblk m c 0 t) (iblk m c 1 t) (iblk m c 2 t) r l = at_ (m ((c : Thread nD τ).loc main_arg0)) (m ((c : Thread nD τ).loc main_arg1)) (m ((c : Thread nD τ).loc main_arg2)) ⟨t.val * 512 + r.val, row_lt t r⟩ l := by
  unfold projB at_
  congr 1
  · exact funext fun k => iblk_0 m c t r k
  · exact funext fun k => iblk_1 m c t k
  · exact funext fun k => iblk_2 m c t k l

/-- Where the packed columns' block places an element. -/
theorem emb_3 (t : Fin cfg0.N) (r : Fin 512) (k : Fin 3072) :
    (((cfg0.win 3).blk t).view.emb (ix2 r k : S512x3072.Idx) : S32768x3072.Idx) = ix2 ⟨t.val * 512 + r.val, row_lt t r⟩ k := by
  refine funext fun (a : Fin 2) => ?_
  fin_cases a <;> apply Fin.ext
  · show win0_3.index t 0 * 512 + 1 * r.val = t.val * 512 + r.val
    rw [idx_3 t]; show t.val * 512 + 1 * r.val = _; omega
  · show win0_3.index t 1 * 3072 + 1 * k.val = k.val
    rw [idx_3 t]; show 0 * 3072 + 1 * k.val = _; omega

theorem out_3 (c : Dev nD) : (dats m 0 c).arrAt 3 (cfgs 0).N = pack (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  suffices h : ∀ y : S512x3072.Idx, out0_3 (cfg0.grid.coords t) (iblk m c 0 t) (iblk m c 1 t) (iblk m c 2 t) y
      = pack (m ((c : Thread nD τ).loc main_arg0)) (m ((c : Thread nD τ).loc main_arg1)) (m ((c : Thread nD τ).loc main_arg2)) (((cfg0.win 3).blk t).view.emb y) from h y
  intro y
  idx_vars y
  refine (body_3 _ _ _ _ _).trans ?_
  refine (congrArg (Layer.packed y1.val) (projB_eq m c t y0 y1)).trans ?_
  exact (congrArg (fun j : S32768x3072.Idx => pack (m ((c : Thread nD τ).loc main_arg0)) (m ((c : Thread nD τ).loc main_arg1)) (m ((c : Thread nD τ).loc main_arg2)) j) (emb_3 t y0 y1)).symm

theorem idx_4 : ∀ t : Fin cfg0.N, win0_4.index t = ![t.val, 0] := (by decide +kernel : ∀ t : Fin grid0.N, _)

theorem emb_4 (t : Fin cfg0.N) (r k : Fin 512) :
    (((cfg0.win 4).blk t).view.emb (ix2 r k : S512x512.Idx) : S32768x512.Idx) = ix2 ⟨t.val * 512 + r.val, row_lt t r⟩ k := by
  refine funext fun (a : Fin 2) => ?_
  fin_cases a <;> apply Fin.ext
  · show win0_4.index t 0 * 512 + 1 * r.val = t.val * 512 + r.val
    rw [idx_4 t]; show t.val * 512 + 1 * r.val = _; omega
  · show win0_4.index t 1 * 512 + 1 * k.val = k.val
    rw [idx_4 t]; show 0 * 512 + 1 * k.val = _; omega

theorem out_4 (c : Dev nD) : (dats m 0 c).arrAt 4 (cfgs 0).N = group 512 (by omega) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  suffices h : ∀ y : S512x512.Idx, out0_4 (cfg0.grid.coords t) (iblk m c 0 t) (iblk m c 1 t) (iblk m c 2 t) y
      = group 512 (by omega) (m ((c : Thread nD τ).loc main_arg0)) (m ((c : Thread nD τ).loc main_arg1)) (m ((c : Thread nD τ).loc main_arg2)) (((cfg0.win 4).blk t).view.emb y) from h y
  intro y
  idx_vars y
  refine (body_4 _ _ _ _ y0 y1).trans ?_
  refine (projB_eq m c t y0 _).trans ?_
  exact (congrArg (fun j : S32768x512.Idx => group 512 (by omega) (m ((c : Thread nD τ).loc main_arg0)) (m ((c : Thread nD τ).loc main_arg1)) (m ((c : Thread nD τ).loc main_arg2)) j) (emb_4 t y0 y1)).symm

theorem idx_5 : ∀ t : Fin cfg0.N, win0_5.index t = ![t.val, 0] := (by decide +kernel : ∀ t : Fin grid0.N, _)

theorem emb_5 (t : Fin cfg0.N) (r k : Fin 512) :
    (((cfg0.win 5).blk t).view.emb (ix2 r k : S512x512.Idx) : S32768x512.Idx) = ix2 ⟨t.val * 512 + r.val, row_lt t r⟩ k := by
  refine funext fun (a : Fin 2) => ?_
  fin_cases a <;> apply Fin.ext
  · show win0_5.index t 0 * 512 + 1 * r.val = t.val * 512 + r.val
    rw [idx_5 t]; show t.val * 512 + 1 * r.val = _; omega
  · show win0_5.index t 1 * 512 + 1 * k.val = k.val
    rw [idx_5 t]; show 0 * 512 + 1 * k.val = _; omega

theorem out_5 (c : Dev nD) : (dats m 0 c).arrAt 5 (cfgs 0).N = group 1024 (by omega) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  suffices h : ∀ y : S512x512.Idx, out0_5 (cfg0.grid.coords t) (iblk m c 0 t) (iblk m c 1 t) (iblk m c 2 t) y
      = group 1024 (by omega) (m ((c : Thread nD τ).loc main_arg0)) (m ((c : Thread nD τ).loc main_arg1)) (m ((c : Thread nD τ).loc main_arg2)) (((cfg0.win 5).blk t).view.emb y) from h y
  intro y
  idx_vars y
  refine (body_5 _ _ _ _ y0 y1).trans ?_
  refine (projB_eq m c t y0 _).trans ?_
  exact (congrArg (fun j : S32768x512.Idx => group 1024 (by omega) (m ((c : Thread nD τ).loc main_arg0)) (m ((c : Thread nD τ).loc main_arg1)) (m ((c : Thread nD τ).loc main_arg2)) j) (emb_5 t y0 y1)).symm

theorem idx_6 : ∀ t : Fin cfg0.N, win0_6.index t = ![t.val, 0] := (by decide +kernel : ∀ t : Fin grid0.N, _)

theorem emb_6 (t : Fin cfg0.N) (r k : Fin 512) :
    (((cfg0.win 6).blk t).view.emb (ix2 r k : S512x512.Idx) : S32768x512.Idx) = ix2 ⟨t.val * 512 + r.val, row_lt t r⟩ k := by
  refine funext fun (a : Fin 2) => ?_
  fin_cases a <;> apply Fin.ext
  · show win0_6.index t 0 * 512 + 1 * r.val = t.val * 512 + r.val
    rw [idx_6 t]; show t.val * 512 + 1 * r.val = _; omega
  · show win0_6.index t 1 * 512 + 1 * k.val = k.val
    rw [idx_6 t]; show 0 * 512 + 1 * k.val = _; omega

theorem out_6 (c : Dev nD) : (dats m 0 c).arrAt 6 (cfgs 0).N = group 2048 (by omega) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  suffices h : ∀ y : S512x512.Idx, out0_6 (cfg0.grid.coords t) (iblk m c 0 t) (iblk m c 1 t) (iblk m c 2 t) y
      = group 2048 (by omega) (m ((c : Thread nD τ).loc main_arg0)) (m ((c : Thread nD τ).loc main_arg1)) (m ((c : Thread nD τ).loc main_arg2)) (((cfg0.win 6).blk t).view.emb y) from h y
  intro y
  idx_vars y
  refine (body_6 _ _ _ _ y0 y1).trans ?_
  refine (projB_eq m c t y0 _).trans ?_
  exact (congrArg (fun j : S32768x512.Idx => group 2048 (by omega) (m ((c : Thread nD τ).loc main_arg0)) (m ((c : Thread nD τ).loc main_arg1)) (m ((c : Thread nD τ).loc main_arg2)) j) (emb_6 t y0 y1)).symm

theorem idx_7 : ∀ t : Fin cfg0.N, win0_7.index t = ![t.val, 0] := (by decide +kernel : ∀ t : Fin grid0.N, _)

theorem emb_7 (t : Fin cfg0.N) (r k : Fin 512) :
    (((cfg0.win 7).blk t).view.emb (ix2 r k : S512x512.Idx) : S32768x512.Idx) = ix2 ⟨t.val * 512 + r.val, row_lt t r⟩ k := by
  refine funext fun (a : Fin 2) => ?_
  fin_cases a <;> apply Fin.ext
  · show win0_7.index t 0 * 512 + 1 * r.val = t.val * 512 + r.val
    rw [idx_7 t]; show t.val * 512 + 1 * r.val = _; omega
  · show win0_7.index t 1 * 512 + 1 * k.val = k.val
    rw [idx_7 t]; show 0 * 512 + 1 * k.val = _; omega

theorem out_7 (c : Dev nD) : (dats m 0 c).arrAt 7 (cfgs 0).N = group 2560 (by omega) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  suffices h : ∀ y : S512x512.Idx, out0_7 (cfg0.grid.coords t) (iblk m c 0 t) (iblk m c 1 t) (iblk m c 2 t) y
      = group 2560 (by omega) (m ((c : Thread nD τ).loc main_arg0)) (m ((c : Thread nD τ).loc main_arg1)) (m ((c : Thread nD τ).loc main_arg2)) (((cfg0.win 7).blk t).view.emb y) from h y
  intro y
  idx_vars y
  refine (body_7 _ _ _ _ y0 y1).trans ?_
  refine (projB_eq m c t y0 _).trans ?_
  exact (congrArg (fun j : S32768x512.Idx => group 2560 (by omega) (m ((c : Thread nD τ).loc main_arg0)) (m ((c : Thread nD τ).loc main_arg1)) (m ((c : Thread nD τ).loc main_arg2)) j) (emb_7 t y0 y1)).symm

end

end Qkv

end
-- ==== Proof.QkvVt.lean ====
/- The prompt's projection: the transposed values after the run. -/
module

public import proofs.«01_k».proof.Proof.QkvOut

@[expose] public section

set_option maxRecDepth 16384

noncomputable section

open Idealize.ShloMosaic Idealize.ShloMosaic.TcCoe Idealize.SL.Sem
open Idealize.ShloMosaic.Pipeline (Dat)
open scoped BigOperators

namespace Qkv

section
open Cert.QkvIdeal Cert.QkvIdeal.Gen

variable (m : (ℓ : Loc nD τ sig) → Buf (Elt Ideal) ℓ)

set_option maxHeartbeats 1600000

theorem pay1_at (x : Vec Ideal S512x1024 .f32) (g : Vec Ideal S1x1024 .f32) (w : Cols) (c r : Fin 512) :
    k0_pay1 (F := Ideal) (k0_pay34 (F := Ideal) (k0_pay2 (F := Ideal) x g) w) (ix3 0 c r)
      = Layer.proj (fun k => x (ix2 r k)) (fun k => g (ix2 0 k)) (fun k => w (ix2 k c)) := by
  pointwise [k0_pay1, k0_pay34, pay32_at]

theorem pay28_at (x : Vec Ideal S512x1024 .f32) (g : Vec Ideal S1x1024 .f32) (w : Cols) (c r : Fin 512) :
    k0_pay28 (F := Ideal) (k0_pay26 (F := Ideal) (k0_pay2 (F := Ideal) x g) w) (ix3 0 c r)
      = Layer.proj (fun k => x (ix2 r k)) (fun k => g (ix2 0 k)) (fun k => w (ix2 k c)) := by
  pointwise [k0_pay28, pay26_at]

theorem load_1 (i : grid0.Coords) (x0 : Vec Ideal S512x1024 .f32) (x1 : Vec Ideal S1x1024 .f32) (x2 : Vec Ideal S1024x3072 .bf16) (c r : Fin 512) :
    k0_pay1 (F := Ideal) (k0_pay34 (F := Ideal) (k0_pay35 (F := Ideal) i x0 x1 x2) (View.ld x2 r0_22)) (ix3 0 c r) = projB x0 x1 x2 r ⟨2560 + c.val, by omega⟩ := by
  unfold k0_pay35
  rw [pay1_at, View.ld_unit_lit' inb_S512x1024_S512x1024_0_0 x0 (by decide), View.ld_unit_lit' inb_S1x1024_S1x1024_0_0 x1 (by decide)]
  exact congrArg (Layer.proj _ _) (funext fun k => col_ld x2 2560 (by omega) _ k c)

theorem load_28 (i : grid0.Coords) (x0 : Vec Ideal S512x1024 .f32) (x1 : Vec Ideal S1x1024 .f32) (x2 : Vec Ideal S1024x3072 .bf16) (c r : Fin 512) :
    k0_pay28 (F := Ideal) (k0_pay26 (F := Ideal) (k0_pay35 (F := Ideal) i x0 x1 x2) (View.ld x2 r0_15)) (ix3 0 c r) = projB x0 x1 x2 r ⟨1024 + c.val, by omega⟩ := by
  unfold k0_pay35
  rw [pay28_at, View.ld_unit_lit' inb_S512x1024_S512x1024_0_0 x0 (by decide), View.ld_unit_lit' inb_S1x1024_S1x1024_0_0 x1 (by decide)]
  exact congrArg (Layer.proj _ _) (funext fun k => col_ld x2 1024 (by omega) _ k c)

/-- The column of the projection that row `c` of the transposed values is. -/
def vcol (c : Fin 1024) : Fin 3072 := ⟨if (c : ℕ) < 512 then 1024 + c else 2048 + c, by split_ifs <;> omega⟩

/-- 512 rows of the transposed values, stored in their place. -/
theorem vpiece (P : S1x512x512.Idx → EReal) (o p : ℕ) (hp : p + 512 ≤ 3072) (ho : ∀ (c : Fin 1024) (l : Fin 512), c.val = o + l.val → (vcol c).val = p + l.val)
    (x0 : Vec Ideal S512x1024 .f32) (x1 : Vec Ideal S1x1024 .f32) (x2 : Vec Ideal S1024x3072 .bf16) (x : S1x512x512.Idx) (y : S1x1024x512.Idx)
    (h1 : (y 1).val = o + (x 1).val) (h2 : (y 2).val = (x 2).val) (hP : ∀ c r : Fin 512, P (ix3 0 c r) = projB x0 x1 x2 r ⟨p + c.val, by omega⟩) :
    P x = projB x0 x1 x2 (y 2) (vcol (y 1)) := by
  have ex : x = ix3 (0 : Fin 1) (x 1) (x 2) := funext fun (a : Fin 3) => by
    fin_cases a
    · exact Subsingleton.elim (α := Fin 1) _ _
    · rfl
    · rfl
  have e2 : y 2 = x 2 := Fin.ext h2
  have e1 : vcol (y 1) = (⟨p + (x 1).val, by have h : (x 1).val < 512 := (x 1).isLt; omega⟩ : Fin 3072) := Fin.ext (ho (y 1) (x 1) h1)
  rw [e2, e1]
  exact (congrArg P ex).trans (hP _ _)

theorem body_8 (i : grid0.Coords) (x0 : Vec Ideal S512x1024 .f32) (x1 : Vec Ideal S1x1024 .f32) (x2 : Vec Ideal S1024x3072 .bf16) (y : S1x1024x512.Idx) :
    out0_8 (F := Ideal) i x0 x1 x2 y = projB x0 x1 x2 (y 2) (vcol (y 1)) := by
  unfold out0_8
  canon_tiles x h
  · exact vpiece _ 512 2560 (by omega) (fun c l h => by unfold vcol; rw [Fin.val_mk, if_neg (by omega)]; omega) x0 x1 x2 x y (by omega) (by omega) (fun c r => load_1 i x0 x1 x2 c r)
  · exact vpiece _ 0 1024 (by omega) (fun c l h => by unfold vcol; rw [Fin.val_mk, if_pos (by omega)]; omega) x0 x1 x2 x y (by omega) (by omega) (fun c r => load_28 i x0 x1 x2 c r)

theorem idx_8 : ∀ t : Fin cfg0.N, win0_8.index t = ![t.val / 32, 0, t.val % 32] := (by decide +kernel : ∀ t : Fin grid0.N, _)

theorem batch_lt (t : Fin cfg0.N) : t.val / 32 < 2 := by
  have h : t.val < 64 := t.isLt
  omega

theorem emb_8 (t : Fin cfg0.N) (c : Fin 1024) (s : Fin 512) :
    (((cfg0.win 8).blk t).view.emb (ix3 (0 : Fin 1) c s : S1x1024x512.Idx) : S2x1024x16384.Idx) = ix3 ⟨t.val / 32, batch_lt t⟩ c ⟨t.val % 32 * 512 + s.val, by omega⟩ := by
  refine funext fun (a : Fin 3) => ?_
  fin_cases a <;> apply Fin.ext
  · show win0_8.index t 0 * 1 + 1 * 0 = t.val / 32
    rw [idx_8 t]; show t.val / 32 * 1 + 1 * 0 = _; omega
  · show win0_8.index t 1 * 1024 + 1 * c.val = c.val
    rw [idx_8 t]; show 0 * 1024 + 1 * c.val = _; omega
  · show win0_8.index t 2 * 512 + 1 * s.val = t.val % 32 * 512 + s.val
    rw [idx_8 t]; show t.val % 32 * 512 + 1 * s.val = _; omega

theorem out_8 (c : Dev nD) : (dats m 0 c).arrAt 8 (cfgs 0).N = vt (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  suffices h : ∀ y : S1x1024x512.Idx, out0_8 (cfg0.grid.coords t) (iblk m c 0 t) (iblk m c 1 t) (iblk m c 2 t) y
      = vt (m ((c : Thread nD τ).loc main_arg0)) (m ((c : Thread nD τ).loc main_arg1)) (m ((c : Thread nD τ).loc main_arg2)) (((cfg0.win 8).blk t).view.emb y) from h y
  intro y
  obtain ⟨l, s, rfl⟩ : ∃ (l : Fin 1024) (s : Fin 512), y = ix3 (0 : Fin 1) l s := ⟨y 1, y 2, funext fun (a : Fin 3) => by
    fin_cases a
    · exact Subsingleton.elim (α := Fin 1) _ _
    · rfl
    · rfl⟩
  refine (body_8 _ _ _ _ _).trans ?_
  refine (projB_eq m c t s _).trans ?_
  refine Eq.trans ?_ (congrArg (fun j : S2x1024x16384.Idx => vt (m ((c : Thread nD τ).loc main_arg0)) (m ((c : Thread nD τ).loc main_arg1)) (m ((c : Thread nD τ).loc main_arg2)) j) (emb_8 t l s)).symm
  have eb : (⟨(t.val * 512 + s.val) / 16384, by have := row_lt t s; omega⟩ : Fin 2) = ⟨t.val / 32, batch_lt t⟩ := Fin.ext (by show (t.val * 512 + s.val) / 16384 = t.val / 32; omega)
  have es : (⟨(t.val * 512 + s.val) % 16384, by omega⟩ : Fin 16384) = ⟨t.val % 32 * 512 + s.val, by omega⟩ := Fin.ext (by show (t.val * 512 + s.val) % 16384 = t.val % 32 * 512 + s.val; omega)
  show at_ (m ((c : Thread nD τ).loc main_arg0)) (m ((c : Thread nD τ).loc main_arg1)) (m ((c : Thread nD τ).loc main_arg2)) ⟨t.val * 512 + s.val, row_lt t s⟩ (vcol l) = vtAt (m ((c : Thread nD τ).loc main_arg0)) (m ((c : Thread nD τ).loc main_arg1)) (m ((c : Thread nD τ).loc main_arg2)) ⟨t.val / 32, batch_lt t⟩ l ⟨t.val % 32 * 512 + s.val, by omega⟩
  unfold at_ vtAt
  rw [eb, es]
  rfl

end

end Qkv

end
-- ==== Proof.QkvRefValue.lean ====
/- The prompt's projection: the reference's results. -/
module

public import proofs.«01_k».proof.Proof.QkvSpec
public import proofs.«01_k».proof.Proof.Gen.QkvRefIdeal.Read

@[expose] public section

set_option maxRecDepth 16384

noncomputable section

open Idealize.ShloMosaic Idealize.ShloMosaic.TcCoe Idealize.SL.Sem
open Idealize.ShloMosaic.Pipeline (Dat)
open scoped BigOperators

namespace Qkv

section
open Cert.QkvRefIdeal Cert.QkvRefIdeal.Read

theorem ref_proj (x : X) (g : G) (w : W) (b : Fin 2) (s : Fin 16384) (c : Fin 3072) :
    val_main_v15 (F := Ideal) x g w (ix3 b s c) = Layer.proj (fun k => x (ix3 b s k)) (fun k => g (ix2 0 k)) (fun k => w (ix3 0 k c)) := by
  pointwise [val_main_v0, val_main_v1, val_main_cst, val_main_v2, val_main_v3, val_main_v4, val_main_v5, val_main_v6, val_main_v7, val_main_v8, val_main_v9, val_main_v10, val_main_v11, val_main_v12, val_main_v13, val_main_v14, val_main_v15, val_main_cst_0, val_main_cst_1]
  rfl

theorem ref_31 (x : X) (g : G) (w : W) : val_main_v31 (F := Ideal) x g w = group 512 (by omega) x g w := by
  funext j; idx_vars j; pointwise [val_main_v31, val_main_v17, ref_proj]; rfl

theorem ref_32 (x : X) (g : G) (w : W) : val_main_v32 (F := Ideal) x g w = group 1024 (by omega) x g w := by
  funext j; idx_vars j; pointwise [val_main_v32, val_main_v18, ref_proj]; rfl

theorem ref_33 (x : X) (g : G) (w : W) : val_main_v33 (F := Ideal) x g w = group 2048 (by omega) x g w := by
  funext j; idx_vars j; pointwise [val_main_v33, val_main_v20, ref_proj]; rfl

theorem ref_34 (x : X) (g : G) (w : W) : val_main_v34 (F := Ideal) x g w = group 2560 (by omega) x g w := by
  funext j; idx_vars j; pointwise [val_main_v34, val_main_v21, ref_proj]; rfl

theorem ref_30 (x : X) (g : G) (w : W) : val_main_v30 (F := Ideal) x g w = pack x g w := by
  funext j; idx_vars j
  pointwise [val_main_v16, val_main_v17, val_main_v18, val_main_v19, val_main_v20, val_main_v21, val_main_v22, val_main_v23, val_main_v24, val_main_v25, val_main_v26, val_main_v27, val_main_v28, val_main_v29, val_main_v30, val_main_cst_2, val_main_cst_3, ref_proj, Layer.unit_eq]
  exact Layer.ladder j1 j1.isLt fun n hn => Layer.proj (fun k => x (ix3 ⟨j0 / 16384, by omega⟩ ⟨j0 % 16384, by omega⟩ k)) (fun k => g (ix2 0 k)) (fun k => w (ix3 0 k ⟨n, hn⟩))

theorem ref_37 (x : X) (g : G) (w : W) : val_main_v37 (F := Ideal) x g w = vt x g w := by
  funext j; idx_vars j
  pointwise [val_main_v18, val_main_v21, val_main_v35, val_main_v36, val_main_v37, ref_proj]
  exact Layer.ladder2 j1 j1.isLt fun n hn => Layer.proj (fun k => x (ix3 j0 j2 k)) (fun k => g (ix2 0 k)) (fun k => w (ix3 0 k ⟨n, hn⟩))

end

end Qkv

end
-- ==== Proof.QkvValue.lean ====
/- The prompt's projection: the kernel and the reference leave the same results. -/
module

public import proofs.«01_k».proof.Proof.QkvVt
public import proofs.«01_k».proof.Proof.QkvRefValue
public import proofs.«01_k».proof.Proof.Gen.QkvRefIdeal.Run
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Qkv

theorem algebraic : Cert.algebraic_QkvIdeal_QkvRefIdeal := by
  pair_intro
  · run_from Cert.QkvIdeal.Gen.run_main m g
  · run_from Cert.QkvRefIdeal.Value.run m' g'
    · refine (Cert.QkvRefIdeal.Read.val_main_v30_eq m' c).trans ?_
      rw [(hagree c).1, (hagree c).2.1, (hagree c).2.2]
      exact (ref_30 _ _ _).trans (out_3 m c).symm
    · exact ((Cert.QkvRefIdeal.Read.val_main_v31_eq _ _ _).trans (ref_31 _ _ _)).trans (out_4 m c).symm
    · exact ((Cert.QkvRefIdeal.Read.val_main_v32_eq _ _ _).trans (ref_32 _ _ _)).trans (out_5 m c).symm
    · exact ((Cert.QkvRefIdeal.Read.val_main_v33_eq _ _ _).trans (ref_33 _ _ _)).trans (out_6 m c).symm
    · exact ((Cert.QkvRefIdeal.Read.val_main_v34_eq _ _ _).trans (ref_34 _ _ _)).trans (out_7 m c).symm
    · refine ((Cert.QkvRefIdeal.Read.val_main_v37_eq _ _ _).trans (ref_37 _ _ _)).trans ?_
      rw [(hagree c).2.2]
      exact (out_8 m c).symm

end Qkv

end
-- ==== Proof.QkvSSpec.lean ====
/- The sample's projection: what its result arrays hold, element by element. -/
module

public import proofs.«01_k».proof.Proof.Layer

@[expose] public section

set_option maxRecDepth 16384

noncomputable section

open Idealize.ShloMosaic Idealize.ShloMosaic.TcCoe Idealize.SL.Sem
open Idealize.ShloMosaic.Pipeline (Dat)
open scoped BigOperators

namespace QkvS

abbrev X := FVec Ideal ⟨3, ![8, 64, 1024]⟩ .f32
abbrev G := FVec Ideal ⟨2, ![1, 1024]⟩ .f32
abbrev W := FVec Ideal ⟨3, ![1, 1024, 3072]⟩ .f32

/-- Row `r` (batch `r / 64`, position `r % 64`), column `c` of the projection. -/
def at_ (x : X) (g : G) (w : W) (r : Fin 512) (c : Fin 3072) : EReal :=
  Layer.proj (fun k => x (ix3 ⟨r / 64, by omega⟩ ⟨r % 64, by omega⟩ k)) (fun k => g (ix2 0 k)) (fun k => w (ix3 0 k c))

/-- Element `(r, c)` of the 512-wide group of columns that begins at column `o`. -/
def groupAt (o : ℕ) (ho : o + 512 ≤ 3072) (x : X) (g : G) (w : W) (r : Fin 512) (c : Fin 512) : EReal :=
  at_ x g w r ⟨o + c, by omega⟩

/-- A 512-wide group of columns. -/
def group (o : ℕ) (ho : o + 512 ≤ 3072) (x : X) (g : G) (w : W) : FVec Ideal ⟨2, ![512, 512]⟩ .f32 :=
  fun j => groupAt o ho x g w (j 0) (j 1)

/-- Element `(r, c)` of all the columns, the queries in their unit. -/
def packAt (x : X) (g : G) (w : W) (r : Fin 512) (c : Fin 3072) : EReal := Layer.packed c (at_ x g w r c)

/-- All the columns, the queries in their unit. -/
def pack (x : X) (g : G) (w : W) : FVec Ideal ⟨2, ![512, 3072]⟩ .bf16 := fun j => packAt x g w (j 0) (j 1)

end QkvS

end
-- ==== Proof.QkvSRefValue.lean ====
/- The sample's projection: the reference's results. -/
module

public import proofs.«01_k».proof.Proof.QkvSSpec
public import proofs.«01_k».proof.Proof.Gen.QkvSRefIdeal.Read

@[expose] public section

set_option maxRecDepth 16384

noncomputable section

open Idealize.ShloMosaic Idealize.ShloMosaic.TcCoe Idealize.SL.Sem
open Idealize.ShloMosaic.Pipeline (Dat)
open scoped BigOperators

namespace QkvS

section
open Cert.QkvSRefIdeal Cert.QkvSRefIdeal.Read

theorem ref_proj (x : X) (g : G) (w : W) (b : Fin 8) (s : Fin 64) (c : Fin 3072) :
    val_main_v15 (F := Ideal) x g w (ix3 b s c) = Layer.proj (fun k => x (ix3 b s k)) (fun k => g (ix2 0 k)) (fun k => w (ix3 0 k c)) := by
  pointwise [val_main_v0, val_main_v1, val_main_cst, val_main_v2, val_main_v3, val_main_v4, val_main_v5, val_main_v6, val_main_v7, val_main_v8, val_main_v9, val_main_v10, val_main_v11, val_main_v12, val_main_v13, val_main_v14, val_main_v15, val_main_cst_0, val_main_cst_1]
  rfl

theorem ref_31 (x : X) (g : G) (w : W) : val_main_v31 (F := Ideal) x g w = group 512 (by omega) x g w := by
  funext j; idx_vars j; pointwise [val_main_v31, val_main_v17, ref_proj]; rfl

theorem ref_32 (x : X) (g : G) (w : W) : val_main_v32 (F := Ideal) x g w = group 1024 (by omega) x g w := by
  funext j; idx_vars j; pointwise [val_main_v32, val_main_v18, ref_proj]; rfl

theorem ref_33 (x : X) (g : G) (w : W) : val_main_v33 (F := Ideal) x g w = group 2048 (by omega) x g w := by
  funext j; idx_vars j; pointwise [val_main_v33, val_main_v20, ref_proj]; rfl

theorem ref_34 (x : X) (g : G) (w : W) : val_main_v34 (F := Ideal) x g w = group 2560 (by omega) x g w := by
  funext j; idx_vars j; pointwise [val_main_v34, val_main_v21, ref_proj]; rfl

theorem ref_30 (x : X) (g : G) (w : W) : val_main_v30 (F := Ideal) x g w = pack x g w := by
  funext j; idx_vars j
  pointwise [val_main_v16, val_main_v17, val_main_v18, val_main_v19, val_main_v20, val_main_v21, val_main_v22, val_main_v23, val_main_v24, val_main_v25, val_main_v26, val_main_v27, val_main_v28, val_main_v29, val_main_v30, val_main_cst_2, val_main_cst_3, ref_proj, Layer.unit_eq]
  exact Layer.ladder j1 j1.isLt fun n hn => Layer.proj (fun k => x (ix3 ⟨j0 / 64, by omega⟩ ⟨j0 % 64, by omega⟩ k)) (fun k => g (ix2 0 k)) (fun k => w (ix3 0 k ⟨n, hn⟩))

end

end QkvS

end
-- ==== Proof.QkvSOut.lean ====
/- The sample's projection: the keys and values that the call leaves. -/
module

public import proofs.«01_k».proof.Proof.QkvSSpec
public import proofs.«01_k».proof.Proof.Gen.QkvSIdeal.Value

@[expose] public section

set_option maxRecDepth 16384

noncomputable section

open Idealize.ShloMosaic Idealize.ShloMosaic.TcCoe Idealize.SL.Sem
open Idealize.ShloMosaic.Pipeline (Dat)
open scoped BigOperators

namespace QkvS

section
open Cert.QkvSIdeal Cert.QkvSIdeal.Gen

variable (m : (ℓ : Loc nD τ sig) → Buf (Elt Ideal) ℓ)

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

theorem out_4 (c : Dev nD) : (dats m 0 c).arrAt 4 (cfgs 0).N =
    group 512 (by omega) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  pointwise [k0_pay9, k0_pay7, group, groupAt, at_, Layer.proj, Layer.rms]
  blk_point [iblk, V, idx t]

theorem out_5 (c : Dev nD) : (dats m 0 c).arrAt 5 (cfgs 0).N =
    group 1024 (by omega) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]; frame_out
  pointwise [k0_pay13, k0_pay11, k0_pay7, group, groupAt, at_, Layer.proj, Layer.rms]
  blk_point [iblk, V, idx t]

theorem out_6 (c : Dev nD) : (dats m 0 c).arrAt 6 (cfgs 0).N =
    group 2048 (by omega) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay3, k0_pay12, k0_pay7, group, groupAt, at_, Layer.proj, Layer.rms]
  blk_point [iblk, V, idx t]

theorem out_7 (c : Dev nD) : (dats m 0 c).arrAt 7 (cfgs 0).N =
    group 2560 (by omega) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]; frame_out
  pointwise [k0_pay5, k0_pay12, k0_pay7, group, groupAt, at_, Layer.proj, Layer.rms]
  blk_point [iblk, V, idx t]

end
end QkvS

end
-- ==== Proof.QkvSPack.lean ====
/- The sample's projection: the packed columns that the call leaves. -/
module

public import proofs.«01_k».proof.Proof.QkvSOut

@[expose] public section

set_option maxRecDepth 16384

noncomputable section

open Idealize.ShloMosaic Idealize.ShloMosaic.TcCoe Idealize.SL.Sem
open Idealize.ShloMosaic.Pipeline (Dat)
open scoped BigOperators

namespace QkvS

section
open Cert.QkvSIdeal Cert.QkvSIdeal.Gen

variable (m : (ℓ : Loc nD τ sig) → Buf (Elt Ideal) ℓ)

/-- The named constant of the queries is their unit. -/
theorem named_unit : Named.named (F := Ideal) (φ := .f32) κ "q_unit" 0x3E38AA3B#32 = Layer.unit := rfl

set_option maxHeartbeats 1600000 in
theorem out_3 (c : Dev nD) : (dats m 0 c).arrAt 3 (cfgs 0).N =
    pack (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  canon_tiles x h
  all_goals open_payloads
  all_goals pointwise [pack, packAt, at_, Layer.proj, Layer.rms, Layer.packed]
  all_goals blk_simp [idx t]
  all_goals simp only [h1]
  all_goals first | rw [if_pos (by omega)] | rw [if_neg (by omega)]
  all_goals try simp only [named_unit]
  all_goals blk_point [iblk, V, idx t]

end

end QkvS

end
-- ==== Proof.QkvSValue.lean ====
/- The sample's projection: the call's results are the reference's. -/
module

public import proofs.«01_k».proof.Defs
public import proofs.«01_k».proof.Proof.QkvSRefValue
public import proofs.«01_k».proof.Proof.QkvSPack

@[expose] public section

set_option maxRecDepth 16384

noncomputable section

open Idealize.ShloMosaic Idealize.ShloMosaic.TcCoe Idealize.SL.Sem
open Idealize.ShloMosaic.Pipeline (Dat)
open scoped BigOperators

namespace QkvS

theorem algebraic : Cert.algebraic_QkvSIdeal_QkvSRefIdeal := by
  pair_intro
  · run_from Cert.QkvSIdeal.Gen.run_main m g
  · run_from Cert.QkvSRefIdeal.Value.run m' g'
    · refine (Cert.QkvSRefIdeal.Read.val_main_v30_eq m' c).trans ?_
      rw [(hagree c).1, (hagree c).2.1, (hagree c).2.2]
      exact (ref_30 _ _ _).trans (out_3 m c).symm
    · exact ((Cert.QkvSRefIdeal.Read.val_main_v31_eq _ _ _).trans (ref_31 _ _ _)).trans (out_4 m c).symm
    · exact ((Cert.QkvSRefIdeal.Read.val_main_v32_eq _ _ _).trans (ref_32 _ _ _)).trans (out_5 m c).symm
    · exact ((Cert.QkvSRefIdeal.Read.val_main_v33_eq _ _ _).trans (ref_33 _ _ _)).trans (out_6 m c).symm
    · exact ((Cert.QkvSRefIdeal.Read.val_main_v34_eq _ _ _).trans (ref_34 _ _ _)).trans (out_7 m c).symm

end QkvS

end
-- ==== Proof.GmlpSpec.lean ====
/- The sample's gMLP, element by element: what the call and its reference come to. -/
module

public import proofs.«01_k».proof.Proof.Layer

@[expose] public section

set_option maxRecDepth 16384

noncomputable section

open Idealize.ShloMosaic Idealize.ShloMosaic.TcCoe Idealize.SL.Sem
open Idealize.ShloMosaic.Pipeline (Dat)
open scoped BigOperators

namespace Gmlp

/-- The gelu of one element, by the error function. -/
def gelu (z : EReal) : EReal :=
  Ideal.ofBits FTy.f32 1056964608#32 * z * (1 + Ideal.erf (z * Ideal.ofBits FTy.f32 1060439283#32))

/-- The mean of a row. -/
def mean (v : Fin 2048 → EReal) : EReal := Ideal.div (∑ k, v k) (Ideal.ofBits FTy.f32 1157627904#32)

/-- One element of a LayerNorm: the row `v`, the gain `a`, the shift `b`. -/
def ln (v a b : Fin 2048 → EReal) (c : Fin 2048) : EReal :=
  (v c - mean v) * Ideal.rsqrt (Ideal.div (∑ k, (v k - mean v) * (v k - mean v)) (Ideal.ofBits FTy.f32 1157627904#32) + Ideal.ofBits FTy.f32 925353388#32) * a c + b c

section
variable (x : Fin 512 → Fin 1024 → EReal) (g : Fin 1024 → EReal) (w : Fin 1024 → Fin 4096 → EReal) (b : Fin 4096 → EReal)
  (lg lb : Fin 2048 → EReal) (ws : Fin 8 → Fin 64 → Fin 64 → EReal) (bs : Fin 8 → Fin 64 → EReal) (wo : Fin 2048 → Fin 1024 → EReal)

/-- One element of the first layer. -/
def act (r : Fin 512) (c : Fin 4096) : EReal := gelu (Layer.proj (x r) g (fun k => w k c) + b c)

/-- One element of its second half, normalised. -/
def vn (r : Fin 512) (c : Fin 2048) : EReal := ln (fun k => act x g w b r ⟨2048 + k.val, by omega⟩) lg lb c

/-- One element of the mixed second half: over the positions up to its own in the sequence, and the position's shift. -/
def mix (r : Fin 512) (c : Fin 2048) : EReal :=
  (∑ s : Fin 64, (if s.val ≤ r.val % 64 then ws ⟨c.val / 256, by omega⟩ ⟨r.val % 64, by omega⟩ s else 0) * vn x g w b lg lb ⟨64 * (r.val / 64) + s.val, by omega⟩ c)
    + bs ⟨c.val / 256, by omega⟩ ⟨r.val % 64, by omega⟩

/-- One gated element. -/
def gated (r : Fin 512) (c : Fin 2048) : EReal :=
  act x g w b r ⟨c.val, by omega⟩ * mix x g w b lg lb ws bs r c

/-- One element of the residual stream after the layer. -/
def out (r : Fin 512) (d : Fin 1024) : EReal := x r d + ∑ c, gated x g w b lg lb ws bs r c * wo c d
end

end Gmlp

end
-- ==== Proof.GmlpLists.lean ====
/- The sample's gMLP: the pieces that the body leaves in its scratches. -/
module

public import proofs.«01_k».proof.Proof.GmlpSpec
public import proofs.«01_k».proof.Proof.Gen.GmlpIdeal.Frame

@[expose] public section

set_option maxRecDepth 16384

noncomputable section

open Idealize.ShloMosaic Idealize.ShloMosaic.TcCoe Idealize.SL.Sem
open Idealize.ShloMosaic.Pipeline (Dat)
open scoped BigOperators

namespace Gmlp

section
open Cert.GmlpIdeal Cert.GmlpIdeal.Gen

/-- The gating of one group of columns of one sequence: the mixing weights, the normalised columns, the shifts, the other half's columns. -/
def gate (ws : Vec Ideal S1x64x64 .f32) (v : Vec Ideal S64x256 .f32) (bs : Vec Ideal S1x64x1 .f32) (u : Vec Ideal S64x256 .f32) : FVec Ideal S64x256 .bf16 :=
  k0_pay35 (F := Ideal) (iota Kind.tc S64x64 32 [0] iota_S64x64_d0_w32) (iota Kind.tc S64x64 32 [1] iota_S64x64_d1_w32) ws v bs u

/-- The normalised rows. -/
def nrow (X0 : Vec Ideal S512x1024 .f32) (X1 : Vec Ideal S1x1024 .f32) : FVec Ideal S512x1024 .bf16 := k0_pay3 (F := Ideal) (View.ld X0 (Rect.unit (s := S512x1024) ![0, 0] S512x1024.size inb_S512x1024_S512x1024_0_0)) (View.ld X1 (Rect.unit (s := S1x1024) ![0, 0] S1x1024.size inb_S1x1024_S1x1024_0_0))

/-- The first half, as its four groups of columns are stored. -/
def ulist (X0 : Vec Ideal S512x1024 .f32) (X1 : Vec Ideal S1x1024 .f32) (X2 : Vec Ideal S1024x4096 .bf16) (X3 : Vec Ideal S1x4096 .f32) : List (View.Piece (Elt Ideal) S512x2048 .f32) :=
  [⟨(Rect.unit (s := S512x2048) ![0, 1536] S512x512.size inb_S512x2048_S512x512_0_1536), k0_pay15 (F := Ideal) (nrow X0 X1) (View.ld X2 (Rect.unit (s := S1024x4096) ![0, 1536] S1024x512.size inb_S1024x4096_S1024x512_0_1536)) (View.ld X3 (Rect.unit (s := S1x4096) ![0, 1536] S1x512.size inb_S1x4096_S1x512_0_1536))⟩,
    ⟨(Rect.unit (s := S512x2048) ![0, 1024] S512x512.size inb_S512x2048_S512x512_0_1024), k0_pay11 (F := Ideal) (nrow X0 X1) (View.ld X2 (Rect.unit (s := S1024x4096) ![0, 1024] S1024x512.size inb_S1024x4096_S1024x512_0_1024)) (View.ld X3 (Rect.unit (s := S1x4096) ![0, 1024] S1x512.size inb_S1x4096_S1x512_0_1024))⟩,
    ⟨(Rect.unit (s := S512x2048) ![0, 512] S512x512.size inb_S512x2048_S512x512_0_512), k0_pay7 (F := Ideal) (nrow X0 X1) (View.ld X2 (Rect.unit (s := S1024x4096) ![0, 512] S1024x512.size inb_S1024x4096_S1024x512_0_512)) (View.ld X3 (Rect.unit (s := S1x4096) ![0, 512] S1x512.size inb_S1x4096_S1x512_0_512))⟩,
    ⟨(Rect.unit (s := S512x2048) ![0, 0] S512x512.size inb_S512x2048_S512x512_0_0), k0_pay4 (F := Ideal) (View.ld X0 (Rect.unit (s := S512x1024) ![0, 0] S512x1024.size inb_S512x1024_S512x1024_0_0)) (View.ld X1 (Rect.unit (s := S1x1024) ![0, 0] S1x1024.size inb_S1x1024_S1x1024_0_0)) (View.ld X2 (Rect.unit (s := S1024x4096) ![0, 0] S1024x512.size inb_S1024x4096_S1024x512_0_0)) (View.ld X3 (Rect.unit (s := S1x4096) ![0, 0] S1x512.size inb_S1x4096_S1x512_0_0))⟩]

/-- The second half, as its four groups of columns are stored. -/
def vlist (X0 : Vec Ideal S512x1024 .f32) (X1 : Vec Ideal S1x1024 .f32) (X2 : Vec Ideal S1024x4096 .bf16) (X3 : Vec Ideal S1x4096 .f32) : List (View.Piece (Elt Ideal) S512x2048 .f32) :=
  [⟨(Rect.unit (s := S512x2048) ![0, 1536] S512x512.size inb_S512x2048_S512x512_0_1536), k0_pay19 (F := Ideal) (k0_pay17 (F := Ideal) (nrow X0 X1) (View.ld X2 (Rect.unit (s := S1024x4096) ![0, 3584] S1024x512.size inb_S1024x4096_S1024x512_0_3584)) (View.ld X3 (Rect.unit (s := S1x4096) ![0, 3584] S1x512.size inb_S1x4096_S1x512_0_3584))) (k0_pay18 (F := Ideal) (nrow X0 X1) (View.ld X2 (Rect.unit (s := S1024x4096) ![0, 3584] S1024x512.size inb_S1024x4096_S1024x512_0_3584)) (View.ld X3 (Rect.unit (s := S1x4096) ![0, 3584] S1x512.size inb_S1x4096_S1x512_0_3584)))⟩,
    ⟨(Rect.unit (s := S512x2048) ![0, 1024] S512x512.size inb_S512x2048_S512x512_0_1024), k0_pay14 (F := Ideal) (k0_pay12 (F := Ideal) (nrow X0 X1) (View.ld X2 (Rect.unit (s := S1024x4096) ![0, 3072] S1024x512.size inb_S1024x4096_S1024x512_0_3072)) (View.ld X3 (Rect.unit (s := S1x4096) ![0, 3072] S1x512.size inb_S1x4096_S1x512_0_3072))) (k0_pay13 (F := Ideal))⟩,
    ⟨(Rect.unit (s := S512x2048) ![0, 512] S512x512.size inb_S512x2048_S512x512_0_512), k0_pay10 (F := Ideal) (k0_pay8 (F := Ideal) (nrow X0 X1) (View.ld X2 (Rect.unit (s := S1024x4096) ![0, 2560] S1024x512.size inb_S1024x4096_S1024x512_0_2560))) (k0_pay9 (F := Ideal) (View.ld X3 (Rect.unit (s := S1x4096) ![0, 2560] S1x512.size inb_S1x4096_S1x512_0_2560)))⟩,
    ⟨(Rect.unit (s := S512x2048) ![0, 0] S512x512.size inb_S512x2048_S512x512_0_0), k0_pay6 (F := Ideal) (k0_pay5 (F := Ideal) (View.ld X0 (Rect.unit (s := S512x1024) ![0, 0] S512x1024.size inb_S512x1024_S512x1024_0_0)) (View.ld X1 (Rect.unit (s := S1x1024) ![0, 0] S1x1024.size inb_S1x1024_S1x1024_0_0)) (View.ld X2 (Rect.unit (s := S1024x4096) ![0, 2048] S1024x512.size inb_S1024x4096_S1024x512_0_2048))) (View.ld X3 (Rect.unit (s := S1x4096) ![0, 2048] S1x512.size inb_S1x4096_S1x512_0_2048))⟩]

/-- The second half and, over it, its normalised rows. -/
def vnlist (M : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) : List (View.Piece (Elt Ideal) S512x2048 .f32) :=
  ⟨Rect.unit (s := S512x2048) ![0, 0] S512x2048.size inb_S512x2048_S512x2048_0_0, k0_pay20 (F := Ideal) (M.view.readCov (vlist X0 X1 X2 X3) (Rect.unit (s := S512x2048) ![0, 0] S512x2048.size inb_S512x2048_S512x2048_0_0).toLoadRect)
    (View.ld X4 (Rect.unit (s := S1x2048) ![0, 0] S1x2048.size inb_S1x2048_S1x2048_0_0)) (View.ld X5 (Rect.unit (s := S1x2048) ![0, 0] S1x2048.size inb_S1x2048_S1x2048_0_0))⟩ :: vlist X0 X1 X2 X3

/-- The rectangle of one group of columns of one sequence. -/
abbrev box (o p : ℕ) (h : ∀ a, ![o, p] a + S64x256.size a ≤ S512x2048.size a) : Rect S512x2048 := Rect.unit (s := S512x2048) ![o, p] S64x256.size h

/-- The normalised rows' group. -/
abbrev vt (M : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (r : Rect S512x2048) : r.toLoadRect.shape.Idx → Elt Ideal .f32 :=
  M.view.readCov (vnlist M X0 X1 X2 X3 X4 X5) r.toLoadRect

/-- The first half's group. -/
abbrev ut (N : Memref sig .tc .vmem S512x2048 .f32) (X0 : Vec Ideal S512x1024 .f32) (X1 : Vec Ideal S1x1024 .f32) (X2 : Vec Ideal S1024x4096 .bf16) (X3 : Vec Ideal S1x4096 .f32) (r : Rect S512x2048) : r.toLoadRect.shape.Idx → Elt Ideal .f32 :=
  N.view.readCov (ulist X0 X1 X2 X3) r.toLoadRect

/-- The gated elements, as their 64 groups are stored. -/
def glist (M N : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (X6 : Vec Ideal S8x64x64 .f32) (X7 : Vec Ideal S8x64x1 .f32) : List (View.Piece (Elt Ideal) S512x2048 .bf16) :=
  [⟨box 448 1792 inb_S512x2048_S64x256_448_1792, (k0_pay116 (F := Ideal) (k0_pay106 (F := Ideal) (iota Kind.tc S64x64 32 [0] iota_S64x64_d0_w32) (iota Kind.tc S64x64 32 [1] iota_S64x64_d1_w32) (View.ld X6 (Rect.unit (s := S8x64x64) ![7, 0, 0] S1x64x64.size inb_S8x64x64_S1x64x64_7_0_0))) (vt M X0 X1 X2 X3 X4 X5 (box 448 1792 inb_S512x2048_S64x256_448_1792)) (View.ld X7 (Rect.unit (s := S8x64x1) ![7, 0, 0] S1x64x1.size inb_S8x64x1_S1x64x1_7_0_0)) (ut N X0 X1 X2 X3 (box 448 1792 inb_S512x2048_S64x256_448_1792)))⟩,
   ⟨box 384 1792 inb_S512x2048_S64x256_384_1792, (k0_pay115 (F := Ideal) (k0_pay106 (F := Ideal) (iota Kind.tc S64x64 32 [0] iota_S64x64_d0_w32) (iota Kind.tc S64x64 32 [1] iota_S64x64_d1_w32) (View.ld X6 (Rect.unit (s := S8x64x64) ![7, 0, 0] S1x64x64.size inb_S8x64x64_S1x64x64_7_0_0))) (vt M X0 X1 X2 X3 X4 X5 (box 384 1792 inb_S512x2048_S64x256_384_1792)) (View.ld X7 (Rect.unit (s := S8x64x1) ![7, 0, 0] S1x64x1.size inb_S8x64x1_S1x64x1_7_0_0)) (ut N X0 X1 X2 X3 (box 384 1792 inb_S512x2048_S64x256_384_1792)))⟩,
   ⟨box 320 1792 inb_S512x2048_S64x256_320_1792, (k0_pay114 (F := Ideal) (k0_pay113 (F := Ideal) (k0_pay106 (F := Ideal) (iota Kind.tc S64x64 32 [0] iota_S64x64_d0_w32) (iota Kind.tc S64x64 32 [1] iota_S64x64_d1_w32) (View.ld X6 (Rect.unit (s := S8x64x64) ![7, 0, 0] S1x64x64.size inb_S8x64x64_S1x64x64_7_0_0))) (vt M X0 X1 X2 X3 X4 X5 (box 320 1792 inb_S512x2048_S64x256_320_1792)) (View.ld X7 (Rect.unit (s := S8x64x1) ![7, 0, 0] S1x64x1.size inb_S8x64x1_S1x64x1_7_0_0)) (ut N X0 X1 X2 X3 (box 320 1792 inb_S512x2048_S64x256_320_1792))))⟩,
   ⟨box 256 1792 inb_S512x2048_S64x256_256_1792, (k0_pay112 (F := Ideal) (k0_pay106 (F := Ideal) (iota Kind.tc S64x64 32 [0] iota_S64x64_d0_w32) (iota Kind.tc S64x64 32 [1] iota_S64x64_d1_w32) (View.ld X6 (Rect.unit (s := S8x64x64) ![7, 0, 0] S1x64x64.size inb_S8x64x64_S1x64x64_7_0_0))) (vt M X0 X1 X2 X3 X4 X5 (box 256 1792 inb_S512x2048_S64x256_256_1792)) (View.ld X7 (Rect.unit (s := S8x64x1) ![7, 0, 0] S1x64x1.size inb_S8x64x1_S1x64x1_7_0_0)) (ut N X0 X1 X2 X3 (box 256 1792 inb_S512x2048_S64x256_256_1792)))⟩,
   ⟨box 192 1792 inb_S512x2048_S64x256_192_1792, (k0_pay111 (F := Ideal) (k0_pay110 (F := Ideal) (k0_pay106 (F := Ideal) (iota Kind.tc S64x64 32 [0] iota_S64x64_d0_w32) (iota Kind.tc S64x64 32 [1] iota_S64x64_d1_w32) (View.ld X6 (Rect.unit (s := S8x64x64) ![7, 0, 0] S1x64x64.size inb_S8x64x64_S1x64x64_7_0_0))) (vt M X0 X1 X2 X3 X4 X5 (box 192 1792 inb_S512x2048_S64x256_192_1792))) (View.ld X7 (Rect.unit (s := S8x64x1) ![7, 0, 0] S1x64x1.size inb_S8x64x1_S1x64x1_7_0_0)) (ut N X0 X1 X2 X3 (box 192 1792 inb_S512x2048_S64x256_192_1792)))⟩,
   ⟨box 128 1792 inb_S512x2048_S64x256_128_1792, (k0_pay109 (F := Ideal) (k0_pay106 (F := Ideal) (iota Kind.tc S64x64 32 [0] iota_S64x64_d0_w32) (iota Kind.tc S64x64 32 [1] iota_S64x64_d1_w32) (View.ld X6 (Rect.unit (s := S8x64x64) ![7, 0, 0] S1x64x64.size inb_S8x64x64_S1x64x64_7_0_0))) (vt M X0 X1 X2 X3 X4 X5 (box 128 1792 inb_S512x2048_S64x256_128_1792)) (View.ld X7 (Rect.unit (s := S8x64x1) ![7, 0, 0] S1x64x1.size inb_S8x64x1_S1x64x1_7_0_0)) (ut N X0 X1 X2 X3 (box 128 1792 inb_S512x2048_S64x256_128_1792)))⟩,
   ⟨box 64 1792 inb_S512x2048_S64x256_64_1792, (k0_pay108 (F := Ideal) (k0_pay106 (F := Ideal) (iota Kind.tc S64x64 32 [0] iota_S64x64_d0_w32) (iota Kind.tc S64x64 32 [1] iota_S64x64_d1_w32) (View.ld X6 (Rect.unit (s := S8x64x64) ![7, 0, 0] S1x64x64.size inb_S8x64x64_S1x64x64_7_0_0))) (vt M X0 X1 X2 X3 X4 X5 (box 64 1792 inb_S512x2048_S64x256_64_1792)) (View.ld X7 (Rect.unit (s := S8x64x1) ![7, 0, 0] S1x64x1.size inb_S8x64x1_S1x64x1_7_0_0)) (ut N X0 X1 X2 X3 (box 64 1792 inb_S512x2048_S64x256_64_1792)))⟩,
   ⟨box 0 1792 inb_S512x2048_S64x256_0_1792, (k0_pay107 (F := Ideal) (iota Kind.tc S64x64 32 [0] iota_S64x64_d0_w32) (iota Kind.tc S64x64 32 [1] iota_S64x64_d1_w32) (View.ld X6 (Rect.unit (s := S8x64x64) ![7, 0, 0] S1x64x64.size inb_S8x64x64_S1x64x64_7_0_0)) (vt M X0 X1 X2 X3 X4 X5 (box 0 1792 inb_S512x2048_S64x256_0_1792)) (View.ld X7 (Rect.unit (s := S8x64x1) ![7, 0, 0] S1x64x1.size inb_S8x64x1_S1x64x1_7_0_0)) (ut N X0 X1 X2 X3 (box 0 1792 inb_S512x2048_S64x256_0_1792)))⟩,
   ⟨box 448 1536 inb_S512x2048_S64x256_448_1536, (k0_pay105 (F := Ideal) (k0_pay95 (F := Ideal) (k0_pay93 (iota Kind.tc S64x64 32 [0] iota_S64x64_d0_w32) (iota Kind.tc S64x64 32 [1] iota_S64x64_d1_w32)) (k0_pay94 (F := Ideal) (View.ld X6 (Rect.unit (s := S8x64x64) ![6, 0, 0] S1x64x64.size inb_S8x64x64_S1x64x64_6_0_0)))) (vt M X0 X1 X2 X3 X4 X5 (box 448 1536 inb_S512x2048_S64x256_448_1536)) (View.ld X7 (Rect.unit (s := S8x64x1) ![6, 0, 0] S1x64x1.size inb_S8x64x1_S1x64x1_6_0_0)) (ut N X0 X1 X2 X3 (box 448 1536 inb_S512x2048_S64x256_448_1536)))⟩,
   ⟨box 384 1536 inb_S512x2048_S64x256_384_1536, (k0_pay104 (F := Ideal) (k0_pay95 (F := Ideal) (k0_pay93 (iota Kind.tc S64x64 32 [0] iota_S64x64_d0_w32) (iota Kind.tc S64x64 32 [1] iota_S64x64_d1_w32)) (k0_pay94 (F := Ideal) (View.ld X6 (Rect.unit (s := S8x64x64) ![6, 0, 0] S1x64x64.size inb_S8x64x64_S1x64x64_6_0_0)))) (vt M X0 X1 X2 X3 X4 X5 (box 384 1536 inb_S512x2048_S64x256_384_1536)) (View.ld X7 (Rect.unit (s := S8x64x1) ![6, 0, 0] S1x64x1.size inb_S8x64x1_S1x64x1_6_0_0)) (ut N X0 X1 X2 X3 (box 384 1536 inb_S512x2048_S64x256_384_1536)))⟩,
   ⟨box 320 1536 inb_S512x2048_S64x256_320_1536, (k0_pay103 (F := Ideal) (k0_pay95 (F := Ideal) (k0_pay93 (iota Kind.tc S64x64 32 [0] iota_S64x64_d0_w32) (iota Kind.tc S64x64 32 [1] iota_S64x64_d1_w32)) (k0_pay94 (F := Ideal) (View.ld X6 (Rect.unit (s := S8x64x64) ![6, 0, 0] S1x64x64.size inb_S8x64x64_S1x64x64_6_0_0)))) (vt M X0 X1 X2 X3 X4 X5 (box 320 1536 inb_S512x2048_S64x256_320_1536)) (View.ld X7 (Rect.unit (s := S8x64x1) ![6, 0, 0] S1x64x1.size inb_S8x64x1_S1x64x1_6_0_0)) (ut N X0 X1 X2 X3 (box 320 1536 inb_S512x2048_S64x256_320_1536)))⟩,
   ⟨box 256 1536 inb_S512x2048_S64x256_256_1536, (k0_pay102 (F := Ideal) (k0_pay101 (F := Ideal) (k0_pay95 (F := Ideal) (k0_pay93 (iota Kind.tc S64x64 32 [0] iota_S64x64_d0_w32) (iota Kind.tc S64x64 32 [1] iota_S64x64_d1_w32)) (k0_pay94 (F := Ideal) (View.ld X6 (Rect.unit (s := S8x64x64) ![6, 0, 0] S1x64x64.size inb_S8x64x64_S1x64x64_6_0_0)))) (vt M X0 X1 X2 X3 X4 X5 (box 256 1536 inb_S512x2048_S64x256_256_1536)) (View.ld X7 (Rect.unit (s := S8x64x1) ![6, 0, 0] S1x64x1.size inb_S8x64x1_S1x64x1_6_0_0))) (ut N X0 X1 X2 X3 (box 256 1536 inb_S512x2048_S64x256_256_1536)))⟩,
   ⟨box 192 1536 inb_S512x2048_S64x256_192_1536, (k0_pay100 (F := Ideal) (k0_pay95 (F := Ideal) (k0_pay93 (iota Kind.tc S64x64 32 [0] iota_S64x64_d0_w32) (iota Kind.tc S64x64 32 [1] iota_S64x64_d1_w32)) (k0_pay94 (F := Ideal) (View.ld X6 (Rect.unit (s := S8x64x64) ![6, 0, 0] S1x64x64.size inb_S8x64x64_S1x64x64_6_0_0)))) (vt M X0 X1 X2 X3 X4 X5 (box 192 1536 inb_S512x2048_S64x256_192_1536)) (View.ld X7 (Rect.unit (s := S8x64x1) ![6, 0, 0] S1x64x1.size inb_S8x64x1_S1x64x1_6_0_0)) (ut N X0 X1 X2 X3 (box 192 1536 inb_S512x2048_S64x256_192_1536)))⟩,
   ⟨box 128 1536 inb_S512x2048_S64x256_128_1536, (k0_pay99 (F := Ideal) (k0_pay95 (F := Ideal) (k0_pay93 (iota Kind.tc S64x64 32 [0] iota_S64x64_d0_w32) (iota Kind.tc S64x64 32 [1] iota_S64x64_d1_w32)) (k0_pay94 (F := Ideal) (View.ld X6 (Rect.unit (s := S8x64x64) ![6, 0, 0] S1x64x64.size inb_S8x64x64_S1x64x64_6_0_0)))) (k0_pay98 (F := Ideal) (vt M X0 X1 X2 X3 X4 X5 (box 128 1536 inb_S512x2048_S64x256_128_1536))) (constant (F := Ideal) S64x256 FTy.f32 0#32) (View.ld X7 (Rect.unit (s := S8x64x1) ![6, 0, 0] S1x64x1.size inb_S8x64x1_S1x64x1_6_0_0)) (ut N X0 X1 X2 X3 (box 128 1536 inb_S512x2048_S64x256_128_1536)))⟩,
   ⟨box 64 1536 inb_S512x2048_S64x256_64_1536, (k0_pay97 (F := Ideal) (k0_pay93 (iota Kind.tc S64x64 32 [0] iota_S64x64_d0_w32) (iota Kind.tc S64x64 32 [1] iota_S64x64_d1_w32)) (k0_pay94 (F := Ideal) (View.ld X6 (Rect.unit (s := S8x64x64) ![6, 0, 0] S1x64x64.size inb_S8x64x64_S1x64x64_6_0_0))) (vt M X0 X1 X2 X3 X4 X5 (box 64 1536 inb_S512x2048_S64x256_64_1536)) (View.ld X7 (Rect.unit (s := S8x64x1) ![6, 0, 0] S1x64x1.size inb_S8x64x1_S1x64x1_6_0_0)) (ut N X0 X1 X2 X3 (box 64 1536 inb_S512x2048_S64x256_64_1536)))⟩,
   ⟨box 0 1536 inb_S512x2048_S64x256_0_1536, (k0_pay96 (F := Ideal) (k0_pay93 (iota Kind.tc S64x64 32 [0] iota_S64x64_d0_w32) (iota Kind.tc S64x64 32 [1] iota_S64x64_d1_w32)) (k0_pay94 (F := Ideal) (View.ld X6 (Rect.unit (s := S8x64x64) ![6, 0, 0] S1x64x64.size inb_S8x64x64_S1x64x64_6_0_0))) (vt M X0 X1 X2 X3 X4 X5 (box 0 1536 inb_S512x2048_S64x256_0_1536)) (View.ld X7 (Rect.unit (s := S8x64x1) ![6, 0, 0] S1x64x1.size inb_S8x64x1_S1x64x1_6_0_0)) (ut N X0 X1 X2 X3 (box 0 1536 inb_S512x2048_S64x256_0_1536)))⟩,
   ⟨box 448 1280 inb_S512x2048_S64x256_448_1280, (k0_pay92 (F := Ideal) (k0_pay82 (F := Ideal) (iota Kind.tc S64x64 32 [0] iota_S64x64_d0_w32) (iota Kind.tc S64x64 32 [1] iota_S64x64_d1_w32) (View.ld X6 (Rect.unit (s := S8x64x64) ![5, 0, 0] S1x64x64.size inb_S8x64x64_S1x64x64_5_0_0))) (vt M X0 X1 X2 X3 X4 X5 (box 448 1280 inb_S512x2048_S64x256_448_1280)) (View.ld X7 (Rect.unit (s := S8x64x1) ![5, 0, 0] S1x64x1.size inb_S8x64x1_S1x64x1_5_0_0)) (ut N X0 X1 X2 X3 (box 448 1280 inb_S512x2048_S64x256_448_1280)))⟩,
   ⟨box 384 1280 inb_S512x2048_S64x256_384_1280, (k0_pay91 (F := Ideal) (k0_pay82 (F := Ideal) (iota Kind.tc S64x64 32 [0] iota_S64x64_d0_w32) (iota Kind.tc S64x64 32 [1] iota_S64x64_d1_w32) (View.ld X6 (Rect.unit (s := S8x64x64) ![5, 0, 0] S1x64x64.size inb_S8x64x64_S1x64x64_5_0_0))) (vt M X0 X1 X2 X3 X4 X5 (box 384 1280 inb_S512x2048_S64x256_384_1280)) (View.ld X7 (Rect.unit (s := S8x64x1) ![5, 0, 0] S1x64x1.size inb_S8x64x1_S1x64x1_5_0_0)) (ut N X0 X1 X2 X3 (box 384 1280 inb_S512x2048_S64x256_384_1280)))⟩,
   ⟨box 320 1280 inb_S512x2048_S64x256_320_1280, (k0_pay90 (F := Ideal) (k0_pay89 (F := Ideal) (k0_pay82 (F := Ideal) (iota Kind.tc S64x64 32 [0] iota_S64x64_d0_w32) (iota Kind.tc S64x64 32 [1] iota_S64x64_d1_w32) (View.ld X6 (Rect.unit (s := S8x64x64) ![5, 0, 0] S1x64x64.size inb_S8x64x64_S1x64x64_5_0_0))) (vt M X0 X1 X2 X3 X4 X5 (box 320 1280 inb_S512x2048_S64x256_320_1280)) (View.ld X7 (Rect.unit (s := S8x64x1) ![5, 0, 0] S1x64x1.size inb_S8x64x1_S1x64x1_5_0_0)) (ut N X0 X1 X2 X3 (box 320 1280 inb_S512x2048_S64x256_320_1280))))⟩,
   ⟨box 256 1280 inb_S512x2048_S64x256_256_1280, (k0_pay88 (F := Ideal) (k0_pay82 (F := Ideal) (iota Kind.tc S64x64 32 [0] iota_S64x64_d0_w32) (iota Kind.tc S64x64 32 [1] iota_S64x64_d1_w32) (View.ld X6 (Rect.unit (s := S8x64x64) ![5, 0, 0] S1x64x64.size inb_S8x64x64_S1x64x64_5_0_0))) (vt M X0 X1 X2 X3 X4 X5 (box 256 1280 inb_S512x2048_S64x256_256_1280)) (View.ld X7 (Rect.unit (s := S8x64x1) ![5, 0, 0] S1x64x1.size inb_S8x64x1_S1x64x1_5_0_0)) (ut N X0 X1 X2 X3 (box 256 1280 inb_S512x2048_S64x256_256_1280)))⟩,
   ⟨box 192 1280 inb_S512x2048_S64x256_192_1280, (k0_pay87 (F := Ideal) (k0_pay86 (F := Ideal) (k0_pay82 (F := Ideal) (iota Kind.tc S64x64 32 [0] iota_S64x64_d0_w32) (iota Kind.tc S64x64 32 [1] iota_S64x64_d1_w32) (View.ld X6 (Rect.unit (s := S8x64x64) ![5, 0, 0] S1x64x64.size inb_S8x64x64_S1x64x64_5_0_0))) (vt M X0 X1 X2 X3 X4 X5 (box 192 1280 inb_S512x2048_S64x256_192_1280))) (View.ld X7 (Rect.unit (s := S8x64x1) ![5, 0, 0] S1x64x1.size inb_S8x64x1_S1x64x1_5_0_0)) (ut N X0 X1 X2 X3 (box 192 1280 inb_S512x2048_S64x256_192_1280)))⟩,
   ⟨box 128 1280 inb_S512x2048_S64x256_128_1280, (k0_pay85 (F := Ideal) (k0_pay82 (F := Ideal) (iota Kind.tc S64x64 32 [0] iota_S64x64_d0_w32) (iota Kind.tc S64x64 32 [1] iota_S64x64_d1_w32) (View.ld X6 (Rect.unit (s := S8x64x64) ![5, 0, 0] S1x64x64.size inb_S8x64x64_S1x64x64_5_0_0))) (vt M X0 X1 X2 X3 X4 X5 (box 128 1280 inb_S512x2048_S64x256_128_1280)) (View.ld X7 (Rect.unit (s := S8x64x1) ![5, 0, 0] S1x64x1.size inb_S8x64x1_S1x64x1_5_0_0)) (ut N X0 X1 X2 X3 (box 128 1280 inb_S512x2048_S64x256_128_1280)))⟩,
   ⟨box 64 1280 inb_S512x2048_S64x256_64_1280, (k0_pay84 (F := Ideal) (k0_pay82 (F := Ideal) (iota Kind.tc S64x64 32 [0] iota_S64x64_d0_w32) (iota Kind.tc S64x64 32 [1] iota_S64x64_d1_w32) (View.ld X6 (Rect.unit (s := S8x64x64) ![5, 0, 0] S1x64x64.size inb_S8x64x64_S1x64x64_5_0_0))) (vt M X0 X1 X2 X3 X4 X5 (box 64 1280 inb_S512x2048_S64x256_64_1280)) (View.ld X7 (Rect.unit (s := S8x64x1) ![5, 0, 0] S1x64x1.size inb_S8x64x1_S1x64x1_5_0_0)) (ut N X0 X1 X2 X3 (box 64 1280 inb_S512x2048_S64x256_64_1280)))⟩,
   ⟨box 0 1280 inb_S512x2048_S64x256_0_1280, (k0_pay83 (F := Ideal) (iota Kind.tc S64x64 32 [0] iota_S64x64_d0_w32) (iota Kind.tc S64x64 32 [1] iota_S64x64_d1_w32) (View.ld X6 (Rect.unit (s := S8x64x64) ![5, 0, 0] S1x64x64.size inb_S8x64x64_S1x64x64_5_0_0)) (vt M X0 X1 X2 X3 X4 X5 (box 0 1280 inb_S512x2048_S64x256_0_1280)) (View.ld X7 (Rect.unit (s := S8x64x1) ![5, 0, 0] S1x64x1.size inb_S8x64x1_S1x64x1_5_0_0)) (ut N X0 X1 X2 X3 (box 0 1280 inb_S512x2048_S64x256_0_1280)))⟩,
   ⟨box 448 1024 inb_S512x2048_S64x256_448_1024, (k0_pay81 (F := Ideal) (k0_pay71 (F := Ideal) (k0_pay69 (iota Kind.tc S64x64 32 [0] iota_S64x64_d0_w32) (iota Kind.tc S64x64 32 [1] iota_S64x64_d1_w32)) (k0_pay70 (F := Ideal) (View.ld X6 (Rect.unit (s := S8x64x64) ![4, 0, 0] S1x64x64.size inb_S8x64x64_S1x64x64_4_0_0)))) (vt M X0 X1 X2 X3 X4 X5 (box 448 1024 inb_S512x2048_S64x256_448_1024)) (View.ld X7 (Rect.unit (s := S8x64x1) ![4, 0, 0] S1x64x1.size inb_S8x64x1_S1x64x1_4_0_0)) (ut N X0 X1 X2 X3 (box 448 1024 inb_S512x2048_S64x256_448_1024)))⟩,
   ⟨box 384 1024 inb_S512x2048_S64x256_384_1024, (k0_pay80 (F := Ideal) (k0_pay71 (F := Ideal) (k0_pay69 (iota Kind.tc S64x64 32 [0] iota_S64x64_d0_w32) (iota Kind.tc S64x64 32 [1] iota_S64x64_d1_w32)) (k0_pay70 (F := Ideal) (View.ld X6 (Rect.unit (s := S8x64x64) ![4, 0, 0] S1x64x64.size inb_S8x64x64_S1x64x64_4_0_0)))) (vt M X0 X1 X2 X3 X4 X5 (box 384 1024 inb_S512x2048_S64x256_384_1024)) (View.ld X7 (Rect.unit (s := S8x64x1) ![4, 0, 0] S1x64x1.size inb_S8x64x1_S1x64x1_4_0_0)) (ut N X0 X1 X2 X3 (box 384 1024 inb_S512x2048_S64x256_384_1024)))⟩,
   ⟨box 320 1024 inb_S512x2048_S64x256_320_1024, (k0_pay79 (F := Ideal) (k0_pay71 (F := Ideal) (k0_pay69 (iota Kind.tc S64x64 32 [0] iota_S64x64_d0_w32) (iota Kind.tc S64x64 32 [1] iota_S64x64_d1_w32)) (k0_pay70 (F := Ideal) (View.ld X6 (Rect.unit (s := S8x64x64) ![4, 0, 0] S1x64x64.size inb_S8x64x64_S1x64x64_4_0_0)))) (vt M X0 X1 X2 X3 X4 X5 (box 320 1024 inb_S512x2048_S64x256_320_1024)) (View.ld X7 (Rect.unit (s := S8x64x1) ![4, 0, 0] S1x64x1.size inb_S8x64x1_S1x64x1_4_0_0)) (ut N X0 X1 X2 X3 (box 320 1024 inb_S512x2048_S64x256_320_1024)))⟩,
   ⟨box 256 1024 inb_S512x2048_S64x256_256_1024, (k0_pay78 (F := Ideal) (k0_pay77 (F := Ideal) (k0_pay71 (F := Ideal) (k0_pay69 (iota Kind.tc S64x64 32 [0] iota_S64x64_d0_w32) (iota Kind.tc S64x64 32 [1] iota_S64x64_d1_w32)) (k0_pay70 (F := Ideal) (View.ld X6 (Rect.unit (s := S8x64x64) ![4, 0, 0] S1x64x64.size inb_S8x64x64_S1x64x64_4_0_0)))) (vt M X0 X1 X2 X3 X4 X5 (box 256 1024 inb_S512x2048_S64x256_256_1024)) (View.ld X7 (Rect.unit (s := S8x64x1) ![4, 0, 0] S1x64x1.size inb_S8x64x1_S1x64x1_4_0_0))) (ut N X0 X1 X2 X3 (box 256 1024 inb_S512x2048_S64x256_256_1024)))⟩,
   ⟨box 192 1024 inb_S512x2048_S64x256_192_1024, (k0_pay76 (F := Ideal) (k0_pay71 (F := Ideal) (k0_pay69 (iota Kind.tc S64x64 32 [0] iota_S64x64_d0_w32) (iota Kind.tc S64x64 32 [1] iota_S64x64_d1_w32)) (k0_pay70 (F := Ideal) (View.ld X6 (Rect.unit (s := S8x64x64) ![4, 0, 0] S1x64x64.size inb_S8x64x64_S1x64x64_4_0_0)))) (vt M X0 X1 X2 X3 X4 X5 (box 192 1024 inb_S512x2048_S64x256_192_1024)) (View.ld X7 (Rect.unit (s := S8x64x1) ![4, 0, 0] S1x64x1.size inb_S8x64x1_S1x64x1_4_0_0)) (ut N X0 X1 X2 X3 (box 192 1024 inb_S512x2048_S64x256_192_1024)))⟩,
   ⟨box 128 1024 inb_S512x2048_S64x256_128_1024, (k0_pay75 (F := Ideal) (k0_pay71 (F := Ideal) (k0_pay69 (iota Kind.tc S64x64 32 [0] iota_S64x64_d0_w32) (iota Kind.tc S64x64 32 [1] iota_S64x64_d1_w32)) (k0_pay70 (F := Ideal) (View.ld X6 (Rect.unit (s := S8x64x64) ![4, 0, 0] S1x64x64.size inb_S8x64x64_S1x64x64_4_0_0)))) (k0_pay74 (F := Ideal) (vt M X0 X1 X2 X3 X4 X5 (box 128 1024 inb_S512x2048_S64x256_128_1024))) (constant (F := Ideal) S64x256 FTy.f32 0#32) (View.ld X7 (Rect.unit (s := S8x64x1) ![4, 0, 0] S1x64x1.size inb_S8x64x1_S1x64x1_4_0_0)) (ut N X0 X1 X2 X3 (box 128 1024 inb_S512x2048_S64x256_128_1024)))⟩,
   ⟨box 64 1024 inb_S512x2048_S64x256_64_1024, (k0_pay73 (F := Ideal) (k0_pay69 (iota Kind.tc S64x64 32 [0] iota_S64x64_d0_w32) (iota Kind.tc S64x64 32 [1] iota_S64x64_d1_w32)) (k0_pay70 (F := Ideal) (View.ld X6 (Rect.unit (s := S8x64x64) ![4, 0, 0] S1x64x64.size inb_S8x64x64_S1x64x64_4_0_0))) (vt M X0 X1 X2 X3 X4 X5 (box 64 1024 inb_S512x2048_S64x256_64_1024)) (View.ld X7 (Rect.unit (s := S8x64x1) ![4, 0, 0] S1x64x1.size inb_S8x64x1_S1x64x1_4_0_0)) (ut N X0 X1 X2 X3 (box 64 1024 inb_S512x2048_S64x256_64_1024)))⟩,
   ⟨box 0 1024 inb_S512x2048_S64x256_0_1024, (k0_pay72 (F := Ideal) (k0_pay69 (iota Kind.tc S64x64 32 [0] iota_S64x64_d0_w32) (iota Kind.tc S64x64 32 [1] iota_S64x64_d1_w32)) (k0_pay70 (F := Ideal) (View.ld X6 (Rect.unit (s := S8x64x64) ![4, 0, 0] S1x64x64.size inb_S8x64x64_S1x64x64_4_0_0))) (vt M X0 X1 X2 X3 X4 X5 (box 0 1024 inb_S512x2048_S64x256_0_1024)) (View.ld X7 (Rect.unit (s := S8x64x1) ![4, 0, 0] S1x64x1.size inb_S8x64x1_S1x64x1_4_0_0)) (ut N X0 X1 X2 X3 (box 0 1024 inb_S512x2048_S64x256_0_1024)))⟩,
   ⟨box 448 768 inb_S512x2048_S64x256_448_768, (k0_pay68 (F := Ideal) (k0_pay58 (F := Ideal) (iota Kind.tc S64x64 32 [0] iota_S64x64_d0_w32) (iota Kind.tc S64x64 32 [1] iota_S64x64_d1_w32) (View.ld X6 (Rect.unit (s := S8x64x64) ![3, 0, 0] S1x64x64.size inb_S8x64x64_S1x64x64_3_0_0))) (vt M X0 X1 X2 X3 X4 X5 (box 448 768 inb_S512x2048_S64x256_448_768)) (View.ld X7 (Rect.unit (s := S8x64x1) ![3, 0, 0] S1x64x1.size inb_S8x64x1_S1x64x1_3_0_0)) (ut N X0 X1 X2 X3 (box 448 768 inb_S512x2048_S64x256_448_768)))⟩,
   ⟨box 384 768 inb_S512x2048_S64x256_384_768, (k0_pay67 (F := Ideal) (k0_pay58 (F := Ideal) (iota Kind.tc S64x64 32 [0] iota_S64x64_d0_w32) (iota Kind.tc S64x64 32 [1] iota_S64x64_d1_w32) (View.ld X6 (Rect.unit (s := S8x64x64) ![3, 0, 0] S1x64x64.size inb_S8x64x64_S1x64x64_3_0_0))) (vt M X0 X1 X2 X3 X4 X5 (box 384 768 inb_S512x2048_S64x256_384_768)) (View.ld X7 (Rect.unit (s := S8x64x1) ![3, 0, 0] S1x64x1.size inb_S8x64x1_S1x64x1_3_0_0)) (ut N X0 X1 X2 X3 (box 384 768 inb_S512x2048_S64x256_384_768)))⟩,
   ⟨box 320 768 inb_S512x2048_S64x256_320_768, (k0_pay66 (F := Ideal) (k0_pay65 (F := Ideal) (k0_pay58 (F := Ideal) (iota Kind.tc S64x64 32 [0] iota_S64x64_d0_w32) (iota Kind.tc S64x64 32 [1] iota_S64x64_d1_w32) (View.ld X6 (Rect.unit (s := S8x64x64) ![3, 0, 0] S1x64x64.size inb_S8x64x64_S1x64x64_3_0_0))) (vt M X0 X1 X2 X3 X4 X5 (box 320 768 inb_S512x2048_S64x256_320_768)) (View.ld X7 (Rect.unit (s := S8x64x1) ![3, 0, 0] S1x64x1.size inb_S8x64x1_S1x64x1_3_0_0)) (ut N X0 X1 X2 X3 (box 320 768 inb_S512x2048_S64x256_320_768))))⟩,
   ⟨box 256 768 inb_S512x2048_S64x256_256_768, (k0_pay64 (F := Ideal) (k0_pay58 (F := Ideal) (iota Kind.tc S64x64 32 [0] iota_S64x64_d0_w32) (iota Kind.tc S64x64 32 [1] iota_S64x64_d1_w32) (View.ld X6 (Rect.unit (s := S8x64x64) ![3, 0, 0] S1x64x64.size inb_S8x64x64_S1x64x64_3_0_0))) (vt M X0 X1 X2 X3 X4 X5 (box 256 768 inb_S512x2048_S64x256_256_768)) (View.ld X7 (Rect.unit (s := S8x64x1) ![3, 0, 0] S1x64x1.size inb_S8x64x1_S1x64x1_3_0_0)) (ut N X0 X1 X2 X3 (box 256 768 inb_S512x2048_S64x256_256_768)))⟩,
   ⟨box 192 768 inb_S512x2048_S64x256_192_768, (k0_pay63 (F := Ideal) (k0_pay62 (F := Ideal) (k0_pay58 (F := Ideal) (iota Kind.tc S64x64 32 [0] iota_S64x64_d0_w32) (iota Kind.tc S64x64 32 [1] iota_S64x64_d1_w32) (View.ld X6 (Rect.unit (s := S8x64x64) ![3, 0, 0] S1x64x64.size inb_S8x64x64_S1x64x64_3_0_0))) (vt M X0 X1 X2 X3 X4 X5 (box 192 768 inb_S512x2048_S64x256_192_768))) (View.ld X7 (Rect.unit (s := S8x64x1) ![3, 0, 0] S1x64x1.size inb_S8x64x1_S1x64x1_3_0_0)) (ut N X0 X1 X2 X3 (box 192 768 inb_S512x2048_S64x256_192_768)))⟩,
   ⟨box 128 768 inb_S512x2048_S64x256_128_768, (k0_pay61 (F := Ideal) (k0_pay58 (F := Ideal) (iota Kind.tc S64x64 32 [0] iota_S64x64_d0_w32) (iota Kind.tc S64x64 32 [1] iota_S64x64_d1_w32) (View.ld X6 (Rect.unit (s := S8x64x64) ![3, 0, 0] S1x64x64.size inb_S8x64x64_S1x64x64_3_0_0))) (vt M X0 X1 X2 X3 X4 X5 (box 128 768 inb_S512x2048_S64x256_128_768)) (View.ld X7 (Rect.unit (s := S8x64x1) ![3, 0, 0] S1x64x1.size inb_S8x64x1_S1x64x1_3_0_0)) (ut N X0 X1 X2 X3 (box 128 768 inb_S512x2048_S64x256_128_768)))⟩,
   ⟨box 64 768 inb_S512x2048_S64x256_64_768, (k0_pay60 (F := Ideal) (k0_pay58 (F := Ideal) (iota Kind.tc S64x64 32 [0] iota_S64x64_d0_w32) (iota Kind.tc S64x64 32 [1] iota_S64x64_d1_w32) (View.ld X6 (Rect.unit (s := S8x64x64) ![3, 0, 0] S1x64x64.size inb_S8x64x64_S1x64x64_3_0_0))) (vt M X0 X1 X2 X3 X4 X5 (box 64 768 inb_S512x2048_S64x256_64_768)) (View.ld X7 (Rect.unit (s := S8x64x1) ![3, 0, 0] S1x64x1.size inb_S8x64x1_S1x64x1_3_0_0)) (ut N X0 X1 X2 X3 (box 64 768 inb_S512x2048_S64x256_64_768)))⟩,
   ⟨box 0 768 inb_S512x2048_S64x256_0_768, (k0_pay59 (F := Ideal) (iota Kind.tc S64x64 32 [0] iota_S64x64_d0_w32) (iota Kind.tc S64x64 32 [1] iota_S64x64_d1_w32) (View.ld X6 (Rect.unit (s := S8x64x64) ![3, 0, 0] S1x64x64.size inb_S8x64x64_S1x64x64_3_0_0)) (vt M X0 X1 X2 X3 X4 X5 (box 0 768 inb_S512x2048_S64x256_0_768)) (View.ld X7 (Rect.unit (s := S8x64x1) ![3, 0, 0] S1x64x1.size inb_S8x64x1_S1x64x1_3_0_0)) (ut N X0 X1 X2 X3 (box 0 768 inb_S512x2048_S64x256_0_768)))⟩,
   ⟨box 448 512 inb_S512x2048_S64x256_448_512, (k0_pay57 (F := Ideal) (k0_pay47 (F := Ideal) (k0_pay45 (iota Kind.tc S64x64 32 [0] iota_S64x64_d0_w32) (iota Kind.tc S64x64 32 [1] iota_S64x64_d1_w32)) (k0_pay46 (F := Ideal) (View.ld X6 (Rect.unit (s := S8x64x64) ![2, 0, 0] S1x64x64.size inb_S8x64x64_S1x64x64_2_0_0)))) (vt M X0 X1 X2 X3 X4 X5 (box 448 512 inb_S512x2048_S64x256_448_512)) (View.ld X7 (Rect.unit (s := S8x64x1) ![2, 0, 0] S1x64x1.size inb_S8x64x1_S1x64x1_2_0_0)) (ut N X0 X1 X2 X3 (box 448 512 inb_S512x2048_S64x256_448_512)))⟩,
   ⟨box 384 512 inb_S512x2048_S64x256_384_512, (k0_pay56 (F := Ideal) (k0_pay47 (F := Ideal) (k0_pay45 (iota Kind.tc S64x64 32 [0] iota_S64x64_d0_w32) (iota Kind.tc S64x64 32 [1] iota_S64x64_d1_w32)) (k0_pay46 (F := Ideal) (View.ld X6 (Rect.unit (s := S8x64x64) ![2, 0, 0] S1x64x64.size inb_S8x64x64_S1x64x64_2_0_0)))) (vt M X0 X1 X2 X3 X4 X5 (box 384 512 inb_S512x2048_S64x256_384_512)) (View.ld X7 (Rect.unit (s := S8x64x1) ![2, 0, 0] S1x64x1.size inb_S8x64x1_S1x64x1_2_0_0)) (ut N X0 X1 X2 X3 (box 384 512 inb_S512x2048_S64x256_384_512)))⟩,
   ⟨box 320 512 inb_S512x2048_S64x256_320_512, (k0_pay55 (F := Ideal) (k0_pay47 (F := Ideal) (k0_pay45 (iota Kind.tc S64x64 32 [0] iota_S64x64_d0_w32) (iota Kind.tc S64x64 32 [1] iota_S64x64_d1_w32)) (k0_pay46 (F := Ideal) (View.ld X6 (Rect.unit (s := S8x64x64) ![2, 0, 0] S1x64x64.size inb_S8x64x64_S1x64x64_2_0_0)))) (vt M X0 X1 X2 X3 X4 X5 (box 320 512 inb_S512x2048_S64x256_320_512)) (View.ld X7 (Rect.unit (s := S8x64x1) ![2, 0, 0] S1x64x1.size inb_S8x64x1_S1x64x1_2_0_0)) (ut N X0 X1 X2 X3 (box 320 512 inb_S512x2048_S64x256_320_512)))⟩,
   ⟨box 256 512 inb_S512x2048_S64x256_256_512, (k0_pay54 (F := Ideal) (k0_pay53 (F := Ideal) (k0_pay47 (F := Ideal) (k0_pay45 (iota Kind.tc S64x64 32 [0] iota_S64x64_d0_w32) (iota Kind.tc S64x64 32 [1] iota_S64x64_d1_w32)) (k0_pay46 (F := Ideal) (View.ld X6 (Rect.unit (s := S8x64x64) ![2, 0, 0] S1x64x64.size inb_S8x64x64_S1x64x64_2_0_0)))) (vt M X0 X1 X2 X3 X4 X5 (box 256 512 inb_S512x2048_S64x256_256_512)) (View.ld X7 (Rect.unit (s := S8x64x1) ![2, 0, 0] S1x64x1.size inb_S8x64x1_S1x64x1_2_0_0))) (ut N X0 X1 X2 X3 (box 256 512 inb_S512x2048_S64x256_256_512)))⟩,
   ⟨box 192 512 inb_S512x2048_S64x256_192_512, (k0_pay52 (F := Ideal) (k0_pay47 (F := Ideal) (k0_pay45 (iota Kind.tc S64x64 32 [0] iota_S64x64_d0_w32) (iota Kind.tc S64x64 32 [1] iota_S64x64_d1_w32)) (k0_pay46 (F := Ideal) (View.ld X6 (Rect.unit (s := S8x64x64) ![2, 0, 0] S1x64x64.size inb_S8x64x64_S1x64x64_2_0_0)))) (vt M X0 X1 X2 X3 X4 X5 (box 192 512 inb_S512x2048_S64x256_192_512)) (View.ld X7 (Rect.unit (s := S8x64x1) ![2, 0, 0] S1x64x1.size inb_S8x64x1_S1x64x1_2_0_0)) (ut N X0 X1 X2 X3 (box 192 512 inb_S512x2048_S64x256_192_512)))⟩,
   ⟨box 128 512 inb_S512x2048_S64x256_128_512, (k0_pay51 (F := Ideal) (k0_pay47 (F := Ideal) (k0_pay45 (iota Kind.tc S64x64 32 [0] iota_S64x64_d0_w32) (iota Kind.tc S64x64 32 [1] iota_S64x64_d1_w32)) (k0_pay46 (F := Ideal) (View.ld X6 (Rect.unit (s := S8x64x64) ![2, 0, 0] S1x64x64.size inb_S8x64x64_S1x64x64_2_0_0)))) (k0_pay50 (F := Ideal) (vt M X0 X1 X2 X3 X4 X5 (box 128 512 inb_S512x2048_S64x256_128_512))) (constant (F := Ideal) S64x256 FTy.f32 0#32) (View.ld X7 (Rect.unit (s := S8x64x1) ![2, 0, 0] S1x64x1.size inb_S8x64x1_S1x64x1_2_0_0)) (ut N X0 X1 X2 X3 (box 128 512 inb_S512x2048_S64x256_128_512)))⟩,
   ⟨box 64 512 inb_S512x2048_S64x256_64_512, (k0_pay49 (F := Ideal) (k0_pay45 (iota Kind.tc S64x64 32 [0] iota_S64x64_d0_w32) (iota Kind.tc S64x64 32 [1] iota_S64x64_d1_w32)) (k0_pay46 (F := Ideal) (View.ld X6 (Rect.unit (s := S8x64x64) ![2, 0, 0] S1x64x64.size inb_S8x64x64_S1x64x64_2_0_0))) (vt M X0 X1 X2 X3 X4 X5 (box 64 512 inb_S512x2048_S64x256_64_512)) (View.ld X7 (Rect.unit (s := S8x64x1) ![2, 0, 0] S1x64x1.size inb_S8x64x1_S1x64x1_2_0_0)) (ut N X0 X1 X2 X3 (box 64 512 inb_S512x2048_S64x256_64_512)))⟩,
   ⟨box 0 512 inb_S512x2048_S64x256_0_512, (k0_pay48 (F := Ideal) (k0_pay45 (iota Kind.tc S64x64 32 [0] iota_S64x64_d0_w32) (iota Kind.tc S64x64 32 [1] iota_S64x64_d1_w32)) (k0_pay46 (F := Ideal) (View.ld X6 (Rect.unit (s := S8x64x64) ![2, 0, 0] S1x64x64.size inb_S8x64x64_S1x64x64_2_0_0))) (vt M X0 X1 X2 X3 X4 X5 (box 0 512 inb_S512x2048_S64x256_0_512)) (View.ld X7 (Rect.unit (s := S8x64x1) ![2, 0, 0] S1x64x1.size inb_S8x64x1_S1x64x1_2_0_0)) (ut N X0 X1 X2 X3 (box 0 512 inb_S512x2048_S64x256_0_512)))⟩,
   ⟨box 448 256 inb_S512x2048_S64x256_448_256, (k0_pay44 (F := Ideal) (k0_pay34 (F := Ideal) (iota Kind.tc S64x64 32 [0] iota_S64x64_d0_w32) (iota Kind.tc S64x64 32 [1] iota_S64x64_d1_w32) (View.ld X6 (Rect.unit (s := S8x64x64) ![1, 0, 0] S1x64x64.size inb_S8x64x64_S1x64x64_1_0_0))) (vt M X0 X1 X2 X3 X4 X5 (box 448 256 inb_S512x2048_S64x256_448_256)) (View.ld X7 (Rect.unit (s := S8x64x1) ![1, 0, 0] S1x64x1.size inb_S8x64x1_S1x64x1_1_0_0)) (ut N X0 X1 X2 X3 (box 448 256 inb_S512x2048_S64x256_448_256)))⟩,
   ⟨box 384 256 inb_S512x2048_S64x256_384_256, (k0_pay43 (F := Ideal) (k0_pay34 (F := Ideal) (iota Kind.tc S64x64 32 [0] iota_S64x64_d0_w32) (iota Kind.tc S64x64 32 [1] iota_S64x64_d1_w32) (View.ld X6 (Rect.unit (s := S8x64x64) ![1, 0, 0] S1x64x64.size inb_S8x64x64_S1x64x64_1_0_0))) (vt M X0 X1 X2 X3 X4 X5 (box 384 256 inb_S512x2048_S64x256_384_256)) (View.ld X7 (Rect.unit (s := S8x64x1) ![1, 0, 0] S1x64x1.size inb_S8x64x1_S1x64x1_1_0_0)) (ut N X0 X1 X2 X3 (box 384 256 inb_S512x2048_S64x256_384_256)))⟩,
   ⟨box 320 256 inb_S512x2048_S64x256_320_256, (k0_pay42 (F := Ideal) (k0_pay41 (F := Ideal) (k0_pay34 (F := Ideal) (iota Kind.tc S64x64 32 [0] iota_S64x64_d0_w32) (iota Kind.tc S64x64 32 [1] iota_S64x64_d1_w32) (View.ld X6 (Rect.unit (s := S8x64x64) ![1, 0, 0] S1x64x64.size inb_S8x64x64_S1x64x64_1_0_0))) (vt M X0 X1 X2 X3 X4 X5 (box 320 256 inb_S512x2048_S64x256_320_256)) (View.ld X7 (Rect.unit (s := S8x64x1) ![1, 0, 0] S1x64x1.size inb_S8x64x1_S1x64x1_1_0_0)) (ut N X0 X1 X2 X3 (box 320 256 inb_S512x2048_S64x256_320_256))))⟩,
   ⟨box 256 256 inb_S512x2048_S64x256_256_256, (k0_pay40 (F := Ideal) (k0_pay34 (F := Ideal) (iota Kind.tc S64x64 32 [0] iota_S64x64_d0_w32) (iota Kind.tc S64x64 32 [1] iota_S64x64_d1_w32) (View.ld X6 (Rect.unit (s := S8x64x64) ![1, 0, 0] S1x64x64.size inb_S8x64x64_S1x64x64_1_0_0))) (vt M X0 X1 X2 X3 X4 X5 (box 256 256 inb_S512x2048_S64x256_256_256)) (View.ld X7 (Rect.unit (s := S8x64x1) ![1, 0, 0] S1x64x1.size inb_S8x64x1_S1x64x1_1_0_0)) (ut N X0 X1 X2 X3 (box 256 256 inb_S512x2048_S64x256_256_256)))⟩,
   ⟨box 192 256 inb_S512x2048_S64x256_192_256, (k0_pay39 (F := Ideal) (k0_pay38 (F := Ideal) (k0_pay34 (F := Ideal) (iota Kind.tc S64x64 32 [0] iota_S64x64_d0_w32) (iota Kind.tc S64x64 32 [1] iota_S64x64_d1_w32) (View.ld X6 (Rect.unit (s := S8x64x64) ![1, 0, 0] S1x64x64.size inb_S8x64x64_S1x64x64_1_0_0))) (vt M X0 X1 X2 X3 X4 X5 (box 192 256 inb_S512x2048_S64x256_192_256))) (View.ld X7 (Rect.unit (s := S8x64x1) ![1, 0, 0] S1x64x1.size inb_S8x64x1_S1x64x1_1_0_0)) (ut N X0 X1 X2 X3 (box 192 256 inb_S512x2048_S64x256_192_256)))⟩,
   ⟨box 128 256 inb_S512x2048_S64x256_128_256, (k0_pay37 (F := Ideal) (k0_pay34 (F := Ideal) (iota Kind.tc S64x64 32 [0] iota_S64x64_d0_w32) (iota Kind.tc S64x64 32 [1] iota_S64x64_d1_w32) (View.ld X6 (Rect.unit (s := S8x64x64) ![1, 0, 0] S1x64x64.size inb_S8x64x64_S1x64x64_1_0_0))) (vt M X0 X1 X2 X3 X4 X5 (box 128 256 inb_S512x2048_S64x256_128_256)) (View.ld X7 (Rect.unit (s := S8x64x1) ![1, 0, 0] S1x64x1.size inb_S8x64x1_S1x64x1_1_0_0)) (ut N X0 X1 X2 X3 (box 128 256 inb_S512x2048_S64x256_128_256)))⟩,
   ⟨box 64 256 inb_S512x2048_S64x256_64_256, (k0_pay36 (F := Ideal) (k0_pay34 (F := Ideal) (iota Kind.tc S64x64 32 [0] iota_S64x64_d0_w32) (iota Kind.tc S64x64 32 [1] iota_S64x64_d1_w32) (View.ld X6 (Rect.unit (s := S8x64x64) ![1, 0, 0] S1x64x64.size inb_S8x64x64_S1x64x64_1_0_0))) (vt M X0 X1 X2 X3 X4 X5 (box 64 256 inb_S512x2048_S64x256_64_256)) (View.ld X7 (Rect.unit (s := S8x64x1) ![1, 0, 0] S1x64x1.size inb_S8x64x1_S1x64x1_1_0_0)) (ut N X0 X1 X2 X3 (box 64 256 inb_S512x2048_S64x256_64_256)))⟩,
   ⟨box 0 256 inb_S512x2048_S64x256_0_256, (k0_pay35 (F := Ideal) (iota Kind.tc S64x64 32 [0] iota_S64x64_d0_w32) (iota Kind.tc S64x64 32 [1] iota_S64x64_d1_w32) (View.ld X6 (Rect.unit (s := S8x64x64) ![1, 0, 0] S1x64x64.size inb_S8x64x64_S1x64x64_1_0_0)) (vt M X0 X1 X2 X3 X4 X5 (box 0 256 inb_S512x2048_S64x256_0_256)) (View.ld X7 (Rect.unit (s := S8x64x1) ![1, 0, 0] S1x64x1.size inb_S8x64x1_S1x64x1_1_0_0)) (ut N X0 X1 X2 X3 (box 0 256 inb_S512x2048_S64x256_0_256)))⟩,
   ⟨box 448 0 inb_S512x2048_S64x256_448_0, (k0_pay33 (F := Ideal) (k0_pay23 (F := Ideal) k0_pay21 (k0_pay22 (F := Ideal) (View.ld X6 (Rect.unit (s := S8x64x64) ![0, 0, 0] S1x64x64.size inb_S8x64x64_S1x64x64_0_0_0)))) (vt M X0 X1 X2 X3 X4 X5 (box 448 0 inb_S512x2048_S64x256_448_0)) (View.ld X7 (Rect.unit (s := S8x64x1) ![0, 0, 0] S1x64x1.size inb_S8x64x1_S1x64x1_0_0_0)) (ut N X0 X1 X2 X3 (box 448 0 inb_S512x2048_S64x256_448_0)))⟩,
   ⟨box 384 0 inb_S512x2048_S64x256_384_0, (k0_pay32 (F := Ideal) (k0_pay23 (F := Ideal) k0_pay21 (k0_pay22 (F := Ideal) (View.ld X6 (Rect.unit (s := S8x64x64) ![0, 0, 0] S1x64x64.size inb_S8x64x64_S1x64x64_0_0_0)))) (vt M X0 X1 X2 X3 X4 X5 (box 384 0 inb_S512x2048_S64x256_384_0)) (View.ld X7 (Rect.unit (s := S8x64x1) ![0, 0, 0] S1x64x1.size inb_S8x64x1_S1x64x1_0_0_0)) (ut N X0 X1 X2 X3 (box 384 0 inb_S512x2048_S64x256_384_0)))⟩,
   ⟨box 320 0 inb_S512x2048_S64x256_320_0, (k0_pay31 (F := Ideal) (k0_pay23 (F := Ideal) k0_pay21 (k0_pay22 (F := Ideal) (View.ld X6 (Rect.unit (s := S8x64x64) ![0, 0, 0] S1x64x64.size inb_S8x64x64_S1x64x64_0_0_0)))) (vt M X0 X1 X2 X3 X4 X5 (box 320 0 inb_S512x2048_S64x256_320_0)) (View.ld X7 (Rect.unit (s := S8x64x1) ![0, 0, 0] S1x64x1.size inb_S8x64x1_S1x64x1_0_0_0)) (ut N X0 X1 X2 X3 (box 320 0 inb_S512x2048_S64x256_320_0)))⟩,
   ⟨box 256 0 inb_S512x2048_S64x256_256_0, (k0_pay30 (F := Ideal) (k0_pay29 (F := Ideal) (k0_pay23 (F := Ideal) k0_pay21 (k0_pay22 (F := Ideal) (View.ld X6 (Rect.unit (s := S8x64x64) ![0, 0, 0] S1x64x64.size inb_S8x64x64_S1x64x64_0_0_0)))) (vt M X0 X1 X2 X3 X4 X5 (box 256 0 inb_S512x2048_S64x256_256_0)) (View.ld X7 (Rect.unit (s := S8x64x1) ![0, 0, 0] S1x64x1.size inb_S8x64x1_S1x64x1_0_0_0))) (ut N X0 X1 X2 X3 (box 256 0 inb_S512x2048_S64x256_256_0)))⟩,
   ⟨box 192 0 inb_S512x2048_S64x256_192_0, (k0_pay28 (F := Ideal) (k0_pay23 (F := Ideal) k0_pay21 (k0_pay22 (F := Ideal) (View.ld X6 (Rect.unit (s := S8x64x64) ![0, 0, 0] S1x64x64.size inb_S8x64x64_S1x64x64_0_0_0)))) (vt M X0 X1 X2 X3 X4 X5 (box 192 0 inb_S512x2048_S64x256_192_0)) (View.ld X7 (Rect.unit (s := S8x64x1) ![0, 0, 0] S1x64x1.size inb_S8x64x1_S1x64x1_0_0_0)) (ut N X0 X1 X2 X3 (box 192 0 inb_S512x2048_S64x256_192_0)))⟩,
   ⟨box 128 0 inb_S512x2048_S64x256_128_0, (k0_pay27 (F := Ideal) (k0_pay23 (F := Ideal) k0_pay21 (k0_pay22 (F := Ideal) (View.ld X6 (Rect.unit (s := S8x64x64) ![0, 0, 0] S1x64x64.size inb_S8x64x64_S1x64x64_0_0_0)))) (k0_pay26 (F := Ideal) (vt M X0 X1 X2 X3 X4 X5 (box 128 0 inb_S512x2048_S64x256_128_0))) (constant (F := Ideal) S64x256 FTy.f32 0#32) (View.ld X7 (Rect.unit (s := S8x64x1) ![0, 0, 0] S1x64x1.size inb_S8x64x1_S1x64x1_0_0_0)) (ut N X0 X1 X2 X3 (box 128 0 inb_S512x2048_S64x256_128_0)))⟩,
   ⟨box 64 0 inb_S512x2048_S64x256_64_0, (k0_pay25 (F := Ideal) k0_pay21 (k0_pay22 (F := Ideal) (View.ld X6 (Rect.unit (s := S8x64x64) ![0, 0, 0] S1x64x64.size inb_S8x64x64_S1x64x64_0_0_0))) (vt M X0 X1 X2 X3 X4 X5 (box 64 0 inb_S512x2048_S64x256_64_0)) (View.ld X7 (Rect.unit (s := S8x64x1) ![0, 0, 0] S1x64x1.size inb_S8x64x1_S1x64x1_0_0_0)) (ut N X0 X1 X2 X3 (box 64 0 inb_S512x2048_S64x256_64_0)))⟩,
   ⟨box 0 0 inb_S512x2048_S64x256_0_0, (k0_pay24 (F := Ideal) k0_pay21 (k0_pay22 (F := Ideal) (View.ld X6 (Rect.unit (s := S8x64x64) ![0, 0, 0] S1x64x64.size inb_S8x64x64_S1x64x64_0_0_0))) (vt M X0 X1 X2 X3 X4 X5 (box 0 0 inb_S512x2048_S64x256_0_0)) (View.ld X7 (Rect.unit (s := S8x64x1) ![0, 0, 0] S1x64x1.size inb_S8x64x1_S1x64x1_0_0_0)) (ut N X0 X1 X2 X3 (box 0 0 inb_S512x2048_S64x256_0_0)))⟩]

end

end Gmlp

end
-- ==== Proof.GmlpForms.lean ====
/- The sample's gMLP: the 64 gatings are one. -/
module

public import proofs.«01_k».proof.Proof.GmlpLists

@[expose] public section

set_option maxRecDepth 16384

noncomputable section

open Idealize.ShloMosaic Idealize.ShloMosaic.TcCoe Idealize.SL.Sem
open Idealize.ShloMosaic.Pipeline (Dat)
open scoped BigOperators

namespace Gmlp

section
open Cert.GmlpIdeal Cert.GmlpIdeal.Gen
theorem form_0 : (fun (ws : Vec Ideal S1x64x64 .f32) (v : Vec Ideal S64x256 .f32) (bs : Vec Ideal S1x64x1 .f32) (u : Vec Ideal S64x256 .f32) => (k0_pay116 (F := Ideal) (k0_pay106 (F := Ideal) (iota Kind.tc S64x64 32 [0] iota_S64x64_d0_w32) (iota Kind.tc S64x64 32 [1] iota_S64x64_d1_w32) ws) v bs u)) = gate := by
  funext ws v bs u
  simp only [k0_pay106, k0_pay116, gate, k0_pay35, k0_pay34]

theorem form_1 : (fun (ws : Vec Ideal S1x64x64 .f32) (v : Vec Ideal S64x256 .f32) (bs : Vec Ideal S1x64x1 .f32) (u : Vec Ideal S64x256 .f32) => (k0_pay115 (F := Ideal) (k0_pay106 (F := Ideal) (iota Kind.tc S64x64 32 [0] iota_S64x64_d0_w32) (iota Kind.tc S64x64 32 [1] iota_S64x64_d1_w32) ws) v bs u)) = gate := by
  funext ws v bs u
  simp only [k0_pay106, k0_pay115, gate, k0_pay35, k0_pay34]

theorem form_2 : (fun (ws : Vec Ideal S1x64x64 .f32) (v : Vec Ideal S64x256 .f32) (bs : Vec Ideal S1x64x1 .f32) (u : Vec Ideal S64x256 .f32) => (k0_pay114 (F := Ideal) (k0_pay113 (F := Ideal) (k0_pay106 (F := Ideal) (iota Kind.tc S64x64 32 [0] iota_S64x64_d0_w32) (iota Kind.tc S64x64 32 [1] iota_S64x64_d1_w32) ws) v bs u))) = gate := by
  funext ws v bs u
  simp only [k0_pay106, k0_pay113, k0_pay114, gate, k0_pay35, k0_pay34]

theorem form_3 : (fun (ws : Vec Ideal S1x64x64 .f32) (v : Vec Ideal S64x256 .f32) (bs : Vec Ideal S1x64x1 .f32) (u : Vec Ideal S64x256 .f32) => (k0_pay112 (F := Ideal) (k0_pay106 (F := Ideal) (iota Kind.tc S64x64 32 [0] iota_S64x64_d0_w32) (iota Kind.tc S64x64 32 [1] iota_S64x64_d1_w32) ws) v bs u)) = gate := by
  funext ws v bs u
  simp only [k0_pay106, k0_pay112, gate, k0_pay35, k0_pay34]

theorem form_4 : (fun (ws : Vec Ideal S1x64x64 .f32) (v : Vec Ideal S64x256 .f32) (bs : Vec Ideal S1x64x1 .f32) (u : Vec Ideal S64x256 .f32) => (k0_pay111 (F := Ideal) (k0_pay110 (F := Ideal) (k0_pay106 (F := Ideal) (iota Kind.tc S64x64 32 [0] iota_S64x64_d0_w32) (iota Kind.tc S64x64 32 [1] iota_S64x64_d1_w32) ws) v) bs u)) = gate := by
  funext ws v bs u
  simp only [k0_pay106, k0_pay110, k0_pay111, gate, k0_pay35, k0_pay34]

theorem form_5 : (fun (ws : Vec Ideal S1x64x64 .f32) (v : Vec Ideal S64x256 .f32) (bs : Vec Ideal S1x64x1 .f32) (u : Vec Ideal S64x256 .f32) => (k0_pay109 (F := Ideal) (k0_pay106 (F := Ideal) (iota Kind.tc S64x64 32 [0] iota_S64x64_d0_w32) (iota Kind.tc S64x64 32 [1] iota_S64x64_d1_w32) ws) v bs u)) = gate := by
  funext ws v bs u
  simp only [k0_pay106, k0_pay109, gate, k0_pay35, k0_pay34]

theorem form_6 : (fun (ws : Vec Ideal S1x64x64 .f32) (v : Vec Ideal S64x256 .f32) (bs : Vec Ideal S1x64x1 .f32) (u : Vec Ideal S64x256 .f32) => (k0_pay108 (F := Ideal) (k0_pay106 (F := Ideal) (iota Kind.tc S64x64 32 [0] iota_S64x64_d0_w32) (iota Kind.tc S64x64 32 [1] iota_S64x64_d1_w32) ws) v bs u)) = gate := by
  funext ws v bs u
  simp only [k0_pay106, k0_pay108, gate, k0_pay35, k0_pay34]

theorem form_7 : (fun (ws : Vec Ideal S1x64x64 .f32) (v : Vec Ideal S64x256 .f32) (bs : Vec Ideal S1x64x1 .f32) (u : Vec Ideal S64x256 .f32) => (k0_pay107 (F := Ideal) (iota Kind.tc S64x64 32 [0] iota_S64x64_d0_w32) (iota Kind.tc S64x64 32 [1] iota_S64x64_d1_w32) ws v bs u)) = gate := by
  funext ws v bs u
  simp only [k0_pay106, k0_pay107, gate, k0_pay35, k0_pay34]

theorem form_8 : (fun (ws : Vec Ideal S1x64x64 .f32) (v : Vec Ideal S64x256 .f32) (bs : Vec Ideal S1x64x1 .f32) (u : Vec Ideal S64x256 .f32) => (k0_pay105 (F := Ideal) (k0_pay95 (F := Ideal) (k0_pay93 (iota Kind.tc S64x64 32 [0] iota_S64x64_d0_w32) (iota Kind.tc S64x64 32 [1] iota_S64x64_d1_w32)) (k0_pay94 (F := Ideal) ws)) v bs u)) = gate := by
  funext ws v bs u
  simp only [k0_pay105, k0_pay93, k0_pay94, k0_pay95, gate, k0_pay35, k0_pay34]

theorem form_9 : (fun (ws : Vec Ideal S1x64x64 .f32) (v : Vec Ideal S64x256 .f32) (bs : Vec Ideal S1x64x1 .f32) (u : Vec Ideal S64x256 .f32) => (k0_pay104 (F := Ideal) (k0_pay95 (F := Ideal) (k0_pay93 (iota Kind.tc S64x64 32 [0] iota_S64x64_d0_w32) (iota Kind.tc S64x64 32 [1] iota_S64x64_d1_w32)) (k0_pay94 (F := Ideal) ws)) v bs u)) = gate := by
  funext ws v bs u
  simp only [k0_pay104, k0_pay93, k0_pay94, k0_pay95, gate, k0_pay35, k0_pay34]

theorem form_10 : (fun (ws : Vec Ideal S1x64x64 .f32) (v : Vec Ideal S64x256 .f32) (bs : Vec Ideal S1x64x1 .f32) (u : Vec Ideal S64x256 .f32) => (k0_pay103 (F := Ideal) (k0_pay95 (F := Ideal) (k0_pay93 (iota Kind.tc S64x64 32 [0] iota_S64x64_d0_w32) (iota Kind.tc S64x64 32 [1] iota_S64x64_d1_w32)) (k0_pay94 (F := Ideal) ws)) v bs u)) = gate := by
  funext ws v bs u
  simp only [k0_pay103, k0_pay93, k0_pay94, k0_pay95, gate, k0_pay35, k0_pay34]

theorem form_11 : (fun (ws : Vec Ideal S1x64x64 .f32) (v : Vec Ideal S64x256 .f32) (bs : Vec Ideal S1x64x1 .f32) (u : Vec Ideal S64x256 .f32) => (k0_pay102 (F := Ideal) (k0_pay101 (F := Ideal) (k0_pay95 (F := Ideal) (k0_pay93 (iota Kind.tc S64x64 32 [0] iota_S64x64_d0_w32) (iota Kind.tc S64x64 32 [1] iota_S64x64_d1_w32)) (k0_pay94 (F := Ideal) ws)) v bs) u)) = gate := by
  funext ws v bs u
  simp only [k0_pay101, k0_pay102, k0_pay93, k0_pay94, k0_pay95, gate, k0_pay35, k0_pay34]

theorem form_12 : (fun (ws : Vec Ideal S1x64x64 .f32) (v : Vec Ideal S64x256 .f32) (bs : Vec Ideal S1x64x1 .f32) (u : Vec Ideal S64x256 .f32) => (k0_pay100 (F := Ideal) (k0_pay95 (F := Ideal) (k0_pay93 (iota Kind.tc S64x64 32 [0] iota_S64x64_d0_w32) (iota Kind.tc S64x64 32 [1] iota_S64x64_d1_w32)) (k0_pay94 (F := Ideal) ws)) v bs u)) = gate := by
  funext ws v bs u
  simp only [k0_pay100, k0_pay93, k0_pay94, k0_pay95, gate, k0_pay35, k0_pay34]

theorem form_13 : (fun (ws : Vec Ideal S1x64x64 .f32) (v : Vec Ideal S64x256 .f32) (bs : Vec Ideal S1x64x1 .f32) (u : Vec Ideal S64x256 .f32) => (k0_pay99 (F := Ideal) (k0_pay95 (F := Ideal) (k0_pay93 (iota Kind.tc S64x64 32 [0] iota_S64x64_d0_w32) (iota Kind.tc S64x64 32 [1] iota_S64x64_d1_w32)) (k0_pay94 (F := Ideal) ws)) (k0_pay98 (F := Ideal) v) (constant (F := Ideal) S64x256 FTy.f32 0#32) bs u)) = gate := by
  funext ws v bs u
  simp only [k0_pay93, k0_pay94, k0_pay95, k0_pay98, k0_pay99, gate, k0_pay35, k0_pay34]

theorem form_14 : (fun (ws : Vec Ideal S1x64x64 .f32) (v : Vec Ideal S64x256 .f32) (bs : Vec Ideal S1x64x1 .f32) (u : Vec Ideal S64x256 .f32) => (k0_pay97 (F := Ideal) (k0_pay93 (iota Kind.tc S64x64 32 [0] iota_S64x64_d0_w32) (iota Kind.tc S64x64 32 [1] iota_S64x64_d1_w32)) (k0_pay94 (F := Ideal) ws) v bs u)) = gate := by
  funext ws v bs u
  simp only [k0_pay93, k0_pay94, k0_pay95, k0_pay97, gate, k0_pay35, k0_pay34]

theorem form_15 : (fun (ws : Vec Ideal S1x64x64 .f32) (v : Vec Ideal S64x256 .f32) (bs : Vec Ideal S1x64x1 .f32) (u : Vec Ideal S64x256 .f32) => (k0_pay96 (F := Ideal) (k0_pay93 (iota Kind.tc S64x64 32 [0] iota_S64x64_d0_w32) (iota Kind.tc S64x64 32 [1] iota_S64x64_d1_w32)) (k0_pay94 (F := Ideal) ws) v bs u)) = gate := by
  funext ws v bs u
  simp only [k0_pay93, k0_pay94, k0_pay95, k0_pay96, gate, k0_pay35, k0_pay34]

theorem form_16 : (fun (ws : Vec Ideal S1x64x64 .f32) (v : Vec Ideal S64x256 .f32) (bs : Vec Ideal S1x64x1 .f32) (u : Vec Ideal S64x256 .f32) => (k0_pay92 (F := Ideal) (k0_pay82 (F := Ideal) (iota Kind.tc S64x64 32 [0] iota_S64x64_d0_w32) (iota Kind.tc S64x64 32 [1] iota_S64x64_d1_w32) ws) v bs u)) = gate := by
  funext ws v bs u
  simp only [k0_pay82, k0_pay92, gate, k0_pay35, k0_pay34]

theorem form_17 : (fun (ws : Vec Ideal S1x64x64 .f32) (v : Vec Ideal S64x256 .f32) (bs : Vec Ideal S1x64x1 .f32) (u : Vec Ideal S64x256 .f32) => (k0_pay91 (F := Ideal) (k0_pay82 (F := Ideal) (iota Kind.tc S64x64 32 [0] iota_S64x64_d0_w32) (iota Kind.tc S64x64 32 [1] iota_S64x64_d1_w32) ws) v bs u)) = gate := by
  funext ws v bs u
  simp only [k0_pay82, k0_pay91, gate, k0_pay35, k0_pay34]

theorem form_18 : (fun (ws : Vec Ideal S1x64x64 .f32) (v : Vec Ideal S64x256 .f32) (bs : Vec Ideal S1x64x1 .f32) (u : Vec Ideal S64x256 .f32) => (k0_pay90 (F := Ideal) (k0_pay89 (F := Ideal) (k0_pay82 (F := Ideal) (iota Kind.tc S64x64 32 [0] iota_S64x64_d0_w32) (iota Kind.tc S64x64 32 [1] iota_S64x64_d1_w32) ws) v bs u))) = gate := by
  funext ws v bs u
  simp only [k0_pay82, k0_pay89, k0_pay90, gate, k0_pay35, k0_pay34]

theorem form_19 : (fun (ws : Vec Ideal S1x64x64 .f32) (v : Vec Ideal S64x256 .f32) (bs : Vec Ideal S1x64x1 .f32) (u : Vec Ideal S64x256 .f32) => (k0_pay88 (F := Ideal) (k0_pay82 (F := Ideal) (iota Kind.tc S64x64 32 [0] iota_S64x64_d0_w32) (iota Kind.tc S64x64 32 [1] iota_S64x64_d1_w32) ws) v bs u)) = gate := by
  funext ws v bs u
  simp only [k0_pay82, k0_pay88, gate, k0_pay35, k0_pay34]

theorem form_20 : (fun (ws : Vec Ideal S1x64x64 .f32) (v : Vec Ideal S64x256 .f32) (bs : Vec Ideal S1x64x1 .f32) (u : Vec Ideal S64x256 .f32) => (k0_pay87 (F := Ideal) (k0_pay86 (F := Ideal) (k0_pay82 (F := Ideal) (iota Kind.tc S64x64 32 [0] iota_S64x64_d0_w32) (iota Kind.tc S64x64 32 [1] iota_S64x64_d1_w32) ws) v) bs u)) = gate := by
  funext ws v bs u
  simp only [k0_pay82, k0_pay86, k0_pay87, gate, k0_pay35, k0_pay34]

theorem form_21 : (fun (ws : Vec Ideal S1x64x64 .f32) (v : Vec Ideal S64x256 .f32) (bs : Vec Ideal S1x64x1 .f32) (u : Vec Ideal S64x256 .f32) => (k0_pay85 (F := Ideal) (k0_pay82 (F := Ideal) (iota Kind.tc S64x64 32 [0] iota_S64x64_d0_w32) (iota Kind.tc S64x64 32 [1] iota_S64x64_d1_w32) ws) v bs u)) = gate := by
  funext ws v bs u
  simp only [k0_pay82, k0_pay85, gate, k0_pay35, k0_pay34]

theorem form_22 : (fun (ws : Vec Ideal S1x64x64 .f32) (v : Vec Ideal S64x256 .f32) (bs : Vec Ideal S1x64x1 .f32) (u : Vec Ideal S64x256 .f32) => (k0_pay84 (F := Ideal) (k0_pay82 (F := Ideal) (iota Kind.tc S64x64 32 [0] iota_S64x64_d0_w32) (iota Kind.tc S64x64 32 [1] iota_S64x64_d1_w32) ws) v bs u)) = gate := by
  funext ws v bs u
  simp only [k0_pay82, k0_pay84, gate, k0_pay35, k0_pay34]

theorem form_23 : (fun (ws : Vec Ideal S1x64x64 .f32) (v : Vec Ideal S64x256 .f32) (bs : Vec Ideal S1x64x1 .f32) (u : Vec Ideal S64x256 .f32) => (k0_pay83 (F := Ideal) (iota Kind.tc S64x64 32 [0] iota_S64x64_d0_w32) (iota Kind.tc S64x64 32 [1] iota_S64x64_d1_w32) ws v bs u)) = gate := by
  funext ws v bs u
  simp only [k0_pay82, k0_pay83, gate, k0_pay35, k0_pay34]

theorem form_24 : (fun (ws : Vec Ideal S1x64x64 .f32) (v : Vec Ideal S64x256 .f32) (bs : Vec Ideal S1x64x1 .f32) (u : Vec Ideal S64x256 .f32) => (k0_pay81 (F := Ideal) (k0_pay71 (F := Ideal) (k0_pay69 (iota Kind.tc S64x64 32 [0] iota_S64x64_d0_w32) (iota Kind.tc S64x64 32 [1] iota_S64x64_d1_w32)) (k0_pay70 (F := Ideal) ws)) v bs u)) = gate := by
  funext ws v bs u
  simp only [k0_pay69, k0_pay70, k0_pay71, k0_pay81, gate, k0_pay35, k0_pay34]

theorem form_25 : (fun (ws : Vec Ideal S1x64x64 .f32) (v : Vec Ideal S64x256 .f32) (bs : Vec Ideal S1x64x1 .f32) (u : Vec Ideal S64x256 .f32) => (k0_pay80 (F := Ideal) (k0_pay71 (F := Ideal) (k0_pay69 (iota Kind.tc S64x64 32 [0] iota_S64x64_d0_w32) (iota Kind.tc S64x64 32 [1] iota_S64x64_d1_w32)) (k0_pay70 (F := Ideal) ws)) v bs u)) = gate := by
  funext ws v bs u
  simp only [k0_pay69, k0_pay70, k0_pay71, k0_pay80, gate, k0_pay35, k0_pay34]

theorem form_26 : (fun (ws : Vec Ideal S1x64x64 .f32) (v : Vec Ideal S64x256 .f32) (bs : Vec Ideal S1x64x1 .f32) (u : Vec Ideal S64x256 .f32) => (k0_pay79 (F := Ideal) (k0_pay71 (F := Ideal) (k0_pay69 (iota Kind.tc S64x64 32 [0] iota_S64x64_d0_w32) (iota Kind.tc S64x64 32 [1] iota_S64x64_d1_w32)) (k0_pay70 (F := Ideal) ws)) v bs u)) = gate := by
  funext ws v bs u
  simp only [k0_pay69, k0_pay70, k0_pay71, k0_pay79, gate, k0_pay35, k0_pay34]

theorem form_27 : (fun (ws : Vec Ideal S1x64x64 .f32) (v : Vec Ideal S64x256 .f32) (bs : Vec Ideal S1x64x1 .f32) (u : Vec Ideal S64x256 .f32) => (k0_pay78 (F := Ideal) (k0_pay77 (F := Ideal) (k0_pay71 (F := Ideal) (k0_pay69 (iota Kind.tc S64x64 32 [0] iota_S64x64_d0_w32) (iota Kind.tc S64x64 32 [1] iota_S64x64_d1_w32)) (k0_pay70 (F := Ideal) ws)) v bs) u)) = gate := by
  funext ws v bs u
  simp only [k0_pay69, k0_pay70, k0_pay71, k0_pay77, k0_pay78, gate, k0_pay35, k0_pay34]

theorem form_28 : (fun (ws : Vec Ideal S1x64x64 .f32) (v : Vec Ideal S64x256 .f32) (bs : Vec Ideal S1x64x1 .f32) (u : Vec Ideal S64x256 .f32) => (k0_pay76 (F := Ideal) (k0_pay71 (F := Ideal) (k0_pay69 (iota Kind.tc S64x64 32 [0] iota_S64x64_d0_w32) (iota Kind.tc S64x64 32 [1] iota_S64x64_d1_w32)) (k0_pay70 (F := Ideal) ws)) v bs u)) = gate := by
  funext ws v bs u
  simp only [k0_pay69, k0_pay70, k0_pay71, k0_pay76, gate, k0_pay35, k0_pay34]

theorem form_29 : (fun (ws : Vec Ideal S1x64x64 .f32) (v : Vec Ideal S64x256 .f32) (bs : Vec Ideal S1x64x1 .f32) (u : Vec Ideal S64x256 .f32) => (k0_pay75 (F := Ideal) (k0_pay71 (F := Ideal) (k0_pay69 (iota Kind.tc S64x64 32 [0] iota_S64x64_d0_w32) (iota Kind.tc S64x64 32 [1] iota_S64x64_d1_w32)) (k0_pay70 (F := Ideal) ws)) (k0_pay74 (F := Ideal) v) (constant (F := Ideal) S64x256 FTy.f32 0#32) bs u)) = gate := by
  funext ws v bs u
  simp only [k0_pay69, k0_pay70, k0_pay71, k0_pay74, k0_pay75, gate, k0_pay35, k0_pay34]

theorem form_30 : (fun (ws : Vec Ideal S1x64x64 .f32) (v : Vec Ideal S64x256 .f32) (bs : Vec Ideal S1x64x1 .f32) (u : Vec Ideal S64x256 .f32) => (k0_pay73 (F := Ideal) (k0_pay69 (iota Kind.tc S64x64 32 [0] iota_S64x64_d0_w32) (iota Kind.tc S64x64 32 [1] iota_S64x64_d1_w32)) (k0_pay70 (F := Ideal) ws) v bs u)) = gate := by
  funext ws v bs u
  simp only [k0_pay69, k0_pay70, k0_pay71, k0_pay73, gate, k0_pay35, k0_pay34]

theorem form_31 : (fun (ws : Vec Ideal S1x64x64 .f32) (v : Vec Ideal S64x256 .f32) (bs : Vec Ideal S1x64x1 .f32) (u : Vec Ideal S64x256 .f32) => (k0_pay72 (F := Ideal) (k0_pay69 (iota Kind.tc S64x64 32 [0] iota_S64x64_d0_w32) (iota Kind.tc S64x64 32 [1] iota_S64x64_d1_w32)) (k0_pay70 (F := Ideal) ws) v bs u)) = gate := by
  funext ws v bs u
  simp only [k0_pay69, k0_pay70, k0_pay71, k0_pay72, gate, k0_pay35, k0_pay34]

theorem form_32 : (fun (ws : Vec Ideal S1x64x64 .f32) (v : Vec Ideal S64x256 .f32) (bs : Vec Ideal S1x64x1 .f32) (u : Vec Ideal S64x256 .f32) => (k0_pay68 (F := Ideal) (k0_pay58 (F := Ideal) (iota Kind.tc S64x64 32 [0] iota_S64x64_d0_w32) (iota Kind.tc S64x64 32 [1] iota_S64x64_d1_w32) ws) v bs u)) = gate := by
  funext ws v bs u
  simp only [k0_pay58, k0_pay68, gate, k0_pay35, k0_pay34]

theorem form_33 : (fun (ws : Vec Ideal S1x64x64 .f32) (v : Vec Ideal S64x256 .f32) (bs : Vec Ideal S1x64x1 .f32) (u : Vec Ideal S64x256 .f32) => (k0_pay67 (F := Ideal) (k0_pay58 (F := Ideal) (iota Kind.tc S64x64 32 [0] iota_S64x64_d0_w32) (iota Kind.tc S64x64 32 [1] iota_S64x64_d1_w32) ws) v bs u)) = gate := by
  funext ws v bs u
  simp only [k0_pay58, k0_pay67, gate, k0_pay35, k0_pay34]

theorem form_34 : (fun (ws : Vec Ideal S1x64x64 .f32) (v : Vec Ideal S64x256 .f32) (bs : Vec Ideal S1x64x1 .f32) (u : Vec Ideal S64x256 .f32) => (k0_pay66 (F := Ideal) (k0_pay65 (F := Ideal) (k0_pay58 (F := Ideal) (iota Kind.tc S64x64 32 [0] iota_S64x64_d0_w32) (iota Kind.tc S64x64 32 [1] iota_S64x64_d1_w32) ws) v bs u))) = gate := by
  funext ws v bs u
  simp only [k0_pay58, k0_pay65, k0_pay66, gate, k0_pay35, k0_pay34]

theorem form_35 : (fun (ws : Vec Ideal S1x64x64 .f32) (v : Vec Ideal S64x256 .f32) (bs : Vec Ideal S1x64x1 .f32) (u : Vec Ideal S64x256 .f32) => (k0_pay64 (F := Ideal) (k0_pay58 (F := Ideal) (iota Kind.tc S64x64 32 [0] iota_S64x64_d0_w32) (iota Kind.tc S64x64 32 [1] iota_S64x64_d1_w32) ws) v bs u)) = gate := by
  funext ws v bs u
  simp only [k0_pay58, k0_pay64, gate, k0_pay35, k0_pay34]

theorem form_36 : (fun (ws : Vec Ideal S1x64x64 .f32) (v : Vec Ideal S64x256 .f32) (bs : Vec Ideal S1x64x1 .f32) (u : Vec Ideal S64x256 .f32) => (k0_pay63 (F := Ideal) (k0_pay62 (F := Ideal) (k0_pay58 (F := Ideal) (iota Kind.tc S64x64 32 [0] iota_S64x64_d0_w32) (iota Kind.tc S64x64 32 [1] iota_S64x64_d1_w32) ws) v) bs u)) = gate := by
  funext ws v bs u
  simp only [k0_pay58, k0_pay62, k0_pay63, gate, k0_pay35, k0_pay34]

theorem form_37 : (fun (ws : Vec Ideal S1x64x64 .f32) (v : Vec Ideal S64x256 .f32) (bs : Vec Ideal S1x64x1 .f32) (u : Vec Ideal S64x256 .f32) => (k0_pay61 (F := Ideal) (k0_pay58 (F := Ideal) (iota Kind.tc S64x64 32 [0] iota_S64x64_d0_w32) (iota Kind.tc S64x64 32 [1] iota_S64x64_d1_w32) ws) v bs u)) = gate := by
  funext ws v bs u
  simp only [k0_pay58, k0_pay61, gate, k0_pay35, k0_pay34]

theorem form_38 : (fun (ws : Vec Ideal S1x64x64 .f32) (v : Vec Ideal S64x256 .f32) (bs : Vec Ideal S1x64x1 .f32) (u : Vec Ideal S64x256 .f32) => (k0_pay60 (F := Ideal) (k0_pay58 (F := Ideal) (iota Kind.tc S64x64 32 [0] iota_S64x64_d0_w32) (iota Kind.tc S64x64 32 [1] iota_S64x64_d1_w32) ws) v bs u)) = gate := by
  funext ws v bs u
  simp only [k0_pay58, k0_pay60, gate, k0_pay35, k0_pay34]

theorem form_39 : (fun (ws : Vec Ideal S1x64x64 .f32) (v : Vec Ideal S64x256 .f32) (bs : Vec Ideal S1x64x1 .f32) (u : Vec Ideal S64x256 .f32) => (k0_pay59 (F := Ideal) (iota Kind.tc S64x64 32 [0] iota_S64x64_d0_w32) (iota Kind.tc S64x64 32 [1] iota_S64x64_d1_w32) ws v bs u)) = gate := by
  funext ws v bs u
  simp only [k0_pay58, k0_pay59, gate, k0_pay35, k0_pay34]

theorem form_40 : (fun (ws : Vec Ideal S1x64x64 .f32) (v : Vec Ideal S64x256 .f32) (bs : Vec Ideal S1x64x1 .f32) (u : Vec Ideal S64x256 .f32) => (k0_pay57 (F := Ideal) (k0_pay47 (F := Ideal) (k0_pay45 (iota Kind.tc S64x64 32 [0] iota_S64x64_d0_w32) (iota Kind.tc S64x64 32 [1] iota_S64x64_d1_w32)) (k0_pay46 (F := Ideal) ws)) v bs u)) = gate := by
  funext ws v bs u
  simp only [k0_pay45, k0_pay46, k0_pay47, k0_pay57, gate, k0_pay35, k0_pay34]

theorem form_41 : (fun (ws : Vec Ideal S1x64x64 .f32) (v : Vec Ideal S64x256 .f32) (bs : Vec Ideal S1x64x1 .f32) (u : Vec Ideal S64x256 .f32) => (k0_pay56 (F := Ideal) (k0_pay47 (F := Ideal) (k0_pay45 (iota Kind.tc S64x64 32 [0] iota_S64x64_d0_w32) (iota Kind.tc S64x64 32 [1] iota_S64x64_d1_w32)) (k0_pay46 (F := Ideal) ws)) v bs u)) = gate := by
  funext ws v bs u
  simp only [k0_pay45, k0_pay46, k0_pay47, k0_pay56, gate, k0_pay35, k0_pay34]

theorem form_42 : (fun (ws : Vec Ideal S1x64x64 .f32) (v : Vec Ideal S64x256 .f32) (bs : Vec Ideal S1x64x1 .f32) (u : Vec Ideal S64x256 .f32) => (k0_pay55 (F := Ideal) (k0_pay47 (F := Ideal) (k0_pay45 (iota Kind.tc S64x64 32 [0] iota_S64x64_d0_w32) (iota Kind.tc S64x64 32 [1] iota_S64x64_d1_w32)) (k0_pay46 (F := Ideal) ws)) v bs u)) = gate := by
  funext ws v bs u
  simp only [k0_pay45, k0_pay46, k0_pay47, k0_pay55, gate, k0_pay35, k0_pay34]

theorem form_43 : (fun (ws : Vec Ideal S1x64x64 .f32) (v : Vec Ideal S64x256 .f32) (bs : Vec Ideal S1x64x1 .f32) (u : Vec Ideal S64x256 .f32) => (k0_pay54 (F := Ideal) (k0_pay53 (F := Ideal) (k0_pay47 (F := Ideal) (k0_pay45 (iota Kind.tc S64x64 32 [0] iota_S64x64_d0_w32) (iota Kind.tc S64x64 32 [1] iota_S64x64_d1_w32)) (k0_pay46 (F := Ideal) ws)) v bs) u)) = gate := by
  funext ws v bs u
  simp only [k0_pay45, k0_pay46, k0_pay47, k0_pay53, k0_pay54, gate, k0_pay35, k0_pay34]

theorem form_44 : (fun (ws : Vec Ideal S1x64x64 .f32) (v : Vec Ideal S64x256 .f32) (bs : Vec Ideal S1x64x1 .f32) (u : Vec Ideal S64x256 .f32) => (k0_pay52 (F := Ideal) (k0_pay47 (F := Ideal) (k0_pay45 (iota Kind.tc S64x64 32 [0] iota_S64x64_d0_w32) (iota Kind.tc S64x64 32 [1] iota_S64x64_d1_w32)) (k0_pay46 (F := Ideal) ws)) v bs u)) = gate := by
  funext ws v bs u
  simp only [k0_pay45, k0_pay46, k0_pay47, k0_pay52, gate, k0_pay35, k0_pay34]

theorem form_45 : (fun (ws : Vec Ideal S1x64x64 .f32) (v : Vec Ideal S64x256 .f32) (bs : Vec Ideal S1x64x1 .f32) (u : Vec Ideal S64x256 .f32) => (k0_pay51 (F := Ideal) (k0_pay47 (F := Ideal) (k0_pay45 (iota Kind.tc S64x64 32 [0] iota_S64x64_d0_w32) (iota Kind.tc S64x64 32 [1] iota_S64x64_d1_w32)) (k0_pay46 (F := Ideal) ws)) (k0_pay50 (F := Ideal) v) (constant (F := Ideal) S64x256 FTy.f32 0#32) bs u)) = gate := by
  funext ws v bs u
  simp only [k0_pay45, k0_pay46, k0_pay47, k0_pay50, k0_pay51, gate, k0_pay35, k0_pay34]

theorem form_46 : (fun (ws : Vec Ideal S1x64x64 .f32) (v : Vec Ideal S64x256 .f32) (bs : Vec Ideal S1x64x1 .f32) (u : Vec Ideal S64x256 .f32) => (k0_pay49 (F := Ideal) (k0_pay45 (iota Kind.tc S64x64 32 [0] iota_S64x64_d0_w32) (iota Kind.tc S64x64 32 [1] iota_S64x64_d1_w32)) (k0_pay46 (F := Ideal) ws) v bs u)) = gate := by
  funext ws v bs u
  simp only [k0_pay45, k0_pay46, k0_pay47, k0_pay49, gate, k0_pay35, k0_pay34]

theorem form_47 : (fun (ws : Vec Ideal S1x64x64 .f32) (v : Vec Ideal S64x256 .f32) (bs : Vec Ideal S1x64x1 .f32) (u : Vec Ideal S64x256 .f32) => (k0_pay48 (F := Ideal) (k0_pay45 (iota Kind.tc S64x64 32 [0] iota_S64x64_d0_w32) (iota Kind.tc S64x64 32 [1] iota_S64x64_d1_w32)) (k0_pay46 (F := Ideal) ws) v bs u)) = gate := by
  funext ws v bs u
  simp only [k0_pay45, k0_pay46, k0_pay47, k0_pay48, gate, k0_pay35, k0_pay34]

theorem form_48 : (fun (ws : Vec Ideal S1x64x64 .f32) (v : Vec Ideal S64x256 .f32) (bs : Vec Ideal S1x64x1 .f32) (u : Vec Ideal S64x256 .f32) => (k0_pay44 (F := Ideal) (k0_pay34 (F := Ideal) (iota Kind.tc S64x64 32 [0] iota_S64x64_d0_w32) (iota Kind.tc S64x64 32 [1] iota_S64x64_d1_w32) ws) v bs u)) = gate := by
  funext ws v bs u
  simp only [k0_pay34, k0_pay44, gate, k0_pay35, k0_pay34]

theorem form_49 : (fun (ws : Vec Ideal S1x64x64 .f32) (v : Vec Ideal S64x256 .f32) (bs : Vec Ideal S1x64x1 .f32) (u : Vec Ideal S64x256 .f32) => (k0_pay43 (F := Ideal) (k0_pay34 (F := Ideal) (iota Kind.tc S64x64 32 [0] iota_S64x64_d0_w32) (iota Kind.tc S64x64 32 [1] iota_S64x64_d1_w32) ws) v bs u)) = gate := by
  funext ws v bs u
  simp only [k0_pay34, k0_pay43, gate, k0_pay35, k0_pay34]

theorem form_50 : (fun (ws : Vec Ideal S1x64x64 .f32) (v : Vec Ideal S64x256 .f32) (bs : Vec Ideal S1x64x1 .f32) (u : Vec Ideal S64x256 .f32) => (k0_pay42 (F := Ideal) (k0_pay41 (F := Ideal) (k0_pay34 (F := Ideal) (iota Kind.tc S64x64 32 [0] iota_S64x64_d0_w32) (iota Kind.tc S64x64 32 [1] iota_S64x64_d1_w32) ws) v bs u))) = gate := by
  funext ws v bs u
  simp only [k0_pay34, k0_pay41, k0_pay42, gate, k0_pay35, k0_pay34]

theorem form_51 : (fun (ws : Vec Ideal S1x64x64 .f32) (v : Vec Ideal S64x256 .f32) (bs : Vec Ideal S1x64x1 .f32) (u : Vec Ideal S64x256 .f32) => (k0_pay40 (F := Ideal) (k0_pay34 (F := Ideal) (iota Kind.tc S64x64 32 [0] iota_S64x64_d0_w32) (iota Kind.tc S64x64 32 [1] iota_S64x64_d1_w32) ws) v bs u)) = gate := by
  funext ws v bs u
  simp only [k0_pay34, k0_pay40, gate, k0_pay35, k0_pay34]

theorem form_52 : (fun (ws : Vec Ideal S1x64x64 .f32) (v : Vec Ideal S64x256 .f32) (bs : Vec Ideal S1x64x1 .f32) (u : Vec Ideal S64x256 .f32) => (k0_pay39 (F := Ideal) (k0_pay38 (F := Ideal) (k0_pay34 (F := Ideal) (iota Kind.tc S64x64 32 [0] iota_S64x64_d0_w32) (iota Kind.tc S64x64 32 [1] iota_S64x64_d1_w32) ws) v) bs u)) = gate := by
  funext ws v bs u
  simp only [k0_pay34, k0_pay38, k0_pay39, gate, k0_pay35, k0_pay34]

theorem form_53 : (fun (ws : Vec Ideal S1x64x64 .f32) (v : Vec Ideal S64x256 .f32) (bs : Vec Ideal S1x64x1 .f32) (u : Vec Ideal S64x256 .f32) => (k0_pay37 (F := Ideal) (k0_pay34 (F := Ideal) (iota Kind.tc S64x64 32 [0] iota_S64x64_d0_w32) (iota Kind.tc S64x64 32 [1] iota_S64x64_d1_w32) ws) v bs u)) = gate := by
  funext ws v bs u
  simp only [k0_pay34, k0_pay37, gate, k0_pay35, k0_pay34]

theorem form_54 : (fun (ws : Vec Ideal S1x64x64 .f32) (v : Vec Ideal S64x256 .f32) (bs : Vec Ideal S1x64x1 .f32) (u : Vec Ideal S64x256 .f32) => (k0_pay36 (F := Ideal) (k0_pay34 (F := Ideal) (iota Kind.tc S64x64 32 [0] iota_S64x64_d0_w32) (iota Kind.tc S64x64 32 [1] iota_S64x64_d1_w32) ws) v bs u)) = gate := by
  funext ws v bs u
  simp only [k0_pay34, k0_pay36, gate, k0_pay35, k0_pay34]

theorem form_55 : (fun (ws : Vec Ideal S1x64x64 .f32) (v : Vec Ideal S64x256 .f32) (bs : Vec Ideal S1x64x1 .f32) (u : Vec Ideal S64x256 .f32) => (k0_pay35 (F := Ideal) (iota Kind.tc S64x64 32 [0] iota_S64x64_d0_w32) (iota Kind.tc S64x64 32 [1] iota_S64x64_d1_w32) ws v bs u)) = gate := by
  funext ws v bs u
  simp only [k0_pay34, k0_pay35, gate, k0_pay35, k0_pay34]

theorem form_56 : (fun (ws : Vec Ideal S1x64x64 .f32) (v : Vec Ideal S64x256 .f32) (bs : Vec Ideal S1x64x1 .f32) (u : Vec Ideal S64x256 .f32) => (k0_pay33 (F := Ideal) (k0_pay23 (F := Ideal) k0_pay21 (k0_pay22 (F := Ideal) ws)) v bs u)) = gate := by
  funext ws v bs u
  simp only [k0_pay21, k0_pay22, k0_pay23, k0_pay33, gate, k0_pay35, k0_pay34]

theorem form_57 : (fun (ws : Vec Ideal S1x64x64 .f32) (v : Vec Ideal S64x256 .f32) (bs : Vec Ideal S1x64x1 .f32) (u : Vec Ideal S64x256 .f32) => (k0_pay32 (F := Ideal) (k0_pay23 (F := Ideal) k0_pay21 (k0_pay22 (F := Ideal) ws)) v bs u)) = gate := by
  funext ws v bs u
  simp only [k0_pay21, k0_pay22, k0_pay23, k0_pay32, gate, k0_pay35, k0_pay34]

theorem form_58 : (fun (ws : Vec Ideal S1x64x64 .f32) (v : Vec Ideal S64x256 .f32) (bs : Vec Ideal S1x64x1 .f32) (u : Vec Ideal S64x256 .f32) => (k0_pay31 (F := Ideal) (k0_pay23 (F := Ideal) k0_pay21 (k0_pay22 (F := Ideal) ws)) v bs u)) = gate := by
  funext ws v bs u
  simp only [k0_pay21, k0_pay22, k0_pay23, k0_pay31, gate, k0_pay35, k0_pay34]

theorem form_59 : (fun (ws : Vec Ideal S1x64x64 .f32) (v : Vec Ideal S64x256 .f32) (bs : Vec Ideal S1x64x1 .f32) (u : Vec Ideal S64x256 .f32) => (k0_pay30 (F := Ideal) (k0_pay29 (F := Ideal) (k0_pay23 (F := Ideal) k0_pay21 (k0_pay22 (F := Ideal) ws)) v bs) u)) = gate := by
  funext ws v bs u
  simp only [k0_pay21, k0_pay22, k0_pay23, k0_pay29, k0_pay30, gate, k0_pay35, k0_pay34]

theorem form_60 : (fun (ws : Vec Ideal S1x64x64 .f32) (v : Vec Ideal S64x256 .f32) (bs : Vec Ideal S1x64x1 .f32) (u : Vec Ideal S64x256 .f32) => (k0_pay28 (F := Ideal) (k0_pay23 (F := Ideal) k0_pay21 (k0_pay22 (F := Ideal) ws)) v bs u)) = gate := by
  funext ws v bs u
  simp only [k0_pay21, k0_pay22, k0_pay23, k0_pay28, gate, k0_pay35, k0_pay34]

theorem form_61 : (fun (ws : Vec Ideal S1x64x64 .f32) (v : Vec Ideal S64x256 .f32) (bs : Vec Ideal S1x64x1 .f32) (u : Vec Ideal S64x256 .f32) => (k0_pay27 (F := Ideal) (k0_pay23 (F := Ideal) k0_pay21 (k0_pay22 (F := Ideal) ws)) (k0_pay26 (F := Ideal) v) (constant (F := Ideal) S64x256 FTy.f32 0#32) bs u)) = gate := by
  funext ws v bs u
  simp only [k0_pay21, k0_pay22, k0_pay23, k0_pay26, k0_pay27, gate, k0_pay35, k0_pay34]

theorem form_62 : (fun (ws : Vec Ideal S1x64x64 .f32) (v : Vec Ideal S64x256 .f32) (bs : Vec Ideal S1x64x1 .f32) (u : Vec Ideal S64x256 .f32) => (k0_pay25 (F := Ideal) k0_pay21 (k0_pay22 (F := Ideal) ws) v bs u)) = gate := by
  funext ws v bs u
  simp only [k0_pay21, k0_pay22, k0_pay23, k0_pay25, gate, k0_pay35, k0_pay34]

theorem form_63 : (fun (ws : Vec Ideal S1x64x64 .f32) (v : Vec Ideal S64x256 .f32) (bs : Vec Ideal S1x64x1 .f32) (u : Vec Ideal S64x256 .f32) => (k0_pay24 (F := Ideal) k0_pay21 (k0_pay22 (F := Ideal) ws) v bs u)) = gate := by
  funext ws v bs u
  simp only [k0_pay21, k0_pay22, k0_pay23, k0_pay24, gate, k0_pay35, k0_pay34]

/-- The causal mask's word. -/
theorem mask_word : ∀ r s : Fin 64, IntOp.cmpi CmpIPredicate.sge (BitVec.ofNat 32 r.val) (BitVec.ofNat 32 s.val) = if s.val ≤ r.val then 1#1 else 0#1 := by decide +kernel

theorem masked (r s : Fin 64) (a b : EReal) :
    Scalar.select (IntOp.cmpi CmpIPredicate.sge (BitVec.ofNat 32 r.val) (BitVec.ofNat 32 s.val)) (a * b) 0 = (if s.val ≤ r.val then a else 0) * b := by
  rw [mask_word]
  by_cases h : s.val ≤ r.val
  · rw [if_pos h, if_pos h]; rfl
  · rw [if_neg h, if_neg h, zero_mul]; rfl

theorem gate_at (ws : Vec Ideal S1x64x64 .f32) (v : Vec Ideal S64x256 .f32) (bs : Vec Ideal S1x64x1 .f32) (u : Vec Ideal S64x256 .f32) (r : Fin 64) (c : Fin 256) :
    gate ws v bs u (ix2 r c) = u (ix2 r c) * ((∑ s : Fin 64, (if s.val ≤ r.val then ws (ix3 0 r s) else 0) * v (ix2 s c)) + bs (ix3 0 r 0)) := by
  unfold gate
  pointwise [k0_pay35, k0_pay34]
  refine congrArg (fun q => u (ix2 r c) * (q + bs (ix3 0 r 0))) (Finset.sum_congr rfl fun s _ => masked r s _ _)

end

end Gmlp

end
-- ==== Proof.GmlpAct.lean ====
/- The sample's gMLP: the first layer's elements. -/
module

public import proofs.«01_k».proof.Proof.GmlpLists

@[expose] public section

set_option maxRecDepth 16384

noncomputable section

open Idealize.ShloMosaic Idealize.ShloMosaic.TcCoe Idealize.SL.Sem
open Idealize.ShloMosaic.Pipeline (Dat)
open scoped BigOperators

namespace Gmlp

section
open Cert.GmlpIdeal Cert.GmlpIdeal.Gen
set_option maxHeartbeats 1600000

theorem u_at_1536 (x : Vec Ideal S512x1024 .f32) (g : Vec Ideal S1x1024 .f32) (w : Vec Ideal S1024x512 .bf16) (b : Vec Ideal S1x512 .f32) (r c : Fin 512) :
    (k0_pay15 (F := Ideal) (k0_pay3 (F := Ideal) x g) w b) (ix2 r c) = gelu (Layer.proj (fun k => x (ix2 r k)) (fun k => g (ix2 0 k)) (fun k => w (ix2 k c)) + b (ix2 0 c)) := by
  pointwise [k0_pay15, k0_pay3, k0_pay2, gelu, Layer.proj, Layer.rms]
  rfl

theorem u_at_1024 (x : Vec Ideal S512x1024 .f32) (g : Vec Ideal S1x1024 .f32) (w : Vec Ideal S1024x512 .bf16) (b : Vec Ideal S1x512 .f32) (r c : Fin 512) :
    (k0_pay11 (F := Ideal) (k0_pay3 (F := Ideal) x g) w b) (ix2 r c) = gelu (Layer.proj (fun k => x (ix2 r k)) (fun k => g (ix2 0 k)) (fun k => w (ix2 k c)) + b (ix2 0 c)) := by
  pointwise [k0_pay11, k0_pay3, k0_pay2, gelu, Layer.proj, Layer.rms]
  rfl

theorem u_at_512 (x : Vec Ideal S512x1024 .f32) (g : Vec Ideal S1x1024 .f32) (w : Vec Ideal S1024x512 .bf16) (b : Vec Ideal S1x512 .f32) (r c : Fin 512) :
    (k0_pay7 (F := Ideal) (k0_pay3 (F := Ideal) x g) w b) (ix2 r c) = gelu (Layer.proj (fun k => x (ix2 r k)) (fun k => g (ix2 0 k)) (fun k => w (ix2 k c)) + b (ix2 0 c)) := by
  pointwise [k0_pay7, k0_pay3, k0_pay2, gelu, Layer.proj, Layer.rms]
  rfl

theorem u_at_0 (x : Vec Ideal S512x1024 .f32) (g : Vec Ideal S1x1024 .f32) (w : Vec Ideal S1024x512 .bf16) (b : Vec Ideal S1x512 .f32) (r c : Fin 512) :
    (k0_pay4 (F := Ideal) x g w b) (ix2 r c) = gelu (Layer.proj (fun k => x (ix2 r k)) (fun k => g (ix2 0 k)) (fun k => w (ix2 k c)) + b (ix2 0 c)) := by
  pointwise [k0_pay4, k0_pay3, k0_pay2, gelu, Layer.proj, Layer.rms]
  rfl

theorem v_at_1536 (x : Vec Ideal S512x1024 .f32) (g : Vec Ideal S1x1024 .f32) (w : Vec Ideal S1024x512 .bf16) (b : Vec Ideal S1x512 .f32) (r c : Fin 512) :
    (k0_pay19 (F := Ideal) (k0_pay17 (F := Ideal) (k0_pay3 (F := Ideal) x g) w b) (k0_pay18 (F := Ideal) (k0_pay3 (F := Ideal) x g) w b)) (ix2 r c) = gelu (Layer.proj (fun k => x (ix2 r k)) (fun k => g (ix2 0 k)) (fun k => w (ix2 k c)) + b (ix2 0 c)) := by
  pointwise [k0_pay19, k0_pay17, k0_pay18, k0_pay16, k0_pay3, k0_pay2, gelu, Layer.proj, Layer.rms]
  rfl

theorem v_at_1024 (x : Vec Ideal S512x1024 .f32) (g : Vec Ideal S1x1024 .f32) (w : Vec Ideal S1024x512 .bf16) (b : Vec Ideal S1x512 .f32) (r c : Fin 512) :
    (k0_pay14 (F := Ideal) (k0_pay12 (F := Ideal) (k0_pay3 (F := Ideal) x g) w b) (k0_pay13 (F := Ideal))) (ix2 r c) = gelu (Layer.proj (fun k => x (ix2 r k)) (fun k => g (ix2 0 k)) (fun k => w (ix2 k c)) + b (ix2 0 c)) := by
  pointwise [k0_pay14, k0_pay12, k0_pay13, k0_pay3, k0_pay2, gelu, Layer.proj, Layer.rms]
  rfl

theorem v_at_512 (x : Vec Ideal S512x1024 .f32) (g : Vec Ideal S1x1024 .f32) (w : Vec Ideal S1024x512 .bf16) (b : Vec Ideal S1x512 .f32) (r c : Fin 512) :
    (k0_pay10 (F := Ideal) (k0_pay8 (F := Ideal) (k0_pay3 (F := Ideal) x g) w) (k0_pay9 (F := Ideal) b)) (ix2 r c) = gelu (Layer.proj (fun k => x (ix2 r k)) (fun k => g (ix2 0 k)) (fun k => w (ix2 k c)) + b (ix2 0 c)) := by
  pointwise [k0_pay10, k0_pay8, k0_pay9, k0_pay3, k0_pay2, gelu, Layer.proj, Layer.rms]
  rfl

theorem v_at_0 (x : Vec Ideal S512x1024 .f32) (g : Vec Ideal S1x1024 .f32) (w : Vec Ideal S1024x512 .bf16) (b : Vec Ideal S1x512 .f32) (r c : Fin 512) :
    (k0_pay6 (F := Ideal) (k0_pay5 (F := Ideal) x g w) b) (ix2 r c) = gelu (Layer.proj (fun k => x (ix2 r k)) (fun k => g (ix2 0 k)) (fun k => w (ix2 k c)) + b (ix2 0 c)) := by
  pointwise [k0_pay6, k0_pay5, k0_pay3, k0_pay2, gelu, Layer.proj, Layer.rms]
  rfl

/-- A block's rows. -/
abbrev rows (X0 : Vec Ideal S512x1024 .f32) : Fin 512 → Fin 1024 → EReal := fun r k => X0 (ix2 r k)
/-- The gain of a block. -/
abbrev gains (X1 : Vec Ideal S1x1024 .f32) : Fin 1024 → EReal := fun k => X1 (ix2 0 k)
/-- The first weight of a block. -/
abbrev wts (X2 : Vec Ideal S1024x4096 .bf16) : Fin 1024 → Fin 4096 → EReal := fun k c => X2 (ix2 k c)
/-- The first bias of a block. -/
abbrev bias (X3 : Vec Ideal S1x4096 .f32) : Fin 4096 → EReal := fun c => X3 (ix2 0 c)
/-- A row of the normalisation. -/
abbrev lrow (X4 : Vec Ideal S1x2048 .f32) : Fin 2048 → EReal := fun c => X4 (ix2 0 c)
/-- The mixing weights of a block. -/
abbrev mixw (X6 : Vec Ideal S8x64x64 .f32) : Fin 8 → Fin 64 → Fin 64 → EReal := fun g r s => X6 (ix3 g r s)
/-- The shifts of a block. -/
abbrev mixb (X7 : Vec Ideal S8x64x1 .f32) : Fin 8 → Fin 64 → EReal := fun g r => X7 (ix3 g r 0)

/-- A group of the weight's columns, loaded. -/
theorem w_ld (X2 : Vec Ideal S1024x4096 .bf16) (o : ℕ) (ho : o + 512 ≤ 4096) (h) (k : Fin 1024) (c : Fin 512) :
    View.ld X2 (Rect.unit (s := S1024x4096) ![0, o] S1024x512.size h) (ix2 k c) = X2 (ix2 k ⟨o + c.val, by omega⟩) := by
  refine congrArg X2 (funext fun a => ?_); fin_cases a <;> apply Fin.ext
  · show 0 + 1 * k.val = k.val; omega
  · show o + 1 * c.val = o + c.val; omega

/-- A group of the bias's columns, loaded. -/
theorem b_ld (X3 : Vec Ideal S1x4096 .f32) (o : ℕ) (ho : o + 512 ≤ 4096) (h) (c : Fin 512) :
    View.ld X3 (Rect.unit (s := S1x4096) ![0, o] S1x512.size h) (ix2 0 c) = X3 (ix2 0 ⟨o + c.val, by omega⟩) := by
  refine congrArg X3 (funext fun a => ?_); fin_cases a <;> apply Fin.ext
  · show 0 + 1 * 0 = 0; omega
  · show o + 1 * c.val = o + c.val; omega

/-- A group of columns stored in its place, from what it is of its loads. -/
theorem piece (P : S512x512.Idx → EReal) (q o : ℕ) (hq : q + 512 ≤ 2048) (d : ℕ) (hd : o = d + q) (ho : o + 512 ≤ 4096) (X0 : Vec Ideal S512x1024 .f32) (X1 : Vec Ideal S1x1024 .f32) (X2 : Vec Ideal S1024x4096 .bf16) (X3 : Vec Ideal S1x4096 .f32)
    (w : Vec Ideal S1024x512 .bf16) (b : Vec Ideal S1x512 .f32) (hw) (hb)
    (ew : w = View.ld X2 (Rect.unit (s := S1024x4096) ![0, o] S1024x512.size hw)) (eb : b = View.ld X3 (Rect.unit (s := S1x4096) ![0, o] S1x512.size hb))
    (hP : ∀ r c : Fin 512, P (ix2 r c) = gelu (Layer.proj (fun k => X0 (ix2 r k)) (fun k => X1 (ix2 0 k)) (fun k => w (ix2 k c)) + b (ix2 0 c)))
    (x : S512x512.Idx) (y : S512x2048.Idx) (h0 : (y 0).val = (x 0).val) (h1 : (y 1).val = q + (x 1).val) (hy : d + (y 1).val < 4096) :
    P x = act (rows X0) (gains X1) (wts X2) (bias X3) (y 0) ⟨d + (y 1).val, hy⟩ := by
  have ex : x = ix2 (x 0) (x 1) := funext fun (a : Fin 2) => by fin_cases a <;> rfl
  have e0 : y 0 = x 0 := Fin.ext h0
  have hx : (x 1).val < 512 := (x 1).isLt
  have e1 : (⟨d + (y 1).val, hy⟩ : Fin 4096) = ⟨o + (x 1).val, by omega⟩ := Fin.ext (by show d + (y 1).val = o + (x 1).val; omega)
  rw [e0, e1]
  refine ((congrArg P ex).trans (hP _ _)).trans ?_
  subst ew eb
  unfold act
  exact (congrArg (fun v => gelu (Layer.proj _ _ v + _)) (funext fun k => w_ld X2 o ho _ k (x 1))).trans (congrArg (fun q => gelu (_ + q)) (b_ld X3 o ho _ (x 1)))

theorem whole_x (X0 : Vec Ideal S512x1024 .f32) : View.ld X0 (Rect.unit (s := S512x1024) ![0, 0] S512x1024.size inb_S512x1024_S512x1024_0_0) = X0 :=
  View.ld_unit_lit' inb_S512x1024_S512x1024_0_0 X0 (by decide)

theorem whole_g (X1 : Vec Ideal S1x1024 .f32) : View.ld X1 (Rect.unit (s := S1x1024) ![0, 0] S1x1024.size inb_S1x1024_S1x1024_0_0) = X1 :=
  View.ld_unit_lit' inb_S1x1024_S1x1024_0_0 X1 (by decide)

/-- The first half's list, read at an index. -/
theorem u_canon (X0 : Vec Ideal S512x1024 .f32) (X1 : Vec Ideal S1x1024 .f32) (X2 : Vec Ideal S1024x4096 .bf16) (X3 : Vec Ideal S1x4096 .f32) (y : S512x2048.Idx) :
    View.canon (ulist X0 X1 X2 X3) y = act (rows X0) (gains X1) (wts X2) (bias X3) (y 0) ⟨0 + (y 1).val, by have h : (y 1).val < 2048 := (y 1).isLt; omega⟩ := by
  unfold ulist nrow
  rw [whole_x X0, whole_g X1]
  canon_tiles x h
  · exact piece _ 1536 1536 (by omega) 0 (by omega) (by omega) X0 X1 X2 X3 _ _ _ _ rfl rfl (fun r c => u_at_1536 X0 X1 _ _ r c) x y (by omega) (by omega) _
  · exact piece _ 1024 1024 (by omega) 0 (by omega) (by omega) X0 X1 X2 X3 _ _ _ _ rfl rfl (fun r c => u_at_1024 X0 X1 _ _ r c) x y (by omega) (by omega) _
  · exact piece _ 512 512 (by omega) 0 (by omega) (by omega) X0 X1 X2 X3 _ _ _ _ rfl rfl (fun r c => u_at_512 X0 X1 _ _ r c) x y (by omega) (by omega) _
  · exact piece _ 0 0 (by omega) 0 (by omega) (by omega) X0 X1 X2 X3 _ _ _ _ rfl rfl (fun r c => u_at_0 X0 X1 _ _ r c) x y (by omega) (by omega) _

/-- The second half's list, read at an index. -/
theorem v_canon (X0 : Vec Ideal S512x1024 .f32) (X1 : Vec Ideal S1x1024 .f32) (X2 : Vec Ideal S1024x4096 .bf16) (X3 : Vec Ideal S1x4096 .f32) (y : S512x2048.Idx) :
    View.canon (vlist X0 X1 X2 X3) y = act (rows X0) (gains X1) (wts X2) (bias X3) (y 0) ⟨2048 + (y 1).val, by have h : (y 1).val < 2048 := (y 1).isLt; omega⟩ := by
  unfold vlist nrow
  rw [whole_x X0, whole_g X1]
  canon_tiles x h
  · exact piece _ 1536 3584 (by omega) 2048 (by omega) (by omega) X0 X1 X2 X3 _ _ _ _ rfl rfl (fun r c => v_at_1536 X0 X1 _ _ r c) x y (by omega) (by omega) _
  · exact piece _ 1024 3072 (by omega) 2048 (by omega) (by omega) X0 X1 X2 X3 _ _ _ _ rfl rfl (fun r c => v_at_1024 X0 X1 _ _ r c) x y (by omega) (by omega) _
  · exact piece _ 512 2560 (by omega) 2048 (by omega) (by omega) X0 X1 X2 X3 _ _ _ _ rfl rfl (fun r c => v_at_512 X0 X1 _ _ r c) x y (by omega) (by omega) _
  · exact piece _ 0 2048 (by omega) 2048 (by omega) (by omega) X0 X1 X2 X3 _ _ _ _ rfl rfl (fun r c => v_at_0 X0 X1 _ _ r c) x y (by omega) (by omega) _

theorem ln_at (v : Vec Ideal S512x2048 .f32) (a b : Vec Ideal S1x2048 .f32) (r : Fin 512) (c : Fin 2048) :
    k0_pay20 (F := Ideal) v a b (ix2 r c) = ln (fun k => v (ix2 r k)) (fun k => a (ix2 0 k)) (fun k => b (ix2 0 k)) c := by
  pointwise [k0_pay20, ln, mean]

/-- The normalised rows, read at an index. -/
theorem vn_canon (M : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (r : Fin 512) (c : Fin 2048) :
    View.canon (vnlist M X0 X1 X2 X3 X4 X5) (ix2 r c) = vn (rows X0) (gains X1) (wts X2) (bias X3) (lrow X4) (lrow X5) r c := by
  unfold vnlist
  rw [View.canon_cons_unit_lit' inb_S512x2048_S512x2048_0_0 _ _ (by decide), View.ld_unit_lit' inb_S1x2048_S1x2048_0_0 X4 (by decide), View.ld_unit_lit' inb_S1x2048_S1x2048_0_0 X5 (by decide),
    ln_at, View.readCov_eq_canon']
  unfold vn
  refine congrArg (fun q => ln q _ _ c) (funext fun k => ?_)
  have e : (Rect.unit (s := S512x2048) ![0, 0] S512x2048.size inb_S512x2048_S512x2048_0_0).toLoadRect.idx (ix2 r k) = ix2 r k := by
    funext a; fin_cases a <;> apply Fin.ext
    · show 0 + 1 * r.val = r.val; omega
    · show 0 + 1 * k.val = k.val; omega
  show View.canon (vlist X0 X1 X2 X3) _ = _
  rw [e, v_canon]
  rfl

end

end Gmlp

end
-- ==== Proof.GmlpGate.lean ====
/- The sample's gMLP: the gated elements and the result's block. -/
module

public import proofs.«01_k».proof.Proof.GmlpForms
public import proofs.«01_k».proof.Proof.GmlpAct

@[expose] public section

set_option maxRecDepth 16384

noncomputable section

open Idealize.ShloMosaic Idealize.ShloMosaic.TcCoe Idealize.SL.Sem
open Idealize.ShloMosaic.Pipeline (Dat)
open scoped BigOperators

namespace Gmlp

section
open Cert.GmlpIdeal Cert.GmlpIdeal.Gen

theorem box_idx (o p : ℕ) (ho : o + 64 ≤ 512) (hp : p + 256 ≤ 2048) (h) (a : Fin 64) (e : Fin 256) :
    (box o p h).toLoadRect.idx (ix2 a e) = (ix2 (⟨o + a.val, by omega⟩ : Fin 512) (⟨p + e.val, by omega⟩ : Fin 2048) : S512x2048.Idx) := by
  funext i; fin_cases i <;> apply Fin.ext
  · show o + 1 * a.val = o + a.val; omega
  · show p + 1 * e.val = p + e.val; omega

theorem vt_at (M : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (o p : ℕ) (ho : o + 64 ≤ 512) (hp : p + 256 ≤ 2048) (h) (a : Fin 64) (e : Fin 256) :
    vt M X0 X1 X2 X3 X4 X5 (box o p h) (ix2 a e) = vn (rows X0) (gains X1) (wts X2) (bias X3) (lrow X4) (lrow X5) ⟨o + a.val, by omega⟩ ⟨p + e.val, by omega⟩ := by
  unfold vt
  rw [View.readCov_eq_canon']
  refine (congrArg (fun j => View.canon (vnlist M X0 X1 X2 X3 X4 X5) j) (box_idx o p ho hp h a e)).trans ?_
  exact vn_canon M X0 X1 X2 X3 X4 X5 _ _

theorem ut_at (N : Memref sig .tc .vmem S512x2048 .f32) (X0 : Vec Ideal S512x1024 .f32) (X1 : Vec Ideal S1x1024 .f32) (X2 : Vec Ideal S1024x4096 .bf16) (X3 : Vec Ideal S1x4096 .f32) (o p : ℕ) (ho : o + 64 ≤ 512) (hp : p + 256 ≤ 2048) (h) (a : Fin 64) (e : Fin 256) :
    ut N X0 X1 X2 X3 (box o p h) (ix2 a e) = act (rows X0) (gains X1) (wts X2) (bias X3) ⟨o + a.val, by omega⟩ ⟨p + e.val, by omega⟩ := by
  unfold ut
  rw [View.readCov_eq_canon']
  refine (congrArg (fun j => View.canon (ulist X0 X1 X2 X3) j) (box_idx o p ho hp h a e)).trans ?_
  refine (u_canon X0 X1 X2 X3 _).trans ?_
  exact congrArg (fun q => act _ _ _ _ _ q) (Fin.ext (Nat.zero_add _))

theorem ws_ld (X6 : Vec Ideal S8x64x64 .f32) (q : ℕ) (hq : q < 8) (h) (a s : Fin 64) :
    View.ld X6 (Rect.unit (s := S8x64x64) ![q, 0, 0] S1x64x64.size h) (ix3 0 a s) = X6 (ix3 ⟨q, hq⟩ a s) := by
  refine congrArg X6 (funext fun i => ?_); fin_cases i <;> apply Fin.ext
  · show q + 1 * 0 = q; omega
  · show 0 + 1 * a.val = a.val; omega
  · show 0 + 1 * s.val = s.val; omega

theorem bs_ld (X7 : Vec Ideal S8x64x1 .f32) (q : ℕ) (hq : q < 8) (h) (a : Fin 64) :
    View.ld X7 (Rect.unit (s := S8x64x1) ![q, 0, 0] S1x64x1.size h) (ix3 0 a 0) = X7 (ix3 ⟨q, hq⟩ a 0) := by
  refine congrArg X7 (funext fun i => ?_); fin_cases i <;> apply Fin.ext
  · show q + 1 * 0 = q; omega
  · show 0 + 1 * a.val = a.val; omega
  · show 0 + 1 * 0 = 0; omega

theorem tile_at (M N : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (X6 : Vec Ideal S8x64x64 .f32) (X7 : Vec Ideal S8x64x1 .f32) (n q : ℕ) (hn : n < 8) (hq : q < 8) (o p : ℕ) (eo : o = 64 * n) (ep : p = 256 * q) (h hw hb) (a : Fin 64) (e : Fin 256) :
    gate (View.ld X6 (Rect.unit (s := S8x64x64) ![q, 0, 0] S1x64x64.size hw)) (vt M X0 X1 X2 X3 X4 X5 (box o p h)) (View.ld X7 (Rect.unit (s := S8x64x1) ![q, 0, 0] S1x64x1.size hb)) (ut N X0 X1 X2 X3 (box o p h)) (ix2 a e)
      = gated (rows X0) (gains X1) (wts X2) (bias X3) (lrow X4) (lrow X5) (mixw X6) (mixb X7) ⟨o + a.val, by omega⟩ ⟨p + e.val, by omega⟩ := by
  have e1 : (p + e.val) / 256 = q := by omega
  have e2 : (o + a.val) % 64 = a.val := by omega
  have e3 : (o + a.val) / 64 = n := by omega
  rw [gate_at, ut_at N X0 X1 X2 X3 o p (by omega) (by omega) h a e, bs_ld X7 q hq hb a]
  unfold gated mix
  simp only [e1, e2, e3]
  refine congrArg₂ (fun u v : EReal => u * v) rfl (congrArg (fun v : EReal => v + X7 (ix3 ⟨q, hq⟩ a 0)) (Finset.sum_congr rfl fun s _ => ?_))
  rw [vt_at M X0 X1 X2 X3 X4 X5 o p (by omega) (by omega) h s e, ws_ld X6 q hq hw a s]
  subst eo
  rfl

theorem tile (M N : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (X6 : Vec Ideal S8x64x64 .f32) (X7 : Vec Ideal S8x64x1 .f32) (n q : ℕ) (hn : n < 8) (hq : q < 8) (o p : ℕ) (eo : o = 64 * n) (ep : p = 256 * q)
    {Q : Vec Ideal S1x64x64 .f32 → Vec Ideal S64x256 .f32 → Vec Ideal S1x64x1 .f32 → Vec Ideal S64x256 .f32 → FVec Ideal S64x256 .bf16} (hQ : Q = gate) (h hw hb)
    (x : S64x256.Idx) (y : S512x2048.Idx) (h0 : (y 0).val = o + (x 0).val) (h1 : (y 1).val = p + (x 1).val) :
    Q (View.ld X6 (Rect.unit (s := S8x64x64) ![q, 0, 0] S1x64x64.size hw)) (vt M X0 X1 X2 X3 X4 X5 (box o p h)) (View.ld X7 (Rect.unit (s := S8x64x1) ![q, 0, 0] S1x64x1.size hb)) (ut N X0 X1 X2 X3 (box o p h)) x
      = gated (rows X0) (gains X1) (wts X2) (bias X3) (lrow X4) (lrow X5) (mixw X6) (mixb X7) (y 0) (y 1) := by
  subst hQ
  have ex : x = ix2 (x 0) (x 1) := funext fun (a : Fin 2) => by fin_cases a <;> rfl
  have hx0 : (x 0).val < 64 := (x 0).isLt
  have hx1 : (x 1).val < 256 := (x 1).isLt
  have e0 : y 0 = (⟨o + (x 0).val, by omega⟩ : Fin 512) := Fin.ext h0
  have e1 : y 1 = (⟨p + (x 1).val, by omega⟩ : Fin 2048) := Fin.ext h1
  rw [e0, e1]
  exact (congrArg _ ex).trans (tile_at M N X0 X1 X2 X3 X4 X5 X6 X7 n q hn hq o p eo ep h hw hb (x 0) (x 1))

/-- The gated elements' list, read at an index. -/
theorem g_canon (M N : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (X6 : Vec Ideal S8x64x64 .f32) (X7 : Vec Ideal S8x64x1 .f32) (y : S512x2048.Idx) :
    View.canon (glist M N X0 X1 X2 X3 X4 X5 X6 X7) y = gated (rows X0) (gains X1) (wts X2) (bias X3) (lrow X4) (lrow X5) (mixw X6) (mixb X7) (y 0) (y 1) := by
  unfold glist
  canon_tiles x h
  · exact tile M N X0 X1 X2 X3 X4 X5 X6 X7 7 7 (by omega) (by omega) 448 1792 rfl rfl form_0 _ _ _ x y (by omega) (by omega)
  · exact tile M N X0 X1 X2 X3 X4 X5 X6 X7 6 7 (by omega) (by omega) 384 1792 rfl rfl form_1 _ _ _ x y (by omega) (by omega)
  · exact tile M N X0 X1 X2 X3 X4 X5 X6 X7 5 7 (by omega) (by omega) 320 1792 rfl rfl form_2 _ _ _ x y (by omega) (by omega)
  · exact tile M N X0 X1 X2 X3 X4 X5 X6 X7 4 7 (by omega) (by omega) 256 1792 rfl rfl form_3 _ _ _ x y (by omega) (by omega)
  · exact tile M N X0 X1 X2 X3 X4 X5 X6 X7 3 7 (by omega) (by omega) 192 1792 rfl rfl form_4 _ _ _ x y (by omega) (by omega)
  · exact tile M N X0 X1 X2 X3 X4 X5 X6 X7 2 7 (by omega) (by omega) 128 1792 rfl rfl form_5 _ _ _ x y (by omega) (by omega)
  · exact tile M N X0 X1 X2 X3 X4 X5 X6 X7 1 7 (by omega) (by omega) 64 1792 rfl rfl form_6 _ _ _ x y (by omega) (by omega)
  · exact tile M N X0 X1 X2 X3 X4 X5 X6 X7 0 7 (by omega) (by omega) 0 1792 rfl rfl form_7 _ _ _ x y (by omega) (by omega)
  · exact tile M N X0 X1 X2 X3 X4 X5 X6 X7 7 6 (by omega) (by omega) 448 1536 rfl rfl form_8 _ _ _ x y (by omega) (by omega)
  · exact tile M N X0 X1 X2 X3 X4 X5 X6 X7 6 6 (by omega) (by omega) 384 1536 rfl rfl form_9 _ _ _ x y (by omega) (by omega)
  · exact tile M N X0 X1 X2 X3 X4 X5 X6 X7 5 6 (by omega) (by omega) 320 1536 rfl rfl form_10 _ _ _ x y (by omega) (by omega)
  · exact tile M N X0 X1 X2 X3 X4 X5 X6 X7 4 6 (by omega) (by omega) 256 1536 rfl rfl form_11 _ _ _ x y (by omega) (by omega)
  · exact tile M N X0 X1 X2 X3 X4 X5 X6 X7 3 6 (by omega) (by omega) 192 1536 rfl rfl form_12 _ _ _ x y (by omega) (by omega)
  · exact tile M N X0 X1 X2 X3 X4 X5 X6 X7 2 6 (by omega) (by omega) 128 1536 rfl rfl form_13 _ _ _ x y (by omega) (by omega)
  · exact tile M N X0 X1 X2 X3 X4 X5 X6 X7 1 6 (by omega) (by omega) 64 1536 rfl rfl form_14 _ _ _ x y (by omega) (by omega)
  · exact tile M N X0 X1 X2 X3 X4 X5 X6 X7 0 6 (by omega) (by omega) 0 1536 rfl rfl form_15 _ _ _ x y (by omega) (by omega)
  · exact tile M N X0 X1 X2 X3 X4 X5 X6 X7 7 5 (by omega) (by omega) 448 1280 rfl rfl form_16 _ _ _ x y (by omega) (by omega)
  · exact tile M N X0 X1 X2 X3 X4 X5 X6 X7 6 5 (by omega) (by omega) 384 1280 rfl rfl form_17 _ _ _ x y (by omega) (by omega)
  · exact tile M N X0 X1 X2 X3 X4 X5 X6 X7 5 5 (by omega) (by omega) 320 1280 rfl rfl form_18 _ _ _ x y (by omega) (by omega)
  · exact tile M N X0 X1 X2 X3 X4 X5 X6 X7 4 5 (by omega) (by omega) 256 1280 rfl rfl form_19 _ _ _ x y (by omega) (by omega)
  · exact tile M N X0 X1 X2 X3 X4 X5 X6 X7 3 5 (by omega) (by omega) 192 1280 rfl rfl form_20 _ _ _ x y (by omega) (by omega)
  · exact tile M N X0 X1 X2 X3 X4 X5 X6 X7 2 5 (by omega) (by omega) 128 1280 rfl rfl form_21 _ _ _ x y (by omega) (by omega)
  · exact tile M N X0 X1 X2 X3 X4 X5 X6 X7 1 5 (by omega) (by omega) 64 1280 rfl rfl form_22 _ _ _ x y (by omega) (by omega)
  · exact tile M N X0 X1 X2 X3 X4 X5 X6 X7 0 5 (by omega) (by omega) 0 1280 rfl rfl form_23 _ _ _ x y (by omega) (by omega)
  · exact tile M N X0 X1 X2 X3 X4 X5 X6 X7 7 4 (by omega) (by omega) 448 1024 rfl rfl form_24 _ _ _ x y (by omega) (by omega)
  · exact tile M N X0 X1 X2 X3 X4 X5 X6 X7 6 4 (by omega) (by omega) 384 1024 rfl rfl form_25 _ _ _ x y (by omega) (by omega)
  · exact tile M N X0 X1 X2 X3 X4 X5 X6 X7 5 4 (by omega) (by omega) 320 1024 rfl rfl form_26 _ _ _ x y (by omega) (by omega)
  · exact tile M N X0 X1 X2 X3 X4 X5 X6 X7 4 4 (by omega) (by omega) 256 1024 rfl rfl form_27 _ _ _ x y (by omega) (by omega)
  · exact tile M N X0 X1 X2 X3 X4 X5 X6 X7 3 4 (by omega) (by omega) 192 1024 rfl rfl form_28 _ _ _ x y (by omega) (by omega)
  · exact tile M N X0 X1 X2 X3 X4 X5 X6 X7 2 4 (by omega) (by omega) 128 1024 rfl rfl form_29 _ _ _ x y (by omega) (by omega)
  · exact tile M N X0 X1 X2 X3 X4 X5 X6 X7 1 4 (by omega) (by omega) 64 1024 rfl rfl form_30 _ _ _ x y (by omega) (by omega)
  · exact tile M N X0 X1 X2 X3 X4 X5 X6 X7 0 4 (by omega) (by omega) 0 1024 rfl rfl form_31 _ _ _ x y (by omega) (by omega)
  · exact tile M N X0 X1 X2 X3 X4 X5 X6 X7 7 3 (by omega) (by omega) 448 768 rfl rfl form_32 _ _ _ x y (by omega) (by omega)
  · exact tile M N X0 X1 X2 X3 X4 X5 X6 X7 6 3 (by omega) (by omega) 384 768 rfl rfl form_33 _ _ _ x y (by omega) (by omega)
  · exact tile M N X0 X1 X2 X3 X4 X5 X6 X7 5 3 (by omega) (by omega) 320 768 rfl rfl form_34 _ _ _ x y (by omega) (by omega)
  · exact tile M N X0 X1 X2 X3 X4 X5 X6 X7 4 3 (by omega) (by omega) 256 768 rfl rfl form_35 _ _ _ x y (by omega) (by omega)
  · exact tile M N X0 X1 X2 X3 X4 X5 X6 X7 3 3 (by omega) (by omega) 192 768 rfl rfl form_36 _ _ _ x y (by omega) (by omega)
  · exact tile M N X0 X1 X2 X3 X4 X5 X6 X7 2 3 (by omega) (by omega) 128 768 rfl rfl form_37 _ _ _ x y (by omega) (by omega)
  · exact tile M N X0 X1 X2 X3 X4 X5 X6 X7 1 3 (by omega) (by omega) 64 768 rfl rfl form_38 _ _ _ x y (by omega) (by omega)
  · exact tile M N X0 X1 X2 X3 X4 X5 X6 X7 0 3 (by omega) (by omega) 0 768 rfl rfl form_39 _ _ _ x y (by omega) (by omega)
  · exact tile M N X0 X1 X2 X3 X4 X5 X6 X7 7 2 (by omega) (by omega) 448 512 rfl rfl form_40 _ _ _ x y (by omega) (by omega)
  · exact tile M N X0 X1 X2 X3 X4 X5 X6 X7 6 2 (by omega) (by omega) 384 512 rfl rfl form_41 _ _ _ x y (by omega) (by omega)
  · exact tile M N X0 X1 X2 X3 X4 X5 X6 X7 5 2 (by omega) (by omega) 320 512 rfl rfl form_42 _ _ _ x y (by omega) (by omega)
  · exact tile M N X0 X1 X2 X3 X4 X5 X6 X7 4 2 (by omega) (by omega) 256 512 rfl rfl form_43 _ _ _ x y (by omega) (by omega)
  · exact tile M N X0 X1 X2 X3 X4 X5 X6 X7 3 2 (by omega) (by omega) 192 512 rfl rfl form_44 _ _ _ x y (by omega) (by omega)
  · exact tile M N X0 X1 X2 X3 X4 X5 X6 X7 2 2 (by omega) (by omega) 128 512 rfl rfl form_45 _ _ _ x y (by omega) (by omega)
  · exact tile M N X0 X1 X2 X3 X4 X5 X6 X7 1 2 (by omega) (by omega) 64 512 rfl rfl form_46 _ _ _ x y (by omega) (by omega)
  · exact tile M N X0 X1 X2 X3 X4 X5 X6 X7 0 2 (by omega) (by omega) 0 512 rfl rfl form_47 _ _ _ x y (by omega) (by omega)
  · exact tile M N X0 X1 X2 X3 X4 X5 X6 X7 7 1 (by omega) (by omega) 448 256 rfl rfl form_48 _ _ _ x y (by omega) (by omega)
  · exact tile M N X0 X1 X2 X3 X4 X5 X6 X7 6 1 (by omega) (by omega) 384 256 rfl rfl form_49 _ _ _ x y (by omega) (by omega)
  · exact tile M N X0 X1 X2 X3 X4 X5 X6 X7 5 1 (by omega) (by omega) 320 256 rfl rfl form_50 _ _ _ x y (by omega) (by omega)
  · exact tile M N X0 X1 X2 X3 X4 X5 X6 X7 4 1 (by omega) (by omega) 256 256 rfl rfl form_51 _ _ _ x y (by omega) (by omega)
  · exact tile M N X0 X1 X2 X3 X4 X5 X6 X7 3 1 (by omega) (by omega) 192 256 rfl rfl form_52 _ _ _ x y (by omega) (by omega)
  · exact tile M N X0 X1 X2 X3 X4 X5 X6 X7 2 1 (by omega) (by omega) 128 256 rfl rfl form_53 _ _ _ x y (by omega) (by omega)
  · exact tile M N X0 X1 X2 X3 X4 X5 X6 X7 1 1 (by omega) (by omega) 64 256 rfl rfl form_54 _ _ _ x y (by omega) (by omega)
  · exact tile M N X0 X1 X2 X3 X4 X5 X6 X7 0 1 (by omega) (by omega) 0 256 rfl rfl form_55 _ _ _ x y (by omega) (by omega)
  · exact tile M N X0 X1 X2 X3 X4 X5 X6 X7 7 0 (by omega) (by omega) 448 0 rfl rfl form_56 _ _ _ x y (by omega) (by omega)
  · exact tile M N X0 X1 X2 X3 X4 X5 X6 X7 6 0 (by omega) (by omega) 384 0 rfl rfl form_57 _ _ _ x y (by omega) (by omega)
  · exact tile M N X0 X1 X2 X3 X4 X5 X6 X7 5 0 (by omega) (by omega) 320 0 rfl rfl form_58 _ _ _ x y (by omega) (by omega)
  · exact tile M N X0 X1 X2 X3 X4 X5 X6 X7 4 0 (by omega) (by omega) 256 0 rfl rfl form_59 _ _ _ x y (by omega) (by omega)
  · exact tile M N X0 X1 X2 X3 X4 X5 X6 X7 3 0 (by omega) (by omega) 192 0 rfl rfl form_60 _ _ _ x y (by omega) (by omega)
  · exact tile M N X0 X1 X2 X3 X4 X5 X6 X7 2 0 (by omega) (by omega) 128 0 rfl rfl form_61 _ _ _ x y (by omega) (by omega)
  · exact tile M N X0 X1 X2 X3 X4 X5 X6 X7 1 0 (by omega) (by omega) 64 0 rfl rfl form_62 _ _ _ x y (by omega) (by omega)
  · exact tile M N X0 X1 X2 X3 X4 X5 X6 X7 0 0 (by omega) (by omega) 0 0 rfl rfl form_63 _ _ _ x y (by omega) (by omega)

theorem out_at (X : Vec Ideal S512x1024 .f32) (A : Vec Ideal S512x2048 .bf16) (W : Vec Ideal S2048x1024 .bf16) (r : Fin 512) (d : Fin 1024) :
    k0_pay1 (F := Ideal) (k0_pay2 (F := Ideal) X) A W (ix2 r d) = X (ix2 r d) + ∑ c : Fin 2048, A (ix2 r c) * W (ix2 c d) := by
  pointwise [k0_pay1, k0_pay2]

end

end Gmlp

end
-- ==== Proof.GmlpRun.lean ====
/- The sample's gMLP: what the run leaves in the two results' blocks. -/
module

public import proofs.«01_k».proof.Proof.GmlpLists

@[expose] public section

set_option maxRecDepth 16384

noncomputable section

open Idealize.ShloMosaic Idealize.ShloMosaic.TcCoe Idealize.SL.Sem
open Idealize.ShloMosaic.Pipeline (Dat)
open scoped BigOperators

namespace Gmlp

section
open Cert.GmlpIdeal Cert.GmlpIdeal.Gen

theorem run_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S8x64x64 .f32) (harg7 : arg7.IsWhole) (arg8 : Memref sig .tc .vmem S8x64x1 .f32) (harg8 : arg8.IsWhole) (arg9 : Memref sig .tc .vmem S2048x1024 .bf16) (harg9 : arg9.IsWhole) (arg10 : Memref sig .tc .vmem S512x1024 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole)
    (x0 : Vec Ideal S512x1024 .f32) (x1 : Vec Ideal S1x1024 .f32) (x2 : Vec Ideal S1024x4096 .bf16) (x3 : Vec Ideal S1x4096 .f32) (x4 : Vec Ideal S1x2048 .f32) (x5 : Vec Ideal S1x2048 .f32) (x6 : Vec Ideal S8x64x64 .f32) (x7 : Vec Ideal S8x64x1 .f32) (x8 : Vec Ideal S2048x1024 .bf16) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = View.canon [⟨Rect.unit (s := S512x1024) ![0, 0] S512x1024.size inb_S512x1024_S512x1024_0_0,
      k0_pay1 (F := Ideal) (k0_pay2 (F := Ideal) (View.ld x0 (Rect.unit (s := S512x1024) ![0, 0] S512x1024.size inb_S512x1024_S512x1024_0_0)))
        (arg13.view.readCov (glist arg11 arg12 x0 x1 x2 x3 x4 x5 x6 x7) (Rect.unit (s := S512x2048) ![0, 0] S512x2048.size inb_S512x2048_S512x2048_0_0).toLoadRect)
        (View.ld x8 (Rect.unit (s := S2048x1024) ![0, 0] S2048x1024.size inb_S2048x1024_S2048x1024_0_0))⟩] := by
  have h : out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = VO0_9.read (Elt Ideal) (VO0_9.writes (Elt Ideal) VO0_9.junk [⟨Rect.unit (s := S512x1024) ![0, 0] S512x1024.size inb_S512x1024_S512x1024_0_0,
      k0_pay1 (F := Ideal) (k0_pay2 (F := Ideal) (View.ld (arg1.view.read (Elt Ideal) (harg1.unread x0)) (Rect.unit (s := S512x1024) ![0, 0] S512x1024.size inb_S512x1024_S512x1024_0_0)))
        (arg13.view.readCov (glist arg11 arg12 (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg6.view.read (Elt Ideal) (harg6.unread x5)) (arg7.view.read (Elt Ideal) (harg7.unread x6)) (arg8.view.read (Elt Ideal) (harg8.unread x7))) (Rect.unit (s := S512x2048) ![0, 0] S512x2048.size inb_S512x2048_S512x2048_0_0).toLoadRect)
        (View.ld (arg9.view.read (Elt Ideal) (harg9.unread x8)) (Rect.unit (s := S2048x1024) ![0, 0] S2048x1024.size inb_S2048x1024_S2048x1024_0_0))⟩]) := rfl
  rw [h, View.read_writes_junk_eq_canon]
  simp only [Memref.IsWhole.read_unread]

theorem run_10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S8x64x64 .f32) (harg7 : arg7.IsWhole) (arg8 : Memref sig .tc .vmem S8x64x1 .f32) (harg8 : arg8.IsWhole) (arg9 : Memref sig .tc .vmem S2048x1024 .bf16) (harg9 : arg9.IsWhole) (arg10 : Memref sig .tc .vmem S512x1024 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole)
    (x0 : Vec Ideal S512x1024 .f32) (x1 : Vec Ideal S1x1024 .f32) (x2 : Vec Ideal S1024x4096 .bf16) (x3 : Vec Ideal S1x4096 .f32) (x4 : Vec Ideal S1x2048 .f32) (x5 : Vec Ideal S1x2048 .f32) (x6 : Vec Ideal S8x64x64 .f32) (x7 : Vec Ideal S8x64x1 .f32) (x8 : Vec Ideal S2048x1024 .bf16) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = View.canon (vnlist arg11 x0 x1 x2 x3 x4 x5) := by
  have h : out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = VO0_10.read (Elt Ideal) (VO0_10.writes (Elt Ideal) VO0_10.junk (vnlist arg11 (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg6.view.read (Elt Ideal) (harg6.unread x5)))) := rfl
  rw [h, View.read_writes_junk_eq_canon]
  simp only [Memref.IsWhole.read_unread]

end

end Gmlp

end
-- ==== Proof.GmlpBody.lean ====
/- The sample's gMLP: the two blocks that one run of the body leaves. -/
module

public import proofs.«01_k».proof.Proof.GmlpGate
public import proofs.«01_k».proof.Proof.GmlpRun

@[expose] public section

set_option maxRecDepth 16384

noncomputable section

open Idealize.ShloMosaic Idealize.ShloMosaic.TcCoe Idealize.SL.Sem
open Idealize.ShloMosaic.Pipeline (Dat)
open scoped BigOperators

namespace Gmlp

section
open Cert.GmlpIdeal Cert.GmlpIdeal.Gen

/-- The last weight of a block. -/
abbrev wout (X8 : Vec Ideal S2048x1024 .bf16) : Fin 2048 → Fin 1024 → EReal := fun c d => X8 (ix2 c d)

theorem unit_idx (h) (r : Fin 512) (c : Fin 2048) :
    (Rect.unit (s := S512x2048) ![0, 0] S512x2048.size h).toLoadRect.idx (ix2 r c) = (ix2 r c : S512x2048.Idx) := by
  funext i; fin_cases i <;> apply Fin.ext
  · show 0 + 1 * r.val = r.val; omega
  · show 0 + 1 * c.val = c.val; omega

theorem whole_wo (X8 : Vec Ideal S2048x1024 .bf16) (h) (c : Fin 2048) (d : Fin 1024) :
    View.ld X8 (Rect.unit (s := S2048x1024) ![0, 0] S2048x1024.size h) (ix2 c d) = X8 (ix2 c d) := by
  refine congrArg X8 (funext fun i => ?_); fin_cases i <;> apply Fin.ext
  · show 0 + 1 * c.val = c.val; omega
  · show 0 + 1 * d.val = d.val; omega

theorem whole_xr (X0 : Vec Ideal S512x1024 .f32) (h) (r : Fin 512) (d : Fin 1024) :
    View.ld X0 (Rect.unit (s := S512x1024) ![0, 0] S512x1024.size h) (ix2 r d) = X0 (ix2 r d) := by
  refine congrArg X0 (funext fun i => ?_); fin_cases i <;> apply Fin.ext
  · show 0 + 1 * r.val = r.val; omega
  · show 0 + 1 * d.val = d.val; omega

theorem whole_canon (P : Vec Ideal S512x1024 .f32) (y : S512x1024.Idx) :
    View.canon [⟨Rect.unit (s := S512x1024) ![0, 0] S512x1024.size inb_S512x1024_S512x1024_0_0, P⟩] y = P y := by
  canon_tiles x h
  have e0 : (x 0).val = (y 0).val := by omega
  have e1 : (x 1).val = (y 1).val := by omega
  refine congrArg P (funext fun (i : Fin 2) => ?_)
  fin_cases i <;> apply Fin.ext
  · exact e0
  · exact e1

theorem body_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S8x64x64 .f32) (harg7 : arg7.IsWhole) (arg8 : Memref sig .tc .vmem S8x64x1 .f32) (harg8 : arg8.IsWhole) (arg9 : Memref sig .tc .vmem S2048x1024 .bf16) (harg9 : arg9.IsWhole) (arg10 : Memref sig .tc .vmem S512x1024 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole)
    (x0 : Vec Ideal S512x1024 .f32) (x1 : Vec Ideal S1x1024 .f32) (x2 : Vec Ideal S1024x4096 .bf16) (x3 : Vec Ideal S1x4096 .f32) (x4 : Vec Ideal S1x2048 .f32) (x5 : Vec Ideal S1x2048 .f32) (x6 : Vec Ideal S8x64x64 .f32) (x7 : Vec Ideal S8x64x1 .f32) (x8 : Vec Ideal S2048x1024 .bf16) (r : Fin 512) (d : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 r d) = out (rows x0) (gains x1) (wts x2) (bias x3) (lrow x4) (lrow x5) (mixw x6) (mixb x7) (wout x8) r d := by
  rw [run_9]
  refine (whole_canon _ _).trans ?_
  rw [out_at, whole_xr]
  unfold out
  refine congrArg (fun q : EReal => x0 (ix2 r d) + q) (Finset.sum_congr rfl fun k _ => ?_)
  rw [View.readCov_eq_canon', whole_wo]
  refine congrArg (fun q : EReal => q * x8 (ix2 k d)) ?_
  refine (congrArg (fun j => View.canon (glist arg11 arg12 x0 x1 x2 x3 x4 x5 x6 x7) j) (unit_idx _ r k)).trans ?_
  exact g_canon arg11 arg12 x0 x1 x2 x3 x4 x5 x6 x7 (ix2 r k)

theorem body_10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S8x64x64 .f32) (harg7 : arg7.IsWhole) (arg8 : Memref sig .tc .vmem S8x64x1 .f32) (harg8 : arg8.IsWhole) (arg9 : Memref sig .tc .vmem S2048x1024 .bf16) (harg9 : arg9.IsWhole) (arg10 : Memref sig .tc .vmem S512x1024 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole)
    (x0 : Vec Ideal S512x1024 .f32) (x1 : Vec Ideal S1x1024 .f32) (x2 : Vec Ideal S1024x4096 .bf16) (x3 : Vec Ideal S1x4096 .f32) (x4 : Vec Ideal S1x2048 .f32) (x5 : Vec Ideal S1x2048 .f32) (x6 : Vec Ideal S8x64x64 .f32) (x7 : Vec Ideal S8x64x1 .f32) (x8 : Vec Ideal S2048x1024 .bf16) (r : Fin 512) (k : Fin 2048) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 r k) = vn (rows x0) (gains x1) (wts x2) (bias x3) (lrow x4) (lrow x5) r k := by
  rw [run_10]
  exact vn_canon arg11 x0 x1 x2 x3 x4 x5 r k

end

end Gmlp

end
-- ==== Proof.GmlpArr.lean ====
/- The sample's gMLP: its results as arrays of the arguments. -/
module

public import proofs.«01_k».proof.Proof.GmlpSpec

@[expose] public section

set_option maxRecDepth 16384

noncomputable section

open Idealize.ShloMosaic Idealize.ShloMosaic.TcCoe Idealize.SL.Sem
open Idealize.ShloMosaic.Pipeline (Dat)
open scoped BigOperators

namespace Gmlp

section
/-- The stream, by row. -/
def rowsA (x : (⟨3, ![8, 64, 1024]⟩ : Shape).Idx → EReal) : Fin 512 → Fin 1024 → EReal := fun r k => x (ix3 ⟨r.val / 64, by omega⟩ ⟨r.val % 64, by omega⟩ k)
def gainsA (g : (⟨2, ![1, 1024]⟩ : Shape).Idx → EReal) : Fin 1024 → EReal := fun k => g (ix2 0 k)
def wtsA (w : (⟨3, ![1, 1024, 4096]⟩ : Shape).Idx → EReal) : Fin 1024 → Fin 4096 → EReal := fun k c => w (ix3 0 k c)
def biasA (b : (⟨2, ![1, 4096]⟩ : Shape).Idx → EReal) : Fin 4096 → EReal := fun c => b (ix2 0 c)
def lrowA (a : (⟨2, ![1, 2048]⟩ : Shape).Idx → EReal) : Fin 2048 → EReal := fun c => a (ix2 0 c)
def mixwA (w : (⟨4, ![1, 8, 128, 128]⟩ : Shape).Idx → EReal) : Fin 8 → Fin 64 → Fin 64 → EReal := fun g r s => w (ix4 0 g ⟨r.val, by omega⟩ ⟨s.val, by omega⟩)
def mixbA (b : (⟨3, ![1, 8, 128]⟩ : Shape).Idx → EReal) : Fin 8 → Fin 64 → EReal := fun g r => b (ix3 0 g ⟨r.val, by omega⟩)
def woutA (w : (⟨3, ![1, 2048, 1024]⟩ : Shape).Idx → EReal) : Fin 2048 → Fin 1024 → EReal := fun c d => w (ix3 0 c d)

/-- A row of the stream is a position of a sequence. -/
theorem rowsA_at (x : (⟨3, ![8, 64, 1024]⟩ : Shape).Idx → EReal) (n : Fin 8) (a : Fin 64) (h) : rowsA x ⟨64 * n.val + a.val, h⟩ = fun k => x (ix3 n a k) := by
  funext k; unfold rowsA
  have e0 : (⟨(64 * n.val + a.val) / 64, by omega⟩ : Fin 8) = n := Fin.ext (by show (64 * n.val + a.val) / 64 = n.val; omega)
  have e1 : (⟨(64 * n.val + a.val) % 64, by omega⟩ : Fin 64) = a := Fin.ext (by show (64 * n.val + a.val) % 64 = a.val; omega)
  exact congrArg₂ (fun p q => x (ix3 p q k)) e0 e1

variable (x : (⟨3, ![8, 64, 1024]⟩ : Shape).Idx → EReal) (g : (⟨2, ![1, 1024]⟩ : Shape).Idx → EReal) (w : (⟨3, ![1, 1024, 4096]⟩ : Shape).Idx → EReal) (b : (⟨2, ![1, 4096]⟩ : Shape).Idx → EReal)
  (lg lb : (⟨2, ![1, 2048]⟩ : Shape).Idx → EReal) (ws : (⟨4, ![1, 8, 128, 128]⟩ : Shape).Idx → EReal) (bs : (⟨3, ![1, 8, 128]⟩ : Shape).Idx → EReal) (wo : (⟨3, ![1, 2048, 1024]⟩ : Shape).Idx → EReal)

/-- The residual stream after the layer. -/
def outA : (⟨2, ![512, 1024]⟩ : Shape).Idx → EReal := fun j => out (rowsA x) (gainsA g) (wtsA w) (biasA b) (lrowA lg) (lrowA lb) (mixwA ws) (mixbA bs) (woutA wo) (j 0) (j 1)

/-- The normalised rows. -/
def vnA : (⟨2, ![512, 2048]⟩ : Shape).Idx → EReal := fun j => vn (rowsA x) (gainsA g) (wtsA w) (biasA b) (lrowA lg) (lrowA lb) (j 0) (j 1)
end

end Gmlp

end
-- ==== Proof.GmlpOut.lean ====
/- The sample's gMLP: the two result arrays. -/
module

public import proofs.«01_k».proof.Proof.GmlpBody
public import proofs.«01_k».proof.Proof.GmlpArr
public import proofs.«01_k».proof.Proof.Gen.GmlpIdeal.Value

@[expose] public section

set_option maxRecDepth 16384

noncomputable section

open Idealize.ShloMosaic Idealize.ShloMosaic.TcCoe Idealize.SL.Sem
open Idealize.ShloMosaic.Pipeline (Dat)
open scoped BigOperators

namespace Gmlp

section
open Cert.GmlpIdeal Cert.GmlpIdeal.Gen

variable (m : (ℓ : Loc nD τ sig) → Buf (Elt Ideal) ℓ)

theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0, 0] := (by decide +kernel : ∀ t : Fin grid0.N, _)
theorem idx_7 : ∀ t : Fin cfg0.N, win0_7.index t = ![0, 0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)

theorem iblk_0 (c : Dev nD) (t : Fin cfg0.N) (r : Fin 512) (k : Fin 1024) :
    (iblk m c 0 t : Vec Ideal S512x1024 .f32) (ix2 r k) = rowsA (m ((c : Thread nD τ).loc main_arg0)) r k := by
  have h := idx_0 t
  unfold rowsA; blk_point [iblk, V, h]

theorem iblk_1 (c : Dev nD) (t : Fin cfg0.N) (k : Fin 1024) :
    (iblk m c 1 t : Vec Ideal S1x1024 .f32) (ix2 0 k) = (m ((c : Thread nD τ).loc main_arg1)) (ix2 0 k) := by
  have h := idx_1 t
  blk_point [iblk, V, h]

theorem iblk_2 (c : Dev nD) (t : Fin cfg0.N) (k : Fin 1024) (l : Fin 4096) :
    (iblk m c 2 t : Vec Ideal S1024x4096 .bf16) (ix2 k l) = (m ((c : Thread nD τ).loc main_arg2)) (ix3 0 k l) := by
  have h := idx_2 t
  blk_point [iblk, V, h]

theorem iblk_3 (c : Dev nD) (t : Fin cfg0.N) (k : Fin 4096) :
    (iblk m c 3 t : Vec Ideal S1x4096 .f32) (ix2 0 k) = (m ((c : Thread nD τ).loc main_arg3)) (ix2 0 k) := by
  have h := idx_3 t
  blk_point [iblk, V, h]

theorem iblk_4 (c : Dev nD) (t : Fin cfg0.N) (k : Fin 2048) :
    (iblk m c 4 t : Vec Ideal S1x2048 .f32) (ix2 0 k) = (m ((c : Thread nD τ).loc main_arg4)) (ix2 0 k) := by
  have h := idx_4 t
  blk_point [iblk, V, h]

theorem iblk_5 (c : Dev nD) (t : Fin cfg0.N) (k : Fin 2048) :
    (iblk m c 5 t : Vec Ideal S1x2048 .f32) (ix2 0 k) = (m ((c : Thread nD τ).loc main_arg5)) (ix2 0 k) := by
  have h := idx_5 t
  blk_point [iblk, V, h]

theorem iblk_6 (c : Dev nD) (t : Fin cfg0.N) (g : Fin 8) (r s : Fin 64) :
    (iblk m c 6 t : Vec Ideal S8x64x64 .f32) (ix3 g r s) = (m ((c : Thread nD τ).loc main_arg6)) (ix4 0 g ⟨r.val, by omega⟩ ⟨s.val, by omega⟩) := by
  have h := idx_6 t
  blk_point [iblk, V, h]

theorem iblk_7 (c : Dev nD) (t : Fin cfg0.N) (g : Fin 8) (r : Fin 64) :
    (iblk m c 7 t : Vec Ideal S8x64x1 .f32) (ix3 g r 0) = (m ((c : Thread nD τ).loc main_arg7)) (ix3 0 g ⟨r.val, by omega⟩) := by
  have h := idx_7 t
  blk_point [iblk, V, h]

theorem iblk_8 (c : Dev nD) (t : Fin cfg0.N) (k : Fin 2048) (l : Fin 1024) :
    (iblk m c 8 t : Vec Ideal S2048x1024 .bf16) (ix2 k l) = (m ((c : Thread nD τ).loc main_arg8)) (ix3 0 k l) := by
  have h := idx_8 t
  blk_point [iblk, V, h]

theorem emb_9 (t : Fin cfg0.N) (r : Fin 512) (k : Fin 1024) :
    (((cfg0.win 9).blk t).view.emb (ix2 r k : S512x1024.Idx) : S512x1024.Idx) = ix2 r k := by
  refine funext fun (a : Fin 2) => ?_
  fin_cases a <;> apply Fin.ext
  · show win0_9.index t 0 * 512 + 1 * r.val = r.val
    rw [idx_9 t]; show 0 * 512 + 1 * r.val = _; omega
  · show win0_9.index t 1 * 1024 + 1 * k.val = k.val
    rw [idx_9 t]; show 0 * 1024 + 1 * k.val = _; omega

theorem emb_10 (t : Fin cfg0.N) (r : Fin 512) (k : Fin 2048) :
    (((cfg0.win 10).blk t).view.emb (ix2 r k : S512x2048.Idx) : S512x2048.Idx) = ix2 r k := by
  refine funext fun (a : Fin 2) => ?_
  fin_cases a <;> apply Fin.ext
  · show win0_10.index t 0 * 512 + 1 * r.val = r.val
    rw [idx_10 t]; show 0 * 512 + 1 * r.val = _; omega
  · show win0_10.index t 1 * 2048 + 1 * k.val = k.val
    rw [idx_10 t]; show 0 * 2048 + 1 * k.val = _; omega

theorem block_9 (c : Dev nD) (t : Fin cfg0.N) (r : Fin 512) (d : Fin 1024) :
    (outsAt0 m c t).1 (ix2 r d) = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r d) := by
  have h := body_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) r d
  rw [show rows (iblk m c 0 t) = rowsA (m ((c : Thread nD τ).loc main_arg0)) from funext fun r => funext fun k => iblk_0 m c t r k, show gains (iblk m c 1 t) = gainsA (m ((c : Thread nD τ).loc main_arg1)) from funext fun k => iblk_1 m c t k, show wts (iblk m c 2 t) = wtsA (m ((c : Thread nD τ).loc main_arg2)) from funext fun k => funext fun l => iblk_2 m c t k l, show bias (iblk m c 3 t) = biasA (m ((c : Thread nD τ).loc main_arg3)) from funext fun k => iblk_3 m c t k, show lrow (iblk m c 4 t) = lrowA (m ((c : Thread nD τ).loc main_arg4)) from funext fun k => iblk_4 m c t k, show lrow (iblk m c 5 t) = lrowA (m ((c : Thread nD τ).loc main_arg5)) from funext fun k => iblk_5 m c t k, show mixw (iblk m c 6 t) = mixwA (m ((c : Thread nD τ).loc main_arg6)) from funext fun g => funext fun r => funext fun s => iblk_6 m c t g r s, show mixb (iblk m c 7 t) = mixbA (m ((c : Thread nD τ).loc main_arg7)) from funext fun g => funext fun r => iblk_7 m c t g r, show wout (iblk m c 8 t) = woutA (m ((c : Thread nD τ).loc main_arg8)) from funext fun k => funext fun l => iblk_8 m c t k l] at h
  simp only [outsAt0]
  refine h.trans ?_
  rfl

theorem block_10 (c : Dev nD) (t : Fin cfg0.N) (r : Fin 512) (d : Fin 2048) :
    (outsAt0 m c t).2 (ix2 r d) = vnA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r d) := by
  have h := body_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) r d
  rw [show rows (iblk m c 0 t) = rowsA (m ((c : Thread nD τ).loc main_arg0)) from funext fun r => funext fun k => iblk_0 m c t r k, show gains (iblk m c 1 t) = gainsA (m ((c : Thread nD τ).loc main_arg1)) from funext fun k => iblk_1 m c t k, show wts (iblk m c 2 t) = wtsA (m ((c : Thread nD τ).loc main_arg2)) from funext fun k => funext fun l => iblk_2 m c t k l, show bias (iblk m c 3 t) = biasA (m ((c : Thread nD τ).loc main_arg3)) from funext fun k => iblk_3 m c t k, show lrow (iblk m c 4 t) = lrowA (m ((c : Thread nD τ).loc main_arg4)) from funext fun k => iblk_4 m c t k, show lrow (iblk m c 5 t) = lrowA (m ((c : Thread nD τ).loc main_arg5)) from funext fun k => iblk_5 m c t k] at h
  simp only [outsAt0]
  refine h.trans ?_
  rfl

theorem out_9 (c : Dev nD) : (dats m 0 c).arrAt 9 (cfgs 0).N = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  suffices h : ∀ y : S512x1024.Idx, (outsAt0 m c t).1 y = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) from h y
  intro y
  idx_vars y
  refine (block_9 m c t y0 y1).trans ?_
  exact (congrArg (fun j : S512x1024.Idx => outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j) (emb_9 t y0 y1)).symm

theorem out_10 (c : Dev nD) : (dats m 0 c).arrAt 10 (cfgs 0).N = vnA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  suffices h : ∀ y : S512x2048.Idx, (outsAt0 m c t).2 y = vnA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 10).blk t).view.emb y) from h y
  intro y
  idx_vars y
  refine (block_10 m c t y0 y1).trans ?_
  exact (congrArg (fun j : S512x2048.Idx => vnA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j) (emb_10 t y0 y1)).symm

end

end Gmlp

end
-- ==== Proof.GmlpRefValue.lean ====
/- The sample's gMLP: what the reference computes, element by element. -/
module

public import proofs.«01_k».proof.Proof.GmlpArr
public import proofs.«01_k».proof.Proof.Gen.GmlpRefIdeal.Read

@[expose] public section

set_option maxRecDepth 16384

noncomputable section

open Idealize.ShloMosaic Idealize.ShloMosaic.TcCoe Idealize.SL.Sem
open Idealize.ShloMosaic.Pipeline (Dat)
open scoped BigOperators

namespace Gmlp

section
open Cert.GmlpRefIdeal Cert.GmlpRefIdeal.Read

abbrev X := (⟨S8x64x1024, .f32⟩ : BufTy).Contents (Elt Ideal)
abbrev G := (⟨S1x1024, .f32⟩ : BufTy).Contents (Elt Ideal)
abbrev W := (⟨S1x1024x4096, .f32⟩ : BufTy).Contents (Elt Ideal)
abbrev B := (⟨S1x4096, .f32⟩ : BufTy).Contents (Elt Ideal)
abbrev L := (⟨S1x2048, .f32⟩ : BufTy).Contents (Elt Ideal)
abbrev WS := (⟨S1x8x128x128, .f32⟩ : BufTy).Contents (Elt Ideal)
abbrev BS := (⟨S1x8x128, .f32⟩ : BufTy).Contents (Elt Ideal)
abbrev WO := (⟨S1x2048x1024, .f32⟩ : BufTy).Contents (Elt Ideal)

/-- The error function of the reference is the complement at the opposite. -/
theorem erfc_step (z s : EReal) : Ideal.erfc (-z * s) = 1 + Ideal.erf (z * s) := by
  rw [neg_mul, Ideal.erfc_neg]

theorem ref_pre (x : X) (g : G) (w : W) (b : B) (n : Fin 8) (a : Fin 64) (c : Fin 4096) :
    val_main_v19 (F := Ideal) x g w b (ix3 n a c) = Layer.proj (fun k => x (ix3 n a k)) (gainsA g) (fun k => wtsA w k c) + biasA b c := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_cst_0, val_main_cst_1, Layer.proj, Layer.rms, gainsA, wtsA, biasA]
  try rfl

theorem ref_act (x : X) (g : G) (w : W) (b : B) (n : Fin 8) (a : Fin 64) (c : Fin 4096) :
    val_main_v26 (F := Ideal) x g w b (ix3 n a c) = gelu (Layer.proj (fun k => x (ix3 n a k)) (gainsA g) (fun k => wtsA w k c) + biasA b c) := by
  rw [← ref_pre]
  rw [val_main_v26_apply, val_main_v25_apply, val_main_v24_apply, val_main_v22_apply, val_main_v21_apply, val_main_v20_apply, val_main_v23_apply]
  exact congrArg (fun q => Ideal.ofBits FTy.f32 1056964608#32 * val_main_v19 (F := Ideal) x g w b (ix3 n a c) * q) (erfc_step _ _)

theorem ref_ln (x : X) (g : G) (w : W) (b : B) (lg lb : L) (n : Fin 8) (a : Fin 64) (c : Fin 2048) :
    val_main_v54 (F := Ideal) x g w b lg lb (ix3 n a c) = ln (fun k => val_main_v26 (F := Ideal) x g w b (ix3 n a ⟨2048 + k.val, by omega⟩)) (lrowA lg) (lrowA lb) c := by
  pointwise [val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_cst_4, val_main_cst_5, val_main_cst_6, val_main_cst_7, val_main_cst_8, ln, mean, lrowA]
  try rfl

theorem ref_vn (x : X) (g : G) (w : W) (b : B) (lg lb : L) (n : Fin 8) (a : Fin 64) (c : Fin 2048) (h) :
    val_main_v54 (F := Ideal) x g w b lg lb (ix3 n a c) = vn (rowsA x) (gainsA g) (wtsA w) (biasA b) (lrowA lg) (lrowA lb) ⟨64 * n.val + a.val, h⟩ c := by
  rw [ref_ln]
  unfold vn act
  refine congrArg (fun q => ln q (lrowA lg) (lrowA lb) c) (funext fun k => ?_)
  rw [ref_act, rowsA_at]

/-- The causal mask's word, as the reference makes it. -/
theorem ref_mask : ∀ r s : Fin 64, IntOp.cmpi CmpIPredicate.sge (IntOp.addi (BitVec.ofNat 32 r.val) 0#32) (BitVec.ofNat 32 s.val) = if s.val ≤ r.val then 1#1 else 0#1 := by decide +kernel

theorem ref_tril (ws : WS) (g : Fin 8) (r s : Fin 64) :
    val_main_v58 (F := Ideal) ws (ix3 g r s) = if s.val ≤ r.val then mixwA ws g r s else 0 := by
  pointwise [val_main_v58, val_main_call0_v6, val_main_call0_cst, val_main_call0_v5, val_main_call0_v4, val_main_call0_v3, val_main_call0_v2, val_main_call0_v1, val_main_call0_c, val_main_call0_v0, val_main_v57, val_main_v56, mixwA]
  rw [ref_mask]
  split <;> rfl

theorem ref_dot (x : X) (g : G) (w : W) (b : B) (lg lb : L) (ws : WS) (bs : BS) (n : Fin 8) (a : Fin 64) (q : Fin 8) (e : Fin 256) :
    val_main_v67 (F := Ideal) x g w b lg lb ws bs (ix5 n 0 a q e)
      = (∑ s : Fin 64, val_main_v54 (F := Ideal) x g w b lg lb (ix3 n s ⟨q.val * 256 + e.val, by omega⟩) * val_main_v58 (F := Ideal) ws (ix3 q a s)) + mixbA bs q a := by
  pointwise [val_main_v59, val_main_v60, val_main_v61, val_main_v62, val_main_v63, val_main_v64, val_main_v65, val_main_v66, val_main_v67, val_main_v55, mixbA]
  done

theorem ref_gate (x : X) (g : G) (w : W) (b : B) (lg lb : L) (ws : WS) (bs : BS) (n : Fin 8) (a : Fin 64) (c : Fin 2048) :
    val_main_v69 (F := Ideal) x g w b lg lb ws bs (ix3 n a c)
      = val_main_v26 (F := Ideal) x g w b (ix3 n a ⟨c.val, by omega⟩) * val_main_v67 (F := Ideal) x g w b lg lb ws bs (ix5 n 0 a ⟨c.val / 256, by omega⟩ ⟨c.val % 256, by omega⟩) := by
  pointwise [val_main_v69, val_main_v68, val_main_v27]
  done

theorem ref_gated (x : X) (g : G) (w : W) (b : B) (lg lb : L) (ws : WS) (bs : BS) (r : Fin 512) (c : Fin 2048) :
    val_main_v69 (F := Ideal) x g w b lg lb ws bs (ix3 ⟨r.val / 64, by omega⟩ ⟨r.val % 64, by omega⟩ c)
      = gated (rowsA x) (gainsA g) (wtsA w) (biasA b) (lrowA lg) (lrowA lb) (mixwA ws) (mixbA bs) r c := by
  rw [ref_gate, ref_act, ref_dot]
  unfold gated mix act
  refine congrArg₂ (fun p q : EReal => p * q) rfl (congrArg (fun q : EReal => q + mixbA bs ⟨c.val / 256, by omega⟩ ⟨r.val % 64, by omega⟩) (Finset.sum_congr rfl fun s _ => ?_))
  rw [ref_vn x g w b lg lb _ s _ (by show 64 * (r.val / 64) + s.val < 512; omega), ref_tril, mul_comm]
  have e : (⟨c.val / 256 * 256 + c.val % 256, by omega⟩ : Fin 2048) = c := Fin.ext (by show c.val / 256 * 256 + c.val % 256 = c.val; omega)
  exact congrArg (fun q : Fin 2048 => (if s.val ≤ r.val % 64 then mixwA ws ⟨c.val / 256, by omega⟩ ⟨r.val % 64, by omega⟩ s else 0) * vn (rowsA x) (gainsA g) (wtsA w) (biasA b) (lrowA lg) (lrowA lb) ⟨64 * (r.val / 64) + s.val, by omega⟩ q) e

theorem ref_out (x : X) (g : G) (w : W) (b : B) (lg lb : L) (ws : WS) (bs : BS) (wo : WO) :
    val_main_v73 (F := Ideal) x g w b lg lb ws bs wo = outA x g w b lg lb ws bs wo := by
  funext j; idx_vars j
  have h : val_main_v73 (F := Ideal) x g w b lg lb ws bs wo (ix2 j0 j1)
      = x (ix3 ⟨j0.val / 64, by omega⟩ ⟨j0.val % 64, by omega⟩ j1) + ∑ c : Fin 2048, val_main_v69 (F := Ideal) x g w b lg lb ws bs (ix3 ⟨j0.val / 64, by omega⟩ ⟨j0.val % 64, by omega⟩ c) * wo (ix3 0 c j1) := by
    pointwise [val_main_v70, val_main_v71, val_main_v72, val_main_v73]
    done
  rw [h]
  exact congrArg (fun q : EReal => _ + q) (Finset.sum_congr rfl fun c _ => congrArg (fun q : EReal => q * _) (ref_gated x g w b lg lb ws bs j0 c))

theorem ref_norm (x : X) (g : G) (w : W) (b : B) (lg lb : L) :
    val_main_v74 (F := Ideal) x g w b lg lb = vnA x g w b lg lb := by
  funext j; idx_vars j
  have h : val_main_v74 (F := Ideal) x g w b lg lb (ix2 j0 j1)
      = val_main_v54 (F := Ideal) x g w b lg lb (ix3 ⟨j0.val / 64, by omega⟩ ⟨j0.val % 64, by omega⟩ j1) := by
    pointwise [val_main_v74]
    done
  rw [h, ref_vn x g w b lg lb _ _ _ (by show 64 * (j0.val / 64) + j0.val % 64 < 512; omega)]
  have e : (⟨64 * (j0.val / 64) + j0.val % 64, by omega⟩ : Fin 512) = j0 := Fin.ext (by show 64 * (j0.val / 64) + j0.val % 64 = j0.val; omega)
  exact congrArg (fun q => vn _ _ _ _ _ _ q j1) e

end

end Gmlp

end
-- ==== Proof.GmlpValue.lean ====
/- The sample's gMLP: the kernel and the reference leave the same results. -/
module

public import proofs.«01_k».proof.Proof.GmlpOut
public import proofs.«01_k».proof.Proof.GmlpRefValue
public import proofs.«01_k».proof.Proof.Gen.GmlpRefIdeal.Run
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Gmlp

theorem algebraic : Cert.algebraic_GmlpIdeal_GmlpRefIdeal := by
  intro m g m' g' hpre hagree
  refine ⟨fun c => (Cert.GmlpIdeal.Gen.dats m 0 c).arrAt 9 (Cert.GmlpIdeal.cfgs 0).N, fun c => (Cert.GmlpIdeal.Gen.dats m 0 c).arrAt 10 (Cert.GmlpIdeal.cfgs 0).N, ?_, ?_⟩
  · exact (θ_run _ _ _).mono (fun r h c => h c) (Cert.GmlpIdeal.Value.run_blocks m g)
  · refine (θ_run _ _ _).mono (fun r h c => ⟨(h c).1.trans ?_, (h c).2.1.trans ?_, (h c).2.2⟩) (Cert.GmlpRefIdeal.Value.run (F := Ideal) m' g')
    · obtain ⟨e0, e1, e2, e3, e4, e5, e6, e7, e8⟩ := hagree c
      refine (Cert.GmlpRefIdeal.Read.val_main_v73_eq _ _).trans ?_
      refine (ref_out _ _ _ _ _ _ _ _ _).trans ?_
      refine Eq.trans ?_ (out_9 m c).symm
      exact congr (congr (congr (congr (congr (congr (congr (congr (congrArg outA e0) e1) e2) e3) e4) e5) e6) e7) e8
    · obtain ⟨e0, e1, e2, e3, e4, e5, e6, e7, e8⟩ := hagree c
      refine (Cert.GmlpRefIdeal.Read.val_main_v74_eq _ _).trans ?_
      refine (ref_norm _ _ _ _ _ _).trans ?_
      refine Eq.trans ?_ (out_10 m c).symm
      exact congr (congr (congr (congr (congr (congrArg vnA e0) e1) e2) e3) e4) e5

end Gmlp

end
-- ==== Proof.GmlpPSpec.lean ====
/- The prompt's gMLP, element by element: what the call and its reference come to. -/
module

public import proofs.«01_k».proof.Proof.GmlpSpec

@[expose] public section

set_option maxRecDepth 16384

noncomputable section

open Idealize.ShloMosaic Idealize.ShloMosaic.TcCoe Idealize.SL.Sem
open Idealize.ShloMosaic.Pipeline (Dat)
open scoped BigOperators

namespace GmlpP

section
variable (g : Fin 1024 → EReal) (w : Fin 1024 → Fin 4096 → EReal) (b : Fin 4096 → EReal)
  (lg lb : Fin 2048 → EReal) (ws : Fin 8 → Fin 128 → Fin 128 → EReal) (bs : Fin 8 → Fin 128 → EReal) (wo : Fin 2048 → Fin 1024 → EReal)

/-- One element of the first layer, of a row. -/
def actR (x : Fin 1024 → EReal) (c : Fin 4096) : EReal := Gmlp.gelu (Layer.proj x g (fun k => w k c) + b c)

/-- One element of its second half, normalised. -/
def vnR (x : Fin 1024 → EReal) (c : Fin 2048) : EReal := Gmlp.ln (fun k => actR g w b x ⟨2048 + k.val, by omega⟩) lg lb c

/-- One gated element of a chunk of 128 rows: the first half times the second half's mix over the positions up to its own. -/
def gatedC (X : Fin 128 → Fin 1024 → EReal) (a : Fin 128) (c : Fin 2048) : EReal :=
  actR g w b (X a) ⟨c.val, by omega⟩ * ((∑ s : Fin 128, (if s.val ≤ a.val then ws ⟨c.val / 256, by omega⟩ a s else 0) * vnR g w b lg lb (X s) c) + bs ⟨c.val / 256, by omega⟩ a)

/-- One element of the residual stream of a chunk after the layer. -/
def outC (X : Fin 128 → Fin 1024 → EReal) (a : Fin 128) (d : Fin 1024) : EReal := X a d + ∑ c, gatedC g w b lg lb ws bs X a c * wo c d
end

/-- One element of the first layer, of a row of a block. -/
def act (x : Fin 512 → Fin 1024 → EReal) (g : Fin 1024 → EReal) (w : Fin 1024 → Fin 4096 → EReal) (b : Fin 4096 → EReal) (r : Fin 512) (c : Fin 4096) : EReal := actR g w b (x r) c

/-- The second half's, normalised. -/
def vn (x : Fin 512 → Fin 1024 → EReal) (g : Fin 1024 → EReal) (w : Fin 1024 → Fin 4096 → EReal) (b : Fin 4096 → EReal) (lg lb : Fin 2048 → EReal) (r : Fin 512) (c : Fin 2048) : EReal :=
  Gmlp.ln (fun k => act x g w b r ⟨2048 + k.val, by omega⟩) lg lb c

section
/-- The chunk of 128 rows that a row belongs to. -/
def chunkA (x : (⟨3, ![2, 16384, 1024]⟩ : Shape).Idx → EReal) (r : Fin 32768) : Fin 128 → Fin 1024 → EReal :=
  fun s k => x (ix3 ⟨r.val / 16384, by omega⟩ ⟨r.val % 16384 / 128 * 128 + s.val, by omega⟩ k)
def gainsA (g : (⟨2, ![1, 1024]⟩ : Shape).Idx → EReal) : Fin 1024 → EReal := fun k => g (ix2 0 k)
def wtsA (w : (⟨3, ![1, 1024, 4096]⟩ : Shape).Idx → EReal) : Fin 1024 → Fin 4096 → EReal := fun k c => w (ix3 0 k c)
def biasA (b : (⟨2, ![1, 4096]⟩ : Shape).Idx → EReal) : Fin 4096 → EReal := fun c => b (ix2 0 c)
def lrowA (a : (⟨2, ![1, 2048]⟩ : Shape).Idx → EReal) : Fin 2048 → EReal := fun c => a (ix2 0 c)
def mixwA (w : (⟨4, ![1, 8, 128, 128]⟩ : Shape).Idx → EReal) : Fin 8 → Fin 128 → Fin 128 → EReal := fun g r s => w (ix4 0 g r s)
def mixbA (b : (⟨3, ![1, 8, 128]⟩ : Shape).Idx → EReal) : Fin 8 → Fin 128 → EReal := fun g r => b (ix3 0 g r)
def woutA (w : (⟨3, ![1, 2048, 1024]⟩ : Shape).Idx → EReal) : Fin 2048 → Fin 1024 → EReal := fun c d => w (ix3 0 c d)

variable (x : (⟨3, ![2, 16384, 1024]⟩ : Shape).Idx → EReal) (g : (⟨2, ![1, 1024]⟩ : Shape).Idx → EReal) (w : (⟨3, ![1, 1024, 4096]⟩ : Shape).Idx → EReal) (b : (⟨2, ![1, 4096]⟩ : Shape).Idx → EReal)
  (lg lb : (⟨2, ![1, 2048]⟩ : Shape).Idx → EReal) (ws : (⟨4, ![1, 8, 128, 128]⟩ : Shape).Idx → EReal) (bs : (⟨3, ![1, 8, 128]⟩ : Shape).Idx → EReal) (wo : (⟨3, ![1, 2048, 1024]⟩ : Shape).Idx → EReal)

/-- The residual stream after the layer. -/
def outA : (⟨2, ![32768, 1024]⟩ : Shape).Idx → EReal := fun j =>
  outC (gainsA g) (wtsA w) (biasA b) (lrowA lg) (lrowA lb) (mixwA ws) (mixbA bs) (woutA wo) (chunkA x (j 0)) ⟨(j 0).val % 128, Nat.mod_lt _ (by omega)⟩ (j 1)
end

end GmlpP

end
-- ==== Proof.GmlpPLists.lean ====
/- The prompt's gMLP: the pieces that the body leaves in its scratches. -/
module

public import proofs.«01_k».proof.Proof.GmlpPSpec
public import proofs.«01_k».proof.Proof.Gen.GmlpPIdeal.Frame

@[expose] public section

set_option maxRecDepth 16384

noncomputable section

open Idealize.ShloMosaic Idealize.ShloMosaic.TcCoe Idealize.SL.Sem
open Idealize.ShloMosaic.Pipeline (Dat)
open scoped BigOperators

namespace GmlpP

section
open Cert.GmlpPIdeal Cert.GmlpPIdeal.Gen

/-- The gating of one group of columns of one chunk: the mixing weights, the normalised columns, the shifts, the other half's columns. -/
def gate (ws : Vec Ideal S1x128x128 .f32) (v : Vec Ideal S128x256 .f32) (bs : Vec Ideal S1x128x1 .f32) (u : Vec Ideal S128x256 .f32) : FVec Ideal S128x256 .bf16 :=
  k0_pay37 (F := Ideal) (iota Kind.tc S128x128 32 [0] iota_S128x128_d0_w32) (iota Kind.tc S128x128 32 [1] iota_S128x128_d1_w32) ws v bs u

/-- The first half, as its four groups of columns are stored. -/
def ulist (X0 : Vec Ideal S512x1024 .f32) (X1 : Vec Ideal S1x1024 .f32) (X2 : Vec Ideal S1024x4096 .bf16) (X3 : Vec Ideal S1x4096 .f32) : List (View.Piece (Elt Ideal) S512x2048 .f32) :=
  [⟨Rect.unit (s := S512x2048) ![0, 1536] S512x512.size inb_S512x2048_S512x512_0_1536, (k0_pay15 (F := Ideal) (k0_pay4 (F := Ideal) (View.ld X0 (Rect.unit (s := S512x1024) ![0, 0] S512x1024.size inb_S512x1024_S512x1024_0_0)) (View.ld X1 (Rect.unit (s := S1x1024) ![0, 0] S1x1024.size inb_S1x1024_S1x1024_0_0))) (View.ld X2 (Rect.unit (s := S1024x4096) ![0, 1536] S1024x512.size inb_S1024x4096_S1024x512_0_1536)) (View.ld X3 (Rect.unit (s := S1x4096) ![0, 1536] S1x512.size inb_S1x4096_S1x512_0_1536)))⟩,
    ⟨Rect.unit (s := S512x2048) ![0, 1024] S512x512.size inb_S512x2048_S512x512_0_1024, (k0_pay11 (F := Ideal) (k0_pay4 (F := Ideal) (View.ld X0 (Rect.unit (s := S512x1024) ![0, 0] S512x1024.size inb_S512x1024_S512x1024_0_0)) (View.ld X1 (Rect.unit (s := S1x1024) ![0, 0] S1x1024.size inb_S1x1024_S1x1024_0_0))) (View.ld X2 (Rect.unit (s := S1024x4096) ![0, 1024] S1024x512.size inb_S1024x4096_S1024x512_0_1024)) (View.ld X3 (Rect.unit (s := S1x4096) ![0, 1024] S1x512.size inb_S1x4096_S1x512_0_1024)))⟩,
    ⟨Rect.unit (s := S512x2048) ![0, 512] S512x512.size inb_S512x2048_S512x512_0_512, (k0_pay8 (F := Ideal) (k0_pay4 (F := Ideal) (View.ld X0 (Rect.unit (s := S512x1024) ![0, 0] S512x1024.size inb_S512x1024_S512x1024_0_0)) (View.ld X1 (Rect.unit (s := S1x1024) ![0, 0] S1x1024.size inb_S1x1024_S1x1024_0_0))) (View.ld X2 (Rect.unit (s := S1024x4096) ![0, 512] S1024x512.size inb_S1024x4096_S1024x512_0_512)) (View.ld X3 (Rect.unit (s := S1x4096) ![0, 512] S1x512.size inb_S1x4096_S1x512_0_512)))⟩,
    ⟨Rect.unit (s := S512x2048) ![0, 0] S512x512.size inb_S512x2048_S512x512_0_0, (k0_pay5 (F := Ideal) (View.ld X0 (Rect.unit (s := S512x1024) ![0, 0] S512x1024.size inb_S512x1024_S512x1024_0_0)) (View.ld X1 (Rect.unit (s := S1x1024) ![0, 0] S1x1024.size inb_S1x1024_S1x1024_0_0)) (View.ld X2 (Rect.unit (s := S1024x4096) ![0, 0] S1024x512.size inb_S1024x4096_S1024x512_0_0)) (View.ld X3 (Rect.unit (s := S1x4096) ![0, 0] S1x512.size inb_S1x4096_S1x512_0_0)))⟩]

/-- The second half, as its four groups of columns are stored. -/
def vlist (X0 : Vec Ideal S512x1024 .f32) (X1 : Vec Ideal S1x1024 .f32) (X2 : Vec Ideal S1024x4096 .bf16) (X3 : Vec Ideal S1x4096 .f32) : List (View.Piece (Elt Ideal) S512x2048 .f32) :=
  [⟨Rect.unit (s := S512x2048) ![0, 1536] S512x512.size inb_S512x2048_S512x512_0_1536, (k0_pay17 (F := Ideal) (k0_pay16 (F := Ideal) (k0_pay4 (F := Ideal) (View.ld X0 (Rect.unit (s := S512x1024) ![0, 0] S512x1024.size inb_S512x1024_S512x1024_0_0)) (View.ld X1 (Rect.unit (s := S1x1024) ![0, 0] S1x1024.size inb_S1x1024_S1x1024_0_0))) (View.ld X2 (Rect.unit (s := S1024x4096) ![0, 3584] S1024x512.size inb_S1024x4096_S1024x512_0_3584)) (View.ld X3 (Rect.unit (s := S1x4096) ![0, 3584] S1x512.size inb_S1x4096_S1x512_0_3584))))⟩,
    ⟨Rect.unit (s := S512x2048) ![0, 1024] S512x512.size inb_S512x2048_S512x512_0_1024, (k0_pay14 (F := Ideal) (k0_pay12 (F := Ideal) (k0_pay4 (F := Ideal) (View.ld X0 (Rect.unit (s := S512x1024) ![0, 0] S512x1024.size inb_S512x1024_S512x1024_0_0)) (View.ld X1 (Rect.unit (s := S1x1024) ![0, 0] S1x1024.size inb_S1x1024_S1x1024_0_0))) (View.ld X2 (Rect.unit (s := S1024x4096) ![0, 3072] S1024x512.size inb_S1024x4096_S1024x512_0_3072))) (k0_pay13 (F := Ideal) (View.ld X3 (Rect.unit (s := S1x4096) ![0, 3072] S1x512.size inb_S1x4096_S1x512_0_3072))))⟩,
    ⟨Rect.unit (s := S512x2048) ![0, 512] S512x512.size inb_S512x2048_S512x512_0_512, (k0_pay10 (F := Ideal) (k0_pay9 (F := Ideal) (k0_pay4 (F := Ideal) (View.ld X0 (Rect.unit (s := S512x1024) ![0, 0] S512x1024.size inb_S512x1024_S512x1024_0_0)) (View.ld X1 (Rect.unit (s := S1x1024) ![0, 0] S1x1024.size inb_S1x1024_S1x1024_0_0))) (View.ld X2 (Rect.unit (s := S1024x4096) ![0, 2560] S1024x512.size inb_S1024x4096_S1024x512_0_2560))) (View.ld X3 (Rect.unit (s := S1x4096) ![0, 2560] S1x512.size inb_S1x4096_S1x512_0_2560)))⟩,
    ⟨Rect.unit (s := S512x2048) ![0, 0] S512x512.size inb_S512x2048_S512x512_0_0, (k0_pay7 (F := Ideal) (k0_pay6 (F := Ideal) (View.ld X0 (Rect.unit (s := S512x1024) ![0, 0] S512x1024.size inb_S512x1024_S512x1024_0_0)) (View.ld X1 (Rect.unit (s := S1x1024) ![0, 0] S1x1024.size inb_S1x1024_S1x1024_0_0)) (View.ld X2 (Rect.unit (s := S1024x4096) ![0, 2048] S1024x512.size inb_S1024x4096_S1024x512_0_2048))) (View.ld X3 (Rect.unit (s := S1x4096) ![0, 2048] S1x512.size inb_S1x4096_S1x512_0_2048)))⟩]

/-- The second half and, over it, its normalised rows. -/
def vnlist (M : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) : List (View.Piece (Elt Ideal) S512x2048 .f32) :=
  ⟨Rect.unit (s := S512x2048) ![0, 0] S512x2048.size inb_S512x2048_S512x2048_0_0, (k0_pay18 (F := Ideal) (M.view.readCov (vlist X0 X1 X2 X3) (Rect.unit (s := S512x2048) ![0, 0] S512x2048.size inb_S512x2048_S512x2048_0_0).toLoadRect) (View.ld X4 (Rect.unit (s := S1x2048) ![0, 0] S1x2048.size inb_S1x2048_S1x2048_0_0)) (View.ld X5 (Rect.unit (s := S1x2048) ![0, 0] S1x2048.size inb_S1x2048_S1x2048_0_0)))⟩ :: vlist X0 X1 X2 X3

/-- The rectangle of one group of columns of one chunk. -/
abbrev box (o p : ℕ) (h : ∀ a, ![o, p] a + S128x256.size a ≤ S512x2048.size a) : Rect S512x2048 := Rect.unit (s := S512x2048) ![o, p] S128x256.size h

/-- The normalised rows' group. -/
abbrev vt (M : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (r : Rect S512x2048) : r.toLoadRect.shape.Idx → Elt Ideal .f32 :=
  M.view.readCov (vnlist M X0 X1 X2 X3 X4 X5) r.toLoadRect

/-- The first half's group. -/
abbrev ut (N : Memref sig .tc .vmem S512x2048 .f32) (X0 : Vec Ideal S512x1024 .f32) (X1 : Vec Ideal S1x1024 .f32) (X2 : Vec Ideal S1024x4096 .bf16) (X3 : Vec Ideal S1x4096 .f32) (r : Rect S512x2048) : r.toLoadRect.shape.Idx → Elt Ideal .f32 :=
  N.view.readCov (ulist X0 X1 X2 X3) r.toLoadRect

/-- The gated elements, as their 32 groups are stored. -/
def glist (M N : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (X6 : Vec Ideal S8x128x128 .f32) (X7 : Vec Ideal S8x128x1 .f32) : List (View.Piece (Elt Ideal) S512x2048 .bf16) :=
  [⟨box 384 1792 inb_S512x2048_S128x256_384_1792, (k0_pay1 (F := Ideal) (k0_pay68 (F := Ideal) (k0_pay64 (F := Ideal) (iota Kind.tc S128x128 32 [0] iota_S128x128_d0_w32) (iota Kind.tc S128x128 32 [1] iota_S128x128_d1_w32) (View.ld X6 (Rect.unit (s := S8x128x128) ![7, 0, 0] S1x128x128.size inb_S8x128x128_S1x128x128_7_0_0))) (vt M X0 X1 X2 X3 X4 X5 (box 384 1792 inb_S512x2048_S128x256_384_1792)) (View.ld X7 (Rect.unit (s := S8x128x1) ![7, 0, 0] S1x128x1.size inb_S8x128x1_S1x128x1_7_0_0))) (ut N X0 X1 X2 X3 (box 384 1792 inb_S512x2048_S128x256_384_1792)))⟩,
   ⟨box 256 1792 inb_S512x2048_S128x256_256_1792, (k0_pay67 (F := Ideal) (k0_pay64 (F := Ideal) (iota Kind.tc S128x128 32 [0] iota_S128x128_d0_w32) (iota Kind.tc S128x128 32 [1] iota_S128x128_d1_w32) (View.ld X6 (Rect.unit (s := S8x128x128) ![7, 0, 0] S1x128x128.size inb_S8x128x128_S1x128x128_7_0_0))) (vt M X0 X1 X2 X3 X4 X5 (box 256 1792 inb_S512x2048_S128x256_256_1792)) (View.ld X7 (Rect.unit (s := S8x128x1) ![7, 0, 0] S1x128x1.size inb_S8x128x1_S1x128x1_7_0_0)) (ut N X0 X1 X2 X3 (box 256 1792 inb_S512x2048_S128x256_256_1792)))⟩,
   ⟨box 128 1792 inb_S512x2048_S128x256_128_1792, (k0_pay66 (F := Ideal) (k0_pay64 (F := Ideal) (iota Kind.tc S128x128 32 [0] iota_S128x128_d0_w32) (iota Kind.tc S128x128 32 [1] iota_S128x128_d1_w32) (View.ld X6 (Rect.unit (s := S8x128x128) ![7, 0, 0] S1x128x128.size inb_S8x128x128_S1x128x128_7_0_0))) (vt M X0 X1 X2 X3 X4 X5 (box 128 1792 inb_S512x2048_S128x256_128_1792)) (View.ld X7 (Rect.unit (s := S8x128x1) ![7, 0, 0] S1x128x1.size inb_S8x128x1_S1x128x1_7_0_0)) (ut N X0 X1 X2 X3 (box 128 1792 inb_S512x2048_S128x256_128_1792)))⟩,
   ⟨box 0 1792 inb_S512x2048_S128x256_0_1792, (k0_pay65 (F := Ideal) (iota Kind.tc S128x128 32 [0] iota_S128x128_d0_w32) (iota Kind.tc S128x128 32 [1] iota_S128x128_d1_w32) (View.ld X6 (Rect.unit (s := S8x128x128) ![7, 0, 0] S1x128x128.size inb_S8x128x128_S1x128x128_7_0_0)) (vt M X0 X1 X2 X3 X4 X5 (box 0 1792 inb_S512x2048_S128x256_0_1792)) (View.ld X7 (Rect.unit (s := S8x128x1) ![7, 0, 0] S1x128x1.size inb_S8x128x1_S1x128x1_7_0_0)) (ut N X0 X1 X2 X3 (box 0 1792 inb_S512x2048_S128x256_0_1792)))⟩,
   ⟨box 384 1536 inb_S512x2048_S128x256_384_1536, (k0_pay63 (F := Ideal) (k0_pay57 (F := Ideal) (iota Kind.tc S128x128 32 [0] iota_S128x128_d0_w32) (iota Kind.tc S128x128 32 [1] iota_S128x128_d1_w32) (View.ld X6 (Rect.unit (s := S8x128x128) ![6, 0, 0] S1x128x128.size inb_S8x128x128_S1x128x128_6_0_0))) (vt M X0 X1 X2 X3 X4 X5 (box 384 1536 inb_S512x2048_S128x256_384_1536)) (View.ld X7 (Rect.unit (s := S8x128x1) ![6, 0, 0] S1x128x1.size inb_S8x128x1_S1x128x1_6_0_0)) (ut N X0 X1 X2 X3 (box 384 1536 inb_S512x2048_S128x256_384_1536)))⟩,
   ⟨box 256 1536 inb_S512x2048_S128x256_256_1536, (k0_pay62 (F := Ideal) (k0_pay57 (F := Ideal) (iota Kind.tc S128x128 32 [0] iota_S128x128_d0_w32) (iota Kind.tc S128x128 32 [1] iota_S128x128_d1_w32) (View.ld X6 (Rect.unit (s := S8x128x128) ![6, 0, 0] S1x128x128.size inb_S8x128x128_S1x128x128_6_0_0))) (vt M X0 X1 X2 X3 X4 X5 (box 256 1536 inb_S512x2048_S128x256_256_1536)) (View.ld X7 (Rect.unit (s := S8x128x1) ![6, 0, 0] S1x128x1.size inb_S8x128x1_S1x128x1_6_0_0)) (ut N X0 X1 X2 X3 (box 256 1536 inb_S512x2048_S128x256_256_1536)))⟩,
   ⟨box 128 1536 inb_S512x2048_S128x256_128_1536, (k0_pay61 (F := Ideal) (k0_pay57 (F := Ideal) (iota Kind.tc S128x128 32 [0] iota_S128x128_d0_w32) (iota Kind.tc S128x128 32 [1] iota_S128x128_d1_w32) (View.ld X6 (Rect.unit (s := S8x128x128) ![6, 0, 0] S1x128x128.size inb_S8x128x128_S1x128x128_6_0_0))) (vt M X0 X1 X2 X3 X4 X5 (box 128 1536 inb_S512x2048_S128x256_128_1536)) (View.ld X7 (Rect.unit (s := S8x128x1) ![6, 0, 0] S1x128x1.size inb_S8x128x1_S1x128x1_6_0_0)) (ut N X0 X1 X2 X3 (box 128 1536 inb_S512x2048_S128x256_128_1536)))⟩,
   ⟨box 0 1536 inb_S512x2048_S128x256_0_1536, (k0_pay60 (F := Ideal) (k0_pay58 (F := Ideal) (iota Kind.tc S128x128 32 [0] iota_S128x128_d0_w32) (iota Kind.tc S128x128 32 [1] iota_S128x128_d1_w32) (View.ld X6 (Rect.unit (s := S8x128x128) ![6, 0, 0] S1x128x128.size inb_S8x128x128_S1x128x128_6_0_0)) (vt M X0 X1 X2 X3 X4 X5 (box 0 1536 inb_S512x2048_S128x256_0_1536))) (k0_pay59 (F := Ideal) (View.ld X7 (Rect.unit (s := S8x128x1) ![6, 0, 0] S1x128x1.size inb_S8x128x1_S1x128x1_6_0_0))) (ut N X0 X1 X2 X3 (box 0 1536 inb_S512x2048_S128x256_0_1536)))⟩,
   ⟨box 384 1280 inb_S512x2048_S128x256_384_1280, (k0_pay56 (F := Ideal) (k0_pay51 (F := Ideal) (k0_pay49 (iota Kind.tc S128x128 32 [0] iota_S128x128_d0_w32) (iota Kind.tc S128x128 32 [1] iota_S128x128_d1_w32)) (k0_pay50 (F := Ideal) (View.ld X6 (Rect.unit (s := S8x128x128) ![5, 0, 0] S1x128x128.size inb_S8x128x128_S1x128x128_5_0_0))) (FloatOps.ofBits (F := Ideal) FTy.f32 0#32)) (vt M X0 X1 X2 X3 X4 X5 (box 384 1280 inb_S512x2048_S128x256_384_1280)) (View.ld X7 (Rect.unit (s := S8x128x1) ![5, 0, 0] S1x128x1.size inb_S8x128x1_S1x128x1_5_0_0)) (ut N X0 X1 X2 X3 (box 384 1280 inb_S512x2048_S128x256_384_1280)))⟩,
   ⟨box 256 1280 inb_S512x2048_S128x256_256_1280, (k0_pay55 (F := Ideal) (k0_pay54 (F := Ideal) (k0_pay49 (iota Kind.tc S128x128 32 [0] iota_S128x128_d0_w32) (iota Kind.tc S128x128 32 [1] iota_S128x128_d1_w32)) (k0_pay50 (F := Ideal) (View.ld X6 (Rect.unit (s := S8x128x128) ![5, 0, 0] S1x128x128.size inb_S8x128x128_S1x128x128_5_0_0))) (FloatOps.ofBits (F := Ideal) FTy.f32 0#32) (vt M X0 X1 X2 X3 X4 X5 (box 256 1280 inb_S512x2048_S128x256_256_1280))) (View.ld X7 (Rect.unit (s := S8x128x1) ![5, 0, 0] S1x128x1.size inb_S8x128x1_S1x128x1_5_0_0)) (ut N X0 X1 X2 X3 (box 256 1280 inb_S512x2048_S128x256_256_1280)))⟩,
   ⟨box 128 1280 inb_S512x2048_S128x256_128_1280, (k0_pay53 (F := Ideal) (k0_pay49 (iota Kind.tc S128x128 32 [0] iota_S128x128_d0_w32) (iota Kind.tc S128x128 32 [1] iota_S128x128_d1_w32)) (k0_pay50 (F := Ideal) (View.ld X6 (Rect.unit (s := S8x128x128) ![5, 0, 0] S1x128x128.size inb_S8x128x128_S1x128x128_5_0_0))) (FloatOps.ofBits (F := Ideal) FTy.f32 0#32) (vt M X0 X1 X2 X3 X4 X5 (box 128 1280 inb_S512x2048_S128x256_128_1280)) (View.ld X7 (Rect.unit (s := S8x128x1) ![5, 0, 0] S1x128x1.size inb_S8x128x1_S1x128x1_5_0_0)) (ut N X0 X1 X2 X3 (box 128 1280 inb_S512x2048_S128x256_128_1280)))⟩,
   ⟨box 0 1280 inb_S512x2048_S128x256_0_1280, (k0_pay52 (F := Ideal) (k0_pay49 (iota Kind.tc S128x128 32 [0] iota_S128x128_d0_w32) (iota Kind.tc S128x128 32 [1] iota_S128x128_d1_w32)) (k0_pay50 (F := Ideal) (View.ld X6 (Rect.unit (s := S8x128x128) ![5, 0, 0] S1x128x128.size inb_S8x128x128_S1x128x128_5_0_0))) (FloatOps.ofBits (F := Ideal) FTy.f32 0#32) (vt M X0 X1 X2 X3 X4 X5 (box 0 1280 inb_S512x2048_S128x256_0_1280)) (View.ld X7 (Rect.unit (s := S8x128x1) ![5, 0, 0] S1x128x1.size inb_S8x128x1_S1x128x1_5_0_0)) (ut N X0 X1 X2 X3 (box 0 1280 inb_S512x2048_S128x256_0_1280)))⟩,
   ⟨box 384 1024 inb_S512x2048_S128x256_384_1024, (k0_pay48 (F := Ideal) (k0_pay43 (F := Ideal) (iota Kind.tc S128x128 32 [0] iota_S128x128_d0_w32) (iota Kind.tc S128x128 32 [1] iota_S128x128_d1_w32) (View.ld X6 (Rect.unit (s := S8x128x128) ![4, 0, 0] S1x128x128.size inb_S8x128x128_S1x128x128_4_0_0))) (vt M X0 X1 X2 X3 X4 X5 (box 384 1024 inb_S512x2048_S128x256_384_1024)) (View.ld X7 (Rect.unit (s := S8x128x1) ![4, 0, 0] S1x128x1.size inb_S8x128x1_S1x128x1_4_0_0)) (ut N X0 X1 X2 X3 (box 384 1024 inb_S512x2048_S128x256_384_1024)))⟩,
   ⟨box 256 1024 inb_S512x2048_S128x256_256_1024, (k0_pay47 (F := Ideal) (k0_pay43 (F := Ideal) (iota Kind.tc S128x128 32 [0] iota_S128x128_d0_w32) (iota Kind.tc S128x128 32 [1] iota_S128x128_d1_w32) (View.ld X6 (Rect.unit (s := S8x128x128) ![4, 0, 0] S1x128x128.size inb_S8x128x128_S1x128x128_4_0_0))) (vt M X0 X1 X2 X3 X4 X5 (box 256 1024 inb_S512x2048_S128x256_256_1024)) (View.ld X7 (Rect.unit (s := S8x128x1) ![4, 0, 0] S1x128x1.size inb_S8x128x1_S1x128x1_4_0_0)) (ut N X0 X1 X2 X3 (box 256 1024 inb_S512x2048_S128x256_256_1024)))⟩,
   ⟨box 128 1024 inb_S512x2048_S128x256_128_1024, (k0_pay46 (F := Ideal) (k0_pay45 (F := Ideal) (iota Kind.tc S128x128 32 [0] iota_S128x128_d0_w32) (iota Kind.tc S128x128 32 [1] iota_S128x128_d1_w32) (View.ld X6 (Rect.unit (s := S8x128x128) ![4, 0, 0] S1x128x128.size inb_S8x128x128_S1x128x128_4_0_0)) (vt M X0 X1 X2 X3 X4 X5 (box 128 1024 inb_S512x2048_S128x256_128_1024)) (View.ld X7 (Rect.unit (s := S8x128x1) ![4, 0, 0] S1x128x1.size inb_S8x128x1_S1x128x1_4_0_0)) (ut N X0 X1 X2 X3 (box 128 1024 inb_S512x2048_S128x256_128_1024))))⟩,
   ⟨box 0 1024 inb_S512x2048_S128x256_0_1024, (k0_pay44 (F := Ideal) (iota Kind.tc S128x128 32 [0] iota_S128x128_d0_w32) (iota Kind.tc S128x128 32 [1] iota_S128x128_d1_w32) (View.ld X6 (Rect.unit (s := S8x128x128) ![4, 0, 0] S1x128x128.size inb_S8x128x128_S1x128x128_4_0_0)) (vt M X0 X1 X2 X3 X4 X5 (box 0 1024 inb_S512x2048_S128x256_0_1024)) (View.ld X7 (Rect.unit (s := S8x128x1) ![4, 0, 0] S1x128x1.size inb_S8x128x1_S1x128x1_4_0_0)) (ut N X0 X1 X2 X3 (box 0 1024 inb_S512x2048_S128x256_0_1024)))⟩,
   ⟨box 384 768 inb_S512x2048_S128x256_384_768, (k0_pay42 (F := Ideal) (k0_pay41 (F := Ideal) (k0_pay36 (F := Ideal) (iota Kind.tc S128x128 32 [0] iota_S128x128_d0_w32) (iota Kind.tc S128x128 32 [1] iota_S128x128_d1_w32) (View.ld X6 (Rect.unit (s := S8x128x128) ![3, 0, 0] S1x128x128.size inb_S8x128x128_S1x128x128_3_0_0))) (vt M X0 X1 X2 X3 X4 X5 (box 384 768 inb_S512x2048_S128x256_384_768)) (View.ld X7 (Rect.unit (s := S8x128x1) ![3, 0, 0] S1x128x1.size inb_S8x128x1_S1x128x1_3_0_0)) (ut N X0 X1 X2 X3 (box 384 768 inb_S512x2048_S128x256_384_768))))⟩,
   ⟨box 256 768 inb_S512x2048_S128x256_256_768, (k0_pay40 (F := Ideal) (k0_pay36 (F := Ideal) (iota Kind.tc S128x128 32 [0] iota_S128x128_d0_w32) (iota Kind.tc S128x128 32 [1] iota_S128x128_d1_w32) (View.ld X6 (Rect.unit (s := S8x128x128) ![3, 0, 0] S1x128x128.size inb_S8x128x128_S1x128x128_3_0_0))) (vt M X0 X1 X2 X3 X4 X5 (box 256 768 inb_S512x2048_S128x256_256_768)) (View.ld X7 (Rect.unit (s := S8x128x1) ![3, 0, 0] S1x128x1.size inb_S8x128x1_S1x128x1_3_0_0)) (ut N X0 X1 X2 X3 (box 256 768 inb_S512x2048_S128x256_256_768)))⟩,
   ⟨box 128 768 inb_S512x2048_S128x256_128_768, (k0_pay39 (F := Ideal) (k0_pay36 (F := Ideal) (iota Kind.tc S128x128 32 [0] iota_S128x128_d0_w32) (iota Kind.tc S128x128 32 [1] iota_S128x128_d1_w32) (View.ld X6 (Rect.unit (s := S8x128x128) ![3, 0, 0] S1x128x128.size inb_S8x128x128_S1x128x128_3_0_0))) (k0_pay38 (F := Ideal) (vt M X0 X1 X2 X3 X4 X5 (box 128 768 inb_S512x2048_S128x256_128_768))) (constant (F := Ideal) S128x256 FTy.f32 0#32) (View.ld X7 (Rect.unit (s := S8x128x1) ![3, 0, 0] S1x128x1.size inb_S8x128x1_S1x128x1_3_0_0)) (ut N X0 X1 X2 X3 (box 128 768 inb_S512x2048_S128x256_128_768)))⟩,
   ⟨box 0 768 inb_S512x2048_S128x256_0_768, (k0_pay37 (F := Ideal) (iota Kind.tc S128x128 32 [0] iota_S128x128_d0_w32) (iota Kind.tc S128x128 32 [1] iota_S128x128_d1_w32) (View.ld X6 (Rect.unit (s := S8x128x128) ![3, 0, 0] S1x128x128.size inb_S8x128x128_S1x128x128_3_0_0)) (vt M X0 X1 X2 X3 X4 X5 (box 0 768 inb_S512x2048_S128x256_0_768)) (View.ld X7 (Rect.unit (s := S8x128x1) ![3, 0, 0] S1x128x1.size inb_S8x128x1_S1x128x1_3_0_0)) (ut N X0 X1 X2 X3 (box 0 768 inb_S512x2048_S128x256_0_768)))⟩,
   ⟨box 384 512 inb_S512x2048_S128x256_384_512, (k0_pay35 (F := Ideal) (k0_pay30 (F := Ideal) (iota Kind.tc S128x128 32 [0] iota_S128x128_d0_w32) (iota Kind.tc S128x128 32 [1] iota_S128x128_d1_w32) (View.ld X6 (Rect.unit (s := S8x128x128) ![2, 0, 0] S1x128x128.size inb_S8x128x128_S1x128x128_2_0_0))) (vt M X0 X1 X2 X3 X4 X5 (box 384 512 inb_S512x2048_S128x256_384_512)) (View.ld X7 (Rect.unit (s := S8x128x1) ![2, 0, 0] S1x128x1.size inb_S8x128x1_S1x128x1_2_0_0)) (ut N X0 X1 X2 X3 (box 384 512 inb_S512x2048_S128x256_384_512)))⟩,
   ⟨box 256 512 inb_S512x2048_S128x256_256_512, (k0_pay34 (F := Ideal) (k0_pay30 (F := Ideal) (iota Kind.tc S128x128 32 [0] iota_S128x128_d0_w32) (iota Kind.tc S128x128 32 [1] iota_S128x128_d1_w32) (View.ld X6 (Rect.unit (s := S8x128x128) ![2, 0, 0] S1x128x128.size inb_S8x128x128_S1x128x128_2_0_0))) (vt M X0 X1 X2 X3 X4 X5 (box 256 512 inb_S512x2048_S128x256_256_512)) (View.ld X7 (Rect.unit (s := S8x128x1) ![2, 0, 0] S1x128x1.size inb_S8x128x1_S1x128x1_2_0_0)) (ut N X0 X1 X2 X3 (box 256 512 inb_S512x2048_S128x256_256_512)))⟩,
   ⟨box 128 512 inb_S512x2048_S128x256_128_512, (k0_pay33 (F := Ideal) (k0_pay30 (F := Ideal) (iota Kind.tc S128x128 32 [0] iota_S128x128_d0_w32) (iota Kind.tc S128x128 32 [1] iota_S128x128_d1_w32) (View.ld X6 (Rect.unit (s := S8x128x128) ![2, 0, 0] S1x128x128.size inb_S8x128x128_S1x128x128_2_0_0))) (vt M X0 X1 X2 X3 X4 X5 (box 128 512 inb_S512x2048_S128x256_128_512)) (View.ld X7 (Rect.unit (s := S8x128x1) ![2, 0, 0] S1x128x1.size inb_S8x128x1_S1x128x1_2_0_0)) (ut N X0 X1 X2 X3 (box 128 512 inb_S512x2048_S128x256_128_512)))⟩,
   ⟨box 0 512 inb_S512x2048_S128x256_0_512, (k0_pay32 (F := Ideal) (k0_pay31 (F := Ideal) (iota Kind.tc S128x128 32 [0] iota_S128x128_d0_w32) (iota Kind.tc S128x128 32 [1] iota_S128x128_d1_w32) (View.ld X6 (Rect.unit (s := S8x128x128) ![2, 0, 0] S1x128x128.size inb_S8x128x128_S1x128x128_2_0_0)) (vt M X0 X1 X2 X3 X4 X5 (box 0 512 inb_S512x2048_S128x256_0_512)) (View.ld X7 (Rect.unit (s := S8x128x1) ![2, 0, 0] S1x128x1.size inb_S8x128x1_S1x128x1_2_0_0))) (ut N X0 X1 X2 X3 (box 0 512 inb_S512x2048_S128x256_0_512)))⟩,
   ⟨box 384 256 inb_S512x2048_S128x256_384_256, (k0_pay29 (F := Ideal) (k0_pay24 (F := Ideal) (iota Kind.tc S128x128 32 [0] iota_S128x128_d0_w32) (iota Kind.tc S128x128 32 [1] iota_S128x128_d1_w32) (View.ld X6 (Rect.unit (s := S8x128x128) ![1, 0, 0] S1x128x128.size inb_S8x128x128_S1x128x128_1_0_0))) (vt M X0 X1 X2 X3 X4 X5 (box 384 256 inb_S512x2048_S128x256_384_256)) (View.ld X7 (Rect.unit (s := S8x128x1) ![1, 0, 0] S1x128x1.size inb_S8x128x1_S1x128x1_1_0_0)) (ut N X0 X1 X2 X3 (box 384 256 inb_S512x2048_S128x256_384_256)))⟩,
   ⟨box 256 256 inb_S512x2048_S128x256_256_256, (k0_pay28 (F := Ideal) (k0_pay27 (F := Ideal) (k0_pay24 (F := Ideal) (iota Kind.tc S128x128 32 [0] iota_S128x128_d0_w32) (iota Kind.tc S128x128 32 [1] iota_S128x128_d1_w32) (View.ld X6 (Rect.unit (s := S8x128x128) ![1, 0, 0] S1x128x128.size inb_S8x128x128_S1x128x128_1_0_0))) (vt M X0 X1 X2 X3 X4 X5 (box 256 256 inb_S512x2048_S128x256_256_256)) (View.ld X7 (Rect.unit (s := S8x128x1) ![1, 0, 0] S1x128x1.size inb_S8x128x1_S1x128x1_1_0_0))) (ut N X0 X1 X2 X3 (box 256 256 inb_S512x2048_S128x256_256_256)))⟩,
   ⟨box 128 256 inb_S512x2048_S128x256_128_256, (k0_pay26 (F := Ideal) (k0_pay24 (F := Ideal) (iota Kind.tc S128x128 32 [0] iota_S128x128_d0_w32) (iota Kind.tc S128x128 32 [1] iota_S128x128_d1_w32) (View.ld X6 (Rect.unit (s := S8x128x128) ![1, 0, 0] S1x128x128.size inb_S8x128x128_S1x128x128_1_0_0))) (vt M X0 X1 X2 X3 X4 X5 (box 128 256 inb_S512x2048_S128x256_128_256)) (View.ld X7 (Rect.unit (s := S8x128x1) ![1, 0, 0] S1x128x1.size inb_S8x128x1_S1x128x1_1_0_0)) (ut N X0 X1 X2 X3 (box 128 256 inb_S512x2048_S128x256_128_256)))⟩,
   ⟨box 0 256 inb_S512x2048_S128x256_0_256, (k0_pay25 (F := Ideal) (k0_pay24 (F := Ideal) (iota Kind.tc S128x128 32 [0] iota_S128x128_d0_w32) (iota Kind.tc S128x128 32 [1] iota_S128x128_d1_w32) (View.ld X6 (Rect.unit (s := S8x128x128) ![1, 0, 0] S1x128x128.size inb_S8x128x128_S1x128x128_1_0_0))) (vt M X0 X1 X2 X3 X4 X5 (box 0 256 inb_S512x2048_S128x256_0_256)) (View.ld X7 (Rect.unit (s := S8x128x1) ![1, 0, 0] S1x128x1.size inb_S8x128x1_S1x128x1_1_0_0)) (ut N X0 X1 X2 X3 (box 0 256 inb_S512x2048_S128x256_0_256)))⟩,
   ⟨box 384 0 inb_S512x2048_S128x256_384_0, (k0_pay23 (F := Ideal) (k0_pay19 (F := Ideal) (View.ld X6 (Rect.unit (s := S8x128x128) ![0, 0, 0] S1x128x128.size inb_S8x128x128_S1x128x128_0_0_0))) (vt M X0 X1 X2 X3 X4 X5 (box 384 0 inb_S512x2048_S128x256_384_0)) (View.ld X7 (Rect.unit (s := S8x128x1) ![0, 0, 0] S1x128x1.size inb_S8x128x1_S1x128x1_0_0_0)) (ut N X0 X1 X2 X3 (box 384 0 inb_S512x2048_S128x256_384_0)))⟩,
   ⟨box 256 0 inb_S512x2048_S128x256_256_0, (k0_pay22 (F := Ideal) (k0_pay19 (F := Ideal) (View.ld X6 (Rect.unit (s := S8x128x128) ![0, 0, 0] S1x128x128.size inb_S8x128x128_S1x128x128_0_0_0))) (vt M X0 X1 X2 X3 X4 X5 (box 256 0 inb_S512x2048_S128x256_256_0)) (View.ld X7 (Rect.unit (s := S8x128x1) ![0, 0, 0] S1x128x1.size inb_S8x128x1_S1x128x1_0_0_0)) (ut N X0 X1 X2 X3 (box 256 0 inb_S512x2048_S128x256_256_0)))⟩,
   ⟨box 128 0 inb_S512x2048_S128x256_128_0, (k0_pay21 (F := Ideal) (View.ld X6 (Rect.unit (s := S8x128x128) ![0, 0, 0] S1x128x128.size inb_S8x128x128_S1x128x128_0_0_0)) (vt M X0 X1 X2 X3 X4 X5 (box 128 0 inb_S512x2048_S128x256_128_0)) (View.ld X7 (Rect.unit (s := S8x128x1) ![0, 0, 0] S1x128x1.size inb_S8x128x1_S1x128x1_0_0_0)) (ut N X0 X1 X2 X3 (box 128 0 inb_S512x2048_S128x256_128_0)))⟩,
   ⟨box 0 0 inb_S512x2048_S128x256_0_0, (k0_pay20 (F := Ideal) (View.ld X6 (Rect.unit (s := S8x128x128) ![0, 0, 0] S1x128x128.size inb_S8x128x128_S1x128x128_0_0_0)) (vt M X0 X1 X2 X3 X4 X5 (box 0 0 inb_S512x2048_S128x256_0_0)) (View.ld X7 (Rect.unit (s := S8x128x1) ![0, 0, 0] S1x128x1.size inb_S8x128x1_S1x128x1_0_0_0)) (ut N X0 X1 X2 X3 (box 0 0 inb_S512x2048_S128x256_0_0)))⟩]

end

end GmlpP

end
-- ==== Proof.GmlpPForms.lean ====
/- The prompt's gMLP: the 32 gatings are one. -/
module

public import proofs.«01_k».proof.Proof.GmlpPLists

@[expose] public section

set_option maxRecDepth 16384

noncomputable section

open Idealize.ShloMosaic Idealize.ShloMosaic.TcCoe Idealize.SL.Sem
open Idealize.ShloMosaic.Pipeline (Dat)
open scoped BigOperators

namespace GmlpP

section
open Cert.GmlpPIdeal Cert.GmlpPIdeal.Gen
theorem form_0 : (fun (ws : Vec Ideal S1x128x128 .f32) (v : Vec Ideal S128x256 .f32) (bs : Vec Ideal S1x128x1 .f32) (u : Vec Ideal S128x256 .f32) => (k0_pay1 (F := Ideal) (k0_pay68 (F := Ideal) (k0_pay64 (F := Ideal) (iota Kind.tc S128x128 32 [0] iota_S128x128_d0_w32) (iota Kind.tc S128x128 32 [1] iota_S128x128_d1_w32) ws) v bs) u)) = gate := by
  funext ws v bs u
  simp only [k0_pay1, k0_pay36, k0_pay37, k0_pay64, k0_pay68, gate]
  try rfl

theorem form_1 : (fun (ws : Vec Ideal S1x128x128 .f32) (v : Vec Ideal S128x256 .f32) (bs : Vec Ideal S1x128x1 .f32) (u : Vec Ideal S128x256 .f32) => (k0_pay67 (F := Ideal) (k0_pay64 (F := Ideal) (iota Kind.tc S128x128 32 [0] iota_S128x128_d0_w32) (iota Kind.tc S128x128 32 [1] iota_S128x128_d1_w32) ws) v bs u)) = gate := by
  funext ws v bs u
  simp only [k0_pay36, k0_pay37, k0_pay64, k0_pay67, gate]
  try rfl

theorem form_2 : (fun (ws : Vec Ideal S1x128x128 .f32) (v : Vec Ideal S128x256 .f32) (bs : Vec Ideal S1x128x1 .f32) (u : Vec Ideal S128x256 .f32) => (k0_pay66 (F := Ideal) (k0_pay64 (F := Ideal) (iota Kind.tc S128x128 32 [0] iota_S128x128_d0_w32) (iota Kind.tc S128x128 32 [1] iota_S128x128_d1_w32) ws) v bs u)) = gate := by
  funext ws v bs u
  simp only [k0_pay36, k0_pay37, k0_pay64, k0_pay66, gate]
  try rfl

theorem form_3 : (fun (ws : Vec Ideal S1x128x128 .f32) (v : Vec Ideal S128x256 .f32) (bs : Vec Ideal S1x128x1 .f32) (u : Vec Ideal S128x256 .f32) => (k0_pay65 (F := Ideal) (iota Kind.tc S128x128 32 [0] iota_S128x128_d0_w32) (iota Kind.tc S128x128 32 [1] iota_S128x128_d1_w32) ws v bs u)) = gate := by
  funext ws v bs u
  simp only [k0_pay36, k0_pay37, k0_pay64, k0_pay65, gate]
  try rfl

theorem form_4 : (fun (ws : Vec Ideal S1x128x128 .f32) (v : Vec Ideal S128x256 .f32) (bs : Vec Ideal S1x128x1 .f32) (u : Vec Ideal S128x256 .f32) => (k0_pay63 (F := Ideal) (k0_pay57 (F := Ideal) (iota Kind.tc S128x128 32 [0] iota_S128x128_d0_w32) (iota Kind.tc S128x128 32 [1] iota_S128x128_d1_w32) ws) v bs u)) = gate := by
  funext ws v bs u
  simp only [k0_pay36, k0_pay37, k0_pay57, k0_pay63, gate]
  try rfl

theorem form_5 : (fun (ws : Vec Ideal S1x128x128 .f32) (v : Vec Ideal S128x256 .f32) (bs : Vec Ideal S1x128x1 .f32) (u : Vec Ideal S128x256 .f32) => (k0_pay62 (F := Ideal) (k0_pay57 (F := Ideal) (iota Kind.tc S128x128 32 [0] iota_S128x128_d0_w32) (iota Kind.tc S128x128 32 [1] iota_S128x128_d1_w32) ws) v bs u)) = gate := by
  funext ws v bs u
  simp only [k0_pay36, k0_pay37, k0_pay57, k0_pay62, gate]
  try rfl

theorem form_6 : (fun (ws : Vec Ideal S1x128x128 .f32) (v : Vec Ideal S128x256 .f32) (bs : Vec Ideal S1x128x1 .f32) (u : Vec Ideal S128x256 .f32) => (k0_pay61 (F := Ideal) (k0_pay57 (F := Ideal) (iota Kind.tc S128x128 32 [0] iota_S128x128_d0_w32) (iota Kind.tc S128x128 32 [1] iota_S128x128_d1_w32) ws) v bs u)) = gate := by
  funext ws v bs u
  simp only [k0_pay36, k0_pay37, k0_pay57, k0_pay61, gate]
  try rfl

theorem form_7 : (fun (ws : Vec Ideal S1x128x128 .f32) (v : Vec Ideal S128x256 .f32) (bs : Vec Ideal S1x128x1 .f32) (u : Vec Ideal S128x256 .f32) => (k0_pay60 (F := Ideal) (k0_pay58 (F := Ideal) (iota Kind.tc S128x128 32 [0] iota_S128x128_d0_w32) (iota Kind.tc S128x128 32 [1] iota_S128x128_d1_w32) ws v) (k0_pay59 (F := Ideal) bs) u)) = gate := by
  funext ws v bs u
  simp only [k0_pay36, k0_pay37, k0_pay57, k0_pay58, k0_pay59, k0_pay60, gate]
  try rfl

theorem form_8 : (fun (ws : Vec Ideal S1x128x128 .f32) (v : Vec Ideal S128x256 .f32) (bs : Vec Ideal S1x128x1 .f32) (u : Vec Ideal S128x256 .f32) => (k0_pay56 (F := Ideal) (k0_pay51 (F := Ideal) (k0_pay49 (iota Kind.tc S128x128 32 [0] iota_S128x128_d0_w32) (iota Kind.tc S128x128 32 [1] iota_S128x128_d1_w32)) (k0_pay50 (F := Ideal) ws) (FloatOps.ofBits (F := Ideal) FTy.f32 0#32)) v bs u)) = gate := by
  funext ws v bs u
  simp only [k0_pay36, k0_pay37, k0_pay49, k0_pay50, k0_pay51, k0_pay56, gate]
  try rfl

theorem form_9 : (fun (ws : Vec Ideal S1x128x128 .f32) (v : Vec Ideal S128x256 .f32) (bs : Vec Ideal S1x128x1 .f32) (u : Vec Ideal S128x256 .f32) => (k0_pay55 (F := Ideal) (k0_pay54 (F := Ideal) (k0_pay49 (iota Kind.tc S128x128 32 [0] iota_S128x128_d0_w32) (iota Kind.tc S128x128 32 [1] iota_S128x128_d1_w32)) (k0_pay50 (F := Ideal) ws) (FloatOps.ofBits (F := Ideal) FTy.f32 0#32) v) bs u)) = gate := by
  funext ws v bs u
  simp only [k0_pay36, k0_pay37, k0_pay49, k0_pay50, k0_pay51, k0_pay54, k0_pay55, gate]
  try rfl

theorem form_10 : (fun (ws : Vec Ideal S1x128x128 .f32) (v : Vec Ideal S128x256 .f32) (bs : Vec Ideal S1x128x1 .f32) (u : Vec Ideal S128x256 .f32) => (k0_pay53 (F := Ideal) (k0_pay49 (iota Kind.tc S128x128 32 [0] iota_S128x128_d0_w32) (iota Kind.tc S128x128 32 [1] iota_S128x128_d1_w32)) (k0_pay50 (F := Ideal) ws) (FloatOps.ofBits (F := Ideal) FTy.f32 0#32) v bs u)) = gate := by
  funext ws v bs u
  simp only [k0_pay36, k0_pay37, k0_pay49, k0_pay50, k0_pay51, k0_pay53, gate]
  try rfl

theorem form_11 : (fun (ws : Vec Ideal S1x128x128 .f32) (v : Vec Ideal S128x256 .f32) (bs : Vec Ideal S1x128x1 .f32) (u : Vec Ideal S128x256 .f32) => (k0_pay52 (F := Ideal) (k0_pay49 (iota Kind.tc S128x128 32 [0] iota_S128x128_d0_w32) (iota Kind.tc S128x128 32 [1] iota_S128x128_d1_w32)) (k0_pay50 (F := Ideal) ws) (FloatOps.ofBits (F := Ideal) FTy.f32 0#32) v bs u)) = gate := by
  funext ws v bs u
  simp only [k0_pay36, k0_pay37, k0_pay49, k0_pay50, k0_pay51, k0_pay52, gate]
  try rfl

theorem form_12 : (fun (ws : Vec Ideal S1x128x128 .f32) (v : Vec Ideal S128x256 .f32) (bs : Vec Ideal S1x128x1 .f32) (u : Vec Ideal S128x256 .f32) => (k0_pay48 (F := Ideal) (k0_pay43 (F := Ideal) (iota Kind.tc S128x128 32 [0] iota_S128x128_d0_w32) (iota Kind.tc S128x128 32 [1] iota_S128x128_d1_w32) ws) v bs u)) = gate := by
  funext ws v bs u
  simp only [k0_pay36, k0_pay37, k0_pay43, k0_pay48, gate]
  try rfl

theorem form_13 : (fun (ws : Vec Ideal S1x128x128 .f32) (v : Vec Ideal S128x256 .f32) (bs : Vec Ideal S1x128x1 .f32) (u : Vec Ideal S128x256 .f32) => (k0_pay47 (F := Ideal) (k0_pay43 (F := Ideal) (iota Kind.tc S128x128 32 [0] iota_S128x128_d0_w32) (iota Kind.tc S128x128 32 [1] iota_S128x128_d1_w32) ws) v bs u)) = gate := by
  funext ws v bs u
  simp only [k0_pay36, k0_pay37, k0_pay43, k0_pay47, gate]
  try rfl

theorem form_14 : (fun (ws : Vec Ideal S1x128x128 .f32) (v : Vec Ideal S128x256 .f32) (bs : Vec Ideal S1x128x1 .f32) (u : Vec Ideal S128x256 .f32) => (k0_pay46 (F := Ideal) (k0_pay45 (F := Ideal) (iota Kind.tc S128x128 32 [0] iota_S128x128_d0_w32) (iota Kind.tc S128x128 32 [1] iota_S128x128_d1_w32) ws v bs u))) = gate := by
  funext ws v bs u
  simp only [k0_pay36, k0_pay37, k0_pay43, k0_pay45, k0_pay46, gate]
  try rfl

theorem form_15 : (fun (ws : Vec Ideal S1x128x128 .f32) (v : Vec Ideal S128x256 .f32) (bs : Vec Ideal S1x128x1 .f32) (u : Vec Ideal S128x256 .f32) => (k0_pay44 (F := Ideal) (iota Kind.tc S128x128 32 [0] iota_S128x128_d0_w32) (iota Kind.tc S128x128 32 [1] iota_S128x128_d1_w32) ws v bs u)) = gate := by
  funext ws v bs u
  simp only [k0_pay36, k0_pay37, k0_pay43, k0_pay44, gate]
  try rfl

theorem form_16 : (fun (ws : Vec Ideal S1x128x128 .f32) (v : Vec Ideal S128x256 .f32) (bs : Vec Ideal S1x128x1 .f32) (u : Vec Ideal S128x256 .f32) => (k0_pay42 (F := Ideal) (k0_pay41 (F := Ideal) (k0_pay36 (F := Ideal) (iota Kind.tc S128x128 32 [0] iota_S128x128_d0_w32) (iota Kind.tc S128x128 32 [1] iota_S128x128_d1_w32) ws) v bs u))) = gate := by
  funext ws v bs u
  simp only [k0_pay36, k0_pay37, k0_pay41, k0_pay42, gate]
  try rfl

theorem form_17 : (fun (ws : Vec Ideal S1x128x128 .f32) (v : Vec Ideal S128x256 .f32) (bs : Vec Ideal S1x128x1 .f32) (u : Vec Ideal S128x256 .f32) => (k0_pay40 (F := Ideal) (k0_pay36 (F := Ideal) (iota Kind.tc S128x128 32 [0] iota_S128x128_d0_w32) (iota Kind.tc S128x128 32 [1] iota_S128x128_d1_w32) ws) v bs u)) = gate := by
  funext ws v bs u
  simp only [k0_pay36, k0_pay37, k0_pay40, gate]
  try rfl

theorem form_18 : (fun (ws : Vec Ideal S1x128x128 .f32) (v : Vec Ideal S128x256 .f32) (bs : Vec Ideal S1x128x1 .f32) (u : Vec Ideal S128x256 .f32) => (k0_pay39 (F := Ideal) (k0_pay36 (F := Ideal) (iota Kind.tc S128x128 32 [0] iota_S128x128_d0_w32) (iota Kind.tc S128x128 32 [1] iota_S128x128_d1_w32) ws) (k0_pay38 (F := Ideal) v) (constant (F := Ideal) S128x256 FTy.f32 0#32) bs u)) = gate := by
  funext ws v bs u
  simp only [k0_pay36, k0_pay37, k0_pay38, k0_pay39, gate]
  try rfl

theorem form_19 : (fun (ws : Vec Ideal S1x128x128 .f32) (v : Vec Ideal S128x256 .f32) (bs : Vec Ideal S1x128x1 .f32) (u : Vec Ideal S128x256 .f32) => (k0_pay37 (F := Ideal) (iota Kind.tc S128x128 32 [0] iota_S128x128_d0_w32) (iota Kind.tc S128x128 32 [1] iota_S128x128_d1_w32) ws v bs u)) = gate := by
  funext ws v bs u
  simp only [k0_pay36, k0_pay37, gate]
  try rfl

theorem form_20 : (fun (ws : Vec Ideal S1x128x128 .f32) (v : Vec Ideal S128x256 .f32) (bs : Vec Ideal S1x128x1 .f32) (u : Vec Ideal S128x256 .f32) => (k0_pay35 (F := Ideal) (k0_pay30 (F := Ideal) (iota Kind.tc S128x128 32 [0] iota_S128x128_d0_w32) (iota Kind.tc S128x128 32 [1] iota_S128x128_d1_w32) ws) v bs u)) = gate := by
  funext ws v bs u
  simp only [k0_pay30, k0_pay35, k0_pay36, k0_pay37, gate]
  try rfl

theorem form_21 : (fun (ws : Vec Ideal S1x128x128 .f32) (v : Vec Ideal S128x256 .f32) (bs : Vec Ideal S1x128x1 .f32) (u : Vec Ideal S128x256 .f32) => (k0_pay34 (F := Ideal) (k0_pay30 (F := Ideal) (iota Kind.tc S128x128 32 [0] iota_S128x128_d0_w32) (iota Kind.tc S128x128 32 [1] iota_S128x128_d1_w32) ws) v bs u)) = gate := by
  funext ws v bs u
  simp only [k0_pay30, k0_pay34, k0_pay36, k0_pay37, gate]
  try rfl

theorem form_22 : (fun (ws : Vec Ideal S1x128x128 .f32) (v : Vec Ideal S128x256 .f32) (bs : Vec Ideal S1x128x1 .f32) (u : Vec Ideal S128x256 .f32) => (k0_pay33 (F := Ideal) (k0_pay30 (F := Ideal) (iota Kind.tc S128x128 32 [0] iota_S128x128_d0_w32) (iota Kind.tc S128x128 32 [1] iota_S128x128_d1_w32) ws) v bs u)) = gate := by
  funext ws v bs u
  simp only [k0_pay30, k0_pay33, k0_pay36, k0_pay37, gate]
  try rfl

theorem form_23 : (fun (ws : Vec Ideal S1x128x128 .f32) (v : Vec Ideal S128x256 .f32) (bs : Vec Ideal S1x128x1 .f32) (u : Vec Ideal S128x256 .f32) => (k0_pay32 (F := Ideal) (k0_pay31 (F := Ideal) (iota Kind.tc S128x128 32 [0] iota_S128x128_d0_w32) (iota Kind.tc S128x128 32 [1] iota_S128x128_d1_w32) ws v bs) u)) = gate := by
  funext ws v bs u
  simp only [k0_pay30, k0_pay31, k0_pay32, k0_pay36, k0_pay37, gate]
  try rfl

theorem form_24 : (fun (ws : Vec Ideal S1x128x128 .f32) (v : Vec Ideal S128x256 .f32) (bs : Vec Ideal S1x128x1 .f32) (u : Vec Ideal S128x256 .f32) => (k0_pay29 (F := Ideal) (k0_pay24 (F := Ideal) (iota Kind.tc S128x128 32 [0] iota_S128x128_d0_w32) (iota Kind.tc S128x128 32 [1] iota_S128x128_d1_w32) ws) v bs u)) = gate := by
  funext ws v bs u
  simp only [k0_pay24, k0_pay29, k0_pay36, k0_pay37, gate]
  try rfl

theorem form_25 : (fun (ws : Vec Ideal S1x128x128 .f32) (v : Vec Ideal S128x256 .f32) (bs : Vec Ideal S1x128x1 .f32) (u : Vec Ideal S128x256 .f32) => (k0_pay28 (F := Ideal) (k0_pay27 (F := Ideal) (k0_pay24 (F := Ideal) (iota Kind.tc S128x128 32 [0] iota_S128x128_d0_w32) (iota Kind.tc S128x128 32 [1] iota_S128x128_d1_w32) ws) v bs) u)) = gate := by
  funext ws v bs u
  simp only [k0_pay24, k0_pay27, k0_pay28, k0_pay36, k0_pay37, gate]
  try rfl

theorem form_26 : (fun (ws : Vec Ideal S1x128x128 .f32) (v : Vec Ideal S128x256 .f32) (bs : Vec Ideal S1x128x1 .f32) (u : Vec Ideal S128x256 .f32) => (k0_pay26 (F := Ideal) (k0_pay24 (F := Ideal) (iota Kind.tc S128x128 32 [0] iota_S128x128_d0_w32) (iota Kind.tc S128x128 32 [1] iota_S128x128_d1_w32) ws) v bs u)) = gate := by
  funext ws v bs u
  simp only [k0_pay24, k0_pay26, k0_pay36, k0_pay37, gate]
  try rfl

theorem form_27 : (fun (ws : Vec Ideal S1x128x128 .f32) (v : Vec Ideal S128x256 .f32) (bs : Vec Ideal S1x128x1 .f32) (u : Vec Ideal S128x256 .f32) => (k0_pay25 (F := Ideal) (k0_pay24 (F := Ideal) (iota Kind.tc S128x128 32 [0] iota_S128x128_d0_w32) (iota Kind.tc S128x128 32 [1] iota_S128x128_d1_w32) ws) v bs u)) = gate := by
  funext ws v bs u
  simp only [k0_pay24, k0_pay25, k0_pay36, k0_pay37, gate]
  try rfl

theorem form_28 : (fun (ws : Vec Ideal S1x128x128 .f32) (v : Vec Ideal S128x256 .f32) (bs : Vec Ideal S1x128x1 .f32) (u : Vec Ideal S128x256 .f32) => (k0_pay23 (F := Ideal) (k0_pay19 (F := Ideal) ws) v bs u)) = gate := by
  funext ws v bs u
  simp only [k0_pay19, k0_pay23, k0_pay36, k0_pay37, gate]
  try rfl

theorem form_29 : (fun (ws : Vec Ideal S1x128x128 .f32) (v : Vec Ideal S128x256 .f32) (bs : Vec Ideal S1x128x1 .f32) (u : Vec Ideal S128x256 .f32) => (k0_pay22 (F := Ideal) (k0_pay19 (F := Ideal) ws) v bs u)) = gate := by
  funext ws v bs u
  simp only [k0_pay19, k0_pay22, k0_pay36, k0_pay37, gate]
  try rfl

theorem form_30 : (fun (ws : Vec Ideal S1x128x128 .f32) (v : Vec Ideal S128x256 .f32) (bs : Vec Ideal S1x128x1 .f32) (u : Vec Ideal S128x256 .f32) => (k0_pay21 (F := Ideal) ws v bs u)) = gate := by
  funext ws v bs u
  simp only [k0_pay19, k0_pay21, k0_pay36, k0_pay37, gate]
  try rfl

theorem form_31 : (fun (ws : Vec Ideal S1x128x128 .f32) (v : Vec Ideal S128x256 .f32) (bs : Vec Ideal S1x128x1 .f32) (u : Vec Ideal S128x256 .f32) => (k0_pay20 (F := Ideal) ws v bs u)) = gate := by
  funext ws v bs u
  simp only [k0_pay19, k0_pay20, k0_pay36, k0_pay37, gate]
  try rfl

/-- The causal mask's word. -/
theorem mask_word : ∀ r s : Fin 128, IntOp.cmpi CmpIPredicate.sge (BitVec.ofNat 32 r.val) (BitVec.ofNat 32 s.val) = if s.val ≤ r.val then 1#1 else 0#1 := by decide +kernel

theorem masked (r s : Fin 128) (a b : EReal) :
    Scalar.select (IntOp.cmpi CmpIPredicate.sge (BitVec.ofNat 32 r.val) (BitVec.ofNat 32 s.val)) (a * b) 0 = (if s.val ≤ r.val then a else 0) * b := by
  rw [mask_word]
  by_cases h : s.val ≤ r.val
  · rw [if_pos h, if_pos h]; rfl
  · rw [if_neg h, if_neg h, zero_mul]; rfl

theorem gate_at (ws : Vec Ideal S1x128x128 .f32) (v : Vec Ideal S128x256 .f32) (bs : Vec Ideal S1x128x1 .f32) (u : Vec Ideal S128x256 .f32) (r : Fin 128) (c : Fin 256) :
    gate ws v bs u (ix2 r c) = u (ix2 r c) * ((∑ s : Fin 128, (if s.val ≤ r.val then ws (ix3 0 r s) else 0) * v (ix2 s c)) + bs (ix3 0 r 0)) := by
  unfold gate
  pointwise [k0_pay37, k0_pay36]
  refine congrArg (fun q => u (ix2 r c) * (q + bs (ix3 0 r 0))) (Finset.sum_congr rfl fun s _ => masked r s _ _)

end

end GmlpP

end
-- ==== Proof.GmlpPAct.lean ====
/- The prompt's gMLP: the first layer's elements. -/
module

public import proofs.«01_k».proof.Proof.GmlpPLists

@[expose] public section

set_option maxRecDepth 16384

noncomputable section

open Idealize.ShloMosaic Idealize.ShloMosaic.TcCoe Idealize.SL.Sem
open Idealize.ShloMosaic.Pipeline (Dat)
open scoped BigOperators

namespace GmlpP

section
open Cert.GmlpPIdeal Cert.GmlpPIdeal.Gen
set_option maxHeartbeats 1600000

theorem u_at_1536 (x : Vec Ideal S512x1024 .f32) (g : Vec Ideal S1x1024 .f32) (w : Vec Ideal S1024x512 .bf16) (b : Vec Ideal S1x512 .f32) (r c : Fin 512) :
    (k0_pay15 (F := Ideal) (k0_pay4 (F := Ideal) x g) w b) (ix2 r c) = Gmlp.gelu (Layer.proj (fun k => x (ix2 r k)) (fun k => g (ix2 0 k)) (fun k => w (ix2 k c)) + b (ix2 0 c)) := by
  pointwise [k0_pay15, k0_pay3, k0_pay4, Gmlp.gelu, Layer.proj, Layer.rms]
  rfl

theorem u_at_1024 (x : Vec Ideal S512x1024 .f32) (g : Vec Ideal S1x1024 .f32) (w : Vec Ideal S1024x512 .bf16) (b : Vec Ideal S1x512 .f32) (r c : Fin 512) :
    (k0_pay11 (F := Ideal) (k0_pay4 (F := Ideal) x g) w b) (ix2 r c) = Gmlp.gelu (Layer.proj (fun k => x (ix2 r k)) (fun k => g (ix2 0 k)) (fun k => w (ix2 k c)) + b (ix2 0 c)) := by
  pointwise [k0_pay11, k0_pay3, k0_pay4, Gmlp.gelu, Layer.proj, Layer.rms]
  rfl

theorem u_at_512 (x : Vec Ideal S512x1024 .f32) (g : Vec Ideal S1x1024 .f32) (w : Vec Ideal S1024x512 .bf16) (b : Vec Ideal S1x512 .f32) (r c : Fin 512) :
    (k0_pay8 (F := Ideal) (k0_pay4 (F := Ideal) x g) w b) (ix2 r c) = Gmlp.gelu (Layer.proj (fun k => x (ix2 r k)) (fun k => g (ix2 0 k)) (fun k => w (ix2 k c)) + b (ix2 0 c)) := by
  pointwise [k0_pay3, k0_pay4, k0_pay8, Gmlp.gelu, Layer.proj, Layer.rms]
  rfl

theorem u_at_0 (x : Vec Ideal S512x1024 .f32) (g : Vec Ideal S1x1024 .f32) (w : Vec Ideal S1024x512 .bf16) (b : Vec Ideal S1x512 .f32) (r c : Fin 512) :
    (k0_pay5 (F := Ideal) x g w b) (ix2 r c) = Gmlp.gelu (Layer.proj (fun k => x (ix2 r k)) (fun k => g (ix2 0 k)) (fun k => w (ix2 k c)) + b (ix2 0 c)) := by
  pointwise [k0_pay3, k0_pay4, k0_pay5, Gmlp.gelu, Layer.proj, Layer.rms]
  rfl

theorem v_at_1536 (x : Vec Ideal S512x1024 .f32) (g : Vec Ideal S1x1024 .f32) (w : Vec Ideal S1024x512 .bf16) (b : Vec Ideal S1x512 .f32) (r c : Fin 512) :
    (k0_pay17 (F := Ideal) (k0_pay16 (F := Ideal) (k0_pay4 (F := Ideal) x g) w b)) (ix2 r c) = Gmlp.gelu (Layer.proj (fun k => x (ix2 r k)) (fun k => g (ix2 0 k)) (fun k => w (ix2 k c)) + b (ix2 0 c)) := by
  pointwise [k0_pay16, k0_pay17, k0_pay3, k0_pay4, Gmlp.gelu, Layer.proj, Layer.rms]
  rfl

theorem v_at_1024 (x : Vec Ideal S512x1024 .f32) (g : Vec Ideal S1x1024 .f32) (w : Vec Ideal S1024x512 .bf16) (b : Vec Ideal S1x512 .f32) (r c : Fin 512) :
    (k0_pay14 (F := Ideal) (k0_pay12 (F := Ideal) (k0_pay4 (F := Ideal) x g) w) (k0_pay13 (F := Ideal) b)) (ix2 r c) = Gmlp.gelu (Layer.proj (fun k => x (ix2 r k)) (fun k => g (ix2 0 k)) (fun k => w (ix2 k c)) + b (ix2 0 c)) := by
  pointwise [k0_pay12, k0_pay13, k0_pay14, k0_pay3, k0_pay4, Gmlp.gelu, Layer.proj, Layer.rms]
  rfl

theorem v_at_512 (x : Vec Ideal S512x1024 .f32) (g : Vec Ideal S1x1024 .f32) (w : Vec Ideal S1024x512 .bf16) (b : Vec Ideal S1x512 .f32) (r c : Fin 512) :
    (k0_pay10 (F := Ideal) (k0_pay9 (F := Ideal) (k0_pay4 (F := Ideal) x g) w) b) (ix2 r c) = Gmlp.gelu (Layer.proj (fun k => x (ix2 r k)) (fun k => g (ix2 0 k)) (fun k => w (ix2 k c)) + b (ix2 0 c)) := by
  pointwise [k0_pay10, k0_pay3, k0_pay4, k0_pay9, Gmlp.gelu, Layer.proj, Layer.rms]
  rfl

theorem v_at_0 (x : Vec Ideal S512x1024 .f32) (g : Vec Ideal S1x1024 .f32) (w : Vec Ideal S1024x512 .bf16) (b : Vec Ideal S1x512 .f32) (r c : Fin 512) :
    (k0_pay7 (F := Ideal) (k0_pay6 (F := Ideal) x g w) b) (ix2 r c) = Gmlp.gelu (Layer.proj (fun k => x (ix2 r k)) (fun k => g (ix2 0 k)) (fun k => w (ix2 k c)) + b (ix2 0 c)) := by
  pointwise [k0_pay3, k0_pay4, k0_pay6, k0_pay7, Gmlp.gelu, Layer.proj, Layer.rms]
  rfl

/-- A block's rows. -/
abbrev rows (X0 : Vec Ideal S512x1024 .f32) : Fin 512 → Fin 1024 → EReal := fun r k => X0 (ix2 r k)
/-- The gain of a block. -/
abbrev gains (X1 : Vec Ideal S1x1024 .f32) : Fin 1024 → EReal := fun k => X1 (ix2 0 k)
/-- The first weight of a block. -/
abbrev wts (X2 : Vec Ideal S1024x4096 .bf16) : Fin 1024 → Fin 4096 → EReal := fun k c => X2 (ix2 k c)
/-- The first bias of a block. -/
abbrev bias (X3 : Vec Ideal S1x4096 .f32) : Fin 4096 → EReal := fun c => X3 (ix2 0 c)
/-- A row of the normalisation. -/
abbrev lrow (X4 : Vec Ideal S1x2048 .f32) : Fin 2048 → EReal := fun c => X4 (ix2 0 c)
/-- The mixing weights of a block. -/
abbrev mixw (X6 : Vec Ideal S8x128x128 .f32) : Fin 8 → Fin 128 → Fin 128 → EReal := fun g r s => X6 (ix3 g r s)
/-- The shifts of a block. -/
abbrev mixb (X7 : Vec Ideal S8x128x1 .f32) : Fin 8 → Fin 128 → EReal := fun g r => X7 (ix3 g r 0)

/-- A group of the weight's columns, loaded. -/
theorem w_ld (X2 : Vec Ideal S1024x4096 .bf16) (o : ℕ) (ho : o + 512 ≤ 4096) (h) (k : Fin 1024) (c : Fin 512) :
    View.ld X2 (Rect.unit (s := S1024x4096) ![0, o] S1024x512.size h) (ix2 k c) = X2 (ix2 k ⟨o + c.val, by omega⟩) := by
  refine congrArg X2 (funext fun a => ?_); fin_cases a <;> apply Fin.ext
  · show 0 + 1 * k.val = k.val; omega
  · show o + 1 * c.val = o + c.val; omega

/-- A group of the bias's columns, loaded. -/
theorem b_ld (X3 : Vec Ideal S1x4096 .f32) (o : ℕ) (ho : o + 512 ≤ 4096) (h) (c : Fin 512) :
    View.ld X3 (Rect.unit (s := S1x4096) ![0, o] S1x512.size h) (ix2 0 c) = X3 (ix2 0 ⟨o + c.val, by omega⟩) := by
  refine congrArg X3 (funext fun a => ?_); fin_cases a <;> apply Fin.ext
  · show 0 + 1 * 0 = 0; omega
  · show o + 1 * c.val = o + c.val; omega

/-- A group of columns stored in its place, from what it is of its loads. -/
theorem piece (P : S512x512.Idx → EReal) (q o : ℕ) (hq : q + 512 ≤ 2048) (d : ℕ) (hd : o = d + q) (ho : o + 512 ≤ 4096) (X0 : Vec Ideal S512x1024 .f32) (X1 : Vec Ideal S1x1024 .f32) (X2 : Vec Ideal S1024x4096 .bf16) (X3 : Vec Ideal S1x4096 .f32)
    (w : Vec Ideal S1024x512 .bf16) (b : Vec Ideal S1x512 .f32) (hw) (hb)
    (ew : w = View.ld X2 (Rect.unit (s := S1024x4096) ![0, o] S1024x512.size hw)) (eb : b = View.ld X3 (Rect.unit (s := S1x4096) ![0, o] S1x512.size hb))
    (hP : ∀ r c : Fin 512, P (ix2 r c) = Gmlp.gelu (Layer.proj (fun k => X0 (ix2 r k)) (fun k => X1 (ix2 0 k)) (fun k => w (ix2 k c)) + b (ix2 0 c)))
    (x : S512x512.Idx) (y : S512x2048.Idx) (h0 : (y 0).val = (x 0).val) (h1 : (y 1).val = q + (x 1).val) (hy : d + (y 1).val < 4096) :
    P x = act (rows X0) (gains X1) (wts X2) (bias X3) (y 0) ⟨d + (y 1).val, hy⟩ := by
  have ex : x = ix2 (x 0) (x 1) := funext fun (a : Fin 2) => by fin_cases a <;> rfl
  have e0 : y 0 = x 0 := Fin.ext h0
  have hx : (x 1).val < 512 := (x 1).isLt
  have e1 : (⟨d + (y 1).val, hy⟩ : Fin 4096) = ⟨o + (x 1).val, by omega⟩ := Fin.ext (by show d + (y 1).val = o + (x 1).val; omega)
  rw [e0, e1]
  refine ((congrArg P ex).trans (hP _ _)).trans ?_
  subst ew eb
  unfold act actR
  exact (congrArg (fun v => Gmlp.gelu (Layer.proj _ _ v + _)) (funext fun k => w_ld X2 o ho _ k (x 1))).trans (congrArg (fun q => Gmlp.gelu (_ + q)) (b_ld X3 o ho _ (x 1)))

theorem whole_x (X0 : Vec Ideal S512x1024 .f32) : View.ld X0 (Rect.unit (s := S512x1024) ![0, 0] S512x1024.size inb_S512x1024_S512x1024_0_0) = X0 :=
  View.ld_unit_lit' inb_S512x1024_S512x1024_0_0 X0 (by decide)

theorem whole_g (X1 : Vec Ideal S1x1024 .f32) : View.ld X1 (Rect.unit (s := S1x1024) ![0, 0] S1x1024.size inb_S1x1024_S1x1024_0_0) = X1 :=
  View.ld_unit_lit' inb_S1x1024_S1x1024_0_0 X1 (by decide)

/-- The first half's list, read at an index. -/
theorem u_canon (X0 : Vec Ideal S512x1024 .f32) (X1 : Vec Ideal S1x1024 .f32) (X2 : Vec Ideal S1024x4096 .bf16) (X3 : Vec Ideal S1x4096 .f32) (y : S512x2048.Idx) :
    View.canon (ulist X0 X1 X2 X3) y = act (rows X0) (gains X1) (wts X2) (bias X3) (y 0) ⟨0 + (y 1).val, by have h : (y 1).val < 2048 := (y 1).isLt; omega⟩ := by
  unfold ulist
  rw [whole_x X0, whole_g X1]
  canon_tiles x h
  · exact piece _ 1536 1536 (by omega) 0 (by omega) (by omega) X0 X1 X2 X3 _ _ _ _ rfl rfl (fun r c => u_at_1536 X0 X1 _ _ r c) x y (by omega) (by omega) _
  · exact piece _ 1024 1024 (by omega) 0 (by omega) (by omega) X0 X1 X2 X3 _ _ _ _ rfl rfl (fun r c => u_at_1024 X0 X1 _ _ r c) x y (by omega) (by omega) _
  · exact piece _ 512 512 (by omega) 0 (by omega) (by omega) X0 X1 X2 X3 _ _ _ _ rfl rfl (fun r c => u_at_512 X0 X1 _ _ r c) x y (by omega) (by omega) _
  · exact piece _ 0 0 (by omega) 0 (by omega) (by omega) X0 X1 X2 X3 _ _ _ _ rfl rfl (fun r c => u_at_0 X0 X1 _ _ r c) x y (by omega) (by omega) _

/-- The second half's list, read at an index. -/
theorem v_canon (X0 : Vec Ideal S512x1024 .f32) (X1 : Vec Ideal S1x1024 .f32) (X2 : Vec Ideal S1024x4096 .bf16) (X3 : Vec Ideal S1x4096 .f32) (y : S512x2048.Idx) :
    View.canon (vlist X0 X1 X2 X3) y = act (rows X0) (gains X1) (wts X2) (bias X3) (y 0) ⟨2048 + (y 1).val, by have h : (y 1).val < 2048 := (y 1).isLt; omega⟩ := by
  unfold vlist
  rw [whole_x X0, whole_g X1]
  canon_tiles x h
  · exact piece _ 1536 3584 (by omega) 2048 (by omega) (by omega) X0 X1 X2 X3 _ _ _ _ rfl rfl (fun r c => v_at_1536 X0 X1 _ _ r c) x y (by omega) (by omega) _
  · exact piece _ 1024 3072 (by omega) 2048 (by omega) (by omega) X0 X1 X2 X3 _ _ _ _ rfl rfl (fun r c => v_at_1024 X0 X1 _ _ r c) x y (by omega) (by omega) _
  · exact piece _ 512 2560 (by omega) 2048 (by omega) (by omega) X0 X1 X2 X3 _ _ _ _ rfl rfl (fun r c => v_at_512 X0 X1 _ _ r c) x y (by omega) (by omega) _
  · exact piece _ 0 2048 (by omega) 2048 (by omega) (by omega) X0 X1 X2 X3 _ _ _ _ rfl rfl (fun r c => v_at_0 X0 X1 _ _ r c) x y (by omega) (by omega) _

theorem ln_at (v : Vec Ideal S512x2048 .f32) (a b : Vec Ideal S1x2048 .f32) (r : Fin 512) (c : Fin 2048) :
    (k0_pay18 (F := Ideal) v a b) (ix2 r c) = Gmlp.ln (fun k => v (ix2 r k)) (fun k => a (ix2 0 k)) (fun k => b (ix2 0 k)) c := by
  pointwise [k0_pay18, Gmlp.ln, Gmlp.mean]

/-- The normalised rows, read at an index. -/
theorem vn_canon (M : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (r : Fin 512) (c : Fin 2048) :
    View.canon (vnlist M X0 X1 X2 X3 X4 X5) (ix2 r c) = vn (rows X0) (gains X1) (wts X2) (bias X3) (lrow X4) (lrow X5) r c := by
  unfold vnlist
  rw [View.canon_cons_unit_lit' inb_S512x2048_S512x2048_0_0 _ _ (by decide), View.ld_unit_lit' inb_S1x2048_S1x2048_0_0 X4 (by decide), View.ld_unit_lit' inb_S1x2048_S1x2048_0_0 X5 (by decide),
    ln_at, View.readCov_eq_canon']
  unfold vn
  refine congrArg (fun q => Gmlp.ln q _ _ c) (funext fun k => ?_)
  have e : (Rect.unit (s := S512x2048) ![0, 0] S512x2048.size inb_S512x2048_S512x2048_0_0).toLoadRect.idx (ix2 r k) = ix2 r k := by
    funext a; fin_cases a <;> apply Fin.ext
    · show 0 + 1 * r.val = r.val; omega
    · show 0 + 1 * k.val = k.val; omega
  show View.canon (vlist X0 X1 X2 X3) _ = _
  rw [e, v_canon]
  rfl

end

end GmlpP

end
-- ==== Proof.GmlpPGate.lean ====
/- The prompt's gMLP: the gated elements and the result's block. -/
module

public import proofs.«01_k».proof.Proof.GmlpPForms
public import proofs.«01_k».proof.Proof.GmlpPAct

@[expose] public section

set_option maxRecDepth 16384

noncomputable section

open Idealize.ShloMosaic Idealize.ShloMosaic.TcCoe Idealize.SL.Sem
open Idealize.ShloMosaic.Pipeline (Dat)
open scoped BigOperators

namespace GmlpP

section
open Cert.GmlpPIdeal Cert.GmlpPIdeal.Gen

theorem box_idx (o p : ℕ) (ho : o + 128 ≤ 512) (hp : p + 256 ≤ 2048) (h) (a : Fin 128) (e : Fin 256) :
    (box o p h).toLoadRect.idx (ix2 a e) = (ix2 (⟨o + a.val, by omega⟩ : Fin 512) (⟨p + e.val, by omega⟩ : Fin 2048) : S512x2048.Idx) := by
  funext i; fin_cases i <;> apply Fin.ext
  · show o + 1 * a.val = o + a.val; omega
  · show p + 1 * e.val = p + e.val; omega

theorem vt_at (M : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (o p : ℕ) (ho : o + 128 ≤ 512) (hp : p + 256 ≤ 2048) (h) (a : Fin 128) (e : Fin 256) :
    vt M X0 X1 X2 X3 X4 X5 (box o p h) (ix2 a e) = vn (rows X0) (gains X1) (wts X2) (bias X3) (lrow X4) (lrow X5) ⟨o + a.val, by omega⟩ ⟨p + e.val, by omega⟩ := by
  unfold vt
  rw [View.readCov_eq_canon']
  refine (congrArg (fun j => View.canon (vnlist M X0 X1 X2 X3 X4 X5) j) (box_idx o p ho hp h a e)).trans ?_
  exact vn_canon M X0 X1 X2 X3 X4 X5 _ _

theorem ut_at (N : Memref sig .tc .vmem S512x2048 .f32) (X0 : Vec Ideal S512x1024 .f32) (X1 : Vec Ideal S1x1024 .f32) (X2 : Vec Ideal S1024x4096 .bf16) (X3 : Vec Ideal S1x4096 .f32) (o p : ℕ) (ho : o + 128 ≤ 512) (hp : p + 256 ≤ 2048) (h) (a : Fin 128) (e : Fin 256) :
    ut N X0 X1 X2 X3 (box o p h) (ix2 a e) = act (rows X0) (gains X1) (wts X2) (bias X3) ⟨o + a.val, by omega⟩ ⟨p + e.val, by omega⟩ := by
  unfold ut
  rw [View.readCov_eq_canon']
  refine (congrArg (fun j => View.canon (ulist X0 X1 X2 X3) j) (box_idx o p ho hp h a e)).trans ?_
  refine (u_canon X0 X1 X2 X3 _).trans ?_
  exact congrArg (fun q => act _ _ _ _ _ q) (Fin.ext (Nat.zero_add _))

theorem ws_ld (X6 : Vec Ideal S8x128x128 .f32) (q : ℕ) (hq : q < 8) (h) (a s : Fin 128) :
    View.ld X6 (Rect.unit (s := S8x128x128) ![q, 0, 0] S1x128x128.size h) (ix3 0 a s) = X6 (ix3 ⟨q, hq⟩ a s) := by
  refine congrArg X6 (funext fun i => ?_); fin_cases i <;> apply Fin.ext
  · show q + 1 * 0 = q; omega
  · show 0 + 1 * a.val = a.val; omega
  · show 0 + 1 * s.val = s.val; omega

theorem bs_ld (X7 : Vec Ideal S8x128x1 .f32) (q : ℕ) (hq : q < 8) (h) (a : Fin 128) :
    View.ld X7 (Rect.unit (s := S8x128x1) ![q, 0, 0] S1x128x1.size h) (ix3 0 a 0) = X7 (ix3 ⟨q, hq⟩ a 0) := by
  refine congrArg X7 (funext fun i => ?_); fin_cases i <;> apply Fin.ext
  · show q + 1 * 0 = q; omega
  · show 0 + 1 * a.val = a.val; omega
  · show 0 + 1 * 0 = 0; omega

/-- The chunk of a block's row. -/
abbrev chunkB (X0 : Vec Ideal S512x1024 .f32) (r : Fin 512) : Fin 128 → Fin 1024 → EReal := fun s k => X0 (ix2 ⟨128 * (r.val / 128) + s.val, by omega⟩ k)

theorem chunkB_eq (X0 : Vec Ideal S512x1024 .f32) (n : ℕ) (hn : n < 4) (a : Fin 128) (h) :
    chunkB X0 ⟨128 * n + a.val, h⟩ = fun s => rows X0 ⟨128 * n + s.val, by omega⟩ := by
  funext s k
  refine congrArg (fun q => X0 (ix2 q k)) (Fin.ext ?_)
  show 128 * ((128 * n + a.val) / 128) + s.val = 128 * n + s.val
  omega

theorem tile_at (M N : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (X6 : Vec Ideal S8x128x128 .f32) (X7 : Vec Ideal S8x128x1 .f32) (n q : ℕ) (hn : n < 4) (hq : q < 8) (o p : ℕ) (eo : o = 128 * n) (ep : p = 256 * q) (h hw hb) (a : Fin 128) (e : Fin 256) :
    gate (View.ld X6 (Rect.unit (s := S8x128x128) ![q, 0, 0] S1x128x128.size hw)) (vt M X0 X1 X2 X3 X4 X5 (box o p h)) (View.ld X7 (Rect.unit (s := S8x128x1) ![q, 0, 0] S1x128x1.size hb)) (ut N X0 X1 X2 X3 (box o p h)) (ix2 a e)
      = gatedC (gains X1) (wts X2) (bias X3) (lrow X4) (lrow X5) (mixw X6) (mixb X7) (chunkB X0 ⟨o + a.val, by omega⟩) ⟨(o + a.val) % 128, by omega⟩ ⟨p + e.val, by omega⟩ := by
  have e1 : (p + e.val) / 256 = q := by omega
  have e2 : (o + a.val) % 128 = a.val := by omega
  rw [gate_at, ut_at N X0 X1 X2 X3 o p (by omega) (by omega) h a e, bs_ld X7 q hq hb a]
  subst eo
  rw [chunkB_eq X0 n hn a]
  unfold gatedC
  simp only [e1, e2]
  refine congrArg₂ (fun u v : EReal => u * v) rfl (congrArg (fun v : EReal => v + X7 (ix3 ⟨q, hq⟩ a 0)) (Finset.sum_congr rfl fun s _ => ?_))
  rw [vt_at M X0 X1 X2 X3 X4 X5 (128 * n) p (by omega) (by omega) h s e, ws_ld X6 q hq hw a s]
  rfl

theorem tile (M N : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (X6 : Vec Ideal S8x128x128 .f32) (X7 : Vec Ideal S8x128x1 .f32) (n q : ℕ) (hn : n < 4) (hq : q < 8) (o p : ℕ) (eo : o = 128 * n) (ep : p = 256 * q)
    {Q : Vec Ideal S1x128x128 .f32 → Vec Ideal S128x256 .f32 → Vec Ideal S1x128x1 .f32 → Vec Ideal S128x256 .f32 → FVec Ideal S128x256 .bf16} (hQ : Q = gate) (h hw hb)
    (x : S128x256.Idx) (y : S512x2048.Idx) (h0 : (y 0).val = o + (x 0).val) (h1 : (y 1).val = p + (x 1).val) :
    Q (View.ld X6 (Rect.unit (s := S8x128x128) ![q, 0, 0] S1x128x128.size hw)) (vt M X0 X1 X2 X3 X4 X5 (box o p h)) (View.ld X7 (Rect.unit (s := S8x128x1) ![q, 0, 0] S1x128x1.size hb)) (ut N X0 X1 X2 X3 (box o p h)) x
      = gatedC (gains X1) (wts X2) (bias X3) (lrow X4) (lrow X5) (mixw X6) (mixb X7) (chunkB X0 (y 0)) ⟨(y 0).val % 128, Nat.mod_lt _ (by omega)⟩ (y 1) := by
  subst hQ
  have ex : x = ix2 (x 0) (x 1) := funext fun (a : Fin 2) => by fin_cases a <;> rfl
  have hx0 : (x 0).val < 128 := (x 0).isLt
  have hx1 : (x 1).val < 256 := (x 1).isLt
  have e0 : y 0 = (⟨o + (x 0).val, by omega⟩ : Fin 512) := Fin.ext h0
  have e1 : y 1 = (⟨p + (x 1).val, by omega⟩ : Fin 2048) := Fin.ext h1
  rw [e0, e1]
  exact (congrArg _ ex).trans (tile_at M N X0 X1 X2 X3 X4 X5 X6 X7 n q hn hq o p eo ep h hw hb (x 0) (x 1))

/-- The gated elements' list, read at an index. -/
theorem g_canon (M N : Memref sig .tc .vmem S512x2048 .f32) (X0 : Vec Ideal S512x1024 .f32) (X1 : Vec Ideal S1x1024 .f32) (X2 : Vec Ideal S1024x4096 .bf16) (X3 : Vec Ideal S1x4096 .f32) (X4 X5 : Vec Ideal S1x2048 .f32) (X6 : Vec Ideal S8x128x128 .f32) (X7 : Vec Ideal S8x128x1 .f32) (y : S512x2048.Idx) :
    View.canon (glist M N X0 X1 X2 X3 X4 X5 X6 X7) y = gatedC (gains X1) (wts X2) (bias X3) (lrow X4) (lrow X5) (mixw X6) (mixb X7) (chunkB X0 (y 0)) ⟨(y 0).val % 128, Nat.mod_lt _ (by omega)⟩ (y 1) := by
  unfold glist
  canon_tiles x h
  · exact tile M N X0 X1 X2 X3 X4 X5 X6 X7 3 7 (by omega) (by omega) 384 1792 rfl rfl form_0 _ _ _ x y (by omega) (by omega)
  · exact tile M N X0 X1 X2 X3 X4 X5 X6 X7 2 7 (by omega) (by omega) 256 1792 rfl rfl form_1 _ _ _ x y (by omega) (by omega)
  · exact tile M N X0 X1 X2 X3 X4 X5 X6 X7 1 7 (by omega) (by omega) 128 1792 rfl rfl form_2 _ _ _ x y (by omega) (by omega)
  · exact tile M N X0 X1 X2 X3 X4 X5 X6 X7 0 7 (by omega) (by omega) 0 1792 rfl rfl form_3 _ _ _ x y (by omega) (by omega)
  · exact tile M N X0 X1 X2 X3 X4 X5 X6 X7 3 6 (by omega) (by omega) 384 1536 rfl rfl form_4 _ _ _ x y (by omega) (by omega)
  · exact tile M N X0 X1 X2 X3 X4 X5 X6 X7 2 6 (by omega) (by omega) 256 1536 rfl rfl form_5 _ _ _ x y (by omega) (by omega)
  · exact tile M N X0 X1 X2 X3 X4 X5 X6 X7 1 6 (by omega) (by omega) 128 1536 rfl rfl form_6 _ _ _ x y (by omega) (by omega)
  · exact tile M N X0 X1 X2 X3 X4 X5 X6 X7 0 6 (by omega) (by omega) 0 1536 rfl rfl form_7 _ _ _ x y (by omega) (by omega)
  · exact tile M N X0 X1 X2 X3 X4 X5 X6 X7 3 5 (by omega) (by omega) 384 1280 rfl rfl form_8 _ _ _ x y (by omega) (by omega)
  · exact tile M N X0 X1 X2 X3 X4 X5 X6 X7 2 5 (by omega) (by omega) 256 1280 rfl rfl form_9 _ _ _ x y (by omega) (by omega)
  · exact tile M N X0 X1 X2 X3 X4 X5 X6 X7 1 5 (by omega) (by omega) 128 1280 rfl rfl form_10 _ _ _ x y (by omega) (by omega)
  · exact tile M N X0 X1 X2 X3 X4 X5 X6 X7 0 5 (by omega) (by omega) 0 1280 rfl rfl form_11 _ _ _ x y (by omega) (by omega)
  · exact tile M N X0 X1 X2 X3 X4 X5 X6 X7 3 4 (by omega) (by omega) 384 1024 rfl rfl form_12 _ _ _ x y (by omega) (by omega)
  · exact tile M N X0 X1 X2 X3 X4 X5 X6 X7 2 4 (by omega) (by omega) 256 1024 rfl rfl form_13 _ _ _ x y (by omega) (by omega)
  · exact tile M N X0 X1 X2 X3 X4 X5 X6 X7 1 4 (by omega) (by omega) 128 1024 rfl rfl form_14 _ _ _ x y (by omega) (by omega)
  · exact tile M N X0 X1 X2 X3 X4 X5 X6 X7 0 4 (by omega) (by omega) 0 1024 rfl rfl form_15 _ _ _ x y (by omega) (by omega)
  · exact tile M N X0 X1 X2 X3 X4 X5 X6 X7 3 3 (by omega) (by omega) 384 768 rfl rfl form_16 _ _ _ x y (by omega) (by omega)
  · exact tile M N X0 X1 X2 X3 X4 X5 X6 X7 2 3 (by omega) (by omega) 256 768 rfl rfl form_17 _ _ _ x y (by omega) (by omega)
  · exact tile M N X0 X1 X2 X3 X4 X5 X6 X7 1 3 (by omega) (by omega) 128 768 rfl rfl form_18 _ _ _ x y (by omega) (by omega)
  · exact tile M N X0 X1 X2 X3 X4 X5 X6 X7 0 3 (by omega) (by omega) 0 768 rfl rfl form_19 _ _ _ x y (by omega) (by omega)
  · exact tile M N X0 X1 X2 X3 X4 X5 X6 X7 3 2 (by omega) (by omega) 384 512 rfl rfl form_20 _ _ _ x y (by omega) (by omega)
  · exact tile M N X0 X1 X2 X3 X4 X5 X6 X7 2 2 (by omega) (by omega) 256 512 rfl rfl form_21 _ _ _ x y (by omega) (by omega)
  · exact tile M N X0 X1 X2 X3 X4 X5 X6 X7 1 2 (by omega) (by omega) 128 512 rfl rfl form_22 _ _ _ x y (by omega) (by omega)
  · exact tile M N X0 X1 X2 X3 X4 X5 X6 X7 0 2 (by omega) (by omega) 0 512 rfl rfl form_23 _ _ _ x y (by omega) (by omega)
  · exact tile M N X0 X1 X2 X3 X4 X5 X6 X7 3 1 (by omega) (by omega) 384 256 rfl rfl form_24 _ _ _ x y (by omega) (by omega)
  · exact tile M N X0 X1 X2 X3 X4 X5 X6 X7 2 1 (by omega) (by omega) 256 256 rfl rfl form_25 _ _ _ x y (by omega) (by omega)
  · exact tile M N X0 X1 X2 X3 X4 X5 X6 X7 1 1 (by omega) (by omega) 128 256 rfl rfl form_26 _ _ _ x y (by omega) (by omega)
  · exact tile M N X0 X1 X2 X3 X4 X5 X6 X7 0 1 (by omega) (by omega) 0 256 rfl rfl form_27 _ _ _ x y (by omega) (by omega)
  · exact tile M N X0 X1 X2 X3 X4 X5 X6 X7 3 0 (by omega) (by omega) 384 0 rfl rfl form_28 _ _ _ x y (by omega) (by omega)
  · exact tile M N X0 X1 X2 X3 X4 X5 X6 X7 2 0 (by omega) (by omega) 256 0 rfl rfl form_29 _ _ _ x y (by omega) (by omega)
  · exact tile M N X0 X1 X2 X3 X4 X5 X6 X7 1 0 (by omega) (by omega) 128 0 rfl rfl form_30 _ _ _ x y (by omega) (by omega)
  · exact tile M N X0 X1 X2 X3 X4 X5 X6 X7 0 0 (by omega) (by omega) 0 0 rfl rfl form_31 _ _ _ x y (by omega) (by omega)

theorem out_at (X : Vec Ideal S512x1024 .f32) (A : Vec Ideal S512x2048 .bf16) (W : Vec Ideal S2048x1024 .bf16) (r : Fin 512) (d : Fin 1024) :
    k0_pay2 (F := Ideal) (k0_pay3 (F := Ideal) X) A W (ix2 r d) = X (ix2 r d) + ∑ c : Fin 2048, A (ix2 r c) * W (ix2 c d) := by
  pointwise [k0_pay2, k0_pay3]

end

end GmlpP

end
-- ==== Proof.GmlpPRun.lean ====
/- The prompt's gMLP: what the run leaves in the result's block. -/
module

public import proofs.«01_k».proof.Proof.GmlpPLists

@[expose] public section

set_option maxRecDepth 16384

noncomputable section

open Idealize.ShloMosaic Idealize.ShloMosaic.TcCoe Idealize.SL.Sem
open Idealize.ShloMosaic.Pipeline (Dat)
open scoped BigOperators

namespace GmlpP

section
open Cert.GmlpPIdeal Cert.GmlpPIdeal.Gen

theorem run_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S8x128x128 .f32) (harg7 : arg7.IsWhole) (arg8 : Memref sig .tc .vmem S8x128x1 .f32) (harg8 : arg8.IsWhole) (arg9 : Memref sig .tc .vmem S2048x1024 .bf16) (harg9 : arg9.IsWhole) (arg10 : Memref sig .tc .vmem S512x1024 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole)
    (x0 : Vec Ideal S512x1024 .f32) (x1 : Vec Ideal S1x1024 .f32) (x2 : Vec Ideal S1024x4096 .bf16) (x3 : Vec Ideal S1x4096 .f32) (x4 : Vec Ideal S1x2048 .f32) (x5 : Vec Ideal S1x2048 .f32) (x6 : Vec Ideal S8x128x128 .f32) (x7 : Vec Ideal S8x128x1 .f32) (x8 : Vec Ideal S2048x1024 .bf16) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = View.canon [⟨Rect.unit (s := S512x1024) ![0, 0] S512x1024.size inb_S512x1024_S512x1024_0_0,
      k0_pay2 (F := Ideal) (k0_pay3 (F := Ideal) (View.ld x0 (Rect.unit (s := S512x1024) ![0, 0] S512x1024.size inb_S512x1024_S512x1024_0_0)))
        (arg13.view.readCov (glist arg11 arg12 x0 x1 x2 x3 x4 x5 x6 x7) (Rect.unit (s := S512x2048) ![0, 0] S512x2048.size inb_S512x2048_S512x2048_0_0).toLoadRect)
        (View.ld x8 (Rect.unit (s := S2048x1024) ![0, 0] S2048x1024.size inb_S2048x1024_S2048x1024_0_0))⟩] := by
  have h : out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 = VO0_9.read (Elt Ideal) (VO0_9.writes (Elt Ideal) VO0_9.junk [⟨Rect.unit (s := S512x1024) ![0, 0] S512x1024.size inb_S512x1024_S512x1024_0_0,
      k0_pay2 (F := Ideal) (k0_pay3 (F := Ideal) (View.ld (arg1.view.read (Elt Ideal) (harg1.unread x0)) (Rect.unit (s := S512x1024) ![0, 0] S512x1024.size inb_S512x1024_S512x1024_0_0)))
        (arg13.view.readCov (glist arg11 arg12 (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg6.view.read (Elt Ideal) (harg6.unread x5)) (arg7.view.read (Elt Ideal) (harg7.unread x6)) (arg8.view.read (Elt Ideal) (harg8.unread x7))) (Rect.unit (s := S512x2048) ![0, 0] S512x2048.size inb_S512x2048_S512x2048_0_0).toLoadRect)
        (View.ld (arg9.view.read (Elt Ideal) (harg9.unread x8)) (Rect.unit (s := S2048x1024) ![0, 0] S2048x1024.size inb_S2048x1024_S2048x1024_0_0))⟩]) := rfl
  rw [h, View.read_writes_junk_eq_canon]
  simp only [Memref.IsWhole.read_unread]

end

end GmlpP

end
-- ==== Proof.GmlpPBody.lean ====
/- The prompt's gMLP: the block that one run of the body leaves. -/
module

public import proofs.«01_k».proof.Proof.GmlpPGate
public import proofs.«01_k».proof.Proof.GmlpPRun

@[expose] public section

set_option maxRecDepth 16384

noncomputable section

open Idealize.ShloMosaic Idealize.ShloMosaic.TcCoe Idealize.SL.Sem
open Idealize.ShloMosaic.Pipeline (Dat)
open scoped BigOperators

namespace GmlpP

section
open Cert.GmlpPIdeal Cert.GmlpPIdeal.Gen

/-- The last weight of a block. -/
abbrev wout (X8 : Vec Ideal S2048x1024 .bf16) : Fin 2048 → Fin 1024 → EReal := fun c d => X8 (ix2 c d)

theorem unit_idx (h) (r : Fin 512) (c : Fin 2048) :
    (Rect.unit (s := S512x2048) ![0, 0] S512x2048.size h).toLoadRect.idx (ix2 r c) = (ix2 r c : S512x2048.Idx) := by
  funext i; fin_cases i <;> apply Fin.ext
  · show 0 + 1 * r.val = r.val; omega
  · show 0 + 1 * c.val = c.val; omega

theorem whole_wo (X8 : Vec Ideal S2048x1024 .bf16) (h) (c : Fin 2048) (d : Fin 1024) :
    View.ld X8 (Rect.unit (s := S2048x1024) ![0, 0] S2048x1024.size h) (ix2 c d) = X8 (ix2 c d) := by
  refine congrArg X8 (funext fun i => ?_); fin_cases i <;> apply Fin.ext
  · show 0 + 1 * c.val = c.val; omega
  · show 0 + 1 * d.val = d.val; omega

theorem whole_xr (X0 : Vec Ideal S512x1024 .f32) (h) (r : Fin 512) (d : Fin 1024) :
    View.ld X0 (Rect.unit (s := S512x1024) ![0, 0] S512x1024.size h) (ix2 r d) = X0 (ix2 r d) := by
  refine congrArg X0 (funext fun i => ?_); fin_cases i <;> apply Fin.ext
  · show 0 + 1 * r.val = r.val; omega
  · show 0 + 1 * d.val = d.val; omega

theorem whole_canon (P : Vec Ideal S512x1024 .f32) (y : S512x1024.Idx) :
    View.canon [⟨Rect.unit (s := S512x1024) ![0, 0] S512x1024.size inb_S512x1024_S512x1024_0_0, P⟩] y = P y := by
  canon_tiles x h
  have e0 : (x 0).val = (y 0).val := by omega
  have e1 : (x 1).val = (y 1).val := by omega
  refine congrArg P (funext fun (i : Fin 2) => ?_)
  fin_cases i <;> apply Fin.ext
  · exact e0
  · exact e1

theorem body_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S8x128x128 .f32) (harg7 : arg7.IsWhole) (arg8 : Memref sig .tc .vmem S8x128x1 .f32) (harg8 : arg8.IsWhole) (arg9 : Memref sig .tc .vmem S2048x1024 .bf16) (harg9 : arg9.IsWhole) (arg10 : Memref sig .tc .vmem S512x1024 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole)
    (x0 : Vec Ideal S512x1024 .f32) (x1 : Vec Ideal S1x1024 .f32) (x2 : Vec Ideal S1024x4096 .bf16) (x3 : Vec Ideal S1x4096 .f32) (x4 : Vec Ideal S1x2048 .f32) (x5 : Vec Ideal S1x2048 .f32) (x6 : Vec Ideal S8x128x128 .f32) (x7 : Vec Ideal S8x128x1 .f32) (x8 : Vec Ideal S2048x1024 .bf16) (r : Fin 512) (d : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 r d) = outC (gains x1) (wts x2) (bias x3) (lrow x4) (lrow x5) (mixw x6) (mixb x7) (wout x8) (chunkB x0 r) ⟨r.val % 128, Nat.mod_lt _ (by omega)⟩ d := by
  rw [run_9]
  refine (whole_canon _ _).trans ?_
  rw [out_at, whole_xr]
  unfold outC
  have e : (⟨128 * (r.val / 128) + r.val % 128, by omega⟩ : Fin 512) = r := Fin.ext (by show 128 * (r.val / 128) + r.val % 128 = r.val; omega)
  refine congrArg₂ (fun p q : EReal => p + q) (congrArg (fun q => x0 (ix2 q d)) e).symm (Finset.sum_congr rfl fun k _ => ?_)
  rw [View.readCov_eq_canon', whole_wo]
  refine congrArg (fun q : EReal => q * x8 (ix2 k d)) ?_
  refine (congrArg (fun j => View.canon (glist arg11 arg12 x0 x1 x2 x3 x4 x5 x6 x7) j) (unit_idx _ r k)).trans ?_
  exact g_canon arg11 arg12 x0 x1 x2 x3 x4 x5 x6 x7 (ix2 r k)

end

end GmlpP

end
-- ==== Proof.GmlpPOut.lean ====
/- The prompt's gMLP: the result array. -/
module

public import proofs.«01_k».proof.Proof.GmlpPBody
public import proofs.«01_k».proof.Proof.Gen.GmlpPIdeal.Value

@[expose] public section

set_option maxRecDepth 16384

noncomputable section

open Idealize.ShloMosaic Idealize.ShloMosaic.TcCoe Idealize.SL.Sem
open Idealize.ShloMosaic.Pipeline (Dat)
open scoped BigOperators

namespace GmlpP

section
open Cert.GmlpPIdeal Cert.GmlpPIdeal.Gen

variable (m : (ℓ : Loc nD τ sig) → Buf (Elt Ideal) ℓ)

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0, 0] := (by decide +kernel : ∀ t : Fin grid0.N, _)
theorem idx_7 : ∀ t : Fin cfg0.N, win0_7.index t = ![0, 0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![t.val, 0] := (by decide +kernel : ∀ t : Fin grid0.N, _)

theorem row_lt (t : Fin cfg0.N) (r : Fin 512) : t.val * 512 + r.val < 32768 := by
  have h : t.val < 64 := t.isLt
  omega

theorem iblk_0 (c : Dev nD) (t : Fin cfg0.N) (r : Fin 512) (k : Fin 1024) :
    (iblk m c 0 t : Vec Ideal S512x1024 .f32) (ix2 r k) = (m ((c : Thread nD τ).loc main_arg0)) (ix3 ⟨(t.val * 512 + r.val) / 16384, by have := row_lt t r; omega⟩ ⟨(t.val * 512 + r.val) % 16384, Nat.mod_lt _ (by omega)⟩ k) := by
  have h := idx_0 t
  have hr := row_lt t r
  blk_point [iblk, V, h]

theorem iblk_1 (c : Dev nD) (t : Fin cfg0.N) (k : Fin 1024) :
    (iblk m c 1 t : Vec Ideal S1x1024 .f32) (ix2 0 k) = (m ((c : Thread nD τ).loc main_arg1)) (ix2 0 k) := by
  have h := idx_1 t
  blk_point [iblk, V, h]

theorem iblk_2 (c : Dev nD) (t : Fin cfg0.N) (k : Fin 1024) (l : Fin 4096) :
    (iblk m c 2 t : Vec Ideal S1024x4096 .bf16) (ix2 k l) = (m ((c : Thread nD τ).loc main_arg2)) (ix3 0 k l) := by
  have h := idx_2 t
  blk_point [iblk, V, h]

theorem iblk_3 (c : Dev nD) (t : Fin cfg0.N) (k : Fin 4096) :
    (iblk m c 3 t : Vec Ideal S1x4096 .f32) (ix2 0 k) = (m ((c : Thread nD τ).loc main_arg3)) (ix2 0 k) := by
  have h := idx_3 t
  blk_point [iblk, V, h]

theorem iblk_4 (c : Dev nD) (t : Fin cfg0.N) (k : Fin 2048) :
    (iblk m c 4 t : Vec Ideal S1x2048 .f32) (ix2 0 k) = (m ((c : Thread nD τ).loc main_arg4)) (ix2 0 k) := by
  have h := idx_4 t
  blk_point [iblk, V, h]

theorem iblk_5 (c : Dev nD) (t : Fin cfg0.N) (k : Fin 2048) :
    (iblk m c 5 t : Vec Ideal S1x2048 .f32) (ix2 0 k) = (m ((c : Thread nD τ).loc main_arg5)) (ix2 0 k) := by
  have h := idx_5 t
  blk_point [iblk, V, h]

theorem iblk_6 (c : Dev nD) (t : Fin cfg0.N) (g : Fin 8) (r s : Fin 128) :
    (iblk m c 6 t : Vec Ideal S8x128x128 .f32) (ix3 g r s) = (m ((c : Thread nD τ).loc main_arg6)) (ix4 0 g r s) := by
  have h := idx_6 t
  blk_point [iblk, V, h]

theorem iblk_7 (c : Dev nD) (t : Fin cfg0.N) (g : Fin 8) (r : Fin 128) :
    (iblk m c 7 t : Vec Ideal S8x128x1 .f32) (ix3 g r 0) = (m ((c : Thread nD τ).loc main_arg7)) (ix3 0 g r) := by
  have h := idx_7 t
  blk_point [iblk, V, h]

theorem iblk_8 (c : Dev nD) (t : Fin cfg0.N) (k : Fin 2048) (l : Fin 1024) :
    (iblk m c 8 t : Vec Ideal S2048x1024 .bf16) (ix2 k l) = (m ((c : Thread nD τ).loc main_arg8)) (ix3 0 k l) := by
  have h := idx_8 t
  blk_point [iblk, V, h]

/-- A block's chunk is the array's. -/
theorem chunk_eq (c : Dev nD) (t : Fin cfg0.N) (r : Fin 512) :
    chunkB (iblk m c 0 t) r = chunkA (m ((c : Thread nD τ).loc main_arg0)) ⟨t.val * 512 + r.val, row_lt t r⟩ := by
  funext s k
  have hr := row_lt t r
  unfold chunkA
  refine (iblk_0 m c t _ k).trans ?_
  refine congrArg₂ (fun p q => (m ((c : Thread nD τ).loc main_arg0)) (ix3 p q k)) (Fin.ext ?_) (Fin.ext ?_)
  · show (t.val * 512 + (128 * (r.val / 128) + s.val)) / 16384 = (t.val * 512 + r.val) / 16384
    omega
  · show (t.val * 512 + (128 * (r.val / 128) + s.val)) % 16384 = (t.val * 512 + r.val) % 16384 / 128 * 128 + s.val
    omega

theorem emb_9 (t : Fin cfg0.N) (r : Fin 512) (k : Fin 1024) :
    (((cfg0.win 9).blk t).view.emb (ix2 r k : S512x1024.Idx) : S32768x1024.Idx) = ix2 ⟨t.val * 512 + r.val, row_lt t r⟩ k := by
  refine funext fun (a : Fin 2) => ?_
  fin_cases a <;> apply Fin.ext
  · show win0_9.index t 0 * 512 + 1 * r.val = t.val * 512 + r.val
    rw [idx_9 t]; show t.val * 512 + 1 * r.val = _; omega
  · show win0_9.index t 1 * 1024 + 1 * k.val = k.val
    rw [idx_9 t]; show 0 * 1024 + 1 * k.val = _; omega

theorem block_9 (c : Dev nD) (t : Fin cfg0.N) (r : Fin 512) (d : Fin 1024) :
    outsAt0 m c t (ix2 r d) = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨t.val * 512 + r.val, row_lt t r⟩ d) := by
  have h := body_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) r d
  rw [chunk_eq m c t r, show gains (iblk m c 1 t) = gainsA (m ((c : Thread nD τ).loc main_arg1)) from funext fun k => iblk_1 m c t k, show wts (iblk m c 2 t) = wtsA (m ((c : Thread nD τ).loc main_arg2)) from funext fun k => funext fun l => iblk_2 m c t k l, show bias (iblk m c 3 t) = biasA (m ((c : Thread nD τ).loc main_arg3)) from funext fun k => iblk_3 m c t k, show lrow (iblk m c 4 t) = lrowA (m ((c : Thread nD τ).loc main_arg4)) from funext fun k => iblk_4 m c t k, show lrow (iblk m c 5 t) = lrowA (m ((c : Thread nD τ).loc main_arg5)) from funext fun k => iblk_5 m c t k, show mixw (iblk m c 6 t) = mixwA (m ((c : Thread nD τ).loc main_arg6)) from funext fun g => funext fun r => funext fun s => iblk_6 m c t g r s, show mixb (iblk m c 7 t) = mixbA (m ((c : Thread nD τ).loc main_arg7)) from funext fun g => funext fun r => iblk_7 m c t g r, show wout (iblk m c 8 t) = woutA (m ((c : Thread nD τ).loc main_arg8)) from funext fun k => funext fun l => iblk_8 m c t k l] at h
  simp only [outsAt0]
  refine h.trans ?_
  show _ = outC _ _ _ _ _ _ _ _ (chunkA (m ((c : Thread nD τ).loc main_arg0)) ⟨t.val * 512 + r.val, row_lt t r⟩) ⟨(t.val * 512 + r.val) % 128, Nat.mod_lt _ (by omega)⟩ d
  have e : (⟨r.val % 128, Nat.mod_lt _ (by omega)⟩ : Fin 128) = ⟨(t.val * 512 + r.val) % 128, Nat.mod_lt _ (by omega)⟩ := Fin.ext (by show r.val % 128 = (t.val * 512 + r.val) % 128; omega)
  rw [e]

theorem out_9 (c : Dev nD) : (dats m 0 c).arrAt 9 (cfgs 0).N = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  suffices h : ∀ y : S512x1024.Idx, outsAt0 m c t y = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) from h y
  intro y
  idx_vars y
  refine (block_9 m c t y0 y1).trans ?_
  exact (congrArg (fun j : S32768x1024.Idx => outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j) (emb_9 t y0 y1)).symm

end

end GmlpP

end
-- ==== Proof.GmlpPRefValue.lean ====
/- The prompt's gMLP: what the reference computes, element by element. -/
module

public import proofs.«01_k».proof.Proof.GmlpPSpec
public import proofs.«01_k».proof.Proof.Gen.GmlpPRefIdeal.Read

@[expose] public section

set_option maxRecDepth 16384

noncomputable section

open Idealize.ShloMosaic Idealize.ShloMosaic.TcCoe Idealize.SL.Sem
open Idealize.ShloMosaic.Pipeline (Dat)
open scoped BigOperators

namespace GmlpP

section
open Cert.GmlpPRefIdeal Cert.GmlpPRefIdeal.Read

abbrev X := (⟨S2x16384x1024, .f32⟩ : BufTy).Contents (Elt Ideal)
abbrev G := (⟨S1x1024, .f32⟩ : BufTy).Contents (Elt Ideal)
abbrev W := (⟨S1x1024x4096, .f32⟩ : BufTy).Contents (Elt Ideal)
abbrev B := (⟨S1x4096, .f32⟩ : BufTy).Contents (Elt Ideal)
abbrev L := (⟨S1x2048, .f32⟩ : BufTy).Contents (Elt Ideal)
abbrev WS := (⟨S1x8x128x128, .f32⟩ : BufTy).Contents (Elt Ideal)
abbrev BS := (⟨S1x8x128, .f32⟩ : BufTy).Contents (Elt Ideal)
abbrev WO := (⟨S1x2048x1024, .f32⟩ : BufTy).Contents (Elt Ideal)

/-- The error function of the reference is the complement at the opposite. -/
theorem erfc_step (z s : EReal) : Ideal.erfc (-z * s) = 1 + Ideal.erf (z * s) := by
  rw [neg_mul, Ideal.erfc_neg]

theorem ref_pre (x : X) (g : G) (w : W) (b : B) (n : Fin 2) (a : Fin 16384) (c : Fin 4096) :
    val_main_v19 (F := Ideal) x g w b (ix3 n a c) = Layer.proj (fun k => x (ix3 n a k)) (gainsA g) (fun k => wtsA w k c) + biasA b c := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_cst_0, val_main_cst_1, Layer.proj, Layer.rms, gainsA, wtsA, biasA]
  try rfl

theorem ref_act (x : X) (g : G) (w : W) (b : B) (n : Fin 2) (a : Fin 16384) (c : Fin 4096) :
    val_main_v26 (F := Ideal) x g w b (ix3 n a c) = Gmlp.gelu (Layer.proj (fun k => x (ix3 n a k)) (gainsA g) (fun k => wtsA w k c) + biasA b c) := by
  rw [← ref_pre]
  rw [val_main_v26_apply, val_main_v25_apply, val_main_v24_apply, val_main_v22_apply, val_main_v21_apply, val_main_v20_apply, val_main_v23_apply]
  exact congrArg (fun q => Ideal.ofBits FTy.f32 1056964608#32 * val_main_v19 (F := Ideal) x g w b (ix3 n a c) * q) (erfc_step _ _)

theorem ref_ln (x : X) (g : G) (w : W) (b : B) (lg lb : L) (n : Fin 2) (a : Fin 16384) (c : Fin 2048) :
    val_main_v54 (F := Ideal) x g w b lg lb (ix3 n a c) = Gmlp.ln (fun k => val_main_v26 (F := Ideal) x g w b (ix3 n a ⟨2048 + k.val, by omega⟩)) (lrowA lg) (lrowA lb) c := by
  pointwise [val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_cst_4, val_main_cst_5, val_main_cst_6, val_main_cst_7, val_main_cst_8, Gmlp.ln, Gmlp.mean, lrowA]
  try rfl

theorem ref_vn (x : X) (g : G) (w : W) (b : B) (lg lb : L) (n : Fin 2) (a : Fin 16384) (c : Fin 2048) :
    val_main_v54 (F := Ideal) x g w b lg lb (ix3 n a c) = vnR (gainsA g) (wtsA w) (biasA b) (lrowA lg) (lrowA lb) (fun k => x (ix3 n a k)) c := by
  rw [ref_ln]
  unfold vnR actR
  refine congrArg (fun q => Gmlp.ln q (lrowA lg) (lrowA lb) c) (funext fun k => ?_)
  rw [ref_act]

/-- The causal mask's word, as the reference makes it. -/
theorem ref_mask : ∀ r s : Fin 128, IntOp.cmpi CmpIPredicate.sge (IntOp.addi (BitVec.ofNat 32 r.val) 0#32) (BitVec.ofNat 32 s.val) = if s.val ≤ r.val then 1#1 else 0#1 := by decide +kernel

theorem ref_tril (ws : WS) (g : Fin 8) (r s : Fin 128) :
    val_main_v57 (F := Ideal) ws (ix3 g r s) = if s.val ≤ r.val then mixwA ws g r s else 0 := by
  pointwise [val_main_v57, val_main_call0_v6, val_main_call0_cst, val_main_call0_v5, val_main_call0_v4, val_main_call0_v3, val_main_call0_v2, val_main_call0_v1, val_main_call0_c, val_main_call0_v0, val_main_v56, mixwA]
  rw [ref_mask]
  split <;> rfl

theorem ref_dot (x : X) (g : G) (w : W) (b : B) (lg lb : L) (ws : WS) (bs : BS) (n : Fin 2) (k : Fin 128) (a : Fin 128) (q : Fin 8) (e : Fin 256) :
    val_main_v65 (F := Ideal) x g w b lg lb ws bs (ix5 n k a q e)
      = (∑ s : Fin 128, val_main_v54 (F := Ideal) x g w b lg lb (ix3 n ⟨k.val * 128 + s.val, by omega⟩ ⟨q.val * 256 + e.val, by omega⟩) * val_main_v57 (F := Ideal) ws (ix3 q a s)) + mixbA bs q a := by
  pointwise [val_main_v58, val_main_v59, val_main_v60, val_main_v61, val_main_v62, val_main_v63, val_main_v64, val_main_v65, val_main_v55, mixbA]
  done

theorem ref_gate (x : X) (g : G) (w : W) (b : B) (lg lb : L) (ws : WS) (bs : BS) (n : Fin 2) (a : Fin 16384) (c : Fin 2048) :
    val_main_v67 (F := Ideal) x g w b lg lb ws bs (ix3 n a c)
      = val_main_v26 (F := Ideal) x g w b (ix3 n a ⟨c.val, by omega⟩) * val_main_v65 (F := Ideal) x g w b lg lb ws bs (ix5 n ⟨a.val / 128, by omega⟩ ⟨a.val % 128, by omega⟩ ⟨c.val / 256, by omega⟩ ⟨c.val % 256, by omega⟩) := by
  pointwise [val_main_v67, val_main_v66, val_main_v27]
  done

/-- A row is in its chunk, at its remainder by 128. -/
theorem chunkA_self (x : X) (r : Fin 32768) (h) : chunkA x r ⟨r.val % 128, h⟩ = fun k => x (ix3 ⟨r.val / 16384, by omega⟩ ⟨r.val % 16384, Nat.mod_lt _ (by omega)⟩ k) := by
  funext k
  unfold chunkA
  refine congrArg (fun q => x (ix3 _ q k)) (Fin.ext ?_)
  show r.val % 16384 / 128 * 128 + r.val % 128 = r.val % 16384
  omega

theorem ref_gated (x : X) (g : G) (w : W) (b : B) (lg lb : L) (ws : WS) (bs : BS) (r : Fin 32768) (c : Fin 2048) :
    val_main_v67 (F := Ideal) x g w b lg lb ws bs (ix3 ⟨r.val / 16384, by omega⟩ ⟨r.val % 16384, Nat.mod_lt _ (by omega)⟩ c)
      = gatedC (gainsA g) (wtsA w) (biasA b) (lrowA lg) (lrowA lb) (mixwA ws) (mixbA bs) (chunkA x r) ⟨r.val % 128, Nat.mod_lt _ (by omega)⟩ c := by
  have em : (⟨r.val % 16384 % 128, Nat.mod_lt _ (by omega)⟩ : Fin 128) = ⟨r.val % 128, Nat.mod_lt _ (by omega)⟩ := Fin.ext (by show r.val % 16384 % 128 = r.val % 128; omega)
  have ec : (⟨c.val / 256 * 256 + c.val % 256, by omega⟩ : Fin 2048) = c := Fin.ext (by show c.val / 256 * 256 + c.val % 256 = c.val; omega)
  rw [ref_gate, ref_act, ref_dot, em, ec]
  unfold gatedC
  rw [chunkA_self]
  refine congrArg₂ (fun p q : EReal => p * q) rfl (congrArg (fun q : EReal => q + mixbA bs ⟨c.val / 256, by omega⟩ ⟨r.val % 128, Nat.mod_lt _ (by omega)⟩) (Finset.sum_congr rfl fun s _ => ?_))
  rw [ref_vn, ref_tril, mul_comm]
  rfl

theorem ref_out (x : X) (g : G) (w : W) (b : B) (lg lb : L) (ws : WS) (bs : BS) (wo : WO) :
    val_main_v71 (F := Ideal) x g w b lg lb ws bs wo = outA x g w b lg lb ws bs wo := by
  funext j; idx_vars j
  have h : val_main_v71 (F := Ideal) x g w b lg lb ws bs wo (ix2 j0 j1)
      = x (ix3 ⟨j0.val / 16384, by omega⟩ ⟨j0.val % 16384, Nat.mod_lt _ (by omega)⟩ j1) + ∑ c : Fin 2048, val_main_v67 (F := Ideal) x g w b lg lb ws bs (ix3 ⟨j0.val / 16384, by omega⟩ ⟨j0.val % 16384, Nat.mod_lt _ (by omega)⟩ c) * wo (ix3 0 c j1) := by
    pointwise [val_main_v68, val_main_v69, val_main_v70, val_main_v71]
    done
  rw [h]
  refine congrArg₂ (fun p q : EReal => p + q) (congrFun (chunkA_self x j0 (Nat.mod_lt _ (by omega))) j1).symm (Finset.sum_congr rfl fun c _ => ?_)
  exact congrArg (fun q : EReal => q * _) (ref_gated x g w b lg lb ws bs j0 c)

end

end GmlpP

end
-- ==== Proof.GmlpPValue.lean ====
/- The prompt's gMLP: the kernel and the reference leave the same result. -/
module

public import proofs.«01_k».proof.Proof.GmlpPOut
public import proofs.«01_k».proof.Proof.GmlpPRefValue
public import proofs.«01_k».proof.Proof.Gen.GmlpPRefIdeal.Run
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace GmlpP

theorem algebraic : Cert.algebraic_GmlpPIdeal_GmlpPRefIdeal := by
  intro m g m' g' hpre hagree
  refine ⟨fun c => (Cert.GmlpPIdeal.Gen.dats m 0 c).arrAt 9 (Cert.GmlpPIdeal.cfgs 0).N, ?_, ?_⟩
  · exact (θ_run _ _ _).mono (fun r h c => h c) (Cert.GmlpPIdeal.Value.run_blocks m g)
  · refine (θ_run _ _ _).mono (fun r h c => ⟨(h c).1.trans ?_, (h c).2⟩) (Cert.GmlpPRefIdeal.Value.run (F := Ideal) m' g')
    obtain ⟨e0, e1, e2, e3, e4, e5, e6, e7, e8⟩ := hagree c
    refine (Cert.GmlpPRefIdeal.Read.val_main_v71_eq _ _).trans ?_
    refine (ref_out _ _ _ _ _ _ _ _ _).trans ?_
    refine Eq.trans ?_ (out_9 m c).symm
    exact congr (congr (congr (congr (congr (congr (congr (congr (congrArg outA e0) e1) e2) e3) e4) e5) e6) e7) e8

end GmlpP

end
-- ==== Proof.lean ====
/- The claims. -/
module

public import proofs.«01_k».proof.Defs
public import proofs.«01_k».proof.Proof.Gen.Expert
public import proofs.«01_k».proof.Proof.Gen.ExpertIdeal
public import proofs.«01_k».proof.Proof.Gen.ExpertRefIdeal
public import proofs.«01_k».proof.Proof.Gen.Pre_tables
public import proofs.«01_k».proof.Proof.ExpertTables
public import proofs.«01_k».proof.Proof.ExpertValue
public import proofs.«01_k».proof.Proof.Gen.Ffn
public import proofs.«01_k».proof.Proof.Gen.FfnIdeal
public import proofs.«01_k».proof.Proof.Gen.Ffn.Frame
public import proofs.«01_k».proof.Proof.Gen.FfnIdeal.Frame
public import proofs.«01_k».proof.Proof.Gen.FfnRefIdeal
public import proofs.«01_k».proof.Proof.FfnValue
public import proofs.«01_k».proof.Proof.Gen.Qkv
public import proofs.«01_k».proof.Proof.Gen.QkvIdeal
public import proofs.«01_k».proof.Proof.Gen.Qkv.Frame
public import proofs.«01_k».proof.Proof.Gen.QkvIdeal.Frame
public import proofs.«01_k».proof.Proof.Gen.QkvRefIdeal
public import proofs.«01_k».proof.Proof.QkvValue
public import proofs.«01_k».proof.Proof.Gen.QkvS
public import proofs.«01_k».proof.Proof.Gen.QkvSIdeal
public import proofs.«01_k».proof.Proof.Gen.QkvS.Frame
public import proofs.«01_k».proof.Proof.Gen.QkvSIdeal.Frame
public import proofs.«01_k».proof.Proof.Gen.QkvSRefIdeal
public import proofs.«01_k».proof.Proof.QkvSValue
public import proofs.«01_k».proof.Proof.Gen.Gmlp
public import proofs.«01_k».proof.Proof.Gen.GmlpIdeal
public import proofs.«01_k».proof.Proof.Gen.Gmlp.Frame
public import proofs.«01_k».proof.Proof.Gen.GmlpIdeal.Frame
public import proofs.«01_k».proof.Proof.Gen.GmlpRefIdeal
public import proofs.«01_k».proof.Proof.GmlpValue
public import proofs.«01_k».proof.Proof.Gen.GmlpP
public import proofs.«01_k».proof.Proof.Gen.GmlpPIdeal
public import proofs.«01_k».proof.Proof.Gen.GmlpP.Frame
public import proofs.«01_k».proof.Proof.Gen.GmlpPIdeal.Frame
public import proofs.«01_k».proof.Proof.Gen.GmlpPRefIdeal
public import proofs.«01_k».proof.Proof.GmlpPValue
public import Idealize.ShloMosaic.Adequacy
public import Idealize.ShloMosaic.Init

@[expose] public section

noncomputable section

namespace Cert.Proof

open Idealize.ShloMosaic Idealize.SL.Sem

/-- The experts: the reference runs and leaves its arguments. -/
theorem frame_ExpertRef : Cert.quiescent_ExpertRefIdeal := fun m ρ _ =>
  (θ_run Cert.ExpertRefIdeal.defs _ _).mono (fun r h => ⟨fun c => by
      obtain ⟨_, h0, h1, h2, h3, h4⟩ := h c; exact ⟨h0, h1, h2, h3, h4⟩,
    Idealize.ShloMosaic.sem_eq_zero_of_no_sems (by decide) r.2⟩) (Cert.ExpertRefIdeal.Value.run (F := Ideal) m ρ)

theorem frame_Expert : Cert.quiescent_Expert := fun m ρ hpre =>
  ExpertRun.frame m ρ (ExpertRun.ok m (TableFacts.of_pre (hpre 0)).1 ((TableFacts.of_pre (hpre 0)).2 _))

theorem frame_ExpertIdeal : Cert.quiescent_ExpertIdeal := fun m ρ hpre =>
  ExpertIdealRun.frame m ρ (ExpertIdealRun.ok m (TableFacts.of_pre (hpre 0)).1 ((TableFacts.of_pre (hpre 0)).2 _))

/-- The feed-forward: the reference runs and leaves its arguments. -/
theorem frame_FfnRef : Cert.quiescent_FfnRefIdeal := fun m ρ _ =>
  (θ_run Cert.FfnRefIdeal.defs _ _).mono (fun r h => ⟨fun c => by
      obtain ⟨_, h0, h1, h2, h3, h4, h5, h6⟩ := h c; exact ⟨h0, h1, h2, h3, h4, h5, h6⟩,
    Idealize.ShloMosaic.sem_eq_zero_of_no_sems (by decide) r.2⟩) (Cert.FfnRefIdeal.Value.run (F := Ideal) m ρ)

/-- The prompt's projection: the reference runs and leaves its arguments. -/
theorem frame_QkvRef : Cert.quiescent_QkvRefIdeal := fun m ρ _ =>
  (θ_run Cert.QkvRefIdeal.defs _ _).mono (fun r h => ⟨fun c => by
      obtain ⟨_, _, _, _, _, _, h0, h1, h2⟩ := h c; exact ⟨h0, h1, h2⟩,
    Idealize.ShloMosaic.sem_eq_zero_of_no_sems (by decide) r.2⟩) (Cert.QkvRefIdeal.Value.run (F := Ideal) m ρ)

theorem preserves_Qkv : Cert.preserves_Qkv_QkvIdeal :=
  IdealRules.named_const.statement Cert.QkvIdeal.κ "q_unit" .f32 0x3E38AA3B#32 (((8 * (Real.log 2))⁻¹ : ℝ) : EReal) rfl

/-- The sample's projection: the reference runs and leaves its arguments. -/
theorem frame_QkvSRef : Cert.quiescent_QkvSRefIdeal := fun m ρ _ =>
  (θ_run Cert.QkvSRefIdeal.defs _ _).mono (fun r h => ⟨fun c => by
      obtain ⟨_, _, _, _, _, h0, h1, h2⟩ := h c; exact ⟨h0, h1, h2⟩,
    Idealize.ShloMosaic.sem_eq_zero_of_no_sems (by decide) r.2⟩) (Cert.QkvSRefIdeal.Value.run (F := Ideal) m ρ)

theorem preserves_QkvS : Cert.preserves_QkvS_QkvSIdeal :=
  IdealRules.named_const.statement Cert.QkvSIdeal.κ "q_unit" .f32 0x3E38AA3B#32 (((8 * (Real.log 2))⁻¹ : ℝ) : EReal) rfl

/-- The sample's gMLP: the reference runs and leaves its arguments. -/
theorem frame_GmlpRef : Cert.quiescent_GmlpRefIdeal := fun m ρ _ =>
  (θ_run Cert.GmlpRefIdeal.defs _ _).mono (fun r h => ⟨fun c => by
      obtain ⟨_, _, h0, h1, h2, h3, h4, h5, h6, h7, h8⟩ := h c; exact ⟨h0, h1, h2, h3, h4, h5, h6, h7, h8⟩,
    Idealize.ShloMosaic.sem_eq_zero_of_no_sems (by decide) r.2⟩) (Cert.GmlpRefIdeal.Value.run (F := Ideal) m ρ)

/-- The prompt's gMLP: the reference runs and leaves its arguments. -/
theorem frame_GmlpPRef : Cert.quiescent_GmlpPRefIdeal := fun m ρ _ =>
  (θ_run Cert.GmlpPRefIdeal.defs _ _).mono (fun r h => ⟨fun c => by
      obtain ⟨_, h0, h1, h2, h3, h4, h5, h6, h7, h8⟩ := h c; exact ⟨h0, h1, h2, h3, h4, h5, h6, h7, h8⟩,
    Idealize.ShloMosaic.sem_eq_zero_of_no_sems (by decide) r.2⟩) (Cert.GmlpPRefIdeal.Value.run (F := Ideal) m ρ)

theorem claim : Cert.Claim := ⟨Cert.Expert.Gen.facts, Cert.ExpertIdeal.Gen.facts, Cert.ExpertRefIdeal.Gen.facts, Cert.Ffn.Gen.facts, Cert.FfnIdeal.Gen.facts, Cert.FfnRefIdeal.Gen.facts, Cert.Qkv.Gen.facts, Cert.QkvIdeal.Gen.facts, Cert.QkvRefIdeal.Gen.facts, Cert.QkvS.Gen.facts, Cert.QkvSIdeal.Gen.facts, Cert.QkvSRefIdeal.Gen.facts, Cert.Gmlp.Gen.facts, Cert.GmlpIdeal.Gen.facts, Cert.GmlpRefIdeal.Gen.facts, Cert.GmlpP.Gen.facts, Cert.GmlpPIdeal.Gen.facts, Cert.GmlpPRefIdeal.Gen.facts, Cert.Pre_tables.Gen.facts,
  frame_Expert,
  frame_ExpertIdeal,
  frame_ExpertRef,
  fun m ρ _ => frame_ExpertRef m ρ trivial,
  fun m ρ _ => Cert.Ffn.Gen.frame m ρ,
  fun m ρ _ => Cert.FfnIdeal.Gen.frame m ρ,
  frame_FfnRef,
  fun m ρ _ => Cert.Qkv.Gen.frame m ρ,
  fun m ρ _ => Cert.QkvIdeal.Gen.frame m ρ,
  frame_QkvRef,
  fun m ρ _ => Cert.QkvS.Gen.frame m ρ,
  fun m ρ _ => Cert.QkvSIdeal.Gen.frame m ρ,
  frame_QkvSRef,
  fun m ρ _ => Cert.Gmlp.Gen.frame m ρ,
  fun m ρ _ => Cert.GmlpIdeal.Gen.frame m ρ,
  frame_GmlpRef,
  fun m ρ _ => Cert.GmlpP.Gen.frame m ρ,
  fun m ρ _ => Cert.GmlpPIdeal.Gen.frame m ρ,
  frame_GmlpPRef,
  trivial, Expert.algebraic, trivial, Ffn.algebraic, preserves_Qkv, Qkv.algebraic, preserves_QkvS, QkvS.algebraic, trivial, Gmlp.algebraic, trivial, GmlpP.algebraic⟩

end Cert.Proof

end
